-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v33_0)) (v1 : (c : Dev Cert.KernelIdeal.nD) → Buf (Elt Ideal) ((c.tc : Thread Cert.KernelIdeal.nD Cert.KernelIdeal.τ).loc Cert.KernelIdeal.main_v33_1)) (v2 : (c : Dev Cert.KernelIdeal.nD) → Buf (Elt Ideal) ((c.tc : Thread Cert.KernelIdeal.nD Cert.KernelIdeal.τ).loc Cert.KernelIdeal.main_v33_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33_0) = v0 c
          ∧ r.2.mem ((c.tc : Thread Cert.KernelIdeal.nD Cert.KernelIdeal.τ).loc Cert.KernelIdeal.main_v33_1) = v1 c
          ∧ r.2.mem ((c.tc : Thread Cert.KernelIdeal.nD Cert.KernelIdeal.τ).loc Cert.KernelIdeal.main_v33_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v5_0)) (v1 : (c : Dev Cert.Kernel8Ideal.nD) → Buf (Elt Ideal) ((c.tc : Thread Cert.Kernel8Ideal.nD Cert.Kernel8Ideal.τ).loc Cert.Kernel8Ideal.main_v5_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5_0) = v0 c
          ∧ r.2.mem ((c.tc : Thread Cert.Kernel8Ideal.nD Cert.Kernel8Ideal.τ).loc Cert.Kernel8Ideal.main_v5_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_v18) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v8_0)) (v1 : (c : Dev Cert.Kernel6Ideal.nD) → Buf (Elt Ideal) ((c.tc : Thread Cert.Kernel6Ideal.nD Cert.Kernel6Ideal.τ).loc Cert.Kernel6Ideal.main_v8_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8_0) = v0 c
          ∧ r.2.mem ((c.tc : Thread Cert.Kernel6Ideal.nD Cert.Kernel6Ideal.τ).loc Cert.Kernel6Ideal.main_v8_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v39) = v0 c
          ∧ r.2.mem ((c.tc : Thread Cert.Reference6Ideal.nD Cert.Reference6Ideal.τ).loc Cert.Reference6Ideal.main_v40) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v3) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v5)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v5) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v4) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v48_0)) (v1 : (c : Dev Cert.Kernel11Ideal.nD) → Buf (Elt Ideal) ((c.tc : Thread Cert.Kernel11Ideal.nD Cert.Kernel11Ideal.τ).loc Cert.Kernel11Ideal.main_v48_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v48_0) = v0 c
          ∧ r.2.mem ((c.tc : Thread Cert.Kernel11Ideal.nD Cert.Kernel11Ideal.τ).loc Cert.Kernel11Ideal.main_v48_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v39) = v0 c
          ∧ r.2.mem ((c.tc : Thread Cert.Reference11Ideal.nD Cert.Reference11Ideal.τ).loc Cert.Reference11Ideal.main_v40) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v22)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v22) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v21) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)) →
    ∃ (v0 : (c : Dev Cert.Kernel16Ideal.nD) → Buf (Elt Ideal) ((c.tc : Thread Cert.Kernel16Ideal.nD Cert.Kernel16Ideal.τ).loc Cert.Kernel16Ideal.main_v35_0)) (v1 : (c : Dev Cert.Kernel16Ideal.nD) → Buf (Elt Ideal) ((c.tc : Thread Cert.Kernel16Ideal.nD Cert.Kernel16Ideal.τ).loc Cert.Kernel16Ideal.main_v35_1)) (v2 : (c : Dev Cert.Kernel16Ideal.nD) → Buf (Elt Ideal) ((c.tc : Thread Cert.Kernel16Ideal.nD Cert.Kernel16Ideal.τ).loc Cert.Kernel16Ideal.main_v35_2)) (v3 : (c : Dev Cert.Kernel16Ideal.nD) → Buf (Elt Ideal) ((c.tc : Thread Cert.Kernel16Ideal.nD Cert.Kernel16Ideal.τ).loc Cert.Kernel16Ideal.main_v35_3)) (v4 : (c : Dev Cert.Kernel16Ideal.nD) → Buf (Elt Ideal) ((c.tc : Thread Cert.Kernel16Ideal.nD Cert.Kernel16Ideal.τ).loc Cert.Kernel16Ideal.main_v35_4)) (v5 : (c : Dev Cert.Kernel16Ideal.nD) → Buf (Elt Ideal) ((c.tc : Thread Cert.Kernel16Ideal.nD Cert.Kernel16Ideal.τ).loc Cert.Kernel16Ideal.main_v35_5)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v35_0) = v0 c
          ∧ r.2.mem ((c.tc : Thread Cert.Kernel16Ideal.nD Cert.Kernel16Ideal.τ).loc Cert.Kernel16Ideal.main_v35_1) = v1 c
          ∧ r.2.mem ((c.tc : Thread Cert.Kernel16Ideal.nD Cert.Kernel16Ideal.τ).loc Cert.Kernel16Ideal.main_v35_2) = v2 c
          ∧ r.2.mem ((c.tc : Thread Cert.Kernel16Ideal.nD Cert.Kernel16Ideal.τ).loc Cert.Kernel16Ideal.main_v35_3) = v3 c
          ∧ r.2.mem ((c.tc : Thread Cert.Kernel16Ideal.nD Cert.Kernel16Ideal.τ).loc Cert.Kernel16Ideal.main_v35_4) = v4 c
          ∧ r.2.mem ((c.tc : Thread Cert.Kernel16Ideal.nD Cert.Kernel16Ideal.τ).loc Cert.Kernel16Ideal.main_v35_5) = v5 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v38) = v0 c
          ∧ r.2.mem ((c.tc : Thread Cert.Reference16Ideal.nD Cert.Reference16Ideal.τ).loc Cert.Reference16Ideal.main_v40) = v1 c
          ∧ r.2.mem ((c.tc : Thread Cert.Reference16Ideal.nD Cert.Reference16Ideal.τ).loc Cert.Reference16Ideal.main_v42) = v2 c
          ∧ r.2.mem ((c.tc : Thread Cert.Reference16Ideal.nD Cert.Reference16Ideal.τ).loc Cert.Reference16Ideal.main_v44) = v3 c
          ∧ r.2.mem ((c.tc : Thread Cert.Reference16Ideal.nD Cert.Reference16Ideal.τ).loc Cert.Reference16Ideal.main_v46) = v4 c
          ∧ r.2.mem ((c.tc : Thread Cert.Reference16Ideal.nD Cert.Reference16Ideal.τ).loc Cert.Reference16Ideal.main_v48) = v5 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)) →
    ∃ (v0 : (c : Dev Cert.Kernel15Ideal.nD) → Buf (Elt Ideal) ((c.tc : Thread Cert.Kernel15Ideal.nD Cert.Kernel15Ideal.τ).loc Cert.Kernel15Ideal.main_v38_0)) (v1 : (c : Dev Cert.Kernel15Ideal.nD) → Buf (Elt Ideal) ((c.tc : Thread Cert.Kernel15Ideal.nD Cert.Kernel15Ideal.τ).loc Cert.Kernel15Ideal.main_v38_1)) (v2 : (c : Dev Cert.Kernel15Ideal.nD) → Buf (Elt Ideal) ((c.tc : Thread Cert.Kernel15Ideal.nD Cert.Kernel15Ideal.τ).loc Cert.Kernel15Ideal.main_v38_2)) (v3 : (c : Dev Cert.Kernel15Ideal.nD) → Buf (Elt Ideal) ((c.tc : Thread Cert.Kernel15Ideal.nD Cert.Kernel15Ideal.τ).loc Cert.Kernel15Ideal.main_v38_3)) (v4 : (c : Dev Cert.Kernel15Ideal.nD) → Buf (Elt Ideal) ((c.tc : Thread Cert.Kernel15Ideal.nD Cert.Kernel15Ideal.τ).loc Cert.Kernel15Ideal.main_v38_4)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v38_0) = v0 c
          ∧ r.2.mem ((c.tc : Thread Cert.Kernel15Ideal.nD Cert.Kernel15Ideal.τ).loc Cert.Kernel15Ideal.main_v38_1) = v1 c
          ∧ r.2.mem ((c.tc : Thread Cert.Kernel15Ideal.nD Cert.Kernel15Ideal.τ).loc Cert.Kernel15Ideal.main_v38_2) = v2 c
          ∧ r.2.mem ((c.tc : Thread Cert.Kernel15Ideal.nD Cert.Kernel15Ideal.τ).loc Cert.Kernel15Ideal.main_v38_3) = v3 c
          ∧ r.2.mem ((c.tc : Thread Cert.Kernel15Ideal.nD Cert.Kernel15Ideal.τ).loc Cert.Kernel15Ideal.main_v38_4) = v4 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v37) = v0 c
          ∧ r.2.mem ((c.tc : Thread Cert.Reference15Ideal.nD Cert.Reference15Ideal.τ).loc Cert.Reference15Ideal.main_v39) = v1 c
          ∧ r.2.mem ((c.tc : Thread Cert.Reference15Ideal.nD Cert.Reference15Ideal.τ).loc Cert.Reference15Ideal.main_v41) = v2 c
          ∧ r.2.mem ((c.tc : Thread Cert.Reference15Ideal.nD Cert.Reference15Ideal.τ).loc Cert.Reference15Ideal.main_v42) = v3 c
          ∧ r.2.mem ((c.tc : Thread Cert.Reference15Ideal.nD Cert.Reference15Ideal.τ).loc Cert.Reference15Ideal.main_v44) = v4 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel6 : Cert.Kernel6.Facts) (hKernel6Ideal : Cert.Kernel6Ideal.Facts) (hReference6Ideal : Cert.Reference6Ideal.Facts) (hKernel9 : Cert.Kernel9.Facts) (hKernel9Ideal : Cert.Kernel9Ideal.Facts) (hReference9Ideal : Cert.Reference9Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel16 : Cert.Kernel16.Facts) (hKernel16Ideal : Cert.Kernel16Ideal.Facts) (hReference16Ideal : Cert.Reference16Ideal.Facts) (hKernel15 : Cert.Kernel15.Facts) (hKernel15Ideal : Cert.Kernel15Ideal.Facts) (hReference15Ideal : Cert.Reference15Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel6_Kernel6Ideal
    ∧ algebraic_Kernel6Ideal_Reference6Ideal (hKernel6Ideal := hKernel6Ideal) (hReference6Ideal := hReference6Ideal)
    ∧ preserves_Kernel9_Kernel9Ideal
    ∧ algebraic_Kernel9Ideal_Reference9Ideal (hKernel9Ideal := hKernel9Ideal) (hReference9Ideal := hReference9Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel16_Kernel16Ideal
    ∧ algebraic_Kernel16Ideal_Reference16Ideal (hKernel16Ideal := hKernel16Ideal) (hReference16Ideal := hReference16Ideal)
    ∧ preserves_Kernel15_Kernel15Ideal
    ∧ algebraic_Kernel15Ideal_Reference15Ideal (hKernel15Ideal := hKernel15Ideal) (hReference15Ideal := hReference15Ideal)
-- ==== Pre_finite.lean ====
abbrev S2x2048x8x96 : Shape := ⟨4, ![2, 2048, 8, 96]⟩
abbrev S2x2048x8x64 : Shape := ⟨4, ![2, 2048, 8, 64]⟩
abbrev S2x2048x512 : Shape := ⟨3, ![2, 2048, 512]⟩
abbrev S_ : Shape := ⟨0, ![]⟩

class Facts : Prop where
  bcast_S_S2x2048x8x96 : S_.BroadcastsInDim S2x2048x8x96 (![] : Fin 0 → Fin S2x2048x8x96.rank)
  reducesTo_S2x2048x8x96_S_d0_1_2_3 : S2x2048x8x96.ReducesTo [0, 1, 2, 3] S_
  h_S_ : 0 < S_.numel
  bcast_S_S2x2048x8x64 : S_.BroadcastsInDim S2x2048x8x64 (![] : Fin 0 → Fin S2x2048x8x64.rank)
  reducesTo_S2x2048x8x64_S_d0_1_2_3 : S2x2048x8x64.ReducesTo [0, 1, 2, 3] S_
  bcast_S_S2x2048x512 : S_.BroadcastsInDim S2x2048x512 (![] : Fin 0 → Fin S2x2048x512.rank)
  reducesTo_S2x2048x512_S_d0_1_2 : S2x2048x512.ReducesTo [0, 1, 2] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S2x2048x8x96 .f32) (main_arg1 : FVec F S2x2048x8x96 .f32) (main_arg2 : FVec F S2x2048x8x64 .f32) (main_arg3 : FVec F S2x2048x512 .f32) : IVec S_ 1 :=
  let main_v0 : FVec F S2x2048x8x96 .f32 := Host.absf main_arg0
  let main_cst : FVec F S_ .f32 := constant S_ .f32 0x7F800000#32
  let main_v1 : FVec F S2x2048x8x96 .f32 := broadcastInDim S2x2048x8x96 ![] bcast_S_S2x2048x8x96 main_cst
  let main_v2 : IVec S2x2048x8x96 1 := cmpf .olt main_v0 main_v1
  let main_c : IVec S_ 1 := constantI S_ 1 1#1
  let main_v3 : IVec S_ 1 := (fun x v => Host.reduce IntOp.andi x v reducesTo_S2x2048x8x96_S_d0_1_2_3 h_S_) main_v2 main_c
  let main_v4 : FVec F S2x2048x8x96 .f32 := Host.absf main_arg1
  let main_cst_0 : FVec F S_ .f32 := constant S_ .f32 0x7F800000#32
  let main_v5 : FVec F S2x2048x8x96 .f32 := broadcastInDim S2x2048x8x96 ![] bcast_S_S2x2048x8x96 main_cst_0
  let main_v6 : IVec S2x2048x8x96 1 := cmpf .olt main_v4 main_v5
  let main_c_1 : IVec S_ 1 := constantI S_ 1 1#1
  let main_v7 : IVec S_ 1 := (fun x v => Host.reduce IntOp.andi x v reducesTo_S2x2048x8x96_S_d0_1_2_3 h_S_) main_v6 main_c_1
  let main_v8 : FVec F S2x2048x8x64 .f32 := Host.absf main_arg2
  let main_cst_2 : FVec F S_ .f32 := constant S_ .f32 0x7F800000#32
  let main_v9 : FVec F S2x2048x8x64 .f32 := broadcastInDim S2x2048x8x64 ![] bcast_S_S2x2048x8x64 main_cst_2
  let main_v10 : IVec S2x2048x8x64 1 := cmpf .olt main_v8 main_v9
  let main_c_3 : IVec S_ 1 := constantI S_ 1 1#1
  let main_v11 : IVec S_ 1 := (fun x v => Host.reduce IntOp.andi x v reducesTo_S2x2048x8x64_S_d0_1_2_3 h_S_) main_v10 main_c_3
  let main_v12 : FVec F S2x2048x512 .f32 := Host.absf main_arg3
  let main_cst_4 : FVec F S_ .f32 := constant S_ .f32 0x7F800000#32
  let main_v13 : FVec F S2x2048x512 .f32 := broadcastInDim S2x2048x512 ![] bcast_S_S2x2048x512 main_cst_4
  let main_v14 : IVec S2x2048x512 1 := cmpf .olt main_v12 main_v13
  let main_c_5 : IVec S_ 1 := constantI S_ 1 1#1
  let main_v15 : IVec S_ 1 := (fun x v => Host.reduce IntOp.andi x v reducesTo_S2x2048x512_S_d0_1_2 h_S_) main_v14 main_c_5
  fn_part1 (F := F) main_v3 main_v7 main_v11 main_v15
-- ==== Kernel.lean ====
abbrev S2x2048x8x96 : Shape := ⟨4, ![2, 2048, 8, 96]⟩
abbrev S2x2048x8x64 : Shape := ⟨4, ![2, 2048, 8, 64]⟩
abbrev S2x2048x512 : Shape := ⟨3, ![2, 2048, 512]⟩
abbrev S2x8x2048x2048 : Shape := ⟨4, ![2, 8, 2048, 2048]⟩
abbrev S_ : Shape := ⟨0, ![]⟩
abbrev S2x8x2048 : Shape := ⟨3, ![2, 8, 2048]⟩
abbrev S2x8x2048x1 : Shape := ⟨4, ![2, 8, 2048, 1]⟩
abbrev S2x8x64x2048 : Shape := ⟨4, ![2, 8, 64, 2048]⟩
abbrev S8x2x2048x1 : Shape := ⟨4, ![8, 2, 2048, 1]⟩
abbrev S8x4096x1 : Shape := ⟨3, ![8, 4096, 1]⟩
abbrev S2x2048x8x128 : Shape := ⟨4, ![2, 2048, 8, 128]⟩
abbrev S4096x1024 : Shape := ⟨2, ![4096, 1024]⟩
abbrev S4096x2048 : Shape := ⟨2, ![4096, 2048]⟩
abbrev S1024x128 : Shape := ⟨2, ![1024, 128]⟩
abbrev S2048x128 : Shape := ⟨2, ![2048, 128]⟩
abbrev S1x1024x1 : Shape := ⟨3, ![1, 1024, 1]⟩
abbrev S1024x2048 : Shape := ⟨2, ![1024, 2048]⟩
abbrev S1024x1 : Shape := ⟨2, ![1024, 1]⟩
abbrev S1024 : Shape := ⟨1, ![1024]⟩

abbrev nBuf : Space → Nat
  | .hbm => 52
  | .vmem => 20
  | .smem => 0
  | _ => 0

abbrev bufTy : (tb : Table) → Fin (tcTables nBuf tb) → BufTy
  | .hbm, ⟨0, _⟩ => ⟨S2x2048x8x96, .f32⟩
  | .hbm, ⟨1, _⟩ => ⟨S2x2048x8x96, .f32⟩
  | .hbm, ⟨2, _⟩ => ⟨S2x2048x8x64, .f32⟩
  | .hbm, ⟨3, _⟩ => ⟨S2x2048x512, .f32⟩
  | .hbm, ⟨4, _⟩ => ⟨S2x8x2048x2048, .f32⟩
  | .hbm, ⟨5, _⟩ => ⟨S_, .f32⟩
  | .hbm, ⟨6, _⟩ => ⟨S2x8x2048, .f32⟩
  | .hbm, ⟨7, _⟩ => ⟨S2x8x2048x1, .f32⟩
  | .hbm, ⟨8, _⟩ => ⟨S2x8x2048x2048, .f32⟩
  | .hbm, ⟨9, _⟩ => ⟨S2x8x2048x2048, .f32⟩
  | .hbm, ⟨10, _⟩ => ⟨S2x8x2048x2048, .f32⟩
  | .hbm, ⟨11, _⟩ => ⟨S_, .f32⟩
  | .hbm, ⟨12, _⟩ => ⟨S2x8x2048, .f32⟩
  | .hbm, ⟨13, _⟩ => ⟨S2x8x2048x1, .f32⟩
  | .hbm, ⟨14, _⟩ => ⟨S2x8x2048x2048, .f32⟩
  | .hbm, ⟨15, _⟩ => ⟨S2x8x2048x2048, .f32⟩
  | .hbm, ⟨16, _⟩ => ⟨S2x8x64x2048, .f32⟩
  | .hbm, ⟨17, _⟩ => ⟨S2x2048x8x64, .f32⟩
  | .hbm, ⟨18, _⟩ => ⟨S2x8x2048x1, .f32⟩
  | .hbm, ⟨19, _⟩ => ⟨S2x8x2048x1, .f32⟩
  | .hbm, ⟨20, _⟩ => ⟨S8x2x2048x1, .f32⟩
  | .hbm, ⟨21, _⟩ => ⟨S8x4096x1, .f32⟩
  | .hbm, ⟨22, _⟩ => ⟨S_, .i32⟩
  | .hbm, ⟨23, _⟩ => ⟨S_, .f32⟩
  | .hbm, ⟨24, _⟩ => ⟨S2x2048x8x128, .f32⟩
  | .hbm, ⟨25, _⟩ => ⟨S4096x1024, .f32⟩
  | .hbm, ⟨26, _⟩ => ⟨S4096x1024, .bf16⟩
  | .hbm, ⟨27, _⟩ => ⟨S_, .i32⟩
  | .hbm, ⟨28, _⟩ => ⟨S_, .f32⟩
  | .hbm, ⟨29, _⟩ => ⟨S2x2048x8x128, .f32⟩
  | .hbm, ⟨30, _⟩ => ⟨S4096x1024, .f32⟩
  | .hbm, ⟨31, _⟩ => ⟨S4096x1024, .bf16⟩
  | .hbm, ⟨32, _⟩ => ⟨S4096x2048, .bf16⟩
  | .hbm, ⟨33, _⟩ => ⟨S_, .i32⟩
  | .hbm, ⟨34, _⟩ => ⟨S_, .f32⟩
  | .hbm, ⟨35, _⟩ => ⟨S2x2048x8x128, .f32⟩
  | .hbm, ⟨36, _⟩ => ⟨S4096x1024, .f32⟩
  | .hbm, ⟨37, _⟩ => ⟨S4096x1024, .bf16⟩
  | .hbm, ⟨38, _⟩ => ⟨S_, .i32⟩
  | .hbm, ⟨39, _⟩ => ⟨S_, .f32⟩
  | .hbm, ⟨40, _⟩ => ⟨S2x2048x8x128, .f32⟩
  | .hbm, ⟨41, _⟩ => ⟨S4096x1024, .f32⟩
  | .hbm, ⟨42, _⟩ => ⟨S4096x1024, .bf16⟩
  | .hbm, ⟨43, _⟩ => ⟨S2x2048x8x64, .f32⟩
  | .hbm, ⟨44, _⟩ => ⟨S_, .i32⟩
  | .hbm, ⟨45, _⟩ => ⟨S_, .f32⟩
  | .hbm, ⟨46, _⟩ => ⟨S2x2048x8x128, .f32⟩
  | .hbm, ⟨47, _⟩ => ⟨S4096x1024, .f32⟩
  | .hbm, ⟨48, _⟩ => ⟨S4096x1024, .bf16⟩
  | .hbm, ⟨49, _⟩ => ⟨S4096x1024, .f32⟩
  | .hbm, ⟨50, _⟩ => ⟨S4096x1024, .bf16⟩
  | .hbm, ⟨51, _⟩ => ⟨S4096x1024, .bf16⟩
  | .local _ .vmem, ⟨0, _⟩ => ⟨S1024x128, .bf16⟩
  | .local _ .vmem, ⟨1, _⟩ => ⟨S1024x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S1x1024x1, .f32⟩
  | .local _ .vmem, ⟨11, _⟩ => ⟨S1x1024x1, .f32⟩
  | .local _ .vmem, ⟨12, _⟩ => ⟨S1024x128, .f32⟩
  | .local _ .vmem, ⟨13, _⟩ => ⟨S1024x128, .f32⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .f32⟩
  | .local _ .vmem, ⟨19, _⟩ => ⟨S2048x128, .f32⟩
  | _, _ => ⟨S2x2048x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_call0_v0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_1 : Ref sig .tc := ⟨.hbm, 27, rfl⟩
abbrev main_call1_v0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_2 : Ref sig .tc := ⟨.hbm, 33, rfl⟩
abbrev main_call2_v0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_3 : Ref sig .tc := ⟨.hbm, 38, rfl⟩
abbrev main_call3_v0 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_call4_v0 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33_0 : Ref sig .tc := ⟨.hbm, 49, rfl⟩
abbrev main_v33_1 : Ref sig .tc := ⟨.hbm, 50, rfl⟩
abbrev main_v33_2 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨4, ![8, 2, 1, 2], ![false, false, false, false]⟩

def k0_cond3 (i : grid0.Coords) : BitVec 1 :=
  let arg2 : BitVec 32 := BitVec.ofNat 32 (i 2).val
  let c0_i32_22 : BitVec 32 := 0#32
  let v39 : BitVec 1 := Scalar.cmpi .eq arg2 c0_i32_22
  let arg3 : BitVec 32 := BitVec.ofNat 32 (i 3).val
  let c1_i32 : BitVec 32 := 1#32
  let v40 : BitVec 1 := Scalar.cmpi .eq arg3 c1_i32
  let v41 : BitVec 1 := Scalar.andi v39 v40
  let v42 : BitVec 32 := Scalar.extui v41
  let c0_i32_23 : BitVec 32 := 0#32
  let v43 : BitVec 1 := Scalar.cmpi .ne v42 c0_i32_23
  v43

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg3
  let c1_i32 : BitVec 32 := 1#32
  let v2 : BitVec 32 := Scalar.muli arg0 c1_i32
  let v3 : BitVec 32 := Scalar.addi v2 arg2
  let c0_i32 : BitVec 32 := 0#32
  ![v1.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.addi c8_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg3
  let c1_i32 : BitVec 32 := 1#32
  let v2 : BitVec 32 := Scalar.muli arg0 c1_i32
  let v3 : BitVec 32 := Scalar.addi v2 arg2
  let c0_i32 : BitVec 32 := 0#32
  ![v1.toNat, v3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg3
  let c1_i32 : BitVec 32 := 1#32
  let v2 : BitVec 32 := Scalar.muli arg0 c1_i32
  let v3 : BitVec 32 := Scalar.addi v2 arg2
  let c0_i32 : BitVec 32 := 0#32
  ![v1.toNat, v3.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c2_i32 : BitVec 32 := 2#32
  let v2 : BitVec 32 := Scalar.muli arg1 c2_i32
  let v3 : BitVec 32 := Scalar.addi v2 arg3
  let c0_i32 : BitVec 32 := 0#32
  let c0_i32_0 : BitVec 32 := 0#32
  ![v1.toNat, v3.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg3
  let c1_i32 : BitVec 32 := 1#32
  let v2 : BitVec 32 := Scalar.muli arg0 c1_i32
  let v3 : BitVec 32 := Scalar.addi v2 arg2
  let c0_i32 : BitVec 32 := 0#32
  ![v1.toNat, v3.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, true]

abbrev stage0_5 : Fin 2 → Memref sig .tc .vmem S1x1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true, true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false, false]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false, false]
-- ==== ReferenceIdeal.lean ====
abbrev S2x2048x8x96 : Shape := ⟨4, ![2, 2048, 8, 96]⟩
abbrev S2x2048x8x64 : Shape := ⟨4, ![2, 2048, 8, 64]⟩
abbrev S2x2048x512 : Shape := ⟨3, ![2, 2048, 512]⟩
abbrev S2x8x2048x2048 : Shape := ⟨4, ![2, 8, 2048, 2048]⟩
abbrev S_ : Shape := ⟨0, ![]⟩
abbrev S2x8x2048 : Shape := ⟨3, ![2, 8, 2048]⟩
abbrev S2x8x2048x1 : Shape := ⟨4, ![2, 8, 2048, 1]⟩
abbrev S2x8x64x2048 : Shape := ⟨4, ![2, 8, 64, 2048]⟩
abbrev S2x8x2048x96 : Shape := ⟨4, ![2, 8, 2048, 96]⟩
abbrev S2x2048x8x128 : Shape := ⟨4, ![2, 2048, 8, 128]⟩
abbrev S4096x1024 : Shape := ⟨2, ![4096, 1024]⟩

abbrev nBuf : Space → Nat
  | .hbm => 83
  | .vmem => 0
  | .smem => 0
  | _ => 0

abbrev bufTy : (tb : Table) → Fin (tcTables nBuf tb) → BufTy
  | .hbm, ⟨0, _⟩ => ⟨S2x2048x8x96, .f32⟩
  | .hbm, ⟨1, _⟩ => ⟨S2x2048x8x96, .f32⟩
  | .hbm, ⟨2, _⟩ => ⟨S2x2048x8x64, .f32⟩
  | .hbm, ⟨3, _⟩ => ⟨S2x2048x512, .f32⟩
  | .hbm, ⟨4, _⟩ => ⟨S2x8x2048x2048, .f32⟩
  | .hbm, ⟨5, _⟩ => ⟨S_, .f32⟩
  | .hbm, ⟨6, _⟩ => ⟨S2x8x2048, .f32⟩
  | .hbm, ⟨7, _⟩ => ⟨S2x8x2048x1, .f32⟩
  | .hbm, ⟨8, _⟩ => ⟨S2x8x2048x2048, .f32⟩
  | .hbm, ⟨9, _⟩ => ⟨S2x8x2048x2048, .i1⟩
  | .hbm, ⟨10, _⟩ => ⟨S2x8x2048x2048, .f32⟩
  | .hbm, ⟨11, _⟩ => ⟨S_, .f32⟩
  | .hbm, ⟨12, _⟩ => ⟨S2x8x2048, .f32⟩
  | .hbm, ⟨13, _⟩ => ⟨S_, .f32⟩
  | .hbm, ⟨14, _⟩ => ⟨S2x8x2048, .f32⟩
  | .hbm, ⟨15, _⟩ => ⟨S2x8x2048, .f32⟩
  | .hbm, ⟨16, _⟩ => ⟨S_, .f32⟩
  | .hbm, ⟨17, _⟩ => ⟨S2x8x2048, .f32⟩
  | .hbm, ⟨18, _⟩ => ⟨S2x8x2048, .i1⟩
  | .hbm, ⟨19, _⟩ => ⟨S_, .f32⟩
  | .hbm, ⟨20, _⟩ => ⟨S2x8x2048, .f32⟩
  | .hbm, ⟨21, _⟩ => ⟨S2x8x2048, .i1⟩
  | .hbm, ⟨22, _⟩ => ⟨S_, .f32⟩
  | .hbm, ⟨23, _⟩ => ⟨S2x8x2048, .f32⟩
  | .hbm, ⟨24, _⟩ => ⟨S_, .f32⟩
  | .hbm, ⟨25, _⟩ => ⟨S2x8x2048, .f32⟩
  | .hbm, ⟨26, _⟩ => ⟨S_, .f32⟩
  | .hbm, ⟨27, _⟩ => ⟨S2x8x2048, .f32⟩
  | .hbm, ⟨28, _⟩ => ⟨S2x8x2048, .f32⟩
  | .hbm, ⟨29, _⟩ => ⟨S2x8x2048, .f32⟩
  | .hbm, ⟨30, _⟩ => ⟨S2x8x2048x1, .f32⟩
  | .hbm, ⟨31, _⟩ => ⟨S2x8x2048x2048, .f32⟩
  | .hbm, ⟨32, _⟩ => ⟨S2x8x2048x2048, .f32⟩
  | .hbm, ⟨33, _⟩ => ⟨S2x8x2048x2048, .f32⟩
  | .hbm, ⟨34, _⟩ => ⟨S_, .f32⟩
  | .hbm, ⟨35, _⟩ => ⟨S2x8x2048, .f32⟩
  | .hbm, ⟨36, _⟩ => ⟨S2x8x2048x1, .f32⟩
  | .hbm, ⟨37, _⟩ => ⟨S2x8x2048x2048, .f32⟩
  | .hbm, ⟨38, _⟩ => ⟨S2x8x2048x2048, .f32⟩
  | .hbm, ⟨39, _⟩ => ⟨S2x8x2048x1, .f32⟩
  | .hbm, ⟨40, _⟩ => ⟨S_, .f32⟩
  | .hbm, ⟨41, _⟩ => ⟨S2x8x2048x1, .f32⟩
  | .hbm, ⟨42, _⟩ => ⟨S2x8x2048x1, .f32⟩
  | .hbm, ⟨43, _⟩ => ⟨S2x8x64x2048, .f32⟩
  | .hbm, ⟨44, _⟩ => ⟨S2x2048x8x64, .f32⟩
  | .hbm, ⟨45, _⟩ => ⟨S2x2048x512, .f32⟩
  | .hbm, ⟨46, _⟩ => ⟨S2x2048x8x64, .f32⟩
  | .hbm, ⟨47, _⟩ => ⟨S2x8x64x2048, .f32⟩
  | .hbm, ⟨48, _⟩ => ⟨S2x8x2048x2048, .f32⟩
  | .hbm, ⟨49, _⟩ => ⟨S2x8x64x2048, .f32⟩
  | .hbm, ⟨50, _⟩ => ⟨S2x2048x8x64, .f32⟩
  | .hbm, ⟨51, _⟩ => ⟨S2x8x2048x2048, .f32⟩
  | .hbm, ⟨52, _⟩ => ⟨S2x8x2048x2048, .f32⟩
  | .hbm, ⟨53, _⟩ => ⟨S2x8x2048x2048, .f32⟩
  | .hbm, ⟨54, _⟩ => ⟨S_, .f32⟩
  | .hbm, ⟨55, _⟩ => ⟨S2x8x2048, .f32⟩
  | .hbm, ⟨56, _⟩ => ⟨S2x8x2048x1, .f32⟩
  | .hbm, ⟨57, _⟩ => ⟨S2x8x2048x1, .f32⟩
  | .hbm, ⟨58, _⟩ => ⟨S2x8x2048x2048, .f32⟩
  | .hbm, ⟨59, _⟩ => ⟨S2x8x2048x2048, .f32⟩
  | .hbm, ⟨60, _⟩ => ⟨S_, .f32⟩
  | .hbm, ⟨61, _⟩ => ⟨S2x8x2048, .f32⟩
  | .hbm, ⟨62, _⟩ => ⟨S2x8x2048x2048, .f32⟩
  | .hbm, ⟨63, _⟩ => ⟨S2x8x2048x2048, .f32⟩
  | .hbm, ⟨64, _⟩ => ⟨S2x8x2048x2048, .f32⟩
  | .hbm, ⟨65, _⟩ => ⟨S2x8x2048x96, .f32⟩
  | .hbm, ⟨66, _⟩ => ⟨S2x2048x8x96, .f32⟩
  | .hbm, ⟨67, _⟩ => ⟨S2x8x2048x96, .f32⟩
  | .hbm, ⟨68, _⟩ => ⟨S2x2048x8x96, .f32⟩
  | .hbm, ⟨69, _⟩ => ⟨S_, .i32⟩
  | .hbm, ⟨70, _⟩ => ⟨S_, .f32⟩
  | .hbm, ⟨71, _⟩ => ⟨S2x2048x8x128, .f32⟩
  | .hbm, ⟨72, _⟩ => ⟨S4096x1024, .f32⟩
  | .hbm, ⟨73, _⟩ => ⟨S_, .i32⟩
  | .hbm, ⟨74, _⟩ => ⟨S_, .f32⟩
  | .hbm, ⟨75, _⟩ => ⟨S2x2048x8x128, .f32⟩
  | .hbm, ⟨76, _⟩ => ⟨S4096x1024, .f32⟩
  | .hbm, ⟨77, _⟩ => ⟨S4096x1024, .bf16⟩
  | .hbm, ⟨78, _⟩ => ⟨S_, .i32⟩
  | .hbm, ⟨79, _⟩ => ⟨S_, .f32⟩
  | .hbm, ⟨80, _⟩ => ⟨S2x2048x8x128, .f32⟩
  | .hbm, ⟨81, _⟩ => ⟨S4096x1024, .f32⟩
  | .hbm, ⟨82, _⟩ => ⟨S4096x1024, .bf16⟩
  | _, _ => ⟨S2x2048x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_9 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_10 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_c : Ref sig .tc := ⟨.hbm, 69, rfl⟩
abbrev main_call0_v0 : Ref sig .tc := ⟨.hbm, 70, rfl⟩
abbrev main_v53 : Ref sig .tc := ⟨.hbm, 71, rfl⟩
abbrev main_v54 : Ref sig .tc := ⟨.hbm, 72, rfl⟩
abbrev main_c_11 : Ref sig .tc := ⟨.hbm, 73, rfl⟩
abbrev main_call1_v0 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_c_12 : Ref sig .tc := ⟨.hbm, 78, rfl⟩
abbrev main_call2_v0 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩

abbrev nD : Nat := 1
abbrev τ : Topo := Topo.v7x

variable {F : FTy → Type} [FloatOps F]
-- ==== Kernel3.lean ====
abbrev S2x2048x4096 : Shape := ⟨3, ![2, 2048, 4096]⟩
abbrev S2x2048x1024 : Shape := ⟨3, ![2, 2048, 1024]⟩
abbrev S4096x4096 : Shape := ⟨2, ![4096, 4096]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2x2048x4096, .f32⟩
  | .hbm, ⟨1, _⟩ => ⟨S2x2048x1024, .f32⟩
  | .hbm, ⟨2, _⟩ => ⟨S4096x4096, .f32⟩
  | .hbm, ⟨3, _⟩ => ⟨S4096x4096, .bf16⟩
  | .hbm, ⟨4, _⟩ => ⟨S4096x1024, .f32⟩
  | .hbm, ⟨5, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v15 : BitVec 1 := Scalar.cmpi .eq arg2 c1_i32
  let v16 : BitVec 32 := Scalar.extui v15
  let c0_i32_6 : BitVec 32 := 0#32
  let v17 : BitVec 1 := Scalar.cmpi .ne v16 c0_i32_6
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2x2048x4096 : Shape := ⟨3, ![2, 2048, 4096]⟩
abbrev S2x2048x1024 : Shape := ⟨3, ![2, 2048, 1024]⟩
abbrev S1024x4096 : Shape := ⟨2, ![1024, 4096]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S2x2048x1024, .f32⟩
  | .hbm, ⟨2, _⟩ => ⟨S2x2048x4096, .f32⟩
  | .hbm, ⟨3, _⟩ => ⟨S1024x4096, .f32⟩
  | .hbm, ⟨4, _⟩ => ⟨S4096x1024, .f32⟩
  | .hbm, ⟨5, _⟩ => ⟨S4096x1024, .bf16⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel4.lean ====
abbrev S2x2048x4096 : Shape := ⟨3, ![2, 2048, 4096]⟩
abbrev S4096x1024 : Shape := ⟨2, ![4096, 1024]⟩
abbrev S2x2048x1024 : Shape := ⟨3, ![2, 2048, 1024]⟩
abbrev S_ : Shape := ⟨0, ![]⟩
abbrev S4096x4096 : Shape := ⟨2, ![4096, 4096]⟩
abbrev S512x1024 : Shape := ⟨2, ![512, 1024]⟩
abbrev S2048x1024 : Shape := ⟨2, ![2048, 1024]⟩
abbrev S512x2048 : Shape := ⟨2, ![512, 2048]⟩

abbrev nBuf : Space → Nat
  | .hbm => 11
  | .vmem => 8
  | .smem => 0
  | _ => 0

abbrev bufTy : (tb : Table) → Fin (tcTables nBuf tb) → BufTy
  | .hbm, ⟨0, _⟩ => ⟨S2x2048x4096, .f32⟩
  | .hbm, ⟨1, _⟩ => ⟨S4096x1024, .f32⟩
  | .hbm, ⟨2, _⟩ => ⟨S2x2048x1024, .f32⟩
  | .hbm, ⟨3, _⟩ => ⟨S_, .f32⟩
  | .hbm, ⟨4, _⟩ => ⟨S2x2048x4096, .f32⟩
  | .hbm, ⟨5, _⟩ => ⟨S2x2048x4096, .f32⟩
  | .hbm, ⟨6, _⟩ => ⟨S4096x1024, .f32⟩
  | .hbm, ⟨7, _⟩ => ⟨S4096x1024, .bf16⟩
  | .hbm, ⟨8, _⟩ => ⟨S4096x4096, .f32⟩
  | .hbm, ⟨9, _⟩ => ⟨S4096x4096, .bf16⟩
  | .hbm, ⟨10, _⟩ => ⟨S4096x4096, .bf16⟩
  | .local _ .vmem, ⟨0, _⟩ => ⟨S512x1024, .f32⟩
  | .local _ .vmem, ⟨1, _⟩ => ⟨S512x1024, .f32⟩
  | .local _ .vmem, ⟨2, _⟩ => ⟨S2048x1024, .bf16⟩
  | .local _ .vmem, ⟨3, _⟩ => ⟨S2048x1024, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S2x2048x4096 : Shape := ⟨3, ![2, 2048, 4096]⟩
abbrev S4096x1024 : Shape := ⟨2, ![4096, 1024]⟩
abbrev S2x2048x1024 : Shape := ⟨3, ![2, 2048, 1024]⟩
abbrev S_ : Shape := ⟨0, ![]⟩
abbrev S4096x4096 : Shape := ⟨2, ![4096, 4096]⟩

abbrev nBuf : Space → Nat
  | .hbm => 22
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096x1024, .f32⟩
  | .hbm, ⟨2, _⟩ => ⟨S2x2048x1024, .f32⟩
  | .hbm, ⟨3, _⟩ => ⟨S_, .f32⟩
  | .hbm, ⟨4, _⟩ => ⟨S2x2048x4096, .f32⟩
  | .hbm, ⟨5, _⟩ => ⟨S2x2048x4096, .f32⟩
  | .hbm, ⟨6, _⟩ => ⟨S_, .f32⟩
  | .hbm, ⟨7, _⟩ => ⟨S2x2048x4096, .f32⟩
  | .hbm, ⟨8, _⟩ => ⟨S2x2048x4096, .i1⟩
  | .hbm, ⟨9, _⟩ => ⟨S_, .f32⟩
  | .hbm, ⟨10, _⟩ => ⟨S2x2048x4096, .f32⟩
  | .hbm, ⟨11, _⟩ => ⟨S2x2048x4096, .f32⟩
  | .hbm, ⟨12, _⟩ => ⟨S2x2048x1024, .f32⟩
  | .hbm, ⟨13, _⟩ => ⟨S2x2048x4096, .f32⟩
  | .hbm, ⟨14, _⟩ => ⟨S2x2048x4096, .f32⟩
  | .hbm, ⟨15, _⟩ => ⟨S2x2048x4096, .f32⟩
  | .hbm, ⟨16, _⟩ => ⟨S2x2048x4096, .f32⟩
  | .hbm, ⟨17, _⟩ => ⟨S_, .f32⟩
  | .hbm, ⟨18, _⟩ => ⟨S2x2048x4096, .f32⟩
  | .hbm, ⟨19, _⟩ => ⟨S2x2048x4096, .f32⟩
  | .hbm, ⟨20, _⟩ => ⟨S4096x4096, .f32⟩
  | .hbm, ⟨21, _⟩ => ⟨S4096x4096, .bf16⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== Kernel5.lean ====
abbrev S2x2048x1024 : Shape := ⟨3, ![2, 2048, 1024]⟩
abbrev S2x2048x4096 : Shape := ⟨3, ![2, 2048, 4096]⟩
abbrev S4096x1024 : Shape := ⟨2, ![4096, 1024]⟩
abbrev S4096x4096 : Shape := ⟨2, ![4096, 4096]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S2x2048x1024, .f32⟩
  | .hbm, ⟨1, _⟩ => ⟨S2x2048x4096, .f32⟩
  | .hbm, ⟨2, _⟩ => ⟨S4096x1024, .f32⟩
  | .hbm, ⟨3, _⟩ => ⟨S4096x1024, .bf16⟩
  | .hbm, ⟨4, _⟩ => ⟨S4096x4096, .f32⟩
  | .hbm, ⟨5, _⟩ => ⟨S4096x4096, .bf16⟩
  | .hbm, ⟨6, _⟩ => ⟨S4x1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2x2048x1024 : Shape := ⟨3, ![2, 2048, 1024]⟩
abbrev S2x2048x4096 : Shape := ⟨3, ![2, 2048, 4096]⟩
abbrev S4096x1024 : Shape := ⟨2, ![4096, 1024]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x4096, .f32⟩
  | .hbm, ⟨2, _⟩ => ⟨S4096x1024, .f32⟩
  | .hbm, ⟨3, _⟩ => ⟨S1024x4096, .f32⟩
  | .hbm, ⟨4, _⟩ => ⟨S1024x4x1024, .f32⟩
  | .hbm, ⟨5, _⟩ => ⟨S4x1024x1024, .f32⟩
  | .hbm, ⟨6, _⟩ => ⟨S4x1024x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel7.lean ====
abbrev S2x2048x1024 : Shape := ⟨3, ![2, 2048, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4096x1024 : Shape := ⟨2, ![4096, 1024]⟩
abbrev S4096x4096 : Shape := ⟨2, ![4096, 4096]⟩
abbrev S1024x1024 : Shape := ⟨2, ![1024, 1024]⟩
abbrev S1x1024x1024 : Shape := ⟨3, ![1, 1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S2x2048x1024, .f32⟩
  | .hbm, ⟨1, _⟩ => ⟨S1024x4096, .f32⟩
  | .hbm, ⟨2, _⟩ => ⟨S1024x4x1024, .f32⟩
  | .hbm, ⟨3, _⟩ => ⟨S4x1024x1024, .f32⟩
  | .hbm, ⟨4, _⟩ => ⟨S4x1024x1024, .bf16⟩
  | .hbm, ⟨5, _⟩ => ⟨S4096x1024, .f32⟩
  | .hbm, ⟨6, _⟩ => ⟨S4096x1024, .bf16⟩
  | .hbm, ⟨7, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S2x2048x1024 : Shape := ⟨3, ![2, 2048, 1024]⟩
abbrev S1024x4096 : Shape := ⟨2, ![1024, 4096]⟩
abbrev S2x2048x4096 : Shape := ⟨3, ![2, 2048, 4096]⟩
abbrev S_ : Shape := ⟨0, ![]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x4096, .f32⟩
  | .hbm, ⟨2, _⟩ => ⟨S2x2048x4096, .f32⟩
  | .hbm, ⟨3, _⟩ => ⟨S_, .f32⟩
  | .hbm, ⟨4, _⟩ => ⟨S2x2048x4096, .f32⟩
  | .hbm, ⟨5, _⟩ => ⟨S2x2048x4096, .f32⟩
  | .hbm, ⟨6, _⟩ => ⟨S4096x4096, .f32⟩
  | .hbm, ⟨7, _⟩ => ⟨S4096x4096, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel8.lean ====
abbrev S2x2048x4096 : Shape := ⟨3, ![2, 2048, 4096]⟩
abbrev S4096x1024 : Shape := ⟨2, ![4096, 1024]⟩
abbrev S2x2048x1024 : Shape := ⟨3, ![2, 2048, 1024]⟩
abbrev S1024 : Shape := ⟨1, ![1024]⟩
abbrev S4096x4096 : Shape := ⟨2, ![4096, 4096]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S2x2048x4096, .f32⟩
  | .hbm, ⟨1, _⟩ => ⟨S4096x1024, .f32⟩
  | .hbm, ⟨2, _⟩ => ⟨S2x2048x1024, .f32⟩
  | .hbm, ⟨3, _⟩ => ⟨S1024, .f32⟩
  | .hbm, ⟨4, _⟩ => ⟨S4096x4096, .f32⟩
  | .hbm, ⟨5, _⟩ => ⟨S4096x4096, .bf16⟩
  | .hbm, ⟨6, _⟩ => ⟨S4096x1024, .bf16⟩
  | .hbm, ⟨7, _⟩ => ⟨S4096x1024, .f32⟩
  | .hbm, ⟨8, _⟩ => ⟨S1x1024, .f32⟩
  | .hbm, ⟨9, _⟩ => ⟨S4096x1024, .f32⟩
  | .hbm, ⟨10, _⟩ => ⟨S4096x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference8Ideal.lean ====
abbrev S2x2048x4096 : Shape := ⟨3, ![2, 2048, 4096]⟩
abbrev S4096x1024 : Shape := ⟨2, ![4096, 1024]⟩
abbrev S2x2048x1024 : Shape := ⟨3, ![2, 2048, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096x1024, .f32⟩
  | .hbm, ⟨2, _⟩ => ⟨S2x2048x1024, .f32⟩
  | .hbm, ⟨3, _⟩ => ⟨S1024, .f32⟩
  | .hbm, ⟨4, _⟩ => ⟨S2x2048x4096, .f32⟩
  | .hbm, ⟨5, _⟩ => ⟨S2x2048x1024, .f32⟩
  | .hbm, ⟨6, _⟩ => ⟨S2x2048x1024, .f32⟩
  | .hbm, ⟨7, _⟩ => ⟨S4096x1024, .f32⟩
  | .hbm, ⟨8, _⟩ => ⟨S2x2048x1024, .f32⟩
  | .hbm, ⟨9, _⟩ => ⟨S_, .f32⟩
  | .hbm, ⟨10, _⟩ => ⟨S2x2048, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S2x2048x1024, .f32⟩
  | .hbm, ⟨20, _⟩ => ⟨S2x2048x1024, .f32⟩
  | .hbm, ⟨21, _⟩ => ⟨S1x1x1024, .f32⟩
  | .hbm, ⟨22, _⟩ => ⟨S2x2048x1024, .f32⟩
  | .hbm, ⟨23, _⟩ => ⟨S2x2048x1024, .f32⟩
  | .hbm, ⟨24, _⟩ => ⟨S4096x1024, .f32⟩
  | .hbm, ⟨25, _⟩ => ⟨S4096x1024, .bf16⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel6.lean ====
abbrev S2x2048x1024 : Shape := ⟨3, ![2, 2048, 1024]⟩
abbrev S1024 : Shape := ⟨1, ![1024]⟩
abbrev S1024x4096 : Shape := ⟨2, ![1024, 4096]⟩
abbrev S2x2048x4096 : Shape := ⟨3, ![2, 2048, 4096]⟩
abbrev S1024x4x1024 : Shape := ⟨3, ![1024, 4, 1024]⟩
abbrev S4x1024x1024 : Shape := ⟨3, ![4, 1024, 1024]⟩
abbrev S4096x4096 : Shape := ⟨2, ![4096, 4096]⟩
abbrev S4096x1024 : Shape := ⟨2, ![4096, 1024]⟩
abbrev S1x1024 : Shape := ⟨2, ![1, 1024]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 15
  | .vmem => 20
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x4096, .f32⟩
  | .hbm, ⟨3, _⟩ => ⟨S2x2048x4096, .f32⟩
  | .hbm, ⟨4, _⟩ => ⟨S2x2048x1024, .f32⟩
  | .hbm, ⟨5, _⟩ => ⟨S1024x4x1024, .f32⟩
  | .hbm, ⟨6, _⟩ => ⟨S4x1024x1024, .f32⟩
  | .hbm, ⟨7, _⟩ => ⟨S4x1024x1024, .bf16⟩
  | .hbm, ⟨8, _⟩ => ⟨S4096x4096, .f32⟩
  | .hbm, ⟨9, _⟩ => ⟨S4096x4096, .bf16⟩
  | .hbm, ⟨10, _⟩ => ⟨S4096x1024, .f32⟩
  | .hbm, ⟨11, _⟩ => ⟨S4096x1024, .f32⟩
  | .hbm, ⟨12, _⟩ => ⟨S1x1024, .f32⟩
  | .hbm, ⟨13, _⟩ => ⟨S4096x1024, .f32⟩
  | .hbm, ⟨14, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | .local _ .vmem, ⟨19, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18
abbrev cc0_sem12_0 : DmaSem sig := 19

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg0 : BitVec 32 := BitVec.ofNat 32 (i 0).val
  let c0_i32 : BitVec 32 := 0#32
  let v56 : BitVec 1 := Scalar.cmpi .eq arg0 c0_i32
  let arg1 : BitVec 32 := BitVec.ofNat 32 (i 1).val
  let c0_i32_36 : BitVec 32 := 0#32
  let v57 : BitVec 1 := Scalar.cmpi .eq arg1 c0_i32_36
  let v58 : BitVec 1 := Scalar.andi v56 v57
  let v59 : BitVec 32 := Scalar.extui v58
  let c0_i32_37 : BitVec 32 := 0#32
  let v60 : BitVec 1 := Scalar.cmpi .ne v59 c0_i32_37
  v60

def k0_cond2 (i : grid0.Coords) : BitVec 1 :=
  let arg0 : BitVec 32 := BitVec.ofNat 32 (i 0).val
  let c0_i32 : BitVec 32 := 0#32
  let v56 : BitVec 1 := Scalar.cmpi .eq arg0 c0_i32
  let arg1 : BitVec 32 := BitVec.ofNat 32 (i 1).val
  let c0_i32_36 : BitVec 32 := 0#32
  let v57 : BitVec 1 := Scalar.cmpi .eq arg1 c0_i32_36
  let v58 : BitVec 1 := Scalar.andi v56 v57
  let v_true : BitVec 1 := 1#1
  let v61 : BitVec 1 := Scalar.xori v58 v_true
  let v62 : BitVec 32 := Scalar.extui v61
  let c0_i32_38 : BitVec 32 := 0#32
  let v63 : BitVec 1 := Scalar.cmpi .ne v62 c0_i32_38
  v63

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg1.toNat, c2_i32.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg1.toNat, c3_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== Reference6Ideal.lean ====
abbrev S2x2048x1024 : Shape := ⟨3, ![2, 2048, 1024]⟩
abbrev S1024 : Shape := ⟨1, ![1024]⟩
abbrev S1024x4096 : Shape := ⟨2, ![1024, 4096]⟩
abbrev S2x2048x4096 : Shape := ⟨3, ![2, 2048, 4096]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x4096, .f32⟩
  | .hbm, ⟨3, _⟩ => ⟨S2x2048x4096, .f32⟩
  | .hbm, ⟨4, _⟩ => ⟨S2x2048x1024, .f32⟩
  | .hbm, ⟨5, _⟩ => ⟨S2x2048x1024, .f32⟩
  | .hbm, ⟨6, _⟩ => ⟨S_, .f32⟩
  | .hbm, ⟨7, _⟩ => ⟨S2x2048, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S_, .f32⟩
  | .hbm, ⟨18, _⟩ => ⟨S2x2048x1, .f32⟩
  | .hbm, ⟨19, _⟩ => ⟨S2x2048x1, .f32⟩
  | .hbm, ⟨20, _⟩ => ⟨S2x2048x1024, .f32⟩
  | .hbm, ⟨21, _⟩ => ⟨S2x2048x1024, .f32⟩
  | .hbm, ⟨22, _⟩ => ⟨S1x1x1024, .f32⟩
  | .hbm, ⟨23, _⟩ => ⟨S2x2048x1024, .f32⟩
  | .hbm, ⟨24, _⟩ => ⟨S2x2048x1024, .f32⟩
  | .hbm, ⟨25, _⟩ => ⟨S2x2048x4096, .f32⟩
  | .hbm, ⟨26, _⟩ => ⟨S2x2048x1024, .f32⟩
  | .hbm, ⟨27, _⟩ => ⟨S2x2048x1024, .f32⟩
  | .hbm, ⟨28, _⟩ => ⟨S_, .f32⟩
  | .hbm, ⟨29, _⟩ => ⟨S1024, .f32⟩
  | .hbm, ⟨30, _⟩ => ⟨S1x1x1024, .f32⟩
  | .hbm, ⟨31, _⟩ => ⟨S2x2048x1024, .f32⟩
  | .hbm, ⟨32, _⟩ => ⟨S2x2048x1024, .f32⟩
  | .hbm, ⟨33, _⟩ => ⟨S_, .f32⟩
  | .hbm, ⟨34, _⟩ => ⟨S1024, .f32⟩
  | .hbm, ⟨35, _⟩ => ⟨S2x2048x1024, .f32⟩
  | .hbm, ⟨36, _⟩ => ⟨S_, .f32⟩
  | .hbm, ⟨37, _⟩ => ⟨S2x2048, .f32⟩
  | .hbm, ⟨38, _⟩ => ⟨S2x2048x1, .f32⟩
  | .hbm, ⟨39, _⟩ => ⟨S2x2048x1024, .f32⟩
  | .hbm, ⟨40, _⟩ => ⟨S2x2048x1024, .f32⟩
  | .hbm, ⟨41, _⟩ => ⟨S2x2048x1024, .f32⟩
  | .hbm, ⟨42, _⟩ => ⟨S2x2048x1, .f32⟩
  | .hbm, ⟨43, _⟩ => ⟨S_, .f32⟩
  | .hbm, ⟨44, _⟩ => ⟨S2x2048x1, .f32⟩
  | .hbm, ⟨45, _⟩ => ⟨S2x2048x1, .f32⟩
  | .hbm, ⟨46, _⟩ => ⟨S_, .f32⟩
  | .hbm, ⟨47, _⟩ => ⟨S2x2048, .f32⟩
  | .hbm, ⟨48, _⟩ => ⟨S2x2048x1024, .f32⟩
  | .hbm, ⟨49, _⟩ => ⟨S2x2048x1024, .f32⟩
  | .hbm, ⟨50, _⟩ => ⟨S2x2048x1024, .f32⟩
  | .hbm, ⟨51, _⟩ => ⟨S2x2048x1024, .f32⟩
  | .hbm, ⟨52, _⟩ => ⟨S2x2048x1024, .f32⟩
  | .hbm, ⟨53, _⟩ => ⟨S4096x1024, .f32⟩
  | .hbm, ⟨54, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel9.lean ====
abbrev S2x2048x1024 : Shape := ⟨3, ![2, 2048, 1024]⟩
abbrev S4096x1024 : Shape := ⟨2, ![4096, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S4096x1024, .f32⟩
  | .hbm, ⟨3, _⟩ => ⟨S4096x1024, .bf16⟩
  | .hbm, ⟨4, _⟩ => ⟨S4096x1024, .f32⟩
  | .hbm, ⟨5, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S2x2048x1024 : Shape := ⟨3, ![2, 2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1024x1024, .f32⟩
  | .hbm, ⟨3, _⟩ => ⟨S1024x1024, .f32⟩
  | .hbm, ⟨4, _⟩ => ⟨S1024x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel18.lean ====
abbrev S2x2048x256 : Shape := ⟨3, ![2, 2048, 256]⟩
abbrev S2x2048x1024 : Shape := ⟨3, ![2, 2048, 1024]⟩
abbrev S4096x256 : Shape := ⟨2, ![4096, 256]⟩
abbrev S4096x1024 : Shape := ⟨2, ![4096, 1024]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2x2048x256, .f32⟩
  | .hbm, ⟨1, _⟩ => ⟨S2x2048x1024, .f32⟩
  | .hbm, ⟨2, _⟩ => ⟨S4096x256, .f32⟩
  | .hbm, ⟨3, _⟩ => ⟨S4096x1024, .f32⟩
  | .hbm, ⟨4, _⟩ => ⟨S4096x1024, .bf16⟩
  | .hbm, ⟨5, _⟩ => ⟨S256x1024, .bf16⟩
  | .local _ .vmem, ⟨0, _⟩ => ⟨S1024x256, .f32⟩
  | .local _ .vmem, ⟨1, _⟩ => ⟨S1024x256, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .bf16⟩
  | .local _ .vmem, ⟨5, _⟩ => ⟨S256x1024, .f32⟩
  | _, _ => ⟨S2x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference18Ideal.lean ====
abbrev S2x2048x256 : Shape := ⟨3, ![2, 2048, 256]⟩
abbrev S2x2048x1024 : Shape := ⟨3, ![2, 2048, 1024]⟩
abbrev S1024x256 : Shape := ⟨2, ![1024, 256]⟩
abbrev S256x1024 : Shape := ⟨2, ![256, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2x2048x256, .f32⟩
  | .hbm, ⟨1, _⟩ => ⟨S2x2048x1024, .f32⟩
  | .hbm, ⟨2, _⟩ => ⟨S1024x256, .f32⟩
  | .hbm, ⟨3, _⟩ => ⟨S256x1024, .f32⟩
  | .hbm, ⟨4, _⟩ => ⟨S256x1024, .bf16⟩
  | _, _ => ⟨S2x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel19.lean ====
abbrev S2x2048x256 : Shape := ⟨3, ![2, 2048, 256]⟩
abbrev S2x2048x8x96 : Shape := ⟨4, ![2, 2048, 8, 96]⟩
abbrev S4096x256 : Shape := ⟨2, ![4096, 256]⟩
abbrev S_ : Shape := ⟨0, ![]⟩
abbrev S2x2048x8x128 : Shape := ⟨4, ![2, 2048, 8, 128]⟩
abbrev S4096x1024 : Shape := ⟨2, ![4096, 1024]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 10
  | .vmem => 6
  | .smem => 0
  | _ => 0

abbrev bufTy : (tb : Table) → Fin (tcTables nBuf tb) → BufTy
  | .hbm, ⟨0, _⟩ => ⟨S2x2048x256, .f32⟩
  | .hbm, ⟨1, _⟩ => ⟨S2x2048x8x96, .f32⟩
  | .hbm, ⟨2, _⟩ => ⟨S4096x256, .f32⟩
  | .hbm, ⟨3, _⟩ => ⟨S4096x256, .bf16⟩
  | .hbm, ⟨4, _⟩ => ⟨S_, .i32⟩
  | .hbm, ⟨5, _⟩ => ⟨S_, .f32⟩
  | .hbm, ⟨6, _⟩ => ⟨S2x2048x8x128, .f32⟩
  | .hbm, ⟨7, _⟩ => ⟨S4096x1024, .f32⟩
  | .hbm, ⟨8, _⟩ => ⟨S4096x1024, .bf16⟩
  | .hbm, ⟨9, _⟩ => ⟨S256x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .f32⟩
  | _, _ => ⟨S2x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference19Ideal.lean ====
abbrev S2x2048x256 : Shape := ⟨3, ![2, 2048, 256]⟩
abbrev S2x2048x8x96 : Shape := ⟨4, ![2, 2048, 8, 96]⟩
abbrev S8x96x256 : Shape := ⟨3, ![8, 96, 256]⟩
abbrev S256x8x96 : Shape := ⟨3, ![256, 8, 96]⟩
abbrev S_ : Shape := ⟨0, ![]⟩
abbrev S256x8x128 : Shape := ⟨3, ![256, 8, 128]⟩
abbrev S256x1024 : Shape := ⟨2, ![256, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2x2048x256, .f32⟩
  | .hbm, ⟨1, _⟩ => ⟨S2x2048x8x96, .f32⟩
  | .hbm, ⟨2, _⟩ => ⟨S8x96x256, .f32⟩
  | .hbm, ⟨3, _⟩ => ⟨S256x8x96, .f32⟩
  | .hbm, ⟨4, _⟩ => ⟨S_, .i32⟩
  | .hbm, ⟨5, _⟩ => ⟨S_, .f32⟩
  | .hbm, ⟨6, _⟩ => ⟨S256x8x128, .f32⟩
  | .hbm, ⟨7, _⟩ => ⟨S256x1024, .f32⟩
  | .hbm, ⟨8, _⟩ => ⟨S256x1024, .bf16⟩
  | _, _ => ⟨S2x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel11.lean ====
abbrev S2x2048x1024 : Shape := ⟨3, ![2, 2048, 1024]⟩
abbrev S1024 : Shape := ⟨1, ![1024]⟩
abbrev S1024x3232 : Shape := ⟨2, ![1024, 3232]⟩
abbrev S2x2048x3232 : Shape := ⟨3, ![2, 2048, 3232]⟩
abbrev S1024x512 : Shape := ⟨2, ![1024, 512]⟩
abbrev S1024x8x64 : Shape := ⟨3, ![1024, 8, 64]⟩
abbrev S_ : Shape := ⟨0, ![]⟩
abbrev S1024x8x128 : Shape := ⟨3, ![1024, 8, 128]⟩
abbrev S1024x1024 : Shape := ⟨2, ![1024, 1024]⟩
abbrev S1024x256 : Shape := ⟨2, ![1024, 256]⟩
abbrev S1024x128 : Shape := ⟨2, ![1024, 128]⟩
abbrev S1024x32 : Shape := ⟨2, ![1024, 32]⟩
abbrev S1024x2x64 : Shape := ⟨3, ![1024, 2, 64]⟩
abbrev S1024x2x128 : Shape := ⟨3, ![1024, 2, 128]⟩
abbrev S1024x4096 : Shape := ⟨2, ![1024, 4096]⟩
abbrev S4096x3232 : Shape := ⟨2, ![4096, 3232]⟩
abbrev S4096x512 : Shape := ⟨2, ![4096, 512]⟩
abbrev S4096x8x64 : Shape := ⟨3, ![4096, 8, 64]⟩
abbrev S4096x8x128 : Shape := ⟨3, ![4096, 8, 128]⟩
abbrev S4096x1024 : Shape := ⟨2, ![4096, 1024]⟩
abbrev S4096x256 : Shape := ⟨2, ![4096, 256]⟩
abbrev S4096x128 : Shape := ⟨2, ![4096, 128]⟩
abbrev S4096x32 : Shape := ⟨2, ![4096, 32]⟩
abbrev S4096x2x64 : Shape := ⟨3, ![4096, 2, 64]⟩
abbrev S4096x2x128 : Shape := ⟨3, ![4096, 2, 128]⟩
abbrev S4096x4096 : Shape := ⟨2, ![4096, 4096]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 71
  | .vmem => 20
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x3232, .f32⟩
  | .hbm, ⟨3, _⟩ => ⟨S2x2048x3232, .f32⟩
  | .hbm, ⟨4, _⟩ => ⟨S2x2048x1024, .f32⟩
  | .hbm, ⟨5, _⟩ => ⟨S1024x512, .f32⟩
  | .hbm, ⟨6, _⟩ => ⟨S1024x8x64, .f32⟩
  | .hbm, ⟨7, _⟩ => ⟨S_, .i32⟩
  | .hbm, ⟨8, _⟩ => ⟨S_, .f32⟩
  | .hbm, ⟨9, _⟩ => ⟨S1024x8x128, .f32⟩
  | .hbm, ⟨10, _⟩ => ⟨S1024x1024, .f32⟩
  | .hbm, ⟨11, _⟩ => ⟨S1024x256, .f32⟩
  | .hbm, ⟨12, _⟩ => ⟨S1024x128, .f32⟩
  | .hbm, ⟨13, _⟩ => ⟨S1024x32, .f32⟩
  | .hbm, ⟨14, _⟩ => ⟨S_, .i32⟩
  | .hbm, ⟨15, _⟩ => ⟨S_, .f32⟩
  | .hbm, ⟨16, _⟩ => ⟨S1024x128, .f32⟩
  | .hbm, ⟨17, _⟩ => ⟨S1024x128, .f32⟩
  | .hbm, ⟨18, _⟩ => ⟨S1024x2x64, .f32⟩
  | .hbm, ⟨19, _⟩ => ⟨S_, .i32⟩
  | .hbm, ⟨20, _⟩ => ⟨S_, .f32⟩
  | .hbm, ⟨21, _⟩ => ⟨S1024x2x128, .f32⟩
  | .hbm, ⟨22, _⟩ => ⟨S1024x256, .f32⟩
  | .hbm, ⟨23, _⟩ => ⟨S1024x128, .f32⟩
  | .hbm, ⟨24, _⟩ => ⟨S1024x2x64, .f32⟩
  | .hbm, ⟨25, _⟩ => ⟨S_, .i32⟩
  | .hbm, ⟨26, _⟩ => ⟨S_, .f32⟩
  | .hbm, ⟨27, _⟩ => ⟨S1024x2x128, .f32⟩
  | .hbm, ⟨28, _⟩ => ⟨S1024x256, .f32⟩
  | .hbm, ⟨29, _⟩ => ⟨S1024x1024, .f32⟩
  | .hbm, ⟨30, _⟩ => ⟨S1024x1024, .f32⟩
  | .hbm, ⟨31, _⟩ => ⟨S1024x4096, .f32⟩
  | .hbm, ⟨32, _⟩ => ⟨S1024x4096, .bf16⟩
  | .hbm, ⟨33, _⟩ => ⟨S4096x3232, .f32⟩
  | .hbm, ⟨34, _⟩ => ⟨S4096x512, .f32⟩
  | .hbm, ⟨35, _⟩ => ⟨S4096x8x64, .f32⟩
  | .hbm, ⟨36, _⟩ => ⟨S_, .i32⟩
  | .hbm, ⟨37, _⟩ => ⟨S_, .f32⟩
  | .hbm, ⟨38, _⟩ => ⟨S4096x8x128, .f32⟩
  | .hbm, ⟨39, _⟩ => ⟨S4096x1024, .f32⟩
  | .hbm, ⟨40, _⟩ => ⟨S4096x256, .f32⟩
  | .hbm, ⟨41, _⟩ => ⟨S4096x128, .f32⟩
  | .hbm, ⟨42, _⟩ => ⟨S4096x32, .f32⟩
  | .hbm, ⟨43, _⟩ => ⟨S_, .i32⟩
  | .hbm, ⟨44, _⟩ => ⟨S_, .f32⟩
  | .hbm, ⟨45, _⟩ => ⟨S4096x128, .f32⟩
  | .hbm, ⟨46, _⟩ => ⟨S4096x128, .f32⟩
  | .hbm, ⟨47, _⟩ => ⟨S4096x2x64, .f32⟩
  | .hbm, ⟨48, _⟩ => ⟨S_, .i32⟩
  | .hbm, ⟨49, _⟩ => ⟨S_, .f32⟩
  | .hbm, ⟨50, _⟩ => ⟨S4096x2x128, .f32⟩
  | .hbm, ⟨51, _⟩ => ⟨S4096x256, .f32⟩
  | .hbm, ⟨52, _⟩ => ⟨S4096x128, .f32⟩
  | .hbm, ⟨53, _⟩ => ⟨S4096x2x64, .f32⟩
  | .hbm, ⟨54, _⟩ => ⟨S_, .i32⟩
  | .hbm, ⟨55, _⟩ => ⟨S_, .f32⟩
  | .hbm, ⟨56, _⟩ => ⟨S4096x2x128, .f32⟩
  | .hbm, ⟨57, _⟩ => ⟨S4096x256, .f32⟩
  | .hbm, ⟨58, _⟩ => ⟨S4096x1024, .f32⟩
  | .hbm, ⟨59, _⟩ => ⟨S4096x1024, .f32⟩
  | .hbm, ⟨60, _⟩ => ⟨S4096x4096, .f32⟩
  | .hbm, ⟨61, _⟩ => ⟨S4096x4096, .bf16⟩
  | .hbm, ⟨62, _⟩ => ⟨S4096x1024, .bf16⟩
  | .hbm, ⟨63, _⟩ => ⟨S4096x1024, .bf16⟩
  | .hbm, ⟨64, _⟩ => ⟨S4096x1024, .bf16⟩
  | .hbm, ⟨65, _⟩ => ⟨S4096x1024, .bf16⟩
  | .hbm, ⟨66, _⟩ => ⟨S4096x1024, .f32⟩
  | .hbm, ⟨67, _⟩ => ⟨S4096x1024, .f32⟩
  | .hbm, ⟨68, _⟩ => ⟨S1x1024, .f32⟩
  | .hbm, ⟨69, _⟩ => ⟨S4096x1024, .f32⟩
  | .hbm, ⟨70, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S1x1024, .f32⟩
  | .local _ .vmem, ⟨17, _⟩ => ⟨S256x1024, .f32⟩
  | .local _ .vmem, ⟨18, _⟩ => ⟨S256x1024, .f32⟩
  | .local _ .vmem, ⟨19, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_call2_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_call3_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_call4_v0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_call5_v0 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_call6_v0 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_6 : Ref sig .tc := ⟨.hbm, 54, rfl⟩
abbrev main_call7_v0 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48_0 : Ref sig .tc := ⟨.hbm, 69, rfl⟩
abbrev main_v48_1 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18
abbrev cc0_sem12_0 : DmaSem sig := 19

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg0 : BitVec 32 := BitVec.ofNat 32 (i 0).val
  let c0_i32 : BitVec 32 := 0#32
  let v56 : BitVec 1 := Scalar.cmpi .eq arg0 c0_i32
  let arg1 : BitVec 32 := BitVec.ofNat 32 (i 1).val
  let c0_i32_32 : BitVec 32 := 0#32
  let v57 : BitVec 1 := Scalar.cmpi .eq arg1 c0_i32_32
  let v58 : BitVec 1 := Scalar.andi v56 v57
  let v59 : BitVec 32 := Scalar.extui v58
  let c0_i32_33 : BitVec 32 := 0#32
  let v60 : BitVec 1 := Scalar.cmpi .ne v59 c0_i32_33
  v60

def k0_cond2 (i : grid0.Coords) : BitVec 1 :=
  let arg0 : BitVec 32 := BitVec.ofNat 32 (i 0).val
  let c0_i32 : BitVec 32 := 0#32
  let v56 : BitVec 1 := Scalar.cmpi .eq arg0 c0_i32
  let arg1 : BitVec 32 := BitVec.ofNat 32 (i 1).val
  let c0_i32_32 : BitVec 32 := 0#32
  let v57 : BitVec 1 := Scalar.cmpi .eq arg1 c0_i32_32
  let v58 : BitVec 1 := Scalar.andi v56 v57
  let v_true : BitVec 1 := 1#1
  let v61 : BitVec 1 := Scalar.xori v58 v_true
  let v62 : BitVec 32 := Scalar.extui v61
  let c0_i32_34 : BitVec 32 := 0#32
  let v63 : BitVec 1 := Scalar.cmpi .ne v62 c0_i32_34
  v63

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== Reference11Ideal.lean ====
abbrev S2x2048x1024 : Shape := ⟨3, ![2, 2048, 1024]⟩
abbrev S1024 : Shape := ⟨1, ![1024]⟩
abbrev S1024x3232 : Shape := ⟨2, ![1024, 3232]⟩
abbrev S2x2048x3232 : Shape := ⟨3, ![2, 2048, 3232]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x3232, .f32⟩
  | .hbm, ⟨3, _⟩ => ⟨S2x2048x3232, .f32⟩
  | .hbm, ⟨4, _⟩ => ⟨S2x2048x1024, .f32⟩
  | .hbm, ⟨5, _⟩ => ⟨S2x2048x1024, .f32⟩
  | .hbm, ⟨6, _⟩ => ⟨S_, .f32⟩
  | .hbm, ⟨7, _⟩ => ⟨S2x2048, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S_, .f32⟩
  | .hbm, ⟨18, _⟩ => ⟨S2x2048x1, .f32⟩
  | .hbm, ⟨19, _⟩ => ⟨S2x2048x1, .f32⟩
  | .hbm, ⟨20, _⟩ => ⟨S2x2048x1024, .f32⟩
  | .hbm, ⟨21, _⟩ => ⟨S2x2048x1024, .f32⟩
  | .hbm, ⟨22, _⟩ => ⟨S1x1x1024, .f32⟩
  | .hbm, ⟨23, _⟩ => ⟨S2x2048x1024, .f32⟩
  | .hbm, ⟨24, _⟩ => ⟨S2x2048x1024, .f32⟩
  | .hbm, ⟨25, _⟩ => ⟨S2x2048x3232, .f32⟩
  | .hbm, ⟨26, _⟩ => ⟨S2x2048x1024, .f32⟩
  | .hbm, ⟨27, _⟩ => ⟨S2x2048x1024, .f32⟩
  | .hbm, ⟨28, _⟩ => ⟨S_, .f32⟩
  | .hbm, ⟨29, _⟩ => ⟨S1024, .f32⟩
  | .hbm, ⟨30, _⟩ => ⟨S1x1x1024, .f32⟩
  | .hbm, ⟨31, _⟩ => ⟨S2x2048x1024, .f32⟩
  | .hbm, ⟨32, _⟩ => ⟨S2x2048x1024, .f32⟩
  | .hbm, ⟨33, _⟩ => ⟨S_, .f32⟩
  | .hbm, ⟨34, _⟩ => ⟨S1024, .f32⟩
  | .hbm, ⟨35, _⟩ => ⟨S2x2048x1024, .f32⟩
  | .hbm, ⟨36, _⟩ => ⟨S_, .f32⟩
  | .hbm, ⟨37, _⟩ => ⟨S2x2048, .f32⟩
  | .hbm, ⟨38, _⟩ => ⟨S2x2048x1, .f32⟩
  | .hbm, ⟨39, _⟩ => ⟨S2x2048x1024, .f32⟩
  | .hbm, ⟨40, _⟩ => ⟨S2x2048x1024, .f32⟩
  | .hbm, ⟨41, _⟩ => ⟨S2x2048x1024, .f32⟩
  | .hbm, ⟨42, _⟩ => ⟨S2x2048x1, .f32⟩
  | .hbm, ⟨43, _⟩ => ⟨S_, .f32⟩
  | .hbm, ⟨44, _⟩ => ⟨S2x2048x1, .f32⟩
  | .hbm, ⟨45, _⟩ => ⟨S2x2048x1, .f32⟩
  | .hbm, ⟨46, _⟩ => ⟨S_, .f32⟩
  | .hbm, ⟨47, _⟩ => ⟨S2x2048, .f32⟩
  | .hbm, ⟨48, _⟩ => ⟨S2x2048x1024, .f32⟩
  | .hbm, ⟨49, _⟩ => ⟨S2x2048x1024, .f32⟩
  | .hbm, ⟨50, _⟩ => ⟨S2x2048x1024, .f32⟩
  | .hbm, ⟨51, _⟩ => ⟨S2x2048x1024, .f32⟩
  | .hbm, ⟨52, _⟩ => ⟨S2x2048x1024, .f32⟩
  | .hbm, ⟨53, _⟩ => ⟨S4096x1024, .f32⟩
  | .hbm, ⟨54, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel12.lean ====
abbrev S2x2048x1024 : Shape := ⟨3, ![2, 2048, 1024]⟩
abbrev S1024x3232 : Shape := ⟨2, ![1024, 3232]⟩
abbrev S4096x1024 : Shape := ⟨2, ![4096, 1024]⟩
abbrev S1024x512 : Shape := ⟨2, ![1024, 512]⟩
abbrev S1024x8x64 : Shape := ⟨3, ![1024, 8, 64]⟩
abbrev S_ : Shape := ⟨0, ![]⟩
abbrev S1024x8x128 : Shape := ⟨3, ![1024, 8, 128]⟩
abbrev S1024x1024 : Shape := ⟨2, ![1024, 1024]⟩
abbrev S1024x256 : Shape := ⟨2, ![1024, 256]⟩
abbrev S1024x128 : Shape := ⟨2, ![1024, 128]⟩
abbrev S1024x32 : Shape := ⟨2, ![1024, 32]⟩
abbrev S1024x2x64 : Shape := ⟨3, ![1024, 2, 64]⟩
abbrev S1024x2x128 : Shape := ⟨3, ![1024, 2, 128]⟩
abbrev S1024x4096 : Shape := ⟨2, ![1024, 4096]⟩
abbrev S4096x4096 : Shape := ⟨2, ![4096, 4096]⟩
abbrev S512x1024 : Shape := ⟨2, ![512, 1024]⟩
abbrev S1024x2048 : Shape := ⟨2, ![1024, 2048]⟩
abbrev S512x2048 : Shape := ⟨2, ![512, 2048]⟩

abbrev nBuf : Space → Nat
  | .hbm => 33
  | .vmem => 6
  | .smem => 0
  | _ => 0

abbrev bufTy : (tb : Table) → Fin (tcTables nBuf tb) → BufTy
  | .hbm, ⟨0, _⟩ => ⟨S2x2048x1024, .f32⟩
  | .hbm, ⟨1, _⟩ => ⟨S1024x3232, .f32⟩
  | .hbm, ⟨2, _⟩ => ⟨S4096x1024, .f32⟩
  | .hbm, ⟨3, _⟩ => ⟨S4096x1024, .bf16⟩
  | .hbm, ⟨4, _⟩ => ⟨S1024x512, .f32⟩
  | .hbm, ⟨5, _⟩ => ⟨S1024x8x64, .f32⟩
  | .hbm, ⟨6, _⟩ => ⟨S_, .i32⟩
  | .hbm, ⟨7, _⟩ => ⟨S_, .f32⟩
  | .hbm, ⟨8, _⟩ => ⟨S1024x8x128, .f32⟩
  | .hbm, ⟨9, _⟩ => ⟨S1024x1024, .f32⟩
  | .hbm, ⟨10, _⟩ => ⟨S1024x256, .f32⟩
  | .hbm, ⟨11, _⟩ => ⟨S1024x128, .f32⟩
  | .hbm, ⟨12, _⟩ => ⟨S1024x32, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S1024x128, .f32⟩
  | .hbm, ⟨17, _⟩ => ⟨S1024x2x64, .f32⟩
  | .hbm, ⟨18, _⟩ => ⟨S_, .i32⟩
  | .hbm, ⟨19, _⟩ => ⟨S_, .f32⟩
  | .hbm, ⟨20, _⟩ => ⟨S1024x2x128, .f32⟩
  | .hbm, ⟨21, _⟩ => ⟨S1024x256, .f32⟩
  | .hbm, ⟨22, _⟩ => ⟨S1024x128, .f32⟩
  | .hbm, ⟨23, _⟩ => ⟨S1024x2x64, .f32⟩
  | .hbm, ⟨24, _⟩ => ⟨S_, .i32⟩
  | .hbm, ⟨25, _⟩ => ⟨S_, .f32⟩
  | .hbm, ⟨26, _⟩ => ⟨S1024x2x128, .f32⟩
  | .hbm, ⟨27, _⟩ => ⟨S1024x256, .f32⟩
  | .hbm, ⟨28, _⟩ => ⟨S1024x1024, .f32⟩
  | .hbm, ⟨29, _⟩ => ⟨S1024x1024, .f32⟩
  | .hbm, ⟨30, _⟩ => ⟨S1024x4096, .f32⟩
  | .hbm, ⟨31, _⟩ => ⟨S1024x4096, .bf16⟩
  | .hbm, ⟨32, _⟩ => ⟨S4096x4096, .bf16⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S1024x2048, .bf16⟩
  | .local _ .vmem, ⟨4, _⟩ => ⟨S512x2048, .bf16⟩
  | .local _ .vmem, ⟨5, _⟩ => ⟨S512x2048, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_call1_v0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_call2_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_call3_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S2x2048x1024 : Shape := ⟨3, ![2, 2048, 1024]⟩
abbrev S1024x3232 : Shape := ⟨2, ![1024, 3232]⟩
abbrev S2x2048x3232 : Shape := ⟨3, ![2, 2048, 3232]⟩
abbrev S4096x3232 : Shape := ⟨2, ![4096, 3232]⟩
abbrev S4096x256 : Shape := ⟨2, ![4096, 256]⟩
abbrev S4096x128 : Shape := ⟨2, ![4096, 128]⟩
abbrev S4096x32 : Shape := ⟨2, ![4096, 32]⟩
abbrev S4096x512 : Shape := ⟨2, ![4096, 512]⟩
abbrev S4096x1024 : Shape := ⟨2, ![4096, 1024]⟩
abbrev S4096x8x64 : Shape := ⟨3, ![4096, 8, 64]⟩
abbrev S_ : Shape := ⟨0, ![]⟩
abbrev S4096x8x128 : Shape := ⟨3, ![4096, 8, 128]⟩
abbrev S4096x2x64 : Shape := ⟨3, ![4096, 2, 64]⟩
abbrev S4096x2x128 : Shape := ⟨3, ![4096, 2, 128]⟩
abbrev S4096x4096 : Shape := ⟨2, ![4096, 4096]⟩

abbrev nBuf : Space → Nat
  | .hbm => 32
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x3232, .f32⟩
  | .hbm, ⟨2, _⟩ => ⟨S2x2048x3232, .f32⟩
  | .hbm, ⟨3, _⟩ => ⟨S4096x3232, .f32⟩
  | .hbm, ⟨4, _⟩ => ⟨S4096x256, .f32⟩
  | .hbm, ⟨5, _⟩ => ⟨S4096x128, .f32⟩
  | .hbm, ⟨6, _⟩ => ⟨S4096x32, .f32⟩
  | .hbm, ⟨7, _⟩ => ⟨S4096x512, .f32⟩
  | .hbm, ⟨8, _⟩ => ⟨S4096x128, .f32⟩
  | .hbm, ⟨9, _⟩ => ⟨S4096x128, .f32⟩
  | .hbm, ⟨10, _⟩ => ⟨S4096x1024, .f32⟩
  | .hbm, ⟨11, _⟩ => ⟨S4096x1024, .f32⟩
  | .hbm, ⟨12, _⟩ => ⟨S4096x8x64, .f32⟩
  | .hbm, ⟨13, _⟩ => ⟨S_, .i32⟩
  | .hbm, ⟨14, _⟩ => ⟨S_, .f32⟩
  | .hbm, ⟨15, _⟩ => ⟨S4096x8x128, .f32⟩
  | .hbm, ⟨16, _⟩ => ⟨S4096x1024, .f32⟩
  | .hbm, ⟨17, _⟩ => ⟨S_, .i32⟩
  | .hbm, ⟨18, _⟩ => ⟨S_, .f32⟩
  | .hbm, ⟨19, _⟩ => ⟨S4096x128, .f32⟩
  | .hbm, ⟨20, _⟩ => ⟨S4096x2x64, .f32⟩
  | .hbm, ⟨21, _⟩ => ⟨S_, .i32⟩
  | .hbm, ⟨22, _⟩ => ⟨S_, .f32⟩
  | .hbm, ⟨23, _⟩ => ⟨S4096x2x128, .f32⟩
  | .hbm, ⟨24, _⟩ => ⟨S4096x256, .f32⟩
  | .hbm, ⟨25, _⟩ => ⟨S4096x2x64, .f32⟩
  | .hbm, ⟨26, _⟩ => ⟨S_, .i32⟩
  | .hbm, ⟨27, _⟩ => ⟨S_, .f32⟩
  | .hbm, ⟨28, _⟩ => ⟨S4096x2x128, .f32⟩
  | .hbm, ⟨29, _⟩ => ⟨S4096x256, .f32⟩
  | .hbm, ⟨30, _⟩ => ⟨S4096x4096, .f32⟩
  | .hbm, ⟨31, _⟩ => ⟨S4096x4096, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c : Ref sig .tc := ⟨.hbm, 13, rfl⟩
abbrev main_call0_v0 : Ref sig .tc := ⟨.hbm, 14, rfl⟩
abbrev main_v11 : Ref sig .tc := ⟨.hbm, 15, rfl⟩
abbrev main_v12 : Ref sig .tc := ⟨.hbm, 16, rfl⟩
abbrev main_c_0 : Ref sig .tc := ⟨.hbm, 17, rfl⟩
abbrev main_call1_v0 : Ref sig .tc := ⟨.hbm, 18, rfl⟩
abbrev main_v13 : Ref sig .tc := ⟨.hbm, 19, rfl⟩
abbrev main_v14 : Ref sig .tc := ⟨.hbm, 20, rfl⟩
abbrev main_c_1 : Ref sig .tc := ⟨.hbm, 21, rfl⟩
abbrev main_call2_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_call3_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Kernel16.lean ====
abbrev S2x2048x1024 : Shape := ⟨3, ![2, 2048, 1024]⟩
abbrev S2x2048x3232 : Shape := ⟨3, ![2, 2048, 3232]⟩
abbrev S512x1024 : Shape := ⟨2, ![512, 1024]⟩
abbrev S1024x1024 : Shape := ⟨2, ![1024, 1024]⟩
abbrev S8x64x1024 : Shape := ⟨3, ![8, 64, 1024]⟩
abbrev S_ : Shape := ⟨0, ![]⟩
abbrev S8x128x1024 : Shape := ⟨3, ![8, 128, 1024]⟩
abbrev S4096x3232 : Shape := ⟨2, ![4096, 3232]⟩
abbrev S4096x512 : Shape := ⟨2, ![4096, 512]⟩
abbrev S4096x8x64 : Shape := ⟨3, ![4096, 8, 64]⟩
abbrev S4096x8x128 : Shape := ⟨3, ![4096, 8, 128]⟩
abbrev S4096x1024 : Shape := ⟨2, ![4096, 1024]⟩
abbrev S4096x256 : Shape := ⟨2, ![4096, 256]⟩
abbrev S4096x128 : Shape := ⟨2, ![4096, 128]⟩
abbrev S4096x32 : Shape := ⟨2, ![4096, 32]⟩
abbrev S4096x2x64 : Shape := ⟨3, ![4096, 2, 64]⟩
abbrev S4096x2x128 : Shape := ⟨3, ![4096, 2, 128]⟩
abbrev S4096x4096 : Shape := ⟨2, ![4096, 4096]⟩
abbrev S256x1024 : Shape := ⟨2, ![256, 1024]⟩

abbrev nBuf : Space → Nat
  | .hbm => 60
  | .vmem => 25
  | .smem => 0
  | _ => 0

abbrev bufTy : (tb : Table) → Fin (tcTables nBuf tb) → BufTy
  | .hbm, ⟨0, _⟩ => ⟨S2x2048x1024, .f32⟩
  | .hbm, ⟨1, _⟩ => ⟨S2x2048x3232, .f32⟩
  | .hbm, ⟨2, _⟩ => ⟨S2x2048x1024, .f32⟩
  | .hbm, ⟨3, _⟩ => ⟨S2x2048x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S8x64x1024, .f32⟩
  | .hbm, ⟨8, _⟩ => ⟨S_, .i32⟩
  | .hbm, ⟨9, _⟩ => ⟨S_, .f32⟩
  | .hbm, ⟨10, _⟩ => ⟨S8x128x1024, .f32⟩
  | .hbm, ⟨11, _⟩ => ⟨S1024x1024, .f32⟩
  | .hbm, ⟨12, _⟩ => ⟨S1024x1024, .bf16⟩
  | .hbm, ⟨13, _⟩ => ⟨S8x64x1024, .f32⟩
  | .hbm, ⟨14, _⟩ => ⟨S_, .i32⟩
  | .hbm, ⟨15, _⟩ => ⟨S_, .f32⟩
  | .hbm, ⟨16, _⟩ => ⟨S8x128x1024, .f32⟩
  | .hbm, ⟨17, _⟩ => ⟨S1024x1024, .f32⟩
  | .hbm, ⟨18, _⟩ => ⟨S1024x1024, .bf16⟩
  | .hbm, ⟨19, _⟩ => ⟨S4096x3232, .f32⟩
  | .hbm, ⟨20, _⟩ => ⟨S4096x512, .f32⟩
  | .hbm, ⟨21, _⟩ => ⟨S4096x8x64, .f32⟩
  | .hbm, ⟨22, _⟩ => ⟨S_, .i32⟩
  | .hbm, ⟨23, _⟩ => ⟨S_, .f32⟩
  | .hbm, ⟨24, _⟩ => ⟨S4096x8x128, .f32⟩
  | .hbm, ⟨25, _⟩ => ⟨S4096x1024, .f32⟩
  | .hbm, ⟨26, _⟩ => ⟨S4096x256, .f32⟩
  | .hbm, ⟨27, _⟩ => ⟨S4096x128, .f32⟩
  | .hbm, ⟨28, _⟩ => ⟨S4096x32, .f32⟩
  | .hbm, ⟨29, _⟩ => ⟨S_, .i32⟩
  | .hbm, ⟨30, _⟩ => ⟨S_, .f32⟩
  | .hbm, ⟨31, _⟩ => ⟨S4096x128, .f32⟩
  | .hbm, ⟨32, _⟩ => ⟨S4096x128, .f32⟩
  | .hbm, ⟨33, _⟩ => ⟨S4096x2x64, .f32⟩
  | .hbm, ⟨34, _⟩ => ⟨S_, .i32⟩
  | .hbm, ⟨35, _⟩ => ⟨S_, .f32⟩
  | .hbm, ⟨36, _⟩ => ⟨S4096x2x128, .f32⟩
  | .hbm, ⟨37, _⟩ => ⟨S4096x256, .f32⟩
  | .hbm, ⟨38, _⟩ => ⟨S4096x128, .f32⟩
  | .hbm, ⟨39, _⟩ => ⟨S4096x2x64, .f32⟩
  | .hbm, ⟨40, _⟩ => ⟨S_, .i32⟩
  | .hbm, ⟨41, _⟩ => ⟨S_, .f32⟩
  | .hbm, ⟨42, _⟩ => ⟨S4096x2x128, .f32⟩
  | .hbm, ⟨43, _⟩ => ⟨S4096x256, .f32⟩
  | .hbm, ⟨44, _⟩ => ⟨S4096x1024, .f32⟩
  | .hbm, ⟨45, _⟩ => ⟨S4096x1024, .f32⟩
  | .hbm, ⟨46, _⟩ => ⟨S4096x4096, .f32⟩
  | .hbm, ⟨47, _⟩ => ⟨S4096x4096, .bf16⟩
  | .hbm, ⟨48, _⟩ => ⟨S4096x1024, .f32⟩
  | .hbm, ⟨49, _⟩ => ⟨S1024x1024, .bf16⟩
  | .hbm, ⟨50, _⟩ => ⟨S4096x1024, .f32⟩
  | .hbm, ⟨51, _⟩ => ⟨S4096x1024, .bf16⟩
  | .hbm, ⟨52, _⟩ => ⟨S4096x1024, .f32⟩
  | .hbm, ⟨53, _⟩ => ⟨S4096x1024, .bf16⟩
  | .hbm, ⟨54, _⟩ => ⟨S4096x1024, .bf16⟩
  | .hbm, ⟨55, _⟩ => ⟨S4096x1024, .bf16⟩
  | .hbm, ⟨56, _⟩ => ⟨S4096x1024, .bf16⟩
  | .hbm, ⟨57, _⟩ => ⟨S4096x1024, .bf16⟩
  | .hbm, ⟨58, _⟩ => ⟨S4096x1024, .bf16⟩
  | .hbm, ⟨59, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S1024x1024, .bf16⟩
  | .local _ .vmem, ⟨12, _⟩ => ⟨S1024x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_call2_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_call3_v0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_call4_v0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_call5_v0 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35_0 : Ref sig .tc := ⟨.hbm, 54, rfl⟩
abbrev main_v35_1 : Ref sig .tc := ⟨.hbm, 55, rfl⟩
abbrev main_v35_2 : Ref sig .tc := ⟨.hbm, 56, rfl⟩
abbrev main_v35_3 : Ref sig .tc := ⟨.hbm, 57, rfl⟩
abbrev main_v35_4 : Ref sig .tc := ⟨.hbm, 58, rfl⟩
abbrev main_v35_5 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi arg0 c3_i32
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference16Ideal.lean ====
abbrev S2x2048x1024 : Shape := ⟨3, ![2, 2048, 1024]⟩
abbrev S2x2048x3232 : Shape := ⟨3, ![2, 2048, 3232]⟩
abbrev S512x1024 : Shape := ⟨2, ![512, 1024]⟩
abbrev S1024x1024 : Shape := ⟨2, ![1024, 1024]⟩
abbrev S_ : Shape := ⟨0, ![]⟩
abbrev S2x2048x512 : Shape := ⟨3, ![2, 2048, 512]⟩
abbrev S2x2048x8x64 : Shape := ⟨4, ![2, 2048, 8, 64]⟩
abbrev S2x2048x8x128 : Shape := ⟨4, ![2, 2048, 8, 128]⟩
abbrev S4096x1024 : Shape := ⟨2, ![4096, 1024]⟩

abbrev nBuf : Space → Nat
  | .hbm => 66
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x3232, .f32⟩
  | .hbm, ⟨2, _⟩ => ⟨S2x2048x1024, .f32⟩
  | .hbm, ⟨3, _⟩ => ⟨S2x2048x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S2x2048x1024, .f32⟩
  | .hbm, ⟨8, _⟩ => ⟨S2x2048x1024, .f32⟩
  | .hbm, ⟨9, _⟩ => ⟨S2x2048x1024, .f32⟩
  | .hbm, ⟨10, _⟩ => ⟨S2x2048x1024, .f32⟩
  | .hbm, ⟨11, _⟩ => ⟨S_, .f32⟩
  | .hbm, ⟨12, _⟩ => ⟨S2x2048x1024, .f32⟩
  | .hbm, ⟨13, _⟩ => ⟨S2x2048x1024, .f32⟩
  | .hbm, ⟨14, _⟩ => ⟨S_, .f32⟩
  | .hbm, ⟨15, _⟩ => ⟨S2x2048x1024, .f32⟩
  | .hbm, ⟨16, _⟩ => ⟨S2x2048x1024, .f32⟩
  | .hbm, ⟨17, _⟩ => ⟨S_, .f32⟩
  | .hbm, ⟨18, _⟩ => ⟨S2x2048x1024, .f32⟩
  | .hbm, ⟨19, _⟩ => ⟨S2x2048x1024, .f32⟩
  | .hbm, ⟨20, _⟩ => ⟨S2x2048x1024, .f32⟩
  | .hbm, ⟨21, _⟩ => ⟨S2x2048x1024, .f32⟩
  | .hbm, ⟨22, _⟩ => ⟨S2x2048x1024, .f32⟩
  | .hbm, ⟨23, _⟩ => ⟨S2x2048x1024, .f32⟩
  | .hbm, ⟨24, _⟩ => ⟨S_, .f32⟩
  | .hbm, ⟨25, _⟩ => ⟨S2x2048x1024, .f32⟩
  | .hbm, ⟨26, _⟩ => ⟨S2x2048x1024, .f32⟩
  | .hbm, ⟨27, _⟩ => ⟨S_, .f32⟩
  | .hbm, ⟨28, _⟩ => ⟨S2x2048x1024, .f32⟩
  | .hbm, ⟨29, _⟩ => ⟨S2x2048x1024, .f32⟩
  | .hbm, ⟨30, _⟩ => ⟨S_, .f32⟩
  | .hbm, ⟨31, _⟩ => ⟨S2x2048x1024, .f32⟩
  | .hbm, ⟨32, _⟩ => ⟨S2x2048x1024, .f32⟩
  | .hbm, ⟨33, _⟩ => ⟨S2x2048x1024, .f32⟩
  | .hbm, ⟨34, _⟩ => ⟨S2x2048x1024, .f32⟩
  | .hbm, ⟨35, _⟩ => ⟨S2x2048x1024, .f32⟩
  | .hbm, ⟨36, _⟩ => ⟨S2x2048x1024, .f32⟩
  | .hbm, ⟨37, _⟩ => ⟨S2x2048x1024, .f32⟩
  | .hbm, ⟨38, _⟩ => ⟨S2x2048x1024, .f32⟩
  | .hbm, ⟨39, _⟩ => ⟨S2x2048x1024, .f32⟩
  | .hbm, ⟨40, _⟩ => ⟨S2x2048x1024, .f32⟩
  | .hbm, ⟨41, _⟩ => ⟨S2x2048x1024, .f32⟩
  | .hbm, ⟨42, _⟩ => ⟨S2x2048x1024, .f32⟩
  | .hbm, ⟨43, _⟩ => ⟨S2x2048x1024, .f32⟩
  | .hbm, ⟨44, _⟩ => ⟨S2x2048x512, .f32⟩
  | .hbm, ⟨45, _⟩ => ⟨S2x2048x8x64, .f32⟩
  | .hbm, ⟨46, _⟩ => ⟨S_, .i32⟩
  | .hbm, ⟨47, _⟩ => ⟨S_, .f32⟩
  | .hbm, ⟨48, _⟩ => ⟨S2x2048x8x128, .f32⟩
  | .hbm, ⟨49, _⟩ => ⟨S2x2048x512, .f32⟩
  | .hbm, ⟨50, _⟩ => ⟨S2x2048x8x64, .f32⟩
  | .hbm, ⟨51, _⟩ => ⟨S_, .i32⟩
  | .hbm, ⟨52, _⟩ => ⟨S_, .f32⟩
  | .hbm, ⟨53, _⟩ => ⟨S2x2048x8x128, .f32⟩
  | .hbm, ⟨54, _⟩ => ⟨S4096x1024, .f32⟩
  | .hbm, ⟨55, _⟩ => ⟨S4096x1024, .bf16⟩
  | .hbm, ⟨56, _⟩ => ⟨S4096x1024, .f32⟩
  | .hbm, ⟨57, _⟩ => ⟨S4096x1024, .bf16⟩
  | .hbm, ⟨58, _⟩ => ⟨S4096x1024, .f32⟩
  | .hbm, ⟨59, _⟩ => ⟨S4096x1024, .bf16⟩
  | .hbm, ⟨60, _⟩ => ⟨S4096x1024, .f32⟩
  | .hbm, ⟨61, _⟩ => ⟨S4096x1024, .bf16⟩
  | .hbm, ⟨62, _⟩ => ⟨S4096x1024, .f32⟩
  | .hbm, ⟨63, _⟩ => ⟨S4096x1024, .bf16⟩
  | .hbm, ⟨64, _⟩ => ⟨S4096x1024, .f32⟩
  | .hbm, ⟨65, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c : Ref sig .tc := ⟨.hbm, 46, rfl⟩
abbrev main_call0_v0 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_5 : Ref sig .tc := ⟨.hbm, 51, rfl⟩
abbrev main_call1_v0 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== Kernel15.lean ====
abbrev S2x2048x8x64 : Shape := ⟨4, ![2, 2048, 8, 64]⟩
abbrev S2x2048x3232 : Shape := ⟨3, ![2, 2048, 3232]⟩
abbrev S2x2048x1024 : Shape := ⟨3, ![2, 2048, 1024]⟩
abbrev S1024 : Shape := ⟨1, ![1024]⟩
abbrev S512x1024 : Shape := ⟨2, ![512, 1024]⟩
abbrev S1024x1024 : Shape := ⟨2, ![1024, 1024]⟩
abbrev S8x64x1024 : Shape := ⟨3, ![8, 64, 1024]⟩
abbrev S_ : Shape := ⟨0, ![]⟩
abbrev S8x128x1024 : Shape := ⟨3, ![8, 128, 1024]⟩
abbrev S4096x3232 : Shape := ⟨2, ![4096, 3232]⟩
abbrev S4096x512 : Shape := ⟨2, ![4096, 512]⟩
abbrev S4096x8x64 : Shape := ⟨3, ![4096, 8, 64]⟩
abbrev S4096x8x128 : Shape := ⟨3, ![4096, 8, 128]⟩
abbrev S4096x1024 : Shape := ⟨2, ![4096, 1024]⟩
abbrev S4096x256 : Shape := ⟨2, ![4096, 256]⟩
abbrev S4096x128 : Shape := ⟨2, ![4096, 128]⟩
abbrev S4096x32 : Shape := ⟨2, ![4096, 32]⟩
abbrev S4096x2x64 : Shape := ⟨3, ![4096, 2, 64]⟩
abbrev S4096x2x128 : Shape := ⟨3, ![4096, 2, 128]⟩
abbrev S4096x4096 : Shape := ⟨2, ![4096, 4096]⟩
abbrev S2x2048x8x128 : Shape := ⟨4, ![2, 2048, 8, 128]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 67
  | .vmem => 24
  | .smem => 0
  | _ => 0

abbrev bufTy : (tb : Table) → Fin (tcTables nBuf tb) → BufTy
  | .hbm, ⟨0, _⟩ => ⟨S2x2048x8x64, .f32⟩
  | .hbm, ⟨1, _⟩ => ⟨S2x2048x8x64, .f32⟩
  | .hbm, ⟨2, _⟩ => ⟨S2x2048x3232, .f32⟩
  | .hbm, ⟨3, _⟩ => ⟨S2x2048x1024, .f32⟩
  | .hbm, ⟨4, _⟩ => ⟨S1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S8x64x1024, .f32⟩
  | .hbm, ⟨9, _⟩ => ⟨S_, .i32⟩
  | .hbm, ⟨10, _⟩ => ⟨S_, .f32⟩
  | .hbm, ⟨11, _⟩ => ⟨S8x128x1024, .f32⟩
  | .hbm, ⟨12, _⟩ => ⟨S1024x1024, .f32⟩
  | .hbm, ⟨13, _⟩ => ⟨S1024x1024, .bf16⟩
  | .hbm, ⟨14, _⟩ => ⟨S8x64x1024, .f32⟩
  | .hbm, ⟨15, _⟩ => ⟨S_, .i32⟩
  | .hbm, ⟨16, _⟩ => ⟨S_, .f32⟩
  | .hbm, ⟨17, _⟩ => ⟨S8x128x1024, .f32⟩
  | .hbm, ⟨18, _⟩ => ⟨S1024x1024, .f32⟩
  | .hbm, ⟨19, _⟩ => ⟨S1024x1024, .bf16⟩
  | .hbm, ⟨20, _⟩ => ⟨S4096x3232, .f32⟩
  | .hbm, ⟨21, _⟩ => ⟨S4096x512, .f32⟩
  | .hbm, ⟨22, _⟩ => ⟨S4096x8x64, .f32⟩
  | .hbm, ⟨23, _⟩ => ⟨S_, .i32⟩
  | .hbm, ⟨24, _⟩ => ⟨S_, .f32⟩
  | .hbm, ⟨25, _⟩ => ⟨S4096x8x128, .f32⟩
  | .hbm, ⟨26, _⟩ => ⟨S4096x1024, .f32⟩
  | .hbm, ⟨27, _⟩ => ⟨S4096x256, .f32⟩
  | .hbm, ⟨28, _⟩ => ⟨S4096x128, .f32⟩
  | .hbm, ⟨29, _⟩ => ⟨S4096x32, .f32⟩
  | .hbm, ⟨30, _⟩ => ⟨S_, .i32⟩
  | .hbm, ⟨31, _⟩ => ⟨S_, .f32⟩
  | .hbm, ⟨32, _⟩ => ⟨S4096x128, .f32⟩
  | .hbm, ⟨33, _⟩ => ⟨S4096x128, .f32⟩
  | .hbm, ⟨34, _⟩ => ⟨S4096x2x64, .f32⟩
  | .hbm, ⟨35, _⟩ => ⟨S_, .i32⟩
  | .hbm, ⟨36, _⟩ => ⟨S_, .f32⟩
  | .hbm, ⟨37, _⟩ => ⟨S4096x2x128, .f32⟩
  | .hbm, ⟨38, _⟩ => ⟨S4096x256, .f32⟩
  | .hbm, ⟨39, _⟩ => ⟨S4096x128, .f32⟩
  | .hbm, ⟨40, _⟩ => ⟨S4096x2x64, .f32⟩
  | .hbm, ⟨41, _⟩ => ⟨S_, .i32⟩
  | .hbm, ⟨42, _⟩ => ⟨S_, .f32⟩
  | .hbm, ⟨43, _⟩ => ⟨S4096x2x128, .f32⟩
  | .hbm, ⟨44, _⟩ => ⟨S4096x256, .f32⟩
  | .hbm, ⟨45, _⟩ => ⟨S4096x1024, .f32⟩
  | .hbm, ⟨46, _⟩ => ⟨S4096x1024, .f32⟩
  | .hbm, ⟨47, _⟩ => ⟨S4096x4096, .f32⟩
  | .hbm, ⟨48, _⟩ => ⟨S4096x4096, .bf16⟩
  | .hbm, ⟨49, _⟩ => ⟨S_, .i32⟩
  | .hbm, ⟨50, _⟩ => ⟨S_, .f32⟩
  | .hbm, ⟨51, _⟩ => ⟨S2x2048x8x128, .f32⟩
  | .hbm, ⟨52, _⟩ => ⟨S4096x1024, .f32⟩
  | .hbm, ⟨53, _⟩ => ⟨S4096x1024, .bf16⟩
  | .hbm, ⟨54, _⟩ => ⟨S_, .i32⟩
  | .hbm, ⟨55, _⟩ => ⟨S_, .f32⟩
  | .hbm, ⟨56, _⟩ => ⟨S2x2048x8x128, .f32⟩
  | .hbm, ⟨57, _⟩ => ⟨S4096x1024, .f32⟩
  | .hbm, ⟨58, _⟩ => ⟨S4096x1024, .bf16⟩
  | .hbm, ⟨59, _⟩ => ⟨S4096x1024, .f32⟩
  | .hbm, ⟨60, _⟩ => ⟨S1x1024, .f32⟩
  | .hbm, ⟨61, _⟩ => ⟨S1024x1024, .bf16⟩
  | .hbm, ⟨62, _⟩ => ⟨S4096x1024, .bf16⟩
  | .hbm, ⟨63, _⟩ => ⟨S4096x1024, .bf16⟩
  | .hbm, ⟨64, _⟩ => ⟨S4096x1024, .bf16⟩
  | .hbm, ⟨65, _⟩ => ⟨S4096x1024, .f32⟩
  | .hbm, ⟨66, _⟩ => ⟨S4096x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .f32⟩
  | .local _ .vmem, ⟨21, _⟩ => ⟨S256x1024, .f32⟩
  | .local _ .vmem, ⟨22, _⟩ => ⟨S256x1024, .bf16⟩
  | .local _ .vmem, ⟨23, _⟩ => ⟨S256x1024, .bf16⟩
  | _, _ => ⟨S2x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_call1_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_call2_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_call3_v0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_call4_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_call5_v0 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_call6_v0 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_call7_v0 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38_0 : Ref sig .tc := ⟨.hbm, 62, rfl⟩
abbrev main_v38_1 : Ref sig .tc := ⟨.hbm, 63, rfl⟩
abbrev main_v38_2 : Ref sig .tc := ⟨.hbm, 64, rfl⟩
abbrev main_v38_3 : Ref sig .tc := ⟨.hbm, 65, rfl⟩
abbrev main_v38_4 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg1.toNat, c2_i32.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg1.toNat, c3_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]
-- ==== Reference15Ideal.lean ====
abbrev S2x2048x8x64 : Shape := ⟨4, ![2, 2048, 8, 64]⟩
abbrev S2x2048x3232 : Shape := ⟨3, ![2, 2048, 3232]⟩
abbrev S2x2048x1024 : Shape := ⟨3, ![2, 2048, 1024]⟩
abbrev S1024 : Shape := ⟨1, ![1024]⟩
abbrev S512x1024 : Shape := ⟨2, ![512, 1024]⟩
abbrev S1024x1024 : Shape := ⟨2, ![1024, 1024]⟩
abbrev S2x2048x512 : Shape := ⟨3, ![2, 2048, 512]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩

abbrev nBuf : Space → Nat
  | .hbm => 60
  | .vmem => 0
  | .smem => 0
  | _ => 0

abbrev bufTy : (tb : Table) → Fin (tcTables nBuf tb) → BufTy
  | .hbm, ⟨0, _⟩ => ⟨S2x2048x8x64, .f32⟩
  | .hbm, ⟨1, _⟩ => ⟨S2x2048x8x64, .f32⟩
  | .hbm, ⟨2, _⟩ => ⟨S2x2048x3232, .f32⟩
  | .hbm, ⟨3, _⟩ => ⟨S2x2048x1024, .f32⟩
  | .hbm, ⟨4, _⟩ => ⟨S1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S2x2048x1024, .f32⟩
  | .hbm, ⟨9, _⟩ => ⟨S2x2048x1024, .f32⟩
  | .hbm, ⟨10, _⟩ => ⟨S2x2048x512, .f32⟩
  | .hbm, ⟨11, _⟩ => ⟨S2x2048x1024, .f32⟩
  | .hbm, ⟨12, _⟩ => ⟨S2x2048x512, .f32⟩
  | .hbm, ⟨13, _⟩ => ⟨S2x2048x1024, .f32⟩
  | .hbm, ⟨14, _⟩ => ⟨S2x2048x1024, .f32⟩
  | .hbm, ⟨15, _⟩ => ⟨S2x2048x1024, .f32⟩
  | .hbm, ⟨16, _⟩ => ⟨S_, .f32⟩
  | .hbm, ⟨17, _⟩ => ⟨S2x2048x1024, .f32⟩
  | .hbm, ⟨18, _⟩ => ⟨S2x2048x1024, .f32⟩
  | .hbm, ⟨19, _⟩ => ⟨S_, .f32⟩
  | .hbm, ⟨20, _⟩ => ⟨S2x2048x1024, .f32⟩
  | .hbm, ⟨21, _⟩ => ⟨S2x2048x1024, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S_, .f32⟩
  | .hbm, ⟨26, _⟩ => ⟨S2x2048x1024, .f32⟩
  | .hbm, ⟨27, _⟩ => ⟨S2x2048x1024, .f32⟩
  | .hbm, ⟨28, _⟩ => ⟨S_, .f32⟩
  | .hbm, ⟨29, _⟩ => ⟨S2x2048x1024, .f32⟩
  | .hbm, ⟨30, _⟩ => ⟨S2x2048x1024, .f32⟩
  | .hbm, ⟨31, _⟩ => ⟨S2x2048x1024, .f32⟩
  | .hbm, ⟨32, _⟩ => ⟨S2x2048x1024, .f32⟩
  | .hbm, ⟨33, _⟩ => ⟨S2x2048x1024, .f32⟩
  | .hbm, ⟨34, _⟩ => ⟨S2x2048x1024, .f32⟩
  | .hbm, ⟨35, _⟩ => ⟨S2x2048x1024, .f32⟩
  | .hbm, ⟨36, _⟩ => ⟨S_, .f32⟩
  | .hbm, ⟨37, _⟩ => ⟨S2x2048, .f32⟩
  | .hbm, ⟨38, _⟩ => ⟨S2x2048x1, .f32⟩
  | .hbm, ⟨39, _⟩ => ⟨S_, .f32⟩
  | .hbm, ⟨40, _⟩ => ⟨S2x2048x1, .f32⟩
  | .hbm, ⟨41, _⟩ => ⟨S2x2048x1, .f32⟩
  | .hbm, ⟨42, _⟩ => ⟨S_, .f32⟩
  | .hbm, ⟨43, _⟩ => ⟨S2x2048x1, .f32⟩
  | .hbm, ⟨44, _⟩ => ⟨S2x2048x1, .f32⟩
  | .hbm, ⟨45, _⟩ => ⟨S2x2048x1, .f32⟩
  | .hbm, ⟨46, _⟩ => ⟨S2x2048x1024, .f32⟩
  | .hbm, ⟨47, _⟩ => ⟨S2x2048x1024, .f32⟩
  | .hbm, ⟨48, _⟩ => ⟨S1x1x1024, .f32⟩
  | .hbm, ⟨49, _⟩ => ⟨S2x2048x1024, .f32⟩
  | .hbm, ⟨50, _⟩ => ⟨S2x2048x1024, .f32⟩
  | .hbm, ⟨51, _⟩ => ⟨S4096x1024, .f32⟩
  | .hbm, ⟨52, _⟩ => ⟨S4096x1024, .bf16⟩
  | .hbm, ⟨53, _⟩ => ⟨S4096x1024, .f32⟩
  | .hbm, ⟨54, _⟩ => ⟨S4096x1024, .bf16⟩
  | .hbm, ⟨55, _⟩ => ⟨S4096x1024, .f32⟩
  | .hbm, ⟨56, _⟩ => ⟨S4096x1024, .bf16⟩
  | .hbm, ⟨57, _⟩ => ⟨S4096x1024, .f32⟩
  | .hbm, ⟨58, _⟩ => ⟨S4096x1024, .f32⟩
  | .hbm, ⟨59, _⟩ => ⟨S4096x1024, .bf16⟩
  | _, _ => ⟨S2x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Proof.Numbers.lean ====
/- Arithmetic on extended reals all of whose values are numbers: sums and products of numbers are numbers, so an
   equation between two such terms is one between reals. -/
module

public import Idealize.ShloMosaic.PureOps.Ideal
public import Idealize.ShloMosaic.Lib.IdealHost

@[expose] public section

noncomputable section

open Idealize.ShloMosaic

namespace Cert.Numbers

/-- A finite sum of numbers is a number. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real below `⊤` in absolute value is a number. -/
theorem exists_coe (x : EReal) (h : x ≠ ⊤) (h' : x ≠ ⊥) : ∃ r : ℝ, x = (r : EReal) :=
  ⟨x.toReal, (EReal.coe_toReal h h').symm⟩

/-- The largest of finitely many numbers (at least one) is a number. -/
theorem exists_max {n : ℕ} (hn : 0 < n) (f : Fin n → ℝ) :
    ∃ r : ℝ, (Finset.univ : Finset (Fin n)).fold max (⊥ : EReal) (fun k => (f k : EReal)) = (r : EReal) := by
  have h : ∀ s : Finset (Fin n), s.Nonempty → ∃ r : ℝ, s.fold max (⊥ : EReal) (fun k => (f k : EReal)) = (r : EReal) := by
    intro s
    induction s using Finset.induction_on with
    | empty => intro h; exact absurd h Finset.not_nonempty_empty
    | insert a s ha ih =>
      intro _
      rw [Finset.fold_insert ha]
      rcases s.eq_empty_or_nonempty with rfl | hs
      · exact ⟨f a, by simp⟩
      · obtain ⟨r, hr⟩ := ih hs
        rw [hr]
        exact ⟨max (f a) r, (EReal.coe_strictMono.monotone.map_max).symm⟩
  exact h _ ⟨⟨0, hn⟩, Finset.mem_univ _⟩

/-- A sum over lanes that are zero past the first `n` is the sum over those `n`. -/
theorem sum_padded {n p : ℕ} (f : Fin n → ℝ) :
    ∑ k : Fin (n + p), (if h : (k : ℕ) < n then f ⟨k, h⟩ else 0) = ∑ k : Fin n, f k := by
  rw [Fin.sum_univ_add]
  simp

/-- Division of numbers, the divisor not zero. -/
theorem div_coe (a b : ℝ) (hb : b ≠ 0) : Ideal.div (a : EReal) (b : EReal) = ((a / b : ℝ) : EReal) := by
  have h : (b : EReal) ≠ 0 := by exact_mod_cast hb
  unfold Ideal.div
  rw [if_neg h, ← EReal.coe_inv, ← EReal.coe_mul, div_eq_mul_inv]

/-- The logarithm of a positive number. -/
theorem log_coe_pos (a : ℝ) (ha : 0 < a) : Ideal.log (a : EReal) = ((Real.log a : ℝ) : EReal) := by
  rw [Ideal.log_coe, if_neg (not_le.mpr ha)]

end Cert.Numbers
-- ==== Proof.Softmax.lean ====
/- The gradient of softmax attention over the reals, for one head of one sequence: what the probabilities rebuilt from
   the log-sum-exp give is what the derivative of the softmax gives. -/
module

public import proofs.«01_k».proof.Proof.Numbers

@[expose] public section

noncomputable section

namespace Cert.Softmax

variable {n d e : ℕ} (Q K : Fin n → Fin d → ℝ) (V G : Fin n → Fin e → ℝ) (M : Fin n → ℝ)

/-- The score of query `i` against key `j`. -/
def score (i j : Fin n) : ℝ := ∑ c, Q i c * K j c
/-- The exponential of a score, shifted by the row's maximum. -/
def expo (i j : Fin n) : ℝ := Real.exp (score Q K i j - M i)
/-- A row's sum of exponentials. -/
def total (i : Fin n) : ℝ := ∑ j, expo Q K M i j
/-- A row's log-sum-exp. -/
def lse (i : Fin n) : ℝ := M i + Real.log (total Q K M i)
/-- The attention's result. -/
def out (i : Fin n) (c : Fin e) : ℝ := ∑ j, expo Q K M i j / total Q K M i * V j c
/-- The cotangent of the probabilities. -/
def dprob (i j : Fin n) : ℝ := ∑ c, G i c * V j c
/-- The probabilities, from the log-sum-exp. -/
def prob (i j : Fin n) : ℝ := Real.exp (score Q K i j - lse Q K M i)
/-- The row sum of the cotangent against the result. -/
def delta (i : Fin n) : ℝ := ∑ c, G i c * out Q K V M i c
/-- The cotangent of the scores, from the probabilities and `delta`. -/
def dscore (i j : Fin n) : ℝ := prob Q K M i j * (dprob V G i j - delta Q K V G M i)
/-- The cotangent of the scores as the derivative of the quotient `expo / total` gives it. -/
def dscoreQuot (i j : Fin n) : ℝ :=
  (dprob V G i j / total Q K M i
    + -(∑ l, dprob V G i l * (1 / (total Q K M i * total Q K M i)) * expo Q K M i l)) * expo Q K M i j

theorem total_pos [NeZero n] (i : Fin n) : 0 < total Q K M i := by
  haveI : Nonempty (Fin n) := ⟨0⟩
  exact Finset.sum_pos (fun j _ => Real.exp_pos _) Finset.univ_nonempty

theorem prob_eq [NeZero n] (i j : Fin n) : prob Q K M i j = expo Q K M i j / total Q K M i := by
  unfold prob lse expo
  rw [← sub_sub, Real.exp_sub _ (Real.log _), Real.exp_log (total_pos Q K M i)]

theorem delta_eq (i : Fin n) :
    delta Q K V G M i = ∑ l, expo Q K M i l / total Q K M i * dprob V G i l := by
  unfold delta out dprob
  simp only [Finset.mul_sum]
  rw [Finset.sum_comm]
  exact Finset.sum_congr rfl fun l _ => Finset.sum_congr rfl fun c _ => by ring

/-- The two forms of the scores' cotangent agree. -/
theorem dscore_eq [NeZero n] (i j : Fin n) : dscore Q K V G M i j = dscoreQuot Q K V G M i j := by
  have ht : total Q K M i ≠ 0 := (total_pos Q K M i).ne'
  have hs : ∑ l, dprob V G i l * (1 / (total Q K M i * total Q K M i)) * expo Q K M i l
      = (∑ l, expo Q K M i l / total Q K M i * dprob V G i l) / total Q K M i := by
    rw [Finset.sum_div]
    exact Finset.sum_congr rfl fun l _ => by field_simp
  unfold dscore dscoreQuot
  rw [prob_eq, delta_eq, hs]
  field_simp
  ring

end Cert.Softmax
-- ==== Proof.Arrays.lean ====
/- Arrays of numbers: an array of extended reals all of whose elements are numbers is written as a function of its
   coordinates into the reals, and the operations read back at an index. -/
module

public import proofs.«01_k».proof.Proof.Numbers
public import Idealize.ShloMosaic.Lib.Pointwise
public import Idealize.ShloMosaic.Lib.ReduceAll

@[expose] public section

set_option maxRecDepth 16384

noncomputable section

open Idealize.ShloMosaic

namespace Cert.Arrays

variable {a b c d : ℕ} {φ : FTy}

/-- A two-axis array of numbers. -/
def num2 (f : Fin a → Fin b → ℝ) : FVec Ideal ⟨2, ![a, b]⟩ φ := fun j => ((f (j 0) (j 1) : ℝ) : EReal)
/-- A three-axis array of numbers. -/
def num3 (f : Fin a → Fin b → Fin c → ℝ) : FVec Ideal ⟨3, ![a, b, c]⟩ φ := fun j => ((f (j 0) (j 1) (j 2) : ℝ) : EReal)
/-- A four-axis array of numbers. -/
def num4 (f : Fin a → Fin b → Fin c → Fin d → ℝ) : FVec Ideal ⟨4, ![a, b, c, d]⟩ φ :=
  fun j => ((f (j 0) (j 1) (j 2) (j 3) : ℝ) : EReal)

@[pointwise] theorem num2_apply (f : Fin a → Fin b → ℝ) (i : Fin a) (j : Fin b) :
    num2 (φ := φ) f (ix2 i j) = ((f i j : ℝ) : EReal) := rfl
@[pointwise] theorem num3_apply (f : Fin a → Fin b → Fin c → ℝ) (i : Fin a) (j : Fin b) (k : Fin c) :
    num3 (φ := φ) f (ix3 i j k) = ((f i j k : ℝ) : EReal) := rfl
@[pointwise] theorem num4_apply (f : Fin a → Fin b → Fin c → Fin d → ℝ) (i : Fin a) (j : Fin b) (k : Fin c) (l : Fin d) :
    num4 (φ := φ) f (ix4 i j k l) = ((f i j k l : ℝ) : EReal) := rfl

/-- An array every element of which is a number. -/
def Numeric {s : Shape} (x : FVec Ideal s φ) : Prop := ∀ i, ∃ r : ℝ, x i = ((r : ℝ) : EReal)

theorem Numeric.exists_num2 (x : FVec Ideal ⟨2, ![a, b]⟩ φ) (h : Numeric x) : ∃ f, x = num2 f := by
  choose r hr using h
  refine ⟨fun i j => r (ix2 i j), funext fun y => (hr y).trans ?_⟩
  have e : y = ix2 (y 0) (y 1) := by funext t; fin_cases t <;> rfl
  exact congrArg (fun z => ((r z : ℝ) : EReal)) e
theorem Numeric.exists_num3 (x : FVec Ideal ⟨3, ![a, b, c]⟩ φ) (h : Numeric x) : ∃ f, x = num3 f := by
  choose r hr using h
  refine ⟨fun i j k => r (ix3 i j k), funext fun y => (hr y).trans ?_⟩
  have e : y = ix3 (y 0) (y 1) (y 2) := by funext t; fin_cases t <;> rfl
  exact congrArg (fun z => ((r z : ℝ) : EReal)) e
theorem Numeric.exists_num4 (x : FVec Ideal ⟨4, ![a, b, c, d]⟩ φ) (h : Numeric x) : ∃ f, x = num4 f := by
  choose r hr using h
  refine ⟨fun i j k l => r (ix4 i j k l), funext fun y => (hr y).trans ?_⟩
  have e : y = ix4 (y 0) (y 1) (y 2) (y 3) := by funext t; fin_cases t <;> rfl
  exact congrArg (fun z => ((r z : ℝ) : EReal)) e
theorem num4_numeric (f : Fin a → Fin b → Fin c → Fin d → ℝ) : Numeric (num4 (φ := φ) f) := fun _ => ⟨_, rfl⟩

theorem ofBits_top : Ideal.ofBits .f32 0x7F800000#32 = ⊤ := by simp [Ideal.ofBits, Ideal.ieee]
theorem ofBits_bot : Ideal.ofBits .f32 0xFF800000#32 = ⊥ := by simp [Ideal.ofBits, Ideal.ieee]

/-- The maximum over one axis of an array of numbers, started at `⊥`, is an array of numbers. -/
theorem reduce_max_numeric {s t u : Shape} {ax : Fin s.rank} (x : FVec Ideal s .f32) (hx : Numeric x)
    (init : FVec Ideal u .f32) (h' : s.ReducesTo [ax] t) (h : s.Reduces [ax] t) (hu : 0 < u.numel) (hs : 0 < s.size ax)
    (hi : init (Shape.Idx.first hu) = (⊥ : EReal)) : Numeric (Host.reduce FloatOps.maximumf x init h' hu : FVec Ideal t .f32) := by
  intro j
  choose r hr using hx
  rw [Host.reduce_eq_fold_single _ x init h' h hu j, hi]
  obtain ⟨y, hy⟩ := Numbers.exists_max hs fun k => r (h.lift j k)
  refine ⟨y, ?_⟩
  rw [← hy]
  have e : (x ∘ h.lift j : Fin (s.size ax) → EReal) = fun k => ((r (h.lift j k) : ℝ) : EReal) := funext fun k => hr _
  rw [e]
  rfl

/-- An array whose elements all compare below infinity in absolute value is an array of numbers. -/
theorem numeric_of_abs_lt {s u : Shape} (x : FVec Ideal s .f32) (top : FVec Ideal s .f32) (ht : ∀ i, top i = (⊤ : EReal))
    (h : ∀ i, cmpf .olt (Host.absf x) top i = 1#1) : Numeric x := by
  intro i
  have hi : Ideal.cmp .olt (max (x i) (-(x i))) (top i) = 1#1 := h i
  rw [ht] at hi
  have hlt : max (x i : EReal) (-(x i)) < ⊤ := by
    by_contra hn
    simp [Ideal.cmp, hn] at hi
  rw [max_lt_iff] at hlt
  refine Numbers.exists_coe _ hlt.1.ne fun hb => ?_
  rw [hb] at hlt
  simp at hlt

end Cert.Arrays
-- ==== Proof.RefScores.lean ====
/- The reference's scores, probabilities and their cotangents: arrays of numbers, one head of one sequence at a time. -/
module

public import proofs.«01_k».proof.Proof.Softmax
public import proofs.«01_k».proof.Proof.Arrays
public import proofs.«01_k».proof.Proof.Gen.ReferenceIdeal

@[expose] public section

set_option maxRecDepth 16384

noncomputable section

namespace Cert.RefScores

open Cert.ReferenceIdeal Cert.ReferenceIdeal.Gen Cert.Arrays Idealize.ShloMosaic Idealize.ShloMosaic.TcCoe

/-- One head of one sequence of an array of sequences, tokens, heads and lanes. -/
def head {n d : ℕ} (f : Fin 2 → Fin n → Fin 8 → Fin d → ℝ) (b : Fin 2) (h : Fin 8) : Fin n → Fin d → ℝ := fun i c => f b i h c
/-- One head of one sequence of an array whose last axis holds the heads side by side. -/
def slab (f : Fin 2 → Fin 2048 → Fin 512 → ℝ) (b : Fin 2) (h : Fin 8) : Fin 2048 → Fin 64 → ℝ :=
  fun i c => f b i ⟨h * 64 + c, by omega⟩

variable (q k : Fin 2 → Fin 2048 → Fin 8 → Fin 96 → ℝ) (v : Fin 2 → Fin 2048 → Fin 8 → Fin 64 → ℝ)
  (g : Fin 2 → Fin 2048 → Fin 512 → ℝ) (M : Fin 2 → Fin 8 → Fin 2048 → ℝ)

/-- The scores of every head. -/
def S : Fin 2 → Fin 8 → Fin 2048 → Fin 2048 → ℝ := fun b h => Softmax.score (head q b h) (head k b h)
def E : Fin 2 → Fin 8 → Fin 2048 → Fin 2048 → ℝ := fun b h => Softmax.expo (head q b h) (head k b h) (M b h)
def L : Fin 2 → Fin 8 → Fin 2048 → ℝ := fun b h => Softmax.total (head q b h) (head k b h) (M b h)
def DP : Fin 2 → Fin 8 → Fin 2048 → Fin 2048 → ℝ := fun b h => Softmax.dprob (head v b h) (slab g b h)
def DS : Fin 2 → Fin 8 → Fin 2048 → Fin 2048 → ℝ :=
  fun b h => Softmax.dscoreQuot (head q b h) (head k b h) (head v b h) (slab g b h) (M b h)

theorem L_ne (b : Fin 2) (h : Fin 8) (i : Fin 2048) : L q k M b h i ≠ 0 := (Softmax.total_pos _ _ _ _).ne'

theorem scores_eq : Host.dotGeneral dot_S2x2048x8x96_S2x2048x8x96_S2x8x2048x2048_3_3_1_1_02_02 none
    (num4 q : FVec Ideal S2x2048x8x96 .f32) (num4 k : FVec Ideal S2x2048x8x96 .f32)
      = (num4 (S q k) : FVec Ideal S2x8x2048x2048 .f32) := by
  funext j
  idx_vars j
  pointwise
  simp only [← EReal.coe_mul, ← Numbers.coe_sum]
  rfl

/-- The rows' maxima are numbers. -/
theorem maxima_exists : ∃ M, (Host.reduce FloatOps.maximumf (num4 (S q k) : FVec Ideal S2x8x2048x2048 .f32)
    (constant S_ .f32 0xFF800000#32) reducesTo_S2x8x2048x2048_S2x8x2048_d3 h_S_ : FVec Ideal S2x8x2048 .f32) = num3 M :=
  (reduce_max_numeric (num4 (S q k) : FVec Ideal S2x8x2048x2048 .f32) (num4_numeric _)
    (constant S_ .f32 0xFF800000#32) reducesTo_S2x8x2048x2048_S2x8x2048_d3 (by decide) h_S_ (by decide) ofBits_bot).exists_num3

theorem maxima_eq : (maximumf (broadcastInDim S2x8x2048 ![] bcast_S_S2x8x2048 (constant S_ .f32 0xFF800000#32)) (num3 M)
    : FVec Ideal S2x8x2048 .f32) = num3 M := by
  funext j
  idx_vars j
  pointwise
  rw [ofBits_bot]
  exact max_eq_right bot_le

theorem expo_eq : (Host.exp (subf (num4 (S q k)) (broadcastInDim S2x8x2048x2048 ![0, 1, 2, 3] bcast_S2x8x2048x1_S2x8x2048x2048_0_1_2_3
    (broadcastInDim S2x8x2048x1 ![0, 1, 2] bcast_S2x8x2048_S2x8x2048x1_0_1_2 (num3 M)))) : FVec Ideal S2x8x2048x2048 .f32)
      = num4 (E q k M) := by
  funext j
  idx_vars j
  pointwise
  simp only [← EReal.coe_sub, Ideal.exp_coe]
  rfl

theorem total_eq : (Host.reduceAdd (num4 (E q k M) : FVec Ideal S2x8x2048x2048 .f32) (constant S_ .f32 0x00000000#32)
    reducesTo_S2x8x2048x2048_S2x8x2048_d3 h_S_ : FVec Ideal S2x8x2048 .f32) = num3 (L q k M) := by
  funext j
  idx_vars j
  pointwise
  simp only [← Numbers.coe_sum, Ideal.ofBits_zero_f32, zero_add]
  rfl

theorem column_eq {φ : FTy} (f : Fin 2 → Fin 8 → Fin 2048 → ℝ) :
    (broadcastInDim S2x8x2048x1 ![0, 1, 2] bcast_S2x8x2048_S2x8x2048x1_0_1_2 (num3 f) : FVec Ideal S2x8x2048x1 φ)
      = num4 fun b h i _ => f b h i := by
  funext j
  idx_vars j
  pointwise

theorem spread_eq {φ : FTy} (f : Fin 2 → Fin 8 → Fin 2048 → Fin 1 → ℝ) :
    (broadcastInDim S2x8x2048x2048 ![0, 1, 2, 3] bcast_S2x8x2048x1_S2x8x2048x2048_0_1_2_3 (num4 f) : FVec Ideal S2x8x2048x2048 φ)
      = num4 fun b h i _ => f b h i 0 := by
  funext j
  idx_vars j
  pointwise

theorem probs_eq : (Host.divf (num4 (E q k M)) (num4 fun b h i _ => L q k M b h i) : FVec Ideal S2x8x2048x2048 .f32)
    = num4 fun b h i j => E q k M b h i j / L q k M b h i := by
  funext j
  idx_vars j
  pointwise
  exact Numbers.div_coe _ _ (L_ne q k M _ _ _)

theorem ctv_eq : (transpose S2x8x64x2048 [0, 2, 3, 1] (shapeCast _ (num3 g : FVec Ideal S2x2048x512 .f32)
    shapeCasts_S2x2048x512_S2x2048x8x64) transposes_S2x2048x8x64_S2x8x64x2048_0_2_3_1 : FVec Ideal S2x8x64x2048 .f32)
      = num4 fun b h c i => slab g b h i c := by
  funext j
  idx_vars j
  pointwise
  rfl

theorem dprobs_eq : (Host.dotGeneral dot_S2x8x64x2048_S2x2048x8x64_S2x8x2048x2048_2_3_3_1_01_02 none
    (num4 fun b h c i => slab g b h i c : FVec Ideal S2x8x64x2048 .f32) (num4 v : FVec Ideal S2x2048x8x64 .f32)
      : FVec Ideal S2x8x2048x2048 .f32) = num4 (DP v g) := by
  funext j
  idx_vars j
  pointwise
  simp only [← EReal.coe_mul, ← Numbers.coe_sum]
  rfl

/-- The row's inverse square of the total. -/
theorem inverse_eq : (Host.divf (broadcastInDim S2x8x2048x1 ![] bcast_S_S2x8x2048x1 (constant S_ .f32 0x3F800000#32))
    (mulf (num4 fun b h i _ => L q k M b h i) (num4 fun b h i _ => L q k M b h i)) : FVec Ideal S2x8x2048x1 .f32)
      = num4 fun b h i _ => 1 / (L q k M b h i * L q k M b h i) := by
  funext j
  idx_vars j
  pointwise
  rw [← EReal.coe_one, ← EReal.coe_mul]
  exact Numbers.div_coe _ _ (mul_ne_zero (L_ne q k M _ _ _) (L_ne q k M _ _ _))

/-- The row's correction: minus the sum of the cotangents against the exponentials. -/
def corr (b : Fin 2) (h : Fin 8) (i : Fin 2048) : ℝ :=
  ∑ l, DP v g b h i l * (1 / (L q k M b h i * L q k M b h i)) * E q k M b h i l

theorem corr_eq : (Host.reduceAdd (mulf (mulf (num4 (DP v g)) (num4 fun b h i _ => 1 / (L q k M b h i * L q k M b h i)))
    (num4 (E q k M)) : FVec Ideal S2x8x2048x2048 .f32) (constant S_ .f32 0x00000000#32)
    reducesTo_S2x8x2048x2048_S2x8x2048_d3 h_S_ : FVec Ideal S2x8x2048 .f32) = num3 (corr q k v g M) := by
  funext j
  idx_vars j
  pointwise
  simp only [← EReal.coe_mul, ← Numbers.coe_sum, Ideal.ofBits_zero_f32, zero_add]
  rfl

theorem minus_eq : (Host.reduceAdd (Host.negf (shapeCast S2x8x2048x1 (num3 (corr q k v g M)) shapeCasts_S2x8x2048_S2x8x2048x1)
      : FVec Ideal S2x8x2048x1 .f32) (constant S_ .f32 0x00000000#32) reducesTo_S2x8x2048x1_S2x8x2048_d3 h_S_
      : FVec Ideal S2x8x2048 .f32) = num3 fun b h i => -(corr q k v g M b h i) := by
  funext j
  idx_vars j
  pointwise
  simp only [Ideal.ofBits_zero_f32, zero_add, ← EReal.coe_neg, ← Numbers.coe_sum, Fin.sum_univ_one]

/-- The cotangent of the scores. -/
theorem dscores_eq : (mulf (addf (Host.divf (num4 (DP v g)) (num4 fun b h i _ => L q k M b h i))
    (broadcastInDim S2x8x2048x2048 ![0, 1, 2] bcast_S2x8x2048_S2x8x2048x2048_0_1_2 (num3 fun b h i => -(corr q k v g M b h i))))
    (num4 (E q k M)) : FVec Ideal S2x8x2048x2048 .f32) = num4 (DS q k v g M) := by
  funext j
  idx_vars j
  pointwise
  rw [Numbers.div_coe _ _ (L_ne q k M _ _ _), ← EReal.coe_add, ← EReal.coe_mul]
  rfl

end Cert.RefScores
-- ==== Proof.RefValue.lean ====
/- The reference's three gradients, read off its run: rows of tokens, the heads side by side in blocks of 128 lanes, zero in
   the lanes past a head's own. -/
module

public import proofs.«01_k».proof.Proof.RefScores
public import proofs.«01_k».proof.Proof.Gen.ReferenceIdeal.Run

@[expose] public section

set_option maxRecDepth 16384

noncomputable section

namespace Cert.RefValue

open Cert.ReferenceIdeal Cert.ReferenceIdeal.Gen Cert.Arrays Cert.RefScores Idealize.ShloMosaic Idealize.ShloMosaic.TcCoe Idealize.SL.Sem

variable (q k : Fin 2 → Fin 2048 → Fin 8 → Fin 96 → ℝ) (v : Fin 2 → Fin 2048 → Fin 8 → Fin 64 → ℝ)
  (g : Fin 2 → Fin 2048 → Fin 512 → ℝ) (M : Fin 2 → Fin 8 → Fin 2048 → ℝ)

/-- Rows of tokens: head `c / 128`'s lane `c % 128`, zero past its `d` lanes. -/
def laid {d : ℕ} (f : Fin 2 → Fin 2048 → Fin 8 → Fin d → ℝ) (t : Fin 4096) (c : Fin 1024) : ℝ :=
  if h : (c : ℕ) % 128 < d then f ⟨t / 2048, by omega⟩ ⟨t % 2048, by omega⟩ ⟨c / 128, by omega⟩ ⟨c % 128, h⟩ else 0

def DQ (b : Fin 2) (i : Fin 2048) (h : Fin 8) (c : Fin 96) : ℝ := ∑ j, DS q k v g M b h i j * k b j h c
def DK (b : Fin 2) (j : Fin 2048) (h : Fin 8) (c : Fin 96) : ℝ := ∑ i, DS q k v g M b h i j * q b i h c
def DV (b : Fin 2) (j : Fin 2048) (h : Fin 8) (c : Fin 64) : ℝ := ∑ i, slab g b h i c * (E q k M b h i j / L q k M b h i)

theorem dq_eq : (transpose S2x2048x8x96 [0, 2, 1, 3] (Host.dotGeneral dot_S2x8x2048x2048_S2x2048x8x96_S2x8x2048x96_3_1_2_3_01_02 none
    (num4 (DS q k v g M) : FVec Ideal S2x8x2048x2048 .f32) (num4 k : FVec Ideal S2x2048x8x96 .f32))
    transposes_S2x8x2048x96_S2x2048x8x96_0_2_1_3 : FVec Ideal S2x2048x8x96 .f32) = num4 (DQ q k v g M) := by
  funext j
  idx_vars j
  pointwise
  simp only [← EReal.coe_mul, ← Numbers.coe_sum]
  rfl

theorem dk_eq : (transpose S2x2048x8x96 [0, 2, 1, 3] (Host.dotGeneral dot_S2x8x2048x2048_S2x2048x8x96_S2x8x2048x96_2_1_3_3_01_02 none
    (num4 (DS q k v g M) : FVec Ideal S2x8x2048x2048 .f32) (num4 q : FVec Ideal S2x2048x8x96 .f32))
    transposes_S2x8x2048x96_S2x2048x8x96_0_2_1_3 : FVec Ideal S2x2048x8x96 .f32) = num4 (DK q k v g M) := by
  funext j
  idx_vars j
  pointwise
  simp only [← EReal.coe_mul, ← Numbers.coe_sum]
  rfl

theorem dv_eq : (transpose S2x2048x8x64 [0, 3, 1, 2] (Host.dotGeneral dot_S2x8x64x2048_S2x8x2048x2048_S2x8x64x2048_3_2_2_3_01_01 none
    (num4 fun b h c i => slab g b h i c : FVec Ideal S2x8x64x2048 .f32)
    (num4 fun b h i j => E q k M b h i j / L q k M b h i : FVec Ideal S2x8x2048x2048 .f32))
    transposes_S2x8x64x2048_S2x2048x8x64_0_3_1_2 : FVec Ideal S2x2048x8x64 .f32) = num4 (DV q k g M) := by
  funext j
  idx_vars j
  pointwise
  simp only [← EReal.coe_mul, ← Numbers.coe_sum]
  rfl

theorem zero_eq : (FloatOps.sitofp .f32 (0#32 : BitVec 32) : Ideal .f32) = (0 : EReal) := by
  show (((0#32 : BitVec 32).toInt : ℝ) : EReal) = 0
  simp

/-- A guard that holds of three coordinates anyway, and a value that is a number or zero. -/
theorem laid_guard {d : ℕ} (f : Fin 2 → Fin 2048 → Fin 8 → Fin d → ℝ) (t : Fin 4096) (c : Fin 1024) (z : EReal) (hz : z = 0) :
    (if h : (t : ℕ) / 2048 < 2 ∧ (t : ℕ) % 2048 < 2048 ∧ (c : ℕ) / 128 < 8 ∧ (c : ℕ) % 128 < d then
      ((f ⟨t / 2048, h.1⟩ ⟨t % 2048, h.2.1⟩ ⟨c / 128, h.2.2.1⟩ ⟨c % 128, h.2.2.2⟩ : ℝ) : EReal) else z) = ((laid f t c : ℝ) : EReal) := by
  unfold laid
  by_cases h : (c : ℕ) % 128 < d
  · rw [dif_pos h, dif_pos ⟨by omega, by omega, by omega, h⟩]
  · rw [dif_neg h, dif_neg fun hh => h hh.2.2.2, hz]
    rfl

theorem laid96_eq (f : Fin 2 → Fin 2048 → Fin 8 → Fin 96 → ℝ) :
    (shapeCast S4096x1024 (pad S2x2048x8x128 ![0, 0, 0, 0] ![0, 0, 0, 32] ![0, 0, 0, 0] (num4 f : FVec Ideal S2x2048x8x96 .f32)
      (sitofp .f32 (constantI S_ 32 0#32)) pads_S2x2048x8x96_S2x2048x8x128_000_000_000_0320 h_S_)
      shapeCasts_S2x2048x8x128_S4096x1024 : FVec Ideal S4096x1024 .f32) = num2 (laid f) := by
  funext j
  idx_vars j
  pointwise
  exact laid_guard f _ _ _ zero_eq

theorem laid64_eq (f : Fin 2 → Fin 2048 → Fin 8 → Fin 64 → ℝ) :
    (shapeCast S4096x1024 (pad S2x2048x8x128 ![0, 0, 0, 0] ![0, 0, 0, 64] ![0, 0, 0, 0] (num4 f : FVec Ideal S2x2048x8x64 .f32)
      (sitofp .f32 (constantI S_ 32 0#32)) pads_S2x2048x8x64_S2x2048x8x128_000_000_000_0640 h_S_)
      shapeCasts_S2x2048x8x128_S4096x1024 : FVec Ideal S4096x1024 .f32) = num2 (laid f) := by
  funext j
  idx_vars j
  pointwise
  exact laid_guard f _ _ _ zero_eq

theorem narrow_eq (f : Fin 4096 → Fin 1024 → ℝ) :
    (truncf .bf16 (num2 f : FVec Ideal S4096x1024 .f32) bitsLt_bf16_f32 : FVec Ideal S4096x1024 .bf16) = num2 f := by
  funext j
  idx_vars j
  pointwise

section Run

variable (m : (ℓ : Loc nD τ sig) → Buf (Elt Ideal) ℓ) (c : Dev nD)
  (hq : m ((c.tc : Thread nD τ).loc main_arg0) = (num4 q : FVec Ideal S2x2048x8x96 .f32))
  (hk : m ((c.tc : Thread nD τ).loc main_arg1) = (num4 k : FVec Ideal S2x2048x8x96 .f32))
  (hv : m ((c.tc : Thread nD τ).loc main_arg2) = (num4 v : FVec Ideal S2x2048x8x64 .f32))
  (hg : m ((c.tc : Thread nD τ).loc main_arg3) = (num3 g : FVec Ideal S2x2048x512 .f32))
  (hM : (Host.reduce FloatOps.maximumf (num4 (S q k) : FVec Ideal S2x8x2048x2048 .f32)
    (constant S_ .f32 0xFF800000#32) reducesTo_S2x8x2048x2048_S2x8x2048_d3 h_S_ : FVec Ideal S2x8x2048 .f32) = num3 M)

include hq hk hv hg hM

theorem out0_eq : Value.res_out0 m c = (num2 (laid (DQ q k v g M)) : FVec Ideal S4096x1024 .f32) := by
  unfold Value.res_out0 Value.res_main_v54
  rw [hq, hk, hv, hg, scores_eq, hM, maxima_eq, expo_eq, total_eq, column_eq, inverse_eq, spread_eq, spread_eq, ctv_eq, dprobs_eq,
    corr_eq, minus_eq, dscores_eq, dq_eq]
  exact laid96_eq _

theorem out1_eq : Value.res_out1 m c = (num2 (laid (DK q k v g M)) : FVec Ideal S4096x1024 .bf16) := by
  unfold Value.res_out1 Value.res_main_v57
  rw [hq, hk, hv, hg, scores_eq, hM, maxima_eq, expo_eq, total_eq, column_eq, inverse_eq, spread_eq, spread_eq, ctv_eq, dprobs_eq,
    corr_eq, minus_eq, dscores_eq, dk_eq]
  exact (congrArg (fun x : FVec Ideal S4096x1024 .f32 => (truncf .bf16 x bitsLt_bf16_f32 : FVec Ideal S4096x1024 .bf16)) (laid96_eq _)).trans (narrow_eq _)

end Run

/-- The reference's run, its results named. -/
theorem run (m : (ℓ : Loc nD τ sig) → Buf (Elt Ideal) ℓ) (ρ : Dev nD → PrngReg)
    (hq : ∀ c : Dev nD, m ((c.tc : Thread nD τ).loc main_arg0) = (num4 q : FVec Ideal S2x2048x8x96 .f32))
    (hk : ∀ c : Dev nD, m ((c.tc : Thread nD τ).loc main_arg1) = (num4 k : FVec Ideal S2x2048x8x96 .f32))
    (hv : ∀ c : Dev nD, m ((c.tc : Thread nD τ).loc main_arg2) = (num4 v : FVec Ideal S2x2048x8x64 .f32))
    (hg : ∀ c : Dev nD, m ((c.tc : Thread nD τ).loc main_arg3) = (num3 g : FVec Ideal S2x2048x512 .f32))
    (hM : (Host.reduce FloatOps.maximumf (num4 (S q k) : FVec Ideal S2x8x2048x2048 .f32)
      (constant S_ .f32 0xFF800000#32) reducesTo_S2x8x2048x2048_S2x8x2048_d3 h_S_ : FVec Ideal S2x8x2048 .f32) = num3 M) :
    θ_run defs (onTc (τ := τ) (main (F := Ideal))) ⟨m, fun _ => 0, ρ⟩ fun r => ∀ c : Dev nD,
      r.2.mem ((c.tc : Thread nD τ).loc main_v54) = (num2 (laid (DQ q k v g M)) : FVec Ideal S4096x1024 .f32)
      ∧ r.2.mem ((c.tc : Thread nD τ).loc main_v57) = (num2 (laid (DK q k v g M)) : FVec Ideal S4096x1024 .bf16)
      ∧ r.2.mem ((c.tc : Thread nD τ).loc main_v60) = (num2 (laid (DV q k g M)) : FVec Ideal S4096x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
    obtain ⟨h0, h1, h2, h3⟩ := h c
    refine ⟨h0.trans (out0_eq q k v g M m c (hq c) (hk c) (hv c) (hg c) hM), h1.trans (out1_eq q k v g M m c (hq c) (hk c) (hv c) (hg c) hM),
      h2.trans ?_, h3⟩
    rw [hq c, hk c, hg c, scores_eq, hM, maxima_eq, expo_eq, total_eq, column_eq, spread_eq, probs_eq, ctv_eq, dv_eq]
    exact (congrArg (fun x : FVec Ideal S4096x1024 .f32 => (truncf .bf16 x bitsLt_bf16_f32 : FVec Ideal S4096x1024 .bf16)) (laid64_eq _)).trans (narrow_eq _))
    (Value.run m ρ)

end Cert.RefValue
-- ==== Proof.Operands.lean ====
/- The arrays the kernel's grid reads, as arrays of numbers: the queries, the keys beside the values, the attention's result
   and its cotangent in rows of tokens, and the log-sum-exp. -/
module

public import proofs.«01_k».proof.Proof.RefValue
public import proofs.«01_k».proof.Proof.Gen.KernelIdeal.Frame
public import Idealize.ShloMosaic.Lib.Claim

@[expose] public section

set_option maxRecDepth 16384

noncomputable section

namespace Cert.Operands

open Cert.KernelIdeal Cert.KernelIdeal.Gen Cert.Arrays Cert.RefScores Cert.RefValue Idealize.ShloMosaic Idealize.ShloMosaic.TcCoe

variable (q k : Fin 2 → Fin 2048 → Fin 8 → Fin 96 → ℝ) (v : Fin 2 → Fin 2048 → Fin 8 → Fin 64 → ℝ)
  (g : Fin 2 → Fin 2048 → Fin 512 → ℝ) (M : Fin 2 → Fin 8 → Fin 2048 → ℝ)

/-- The keys' columns, then the values'. -/
def beside (x y : Fin 4096 → Fin 1024 → ℝ) (t : Fin 4096) (c : Fin 2048) : ℝ :=
  if h : (c : ℕ) < 1024 then x t ⟨c, h⟩ else y t ⟨c - 1024, by omega⟩

/-- The attention's result. -/
def O (b : Fin 2) (i : Fin 2048) (h : Fin 8) (c : Fin 64) : ℝ :=
  Softmax.out (head q b h) (head k b h) (head v b h) (M b h) i c

/-- The log-sum-exp, a head an outer row. -/
def logsum (h : Fin 8) (t : Fin 4096) (_ : Fin 1) : ℝ :=
  Softmax.lse (head q ⟨t / 2048, by omega⟩ h) (head k ⟨t / 2048, by omega⟩ h) (M ⟨t / 2048, by omega⟩ h) ⟨t % 2048, by omega⟩

/-! ## The host's operations on arrays of numbers -/

theorem rows96_eq (f : Fin 2 → Fin 2048 → Fin 8 → Fin 96 → ℝ) :
    (truncf .bf16 (shapeCast S4096x1024 (pad S2x2048x8x128 ![0, 0, 0, 0] ![0, 0, 0, 32] ![0, 0, 0, 0]
      (num4 f : FVec Ideal S2x2048x8x96 .f32) (sitofp .f32 (constantI S_ 32 0#32)) pads_S2x2048x8x96_S2x2048x8x128_000_000_000_0320 h_S_)
      shapeCasts_S2x2048x8x128_S4096x1024 : FVec Ideal S4096x1024 .f32) bitsLt_bf16_f32 : FVec Ideal S4096x1024 .bf16) = num2 (laid f) := by
  rw [laid96_eq, narrow_eq]

theorem rows64_eq (f : Fin 2 → Fin 2048 → Fin 8 → Fin 64 → ℝ) :
    (truncf .bf16 (shapeCast S4096x1024 (pad S2x2048x8x128 ![0, 0, 0, 0] ![0, 0, 0, 64] ![0, 0, 0, 0]
      (num4 f : FVec Ideal S2x2048x8x64 .f32) (sitofp .f32 (constantI S_ 32 0#32)) pads_S2x2048x8x64_S2x2048x8x128_000_000_000_0640 h_S_)
      shapeCasts_S2x2048x8x128_S4096x1024 : FVec Ideal S4096x1024 .f32) bitsLt_bf16_f32 : FVec Ideal S4096x1024 .bf16) = num2 (laid f) := by
  rw [laid64_eq, narrow_eq]

theorem beside_eq (x y : Fin 4096 → Fin 1024 → ℝ) :
    (concatenate S4096x2048 1 [⟨S4096x1024, (num2 x : FVec Ideal S4096x1024 .bf16)⟩, ⟨S4096x1024, (num2 y : FVec Ideal S4096x1024 .bf16)⟩]
      concatenates_S4096x1024_S4096x1024_S4096x2048_d1 : FVec Ideal S4096x2048 .bf16) = num2 (beside x y) := by
  funext j
  idx_vars j
  pointwise
  unfold beside
  split <;> rfl

theorem result_eq : (transpose S2x2048x8x64 [0, 3, 1, 2] (Host.dotGeneral dot_S2x2048x8x64_S2x8x2048x2048_S2x8x64x2048_1_3_3_2_02_01 none
    (num4 v : FVec Ideal S2x2048x8x64 .f32) (num4 fun b h i j => E q k M b h i j / L q k M b h i : FVec Ideal S2x8x2048x2048 .f32))
    transposes_S2x8x64x2048_S2x2048x8x64_0_3_1_2 : FVec Ideal S2x2048x8x64 .f32) = num4 (O q k v M) := by
  funext j
  idx_vars j
  pointwise
  simp only [← EReal.coe_mul, ← Numbers.coe_sum, mul_comm (v _ _ _ _)]
  rfl

theorem logsum_eq : (shapeCast S8x4096x1 (transpose S8x2x2048x1 [1, 0, 2, 3] (addf (num4 fun b h i _ => M b h i)
    (Host.log (num4 fun b h i _ => L q k M b h i)) : FVec Ideal S2x8x2048x1 .f32) transposes_S2x8x2048x1_S8x2x2048x1_1_0_2_3)
    shapeCasts_S8x2x2048x1_S8x4096x1 : FVec Ideal S8x4096x1 .f32) = num3 (logsum q k M) := by
  funext j
  idx_vars j
  pointwise
  exact (congrArg _ (Numbers.log_coe_pos _ (Softmax.total_pos _ _ _ _))).trans (EReal.coe_add _ _).symm

theorem ctheads_eq : (shapeCast S2x2048x8x64 (num3 g : FVec Ideal S2x2048x512 .f32) shapeCasts_S2x2048x512_S2x2048x8x64
    : FVec Ideal S2x2048x8x64 .f32) = num4 fun b i h c => slab g b h i c := by
  funext j
  idx_vars j
  pointwise
  rfl

/-! ## The kernel's operands -/

variable (m : (ℓ : Loc nD τ sig) → Buf (Elt Ideal) ℓ) (c : Dev nD)
  (hq : m ((c.tc : Thread nD τ).loc main_arg0) = (num4 q : FVec Ideal S2x2048x8x96 .f32))
  (hk : m ((c.tc : Thread nD τ).loc main_arg1) = (num4 k : FVec Ideal S2x2048x8x96 .f32))
  (hv : m ((c.tc : Thread nD τ).loc main_arg2) = (num4 v : FVec Ideal S2x2048x8x64 .f32))
  (hg : m ((c.tc : Thread nD τ).loc main_arg3) = (num3 g : FVec Ideal S2x2048x512 .f32))
  (hM : (Host.reduce FloatOps.maximumf (num4 (S q k) : FVec Ideal S2x8x2048x2048 .f32)
    (constant S_ .f32 0xFF800000#32) reducesTo_S2x8x2048x2048_S2x8x2048_d3 h_S_ : FVec Ideal S2x8x2048 .f32) = num3 M)

include hq in
theorem q_eq : V m c main_v25 = (num2 (laid q) : FVec Ideal S4096x1024 .bf16) := by
  simp only [V, hostOps0, hostOps0_1, hostOps0_2, hostOps0_3, hostOps0_4, hostOps0_5, hostOps0_6, hostOps0_7, hostOps0_8, hostOps0_9,
    hostOps0_10, List.flatten_cons, List.flatten_nil, List.cons_append, List.nil_append, StableHlo.TRef.binary, StableHlo.TRef.unary,
    StableHlo.TRef.toBuf, StableHlo.TRef.ofBuf, cast_eq]
  after_results_simp
  rw [show m (c, Proc.tc.devRef main_arg0) = _ from hq]
  exact rows96_eq q

include hk hv in
theorem kv_eq : V m c main_v22 = (num2 (beside (laid k) (laid v)) : FVec Ideal S4096x2048 .bf16) := by
  simp only [V, hostOps0, hostOps0_1, hostOps0_2, hostOps0_3, hostOps0_4, hostOps0_5, hostOps0_6, hostOps0_7, hostOps0_8, hostOps0_9,
    hostOps0_10, List.flatten_cons, List.flatten_nil, List.cons_append, List.nil_append, StableHlo.TRef.binary, StableHlo.TRef.unary,
    StableHlo.TRef.toBuf, StableHlo.TRef.ofBuf, cast_eq]
  after_results_simp
  after_results_loop
  rw [show m (c, Proc.tc.devRef main_arg1) = _ from hk, show m (c, Proc.tc.devRef main_arg2) = _ from hv]
  exact (congrArg₂ (fun a b : FVec Ideal S4096x1024 .bf16 => concatenate S4096x2048 1 [⟨S4096x1024, a⟩, ⟨S4096x1024, b⟩]
    concatenates_S4096x1024_S4096x1024_S4096x2048_d1) (rows96_eq k) (rows64_eq v)).trans (beside_eq _ _)

include hg in
theorem do_eq : V m c main_v32 = (num2 (laid fun b i h c => slab g b h i c) : FVec Ideal S4096x1024 .bf16) := by
  simp only [V, hostOps0, hostOps0_1, hostOps0_2, hostOps0_3, hostOps0_4, hostOps0_5, hostOps0_6, hostOps0_7, hostOps0_8, hostOps0_9,
    hostOps0_10, List.flatten_cons, List.flatten_nil, List.cons_append, List.nil_append, StableHlo.TRef.binary, StableHlo.TRef.unary,
    StableHlo.TRef.toBuf, StableHlo.TRef.ofBuf, cast_eq]
  after_results_simp
  rw [show m (c, Proc.tc.devRef main_arg3) = _ from hg]
  exact (congrArg (fun x : FVec Ideal S2x2048x8x64 .f32 => (truncf .bf16 (shapeCast S4096x1024 (pad S2x2048x8x128 ![0, 0, 0, 0] ![0, 0, 0, 64]
      ![0, 0, 0, 0] x (sitofp .f32 (constantI S_ 32 0#32)) pads_S2x2048x8x64_S2x2048x8x128_000_000_000_0640 h_S_)
      shapeCasts_S2x2048x8x128_S4096x1024 : FVec Ideal S4096x1024 .f32) bitsLt_bf16_f32 : FVec Ideal S4096x1024 .bf16)) (ctheads_eq g)).trans
    (rows64_eq _)

include hq hk hM in
theorem lse_eq : V m c main_v15 = (num3 (logsum q k M) : FVec Ideal S8x4096x1 .f32) := by
  simp only [V, hostOps0, hostOps0_1, hostOps0_2, hostOps0_3, hostOps0_4, hostOps0_5, hostOps0_6, hostOps0_7, hostOps0_8, hostOps0_9,
    hostOps0_10, List.flatten_cons, List.flatten_nil, List.cons_append, List.nil_append, StableHlo.TRef.binary, StableHlo.TRef.unary,
    StableHlo.TRef.toBuf, StableHlo.TRef.ofBuf, cast_eq]
  after_results_simp
  rw [show m (c, Proc.tc.devRef main_arg0) = _ from hq, show m (c, Proc.tc.devRef main_arg1) = _ from hk]
  erw [scores_eq]
  rw [hM]
  erw [column_eq M, spread_eq, expo_eq, total_eq, column_eq]
  exact logsum_eq q k M

include hq hk hv hM in
theorem o_eq : V m c main_v28 = (num2 (laid (O q k v M)) : FVec Ideal S4096x1024 .bf16) := by
  simp only [V, hostOps0, hostOps0_1, hostOps0_2, hostOps0_3, hostOps0_4, hostOps0_5, hostOps0_6, hostOps0_7, hostOps0_8, hostOps0_9,
    hostOps0_10, List.flatten_cons, List.flatten_nil, List.cons_append, List.nil_append, StableHlo.TRef.binary, StableHlo.TRef.unary,
    StableHlo.TRef.toBuf, StableHlo.TRef.ofBuf, cast_eq]
  after_results_simp
  rw [show m (c, Proc.tc.devRef main_arg0) = _ from hq, show m (c, Proc.tc.devRef main_arg1) = _ from hk,
    show m (c, Proc.tc.devRef main_arg2) = _ from hv]
  erw [scores_eq]
  rw [hM]
  erw [column_eq M, spread_eq, expo_eq, total_eq, column_eq, spread_eq]
  erw [probs_eq]
  exact (congrArg (fun x : FVec Ideal S2x2048x8x64 .f32 => (truncf .bf16 (shapeCast S4096x1024 (pad S2x2048x8x128 ![0, 0, 0, 0] ![0, 0, 0, 64]
      ![0, 0, 0, 0] x (sitofp .f32 (constantI S_ 32 0#32)) pads_S2x2048x8x64_S2x2048x8x128_000_000_000_0640 h_S_)
      shapeCasts_S2x2048x8x128_S4096x1024 : FVec Ideal S4096x1024 .f32) bitsLt_bf16_f32 : FVec Ideal S4096x1024 .bf16)) (result_eq q k v M)).trans
    (rows64_eq _)

end Cert.Operands
-- ==== Proof.Blocks.lean ====
/- The blocks the kernel's grid points read: the windows' indices, and a block of an array of numbers. -/
module

public import proofs.«01_k».proof.Proof.Operands
public import Idealize.ShloMosaic.Lib.Pipeline.ValueKit

@[expose] public section

set_option maxRecDepth 16384

noncomputable section

namespace Cert.Blocks

open Cert.KernelIdeal Cert.KernelIdeal.Gen Cert.Arrays Cert.RefScores Cert.RefValue Idealize.ShloMosaic Idealize.ShloMosaic.TcCoe

/-- A head's column of 1024 rows. -/
def column (x : Fin 8 → Fin 4096 → Fin 1 → ℝ) (t : ℕ) (ht : t < 32) (_ : Fin 1) (r : Fin 1024) (z : Fin 1) : ℝ :=
  x ⟨t / 4, by omega⟩ ⟨t % 4 * 1024 + r, by omega⟩ z

theorem idx0 : ∀ t : Fin cfg0.N, win0_0.index t = ![t.val % 4, t.val / 4] :=
  (by decide +kernel : ∀ t : Fin grid0.N, _)
theorem idx1 : ∀ t : Fin cfg0.N, win0_1.index t = ![t.val / 2 % 2, t.val / 4] :=
  (by decide +kernel : ∀ t : Fin grid0.N, _)
theorem idx2 : ∀ t : Fin cfg0.N, win0_2.index t = ![t.val / 2 % 2, 8 + t.val / 4] :=
  (by decide +kernel : ∀ t : Fin grid0.N, _)
theorem idx3 : ∀ t : Fin cfg0.N, win0_3.index t = ![t.val % 4, t.val / 4] :=
  (by decide +kernel : ∀ t : Fin grid0.N, _)
theorem idx4 : ∀ t : Fin cfg0.N, win0_4.index t = ![t.val % 4, t.val / 4] :=
  (by decide +kernel : ∀ t : Fin grid0.N, _)
theorem idx5 : ∀ t : Fin cfg0.N, win0_5.index t = ![t.val / 4, t.val % 4, 0] :=
  (by decide +kernel : ∀ t : Fin grid0.N, _)
theorem idx6 : ∀ t : Fin cfg0.N, win0_6.index t = ![t.val % 4, t.val / 4] :=
  (by decide +kernel : ∀ t : Fin grid0.N, _)
theorem idx7 : ∀ t : Fin cfg0.N, win0_7.index t = ![t.val / 2 % 2, t.val / 4] :=
  (by decide +kernel : ∀ t : Fin grid0.N, _)
theorem idx8 : ∀ t : Fin cfg0.N, win0_8.index t = ![t.val / 2 % 2, t.val / 4] :=
  (by decide +kernel : ∀ t : Fin grid0.N, _)

variable (m : (ℓ : Loc nD τ sig) → Buf (Elt Ideal) ℓ) (c : Dev nD)

theorem lt (t : Fin cfg0.N) : t.val < 32 := lt_of_lt_of_eq t.isLt (show cfg0.N = 32 from N_0)

/-- A block of 1024 rows and 128 lanes. -/
def tile (x : Fin 4096 → Fin 1024 → ℝ) (t : ℕ) (ht : t < 32) (r : Fin 1024) (l : Fin 128) : ℝ :=
  x ⟨t % 4 * 1024 + r, by omega⟩ ⟨t / 4 * 128 + l, by omega⟩
/-- A block of 2048 rows and 128 lanes. -/
def seq (x : Fin 4096 → Fin 1024 → ℝ) (t : ℕ) (ht : t < 32) (r : Fin 2048) (l : Fin 128) : ℝ :=
  x ⟨t / 2 % 2 * 2048 + r, by omega⟩ ⟨t / 4 * 128 + l, by omega⟩

/-- An array of numbers read at an index whose coordinates are known. -/
theorem num2_at {n p : ℕ} {φ : FTy} (x : Fin n → Fin p → ℝ) (j : (⟨2, ![n, p]⟩ : Shape).Idx) (a : Fin n) (b : Fin p)
    (h0 : (j 0).val = a.val) (h1 : (j 1).val = b.val) : (num2 x : FVec Ideal ⟨2, ![n, p]⟩ φ) j = ((x a b : ℝ) : EReal) := by
  rw [show a = j 0 from Fin.ext h0.symm, show b = j 1 from Fin.ext h1.symm]
  rfl

theorem num3_at {n p r : ℕ} {φ : FTy} (x : Fin n → Fin p → Fin r → ℝ) (j : (⟨3, ![n, p, r]⟩ : Shape).Idx) (a : Fin n) (b : Fin p)
    (d : Fin r) (h0 : (j 0).val = a.val) (h1 : (j 1).val = b.val) (h2 : (j 2).val = d.val) :
    (num3 x : FVec Ideal ⟨3, ![n, p, r]⟩ φ) j = ((x a b d : ℝ) : EReal) := by
  rw [show a = j 0 from Fin.ext h0.symm, show b = j 1 from Fin.ext h1.symm, show d = j 2 from Fin.ext h2.symm]
  rfl

theorem q_blk {x : Fin 4096 → Fin 1024 → ℝ} (h : V m c main_v25 = (num2 x : FVec Ideal S4096x1024 .bf16)) (t : Fin cfg0.N) :
    iblk m c 0 t = (num2 (tile x t (lt t)) : FVec Ideal S1024x128 .bf16) := by
  funext y
  idx_vars y
  blk_simp [iblk]
  rw [h]
  refine num2_at x _ _ _ ?_ ?_ <;> blk_simp [idx0 t]

theorem k_blk {x z : Fin 4096 → Fin 1024 → ℝ} (h : V m c main_v22 = (num2 (Operands.beside x z) : FVec Ideal S4096x2048 .bf16))
    (t : Fin cfg0.N) : iblk m c 1 t = (num2 (seq x t (lt t)) : FVec Ideal S2048x128 .bf16) := by
  have ht := lt t
  funext y
  idx_vars y
  blk_simp [iblk]
  rw [h]
  refine (num2_at _ _ ⟨t.val / 2 % 2 * 2048 + y0, by omega⟩ ⟨t.val / 4 * 128 + y1, by omega⟩ ?_ ?_).trans ?_
  · blk_simp [idx1 t]
  · blk_simp [idx1 t]
  · unfold Operands.beside
    rw [dif_pos (show t.val / 4 * 128 + y1.val < 1024 by omega)]
    rfl

theorem v_blk {x z : Fin 4096 → Fin 1024 → ℝ} (h : V m c main_v22 = (num2 (Operands.beside z x) : FVec Ideal S4096x2048 .bf16))
    (t : Fin cfg0.N) : iblk m c 2 t = (num2 (seq x t (lt t)) : FVec Ideal S2048x128 .bf16) := by
  have ht := lt t
  funext y
  idx_vars y
  blk_simp [iblk]
  rw [h]
  refine (num2_at _ _ ⟨t.val / 2 % 2 * 2048 + y0, by omega⟩ ⟨(8 + t.val / 4) * 128 + y1, by omega⟩ ?_ ?_).trans ?_
  · blk_simp [idx2 t]
  · blk_simp [idx2 t]
  · unfold Operands.beside
    rw [dif_neg (show ¬ (8 + t.val / 4) * 128 + y1.val < 1024 by omega)]
    refine congrArg (fun d => ((x _ d : ℝ) : EReal)) (Fin.ext ?_)
    show (8 + t.val / 4) * 128 + y1.val - 1024 = t.val / 4 * 128 + y1.val
    omega

theorem o_blk {x : Fin 4096 → Fin 1024 → ℝ} (h : V m c main_v28 = (num2 x : FVec Ideal S4096x1024 .bf16)) (t : Fin cfg0.N) :
    iblk m c 3 t = (num2 (tile x t (lt t)) : FVec Ideal S1024x128 .bf16) := by
  funext y
  idx_vars y
  blk_simp [iblk]
  rw [h]
  refine num2_at x _ _ _ ?_ ?_ <;> blk_simp [idx3 t]

theorem do_blk {x : Fin 4096 → Fin 1024 → ℝ} (h : V m c main_v32 = (num2 x : FVec Ideal S4096x1024 .bf16)) (t : Fin cfg0.N) :
    iblk m c 4 t = (num2 (tile x t (lt t)) : FVec Ideal S1024x128 .bf16) := by
  funext y
  idx_vars y
  blk_simp [iblk]
  rw [h]
  refine num2_at x _ _ _ ?_ ?_ <;> blk_simp [idx4 t]

theorem lse_read (x : Fin 8 → Fin 4096 → Fin 1 → ℝ) (t : Fin cfg0.N) :
    ((cfg0.win 5).blk t).view.read (Elt Ideal) (num3 x : FVec Ideal S8x4096x1 .f32) = (num3 (column x t (lt t)) : FVec Ideal S1x1024x1 .f32) := by
  funext y
  refine num3_at (φ := .f32) x _ _ _ _ ?_ ?_ ?_
  · blk_simp [idx5 t]
  · blk_simp [idx5 t]
  · blk_simp [idx5 t]

theorem lse_blk {x : Fin 8 → Fin 4096 → Fin 1 → ℝ} (h : V m c main_v15 = (num3 x : FVec Ideal S8x4096x1 .f32)) (t : Fin cfg0.N) :
    iblk m c 5 t = (num3 (column x t (lt t)) : FVec Ideal S1x1024x1 .f32) :=
  (congrArg (fun A => ((cfg0.win 5).blk t).view.read (Elt Ideal) A) h).trans (lse_read x t)

theorem column_const (x : Fin 8 → Fin 4096 → Fin 1 → ℝ) (t : ℕ) (ht : t < 32) : column x t ht = fun _ r _ => column x t ht 0 r 0 := by
  funext z r z'
  rw [Subsingleton.elim z 0, Subsingleton.elim z' 0]

end Cert.Blocks
-- ==== Proof.Tile.lean ====
/- One tile of the attention's gradient: what the kernel computes from a block of queries and a block of keys. -/
module

public import proofs.«01_k».proof.Proof.Gen.KernelIdeal.Skeleton
public import proofs.«01_k».proof.Proof.Arrays

@[expose] public section

set_option maxRecDepth 16384

noncomputable section

namespace Cert.Tile

open Cert.KernelIdeal Cert.KernelIdeal.Gen Cert.Arrays Idealize.ShloMosaic

section Real

variable {n d e : ℕ} {ι : Type} (Q : ι → Fin d → ℝ) (K : Fin n → Fin d → ℝ) (V : Fin n → Fin e → ℝ) (G O : ι → Fin e → ℝ) (L : ι → ℝ)

/-- The probabilities rebuilt from the log-sum-exp. -/
def P (r : ι) (j : Fin n) : ℝ := Real.exp (∑ l, Q r l * K j l - L r)
/-- The cotangent of the scores. -/
def D (r : ι) (j : Fin n) : ℝ := P Q K L r j * (∑ l, G r l * V j l - ∑ l, G r l * O r l)

end Real

variable (Q : Fin 1024 → Fin 128 → ℝ) (K V : Fin 2048 → Fin 128 → ℝ) (G O : Fin 1024 → Fin 128 → ℝ) (L : Fin 1024 → ℝ)

theorem probs_eq : k0_pay10 (F := Ideal) (num2 Q : FVec Ideal S1024x128 .bf16) (num2 K : FVec Ideal S2048x128 .bf16) (num3 fun _ r _ => L r : FVec Ideal S1x1024x1 .f32) = (num2 (P Q K L) : FVec Ideal S1024x2048 .f32) := by
  funext j
  idx_vars j
  pointwise [k0_pay10, k0_pay7, k0_pay8]
  simp only [← EReal.coe_mul, ← Numbers.coe_sum, ← EReal.coe_sub, Ideal.exp_coe, zero_add]
  rfl

theorem dscores_eq : k0_pay11 (F := Ideal) (num2 Q : FVec Ideal S1024x128 .bf16) (num2 K : FVec Ideal S2048x128 .bf16) (num2 V : FVec Ideal S2048x128 .bf16) (num2 G : FVec Ideal S1024x128 .bf16) (num3 fun _ r _ => L r : FVec Ideal S1x1024x1 .f32)
      (num2 O : FVec Ideal S1024x128 .bf16) = (num2 (D Q K V G O L) : FVec Ideal S1024x2048 .bf16) := by
  funext j
  idx_vars j
  pointwise [k0_pay11, k0_pay9, probs_eq]
  simp only [← EReal.coe_mul, ← Numbers.coe_sum, ← EReal.coe_sub, zero_add]
  rfl

theorem dq_eq : k0_pay12 (F := Ideal) (num2 Q : FVec Ideal S1024x128 .bf16) (num2 K : FVec Ideal S2048x128 .bf16) (num2 V : FVec Ideal S2048x128 .bf16) (num2 G : FVec Ideal S1024x128 .bf16) (num3 fun _ r _ => L r : FVec Ideal S1x1024x1 .f32)
      (num2 O : FVec Ideal S1024x128 .bf16)
    = (num2 fun r c => ∑ j, D Q K V G O L r j * K j c : FVec Ideal S1024x128 .f32) := by
  funext j
  idx_vars j
  pointwise [k0_pay12, k0_pay8, dscores_eq]
  simp only [← EReal.coe_mul, ← Numbers.coe_sum, zero_add]

theorem dk_eq : k0_pay13 (F := Ideal) (num2 Q : FVec Ideal S1024x128 .bf16) (num2 K : FVec Ideal S2048x128 .bf16) (num2 V : FVec Ideal S2048x128 .bf16) (num2 G : FVec Ideal S1024x128 .bf16) (num3 fun _ r _ => L r : FVec Ideal S1x1024x1 .f32)
      (num2 O : FVec Ideal S1024x128 .bf16)
    = (num2 fun j c => ∑ r, D Q K V G O L r j * Q r c : FVec Ideal S2048x128 .f32) := by
  funext j
  idx_vars j
  pointwise [k0_pay13, k0_pay7, dscores_eq]
  simp only [← EReal.coe_mul, ← Numbers.coe_sum, zero_add]

theorem dv_eq : k0_pay14 (F := Ideal) (num2 Q : FVec Ideal S1024x128 .bf16) (num2 K : FVec Ideal S2048x128 .bf16) (num2 G : FVec Ideal S1024x128 .bf16) (num3 fun _ r _ => L r : FVec Ideal S1x1024x1 .f32)
    = (num2 fun j c => ∑ r, P Q K L r j * G r c : FVec Ideal S2048x128 .f32) := by
  funext j
  idx_vars j
  pointwise [k0_pay14, k0_pay9, probs_eq]
  simp only [← EReal.coe_mul, ← Numbers.coe_sum, zero_add]

end Cert.Tile
-- ==== Proof.Heads.lean ====
/- One tile against one head of softmax attention over the reals: the zero lanes past a head's own drop out, and the two
   tiles of a sequence make up its gradient of the keys and of the values. -/
module

public import proofs.«01_k».proof.Proof.Blocks
public import proofs.«01_k».proof.Proof.Tile

@[expose] public section

set_option maxRecDepth 16384

noncomputable section

namespace Cert.Heads

open Cert.KernelIdeal Cert.KernelIdeal.Gen Cert.Arrays Cert.RefScores Cert.RefValue Cert.Blocks Cert.Operands Idealize.ShloMosaic

/-- A row of `d` lanes, zero past them. -/
def padded {d N : ℕ} (x : Fin d → ℝ) (l : Fin N) : ℝ := if h : (l : ℕ) < d then x ⟨l, h⟩ else 0

theorem sum_padded_mul {d p : ℕ} (x y : Fin d → ℝ) :
    ∑ l : Fin (d + p), padded x l * padded y l = ∑ l, x l * y l := by
  rw [← Numbers.sum_padded (p := p) fun l => x l * y l]
  refine Finset.sum_congr rfl fun l _ => ?_
  unfold padded
  split <;> simp

theorem sum_mul_padded {d N : ℕ} {ι : Type} [Fintype ι] (w : ι → ℝ) (x : ι → Fin d → ℝ) (l : Fin N) :
    ∑ i, w i * padded (x i) l = padded (fun c => ∑ i, w i * x i c) l := by
  unfold padded
  split <;> simp

theorem sum96 (x y : Fin 96 → ℝ) : ∑ l : Fin 128, padded x l * padded y l = ∑ l, x l * y l := sum_padded_mul (p := 32) x y
theorem sum64 (x y : Fin 64 → ℝ) : ∑ l : Fin 128, padded x l * padded y l = ∑ l, x l * y l := sum_padded_mul (p := 64) x y

variable (q k : Fin 2 → Fin 2048 → Fin 8 → Fin 96 → ℝ) (v : Fin 2 → Fin 2048 → Fin 8 → Fin 64 → ℝ)
  (g : Fin 2 → Fin 2048 → Fin 512 → ℝ) (M : Fin 2 → Fin 8 → Fin 2048 → ℝ)

/-- A point's sequence, its head, and the query a row of its tile is. -/
def sq (t : ℕ) : Fin 2 := ⟨t / 2 % 2, by omega⟩
def hd (t : ℕ) (ht : t < 32) : Fin 8 := ⟨t / 4, by omega⟩
def qi (t : ℕ) (r : Fin 1024) : Fin 2048 := ⟨t % 2 * 1024 + r, by omega⟩

theorem tile_laid {d : ℕ} (f : Fin 2 → Fin 2048 → Fin 8 → Fin d → ℝ) (t : ℕ) (ht : t < 32) (r : Fin 1024) :
    tile (laid f) t ht r = padded (f (sq t) (qi t r) (hd t ht)) := by
  funext l
  unfold tile laid padded
  have e1 : (t / 4 * 128 + l.val) % 128 = l.val := by omega
  have e2 : (t % 4 * 1024 + r.val) / 2048 = t / 2 % 2 := by omega
  have e3 : (t % 4 * 1024 + r.val) % 2048 = t % 2 * 1024 + r.val := by omega
  have e4 : (t / 4 * 128 + l.val) / 128 = t / 4 := by omega
  simp only [e1, e2, e3, e4]
  rfl

theorem seq_laid {d : ℕ} (f : Fin 2 → Fin 2048 → Fin 8 → Fin d → ℝ) (t : ℕ) (ht : t < 32) (j : Fin 2048) :
    seq (laid f) t ht j = padded (f (sq t) j (hd t ht)) := by
  funext l
  unfold seq laid padded
  have e1 : (t / 4 * 128 + l.val) % 128 = l.val := by omega
  have e2 : (t / 2 % 2 * 2048 + j.val) / 2048 = t / 2 % 2 := by omega
  have e3 : (t / 2 % 2 * 2048 + j.val) % 2048 = j.val := by omega
  have e4 : (t / 4 * 128 + l.val) / 128 = t / 4 := by omega
  simp only [e1, e2, e3, e4]
  rfl

theorem column_lse (t : ℕ) (ht : t < 32) (z z' : Fin 1) (r : Fin 1024) :
    column (logsum q k M) t ht z r z'
      = Softmax.lse (head q (sq t) (hd t ht)) (head k (sq t) (hd t ht)) (M (sq t) (hd t ht)) (qi t r) := by
  unfold column logsum
  have e2 : (t % 4 * 1024 + r.val) / 2048 = t / 2 % 2 := by omega
  have e3 : (t % 4 * 1024 + r.val) % 2048 = t % 2 * 1024 + r.val := by omega
  simp only [e2, e3]
  rfl

/-- The tile's probabilities are the softmax's. -/
theorem probs (t : ℕ) (ht : t < 32) (r : Fin 1024) (j : Fin 2048) :
    Tile.P (tile (laid q) t ht) (seq (laid k) t ht) (fun r => column (logsum q k M) t ht 0 r 0) r j
      = E q k M (sq t) (hd t ht) (qi t r) j / L q k M (sq t) (hd t ht) (qi t r) := by
  unfold Tile.P
  dsimp only
  rw [tile_laid, seq_laid, column_lse, sum96]
  exact Softmax.prob_eq (head q (sq t) (hd t ht)) (head k (sq t) (hd t ht)) (M (sq t) (hd t ht)) (qi t r) j

/-- The cotangent of the attention's result, a head at a time. -/
abbrev ctHeads (b : Fin 2) (i : Fin 2048) (h : Fin 8) (c : Fin 64) : ℝ := slab g b h i c

/-- The tile's cotangents of the scores are the softmax gradient's. -/
theorem dscores (t : ℕ) (ht : t < 32) (r : Fin 1024) (j : Fin 2048) :
    Tile.D (tile (laid q) t ht) (seq (laid k) t ht) (seq (laid v) t ht) (tile (laid (ctHeads g)) t ht) (tile (laid (O q k v M)) t ht)
        (fun r => column (logsum q k M) t ht 0 r 0) r j
      = DS q k v g M (sq t) (hd t ht) (qi t r) j := by
  refine Eq.trans ?_ (Softmax.dscore_eq (head q (sq t) (hd t ht)) (head k (sq t) (hd t ht)) (head v (sq t) (hd t ht))
    (slab g (sq t) (hd t ht)) (M (sq t) (hd t ht)) (qi t r) j)
  unfold Tile.D Softmax.dscore
  rw [probs, tile_laid, tile_laid, seq_laid, sum64, sum64, Softmax.prob_eq]
  rfl

/-- A tile's gradient of the queries. -/
theorem dq_tile (t : ℕ) (ht : t < 32) (r : Fin 1024) (l : Fin 128) :
    ∑ j, Tile.D (tile (laid q) t ht) (seq (laid k) t ht) (seq (laid v) t ht) (tile (laid (ctHeads g)) t ht) (tile (laid (O q k v M)) t ht)
        (fun r => column (logsum q k M) t ht 0 r 0) r j * seq (laid k) t ht j l
      = tile (laid (DQ q k v g M)) t ht r l := by
  simp only [dscores, seq_laid, tile_laid]
  exact sum_mul_padded _ _ _

/-- The two tiles of a sequence sum over all its queries. -/
theorem sum_tiles (f : Fin 2048 → ℝ) (t : ℕ) (ht : t % 2 = 1) :
    ∑ r, f (qi (t - 1) r) + ∑ r, f (qi t r) = ∑ i, f i := by
  have e := Fin.sum_univ_add (M := ℝ) (a := 1024) (b := 1024) f
  refine Eq.trans ?_ e.symm
  congr 1 <;> refine Finset.sum_congr rfl fun r _ => congrArg f (Fin.ext ?_)
  · show (t - 1) % 2 * 1024 + r.val = r.val
    omega
  · show t % 2 * 1024 + r.val = 1024 + r.val
    omega

theorem sq_pred (t : ℕ) (ht : t % 2 = 1) : sq (t - 1) = sq t := Fin.ext (show (t - 1) / 2 % 2 = t / 2 % 2 by omega)
theorem hd_pred (t : ℕ) (h : t < 32) (ht : t % 2 = 1) : hd (t - 1) (by omega) = hd t h := Fin.ext (show (t - 1) / 4 = t / 4 by omega)

/-- A tile's part of the gradient of the keys. -/
def dkPart (t : ℕ) (ht : t < 32) (j : Fin 2048) (l : Fin 128) : ℝ :=
  ∑ r, Tile.D (tile (laid q) t ht) (seq (laid k) t ht) (seq (laid v) t ht) (tile (laid (ctHeads g)) t ht) (tile (laid (O q k v M)) t ht)
        (fun r => column (logsum q k M) t ht 0 r 0) r j * tile (laid q) t ht r l
/-- A tile's part of the gradient of the values. -/
def dvPart (t : ℕ) (ht : t < 32) (j : Fin 2048) (l : Fin 128) : ℝ :=
  ∑ r, Tile.P (tile (laid q) t ht) (seq (laid k) t ht) (fun r => column (logsum q k M) t ht 0 r 0) r j * tile (laid (ctHeads g)) t ht r l

theorem dk_seq (t : ℕ) (h : t < 32) (ht : t % 2 = 1) (j : Fin 2048) (l : Fin 128) :
    dkPart q k v g M (t - 1) (by omega) j l + dkPart q k v g M t h j l = seq (laid (DK q k v g M)) t h j l := by
  unfold dkPart
  simp only [dscores, tile_laid, seq_laid, sq_pred t ht, hd_pred t h ht]
  rw [sum_tiles (fun i => DS q k v g M (sq t) (hd t h) i j * padded (q (sq t) i (hd t h)) l) t ht]
  exact sum_mul_padded _ _ _

theorem dv_seq (t : ℕ) (h : t < 32) (ht : t % 2 = 1) (j : Fin 2048) (l : Fin 128) :
    dvPart q k g M (t - 1) (by omega) j l + dvPart q k g M t h j l = seq (laid (DV q k g M)) t h j l := by
  unfold dvPart
  simp only [probs, tile_laid, seq_laid, sq_pred t ht, hd_pred t h ht]
  rw [sum_tiles (fun i => E q k M (sq t) (hd t h) i j / L q k M (sq t) (hd t h) i * padded (ctHeads g (sq t) i (hd t h)) l) t ht,
    sum_mul_padded]
  unfold DV
  simp only [mul_comm (slab _ _ _ _ _)]

end Cert.Heads
-- ==== Proof.Points.lean ====
/- What each grid point leaves: its block of the gradient of the queries, and in the accumulators the parts of the tiles
   met so far. -/
module

public import proofs.«01_k».proof.Proof.Heads
public import proofs.«01_k».proof.Proof.Gen.KernelIdeal.Value
public import Idealize.ShloMosaic.Lib.Pipeline.ReadBack

@[expose] public section

set_option maxRecDepth 16384

noncomputable section

namespace Cert.Points

open Cert.KernelIdeal Cert.KernelIdeal.Gen Cert.Arrays Cert.RefScores Cert.RefValue Cert.Blocks Cert.Operands Cert.Heads
  Idealize.ShloMosaic Idealize.ShloMosaic.TcCoe

variable (q k : Fin 2 → Fin 2048 → Fin 8 → Fin 96 → ℝ) (v : Fin 2 → Fin 2048 → Fin 8 → Fin 64 → ℝ)
  (g : Fin 2 → Fin 2048 → Fin 512 → ℝ) (M : Fin 2 → Fin 8 → Fin 2048 → ℝ)
  (m : (ℓ : Loc nD τ sig) → Buf (Elt Ideal) ℓ) (c : Dev nD)

/-- The grid's operands are the arrays of numbers the host prepares. -/
structure Operands : Prop where
  q_eq : V m c main_v25 = (num2 (laid q) : FVec Ideal S4096x1024 .bf16)
  kv_eq : V m c main_v22 = (num2 (beside (laid k) (laid v)) : FVec Ideal S4096x2048 .bf16)
  o_eq : V m c main_v28 = (num2 (laid (O q k v M)) : FVec Ideal S4096x1024 .bf16)
  ct_eq : V m c main_v32 = (num2 (laid (ctHeads g)) : FVec Ideal S4096x1024 .bf16)
  lse_eq : V m c main_v15 = (num3 (logsum q k M) : FVec Ideal S8x4096x1 .f32)

variable {q k v g M m c} (h : Operands q k v g M m c)

include h

theorem dq_pay (t : Fin cfg0.N) :
    k0_pay12 (F := Ideal) (iblk m c 0 t) (iblk m c 1 t) (iblk m c 2 t) (iblk m c 4 t) (iblk m c 5 t) (iblk m c 3 t)
      = (num2 (tile (laid (DQ q k v g M)) t (lt t)) : FVec Ideal S1024x128 .f32) := by
  rw [q_blk m c h.q_eq, k_blk m c h.kv_eq, v_blk m c h.kv_eq, do_blk m c h.ct_eq, lse_blk m c h.lse_eq, o_blk m c h.o_eq, column_const]
  refine (Tile.dq_eq _ _ _ _ _ _).trans (congrArg num2 ?_)
  funext r l
  exact dq_tile q k v g M t (lt t) r l

theorem dk_pay (t : Fin cfg0.N) :
    k0_pay13 (F := Ideal) (iblk m c 0 t) (iblk m c 1 t) (iblk m c 2 t) (iblk m c 4 t) (iblk m c 5 t) (iblk m c 3 t)
      = (num2 (dkPart q k v g M t (lt t)) : FVec Ideal S2048x128 .f32) := by
  rw [q_blk m c h.q_eq, k_blk m c h.kv_eq, v_blk m c h.kv_eq, do_blk m c h.ct_eq, lse_blk m c h.lse_eq, o_blk m c h.o_eq, column_const]
  exact Tile.dk_eq _ _ _ _ _ _

theorem dv_pay (t : Fin cfg0.N) :
    k0_pay14 (F := Ideal) (iblk m c 0 t) (iblk m c 1 t) (iblk m c 4 t) (iblk m c 5 t)
      = (num2 (dvPart q k g M t (lt t)) : FVec Ideal S2048x128 .f32) := by
  rw [q_blk m c h.q_eq, k_blk m c h.kv_eq, do_blk m c h.ct_eq, lse_blk m c h.lse_eq, column_const]
  exact Tile.dv_eq _ _ _ _

/-- Every point leaves its block of the gradient of the queries. -/
theorem dq_out (t : Fin cfg0.N) : (outsAt0 m c t.val t.isLt).1 = (num2 (tile (laid (DQ q k v g M)) t (lt t)) : FVec Ideal S1024x128 .f32) := by
  by_cases h0 : t.val % 2 = 0
  · rw [outsAt0_A m c t h0 (by omega) (by omega)]
    frame_out
    exact dq_pay h t
  · rw [outsAt0_B m c t h0 (by omega) (by omega)]
    frame_out
    exact dq_pay h t

omit h in
theorem narrowBlock_eq (x : Fin 2048 → Fin 128 → ℝ) : (truncf .bf16 (num2 x : FVec Ideal S2048x128 .f32) bitsLt_bf16_f32
    : FVec Ideal S2048x128 .bf16) = num2 x := by
  funext j
  idx_vars j
  pointwise

omit h in
theorem add_pay3 (x y : Fin 2048 → Fin 128 → ℝ) : k0_pay3 (F := Ideal) (num2 x) (num2 y : FVec Ideal S2048x128 .f32)
    = (num2 fun j l => y j l + x j l : FVec Ideal S2048x128 .f32) := by
  funext j
  idx_vars j
  pointwise [k0_pay3]
  exact (EReal.coe_add _ _).symm

omit h in
theorem add_pay4 (x y : Fin 2048 → Fin 128 → ℝ) : k0_pay4 (F := Ideal) (num2 x) (num2 y : FVec Ideal S2048x128 .f32)
    = (num2 fun j l => y j l + x j l : FVec Ideal S2048x128 .f32) := by
  funext j
  idx_vars j
  pointwise [k0_pay4]
  exact (EReal.coe_add _ _).symm

/-- A sequence's first point leaves its own part in the accumulator of the keys' gradient. -/
theorem dk_first (t : Fin cfg0.N) (h0 : t.val % 2 = 0) :
    (outsAt0 m c t.val t.isLt).2.2.2.1 = (num2 (dkPart q k v g M t (lt t)) : FVec Ideal S2048x128 .f32) := by
  rw [outsAt0_A m c t h0 (by omega) (by omega)]
  frame_out
  rw [dk_pay h t]
  exact shapeCast_self _ _

theorem dv_first (t : Fin cfg0.N) (h0 : t.val % 2 = 0) :
    (outsAt0 m c t.val t.isLt).2.2.2.2 = (num2 (dvPart q k g M t (lt t)) : FVec Ideal S2048x128 .f32) := by
  rw [outsAt0_A m c t h0 (by omega) (by omega)]
  frame_out
  rw [dv_pay h t]
  exact shapeCast_self _ _

/-- A sequence's second point writes the sum of the two parts. -/
theorem dk_out (t : Fin cfg0.N) (h1 : t.val % 2 = 1) :
    (outsAt0 m c t.val t.isLt).2.1 = (num2 (seq (laid (DK q k v g M)) t (lt t)) : FVec Ideal S2048x128 .bf16) := by
  rw [outsAt0_B m c t (by omega) h1 h1]
  frame_out
  rw [dk_pay h t, dk_first h ⟨t.val - 1, lt_of_le_of_lt (Nat.sub_le _ _) t.isLt⟩ (by show (t.val - 1) % 2 = 0; omega), read_unread_whole, add_pay3]
  refine (narrowBlock_eq _).trans (congrArg num2 ?_)
  funext j l
  exact dk_seq q k v g M t (lt t) h1 j l

theorem dv_out (t : Fin cfg0.N) (h1 : t.val % 2 = 1) :
    (outsAt0 m c t.val t.isLt).2.2.1 = (num2 (seq (laid (DV q k g M)) t (lt t)) : FVec Ideal S2048x128 .bf16) := by
  rw [outsAt0_B m c t (by omega) h1 h1]
  frame_out
  rw [dv_pay h t, dv_first h ⟨t.val - 1, lt_of_le_of_lt (Nat.sub_le _ _) t.isLt⟩ (by show (t.val - 1) % 2 = 0; omega), read_unread_whole, add_pay4]
  refine (narrowBlock_eq _).trans (congrArg num2 ?_)
  funext j l
  exact dv_seq q k g M t (lt t) h1 j l

end Cert.Points
-- ==== Proof.Grads.lean ====
/- The kernel's three results, as arrays of numbers: the gradients of softmax attention. -/
module

public import proofs.«01_k».proof.Proof.Points

@[expose] public section

set_option maxRecDepth 16384

noncomputable section

namespace Cert.Grads

open Cert.KernelIdeal Cert.KernelIdeal.Gen Cert.Arrays Cert.RefScores Cert.RefValue Cert.Blocks Cert.Operands Cert.Heads Cert.Points
  Idealize.ShloMosaic Idealize.ShloMosaic.TcCoe

variable {q k : Fin 2 → Fin 2048 → Fin 8 → Fin 96 → ℝ} {v : Fin 2 → Fin 2048 → Fin 8 → Fin 64 → ℝ}
  {g : Fin 2 → Fin 2048 → Fin 512 → ℝ} {M : Fin 2 → Fin 8 → Fin 2048 → ℝ}
  {m : (ℓ : Loc nD τ sig) → Buf (Elt Ideal) ℓ} {c : Dev nD} (h : Operands q k v g M m c)

theorem flush7 : ∀ t : Fin cfg0.N, (cfg0.win 7).flush t = true → t.val % 2 = 1 := (by decide +kernel : ∀ t : Fin grid0.N, _)
theorem flush8 : ∀ t : Fin cfg0.N, (cfg0.win 8).flush t = true → t.val % 2 = 1 := (by decide +kernel : ∀ t : Fin grid0.N, _)

theorem tile_at {φ : FTy} (x : Fin 4096 → Fin 1024 → ℝ) (t : ℕ) (ht : t < 32) (y : S1024x128.Idx) (j : S4096x1024.Idx)
    (h0 : (j 0).val = t % 4 * 1024 + (y 0).val) (h1 : (j 1).val = t / 4 * 128 + (y 1).val) :
    (num2 (tile x t ht) : FVec Ideal S1024x128 φ) y = (num2 x : FVec Ideal S4096x1024 φ) j :=
  (num2_at x j _ _ h0 h1).symm

theorem seq_at {φ : FTy} (x : Fin 4096 → Fin 1024 → ℝ) (t : ℕ) (ht : t < 32) (y : S2048x128.Idx) (j : S4096x1024.Idx)
    (h0 : (j 0).val = t / 2 % 2 * 2048 + (y 0).val) (h1 : (j 1).val = t / 4 * 128 + (y 1).val) :
    (num2 (seq x t ht) : FVec Ideal S2048x128 φ) y = (num2 x : FVec Ideal S4096x1024 φ) j :=
  (num2_at x j _ _ h0 h1).symm

include h

theorem dq : (dats m 0 c).arrAt 6 cfg0.N = (num2 (laid (DQ q k v g M)) : FVec Ideal S4096x1024 .f32) := by
  refine (dats m 0 c).arrAt_eq_of_covers 6 _ (by decide +kernel) fun t hf y => ?_
  blk_simp
  rw [after0_6, dq_out h t]
  refine tile_at (φ := .f32) _ t.val (lt t) y ((win0_6.blk t).view.emb y) ?_ ?_
  · blk_simp [idx6 t]
  · blk_simp [idx6 t]

theorem dk : (dats m 0 c).arrAt 7 cfg0.N = (num2 (laid (DK q k v g M)) : FVec Ideal S4096x1024 .bf16) := by
  refine (dats m 0 c).arrAt_eq_of_covers 7 _ (by decide +kernel) fun t hf y => ?_
  blk_simp
  rw [after0_7, dk_out h t (flush7 t hf)]
  refine seq_at (φ := .bf16) _ t.val (lt t) y ((win0_7.blk t).view.emb y) ?_ ?_
  · blk_simp [idx7 t]
  · blk_simp [idx7 t]

theorem dv : (dats m 0 c).arrAt 8 cfg0.N = (num2 (laid (DV q k g M)) : FVec Ideal S4096x1024 .bf16) := by
  refine (dats m 0 c).arrAt_eq_of_covers 8 _ (by decide +kernel) fun t hf y => ?_
  blk_simp
  rw [after0_8, dv_out h t (flush8 t hf)]
  refine seq_at (φ := .bf16) _ t.val (lt t) y ((win0_8.blk t).view.emb y) ?_ ?_
  · blk_simp [idx8 t]
  · blk_simp [idx8 t]

end Cert.Grads
-- ==== Proof.Finite.lean ====
/- The precondition read back: where it holds, every argument is an array of numbers. -/
module

public import proofs.«01_k».proof.Defs
public import proofs.«01_k».proof.Proof.Arrays
public import Idealize.ShloMosaic.Lib.ReduceAll

@[expose] public section

set_option maxRecDepth 16384

noncomputable section

namespace Cert.Finite

open Cert.Pre_finite Cert.Arrays Idealize.ShloMosaic

/-- The predicate's shape relations. -/
theorem facts : Cert.Pre_finite.Facts where
  bcast_S_S2x2048x8x96 := by decide
  reducesTo_S2x2048x8x96_S_d0_1_2_3 := by decide
  h_S_ := by decide
  bcast_S_S2x2048x8x64 := by decide
  reducesTo_S2x2048x8x64_S_d0_1_2_3 := by decide
  bcast_S_S2x2048x512 := by decide
  reducesTo_S2x2048x512_S_d0_1_2 := by decide

instance : Subsingleton S_.Idx := ⟨fun a b => funext fun i => i.elim0⟩

theorem all_numeric {s : Shape} {axes : List (Fin s.rank)} (x : FVec Ideal s .f32) (hb : S_.BroadcastsInDim s (![] : Fin 0 → Fin s.rank))
    (hr : s.ReducesTo axes S_) (hu : 0 < S_.numel) (j : S_.Idx)
    (h : Host.reduce IntOp.andi (cmpf .olt (Host.absf x) (broadcastInDim s ![] hb (constant (F := Ideal) S_ .f32 0x7F800000#32)))
      (constantI S_ 1 1#1) hr hu j = 1#1) : Numeric x :=
  numeric_of_abs_lt (u := S_) x _ (fun _ => ofBits_top) fun i => Host.reduce_andi_all _ _ hr hu j h i

theorem numeric [Cert.Pre_finite.Facts] (a b : FVec Ideal S2x2048x8x96 .f32) (c : FVec Ideal S2x2048x8x64 .f32) (d : FVec Ideal S2x2048x512 .f32)
    (h : Cert.Pre_finite.fn (F := Ideal) a b c d = fun _ => 1#1) : Numeric a ∧ Numeric b ∧ Numeric c ∧ Numeric d := by
  have h0 := congrFun h (fun i => i.elim0)
  unfold Cert.Pre_finite.fn Cert.Pre_finite.fn_part1 at h0
  obtain ⟨h0, hd⟩ := (IntOp.andi_eq_one).1 h0
  obtain ⟨h0, hc⟩ := (IntOp.andi_eq_one).1 h0
  obtain ⟨ha, hb⟩ := (IntOp.andi_eq_one).1 h0
  exact ⟨all_numeric a _ _ _ _ ha, all_numeric b _ _ _ _ hb, all_numeric c _ _ _ _ hc, all_numeric d _ _ _ _ hd⟩

end Cert.Finite
-- ==== Proof.Grids.lean ====
/- Arrays of extended reals written as functions of their coordinates, read at an index. -/
module

public import proofs.«01_k».proof.Proof.Arrays
public import Idealize.ShloMosaic.Lib.Pipeline.ValueKit
public import Idealize.ShloMosaic.Lib.Claim

@[expose] public section

set_option maxRecDepth 16384

noncomputable section

open Idealize.ShloMosaic

namespace Cert.Grids

variable {a b c : ℕ} {φ : FTy}

/-- A one-axis array. -/
def ext1 (f : Fin a → EReal) : FVec Ideal ⟨1, ![a]⟩ φ := fun j => f (j 0)
/-- A two-axis array. -/
def ext2 (f : Fin a → Fin b → EReal) : FVec Ideal ⟨2, ![a, b]⟩ φ := fun j => f (j 0) (j 1)
/-- A three-axis array. -/
def ext3 (f : Fin a → Fin b → Fin c → EReal) : FVec Ideal ⟨3, ![a, b, c]⟩ φ := fun j => f (j 0) (j 1) (j 2)

@[pointwise] theorem ext1_apply (f : Fin a → EReal) (i : Fin a) : ext1 (φ := φ) f (ix1 i) = f i := rfl
@[pointwise] theorem ext2_apply (f : Fin a → Fin b → EReal) (i : Fin a) (j : Fin b) : ext2 (φ := φ) f (ix2 i j) = f i j := rfl
@[pointwise] theorem ext3_apply (f : Fin a → Fin b → Fin c → EReal) (i : Fin a) (j : Fin b) (k : Fin c) :
    ext3 (φ := φ) f (ix3 i j k) = f i j k := rfl

theorem exists_ext1 (x : FVec Ideal ⟨1, ![a]⟩ φ) : ∃ f, x = ext1 f :=
  ⟨fun i => x (ix1 i), funext fun y => congrArg x (by funext t; fin_cases t; rfl)⟩
theorem exists_ext2 (x : FVec Ideal ⟨2, ![a, b]⟩ φ) : ∃ f, x = ext2 f :=
  ⟨fun i j => x (ix2 i j), funext fun y => congrArg x (by funext t; fin_cases t <;> rfl)⟩
theorem exists_ext3 (x : FVec Ideal ⟨3, ![a, b, c]⟩ φ) : ∃ f, x = ext3 f :=
  ⟨fun i j k => x (ix3 i j k), funext fun y => congrArg x (by funext t; fin_cases t <;> rfl)⟩

/-- An array read at an index whose coordinates are known. -/
theorem ext2_at (x : Fin a → Fin b → EReal) (j : (⟨2, ![a, b]⟩ : Shape).Idx) (i : Fin a) (k : Fin b)
    (h0 : (j 0).val = i.val) (h1 : (j 1).val = k.val) : (ext2 x : FVec Ideal ⟨2, ![a, b]⟩ φ) j = x i k := by
  rw [show i = j 0 from Fin.ext h0.symm, show k = j 1 from Fin.ext h1.symm]
  rfl
theorem ext3_at (x : Fin a → Fin b → Fin c → EReal) (j : (⟨3, ![a, b, c]⟩ : Shape).Idx) (i : Fin a) (k : Fin b) (l : Fin c)
    (h0 : (j 0).val = i.val) (h1 : (j 1).val = k.val) (h2 : (j 2).val = l.val) :
    (ext3 x : FVec Ideal ⟨3, ![a, b, c]⟩ φ) j = x i k l := by
  rw [show i = j 0 from Fin.ext h0.symm, show k = j 1 from Fin.ext h1.symm, show l = j 2 from Fin.ext h2.symm]
  rfl

/-- The rows of two sequences of 2048 tokens, one after the other. -/
def flat {α : Type} (x : Fin 2 → Fin 2048 → Fin b → α) (t : Fin 4096) (j : Fin b) : α := x ⟨t / 2048, by omega⟩ ⟨t % 2048, by omega⟩ j

/-- The block of rows and columns that starts at row `r₀` and column `c₀`. -/
def block {p q : ℕ} {α : Type} (x : Fin a → Fin b → α) (r₀ c₀ : ℕ) (hr : r₀ + p ≤ a) (hc : c₀ + q ≤ b) (i : Fin p) (j : Fin q) : α :=
  x ⟨r₀ + i, by omega⟩ ⟨c₀ + j, by omega⟩

end Cert.Grids
-- ==== Proof.MlpDownWeight.lean ====
/- The gradient of the second weight of the squared-rectifier block: the squared hidden values against the cotangent of the
   block's result, summed over the tokens in two halves. -/
module

public import proofs.«01_k».proof.Proof.Grids
public import proofs.«01_k».proof.Proof.Gen.Kernel3Ideal.Value
public import proofs.«01_k».proof.Proof.Gen.Reference3Ideal
public import proofs.«01_k».proof.Proof.Gen.Reference3Ideal.Run
public import Idealize.ShloMosaic.Lib.Pipeline.ReadBack

@[expose] public section

set_option maxRecDepth 16384

noncomputable section

namespace Cert.MlpDownWeight

open Cert.Grids Idealize.ShloMosaic Idealize.ShloMosaic.TcCoe Idealize.SL.Sem

section Math

/-- A sum over two runs of 2048 is the sum over both. -/
theorem sum_halves (f : Fin 4096 → EReal) :
    ∑ t, f t = ∑ r : Fin 2048, f ⟨r, by omega⟩ + ∑ r : Fin 2048, f ⟨2048 + r, by omega⟩ :=
  Fin.sum_univ_add (a := 2048) (b := 2048) f

/-- The rows of a sum over sequences and tokens. -/
theorem sum_flat (f : Fin 2 → Fin 2048 → EReal) :
    ∑ b, ∑ i, f b i = ∑ t : Fin 4096, f ⟨t / 2048, by omega⟩ ⟨t % 2048, by omega⟩ := by
  rw [sum_halves, Fin.sum_univ_two]
  congr 1

variable (u : Fin 2 → Fin 2048 → Fin 4096 → EReal) (g : Fin 2 → Fin 2048 → Fin 1024 → EReal)

/-- The gradient: a feature a row. -/
def grad (f : Fin 4096) (d : Fin 1024) : EReal := ∑ t, flat u t f * flat u t f * flat g t d

end Math

section Reference

open Cert.Reference3Ideal Cert.Reference3Ideal.Gen

variable (u : Fin 2 → Fin 2048 → Fin 4096 → EReal) (g : Fin 2 → Fin 2048 → Fin 1024 → EReal)

theorem reference_eq : (truncf .bf16 (transpose S4096x1024 [1, 0] (Host.dotGeneral dot_S2x2048x1024_S2x2048x4096_S1024x4096_01_01_2_2_n_n none
      (ext3 g : FVec Ideal S2x2048x1024 .f32) (mulf (ext3 u : FVec Ideal S2x2048x4096 .f32) (ext3 u)) : FVec Ideal S1024x4096 .f32)
      transposes_S1024x4096_S4096x1024_1_0 : FVec Ideal S4096x1024 .f32) bitsLt_bf16_f32 : FVec Ideal S4096x1024 .bf16) = ext2 (grad u g) := by
  funext j
  idx_vars j
  pointwise
  refine (sum_flat _).trans ?_
  exact Finset.sum_congr rfl fun t _ => mul_comm _ _

theorem reference_run (m : (ℓ : Loc nD τ sig) → Buf (Elt Ideal) ℓ) (ρ : Dev nD → PrngReg)
    (hu : ∀ c : Dev nD, m ((c.tc : Thread nD τ).loc main_arg0) = (ext3 u : FVec Ideal S2x2048x4096 .f32))
    (hg : ∀ c : Dev nD, m ((c.tc : Thread nD τ).loc main_arg1) = (ext3 g : FVec Ideal S2x2048x1024 .f32)) :
    θ_run defs (onTc (τ := τ) (main (F := Ideal))) ⟨m, fun _ => 0, ρ⟩ fun r => ∀ c : Dev nD,
      r.2.mem ((c.tc : Thread nD τ).loc main_v3) = (ext2 (grad u g) : FVec Ideal S4096x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
    refine ⟨(h c).1.trans ?_, (h c).2⟩
    rw [hu, hg]
    exact reference_eq u g) (Value.run m ρ)

/-- The reference's frame: its run leaves the arguments alone, and the program declares no semaphore. -/
theorem reference_frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, sem_eq_zero_of_no_sems (by decide) r.2⟩) (Value.run (F := Ideal) m ρ)

end Reference

open Cert.Kernel3Ideal Cert.Kernel3Ideal.Gen

variable (u : Fin 2 → Fin 2048 → Fin 4096 → EReal) (g : Fin 2 → Fin 2048 → Fin 1024 → EReal)

/-- A block's part of the gradient. -/
def part (U G : Fin 2048 → Fin 1024 → EReal) (f d : Fin 1024) : EReal := ∑ r, U r f * U r f * G r d

theorem first_eq (U G : Fin 2048 → Fin 1024 → EReal) :
    k0_pay2 (F := Ideal) (ext2 U : FVec Ideal S2048x1024 .bf16) (ext2 G : FVec Ideal S2048x1024 .f32) = (ext2 (part U G) : FVec Ideal S1024x1024 .f32) := by
  funext j
  idx_vars j
  pointwise [k0_pay2, k0_pay1]
  rfl

theorem next_eq (U G : Fin 2048 → Fin 1024 → EReal) (A : Fin 1024 → Fin 1024 → EReal) :
    k0_pay3 (F := Ideal) (ext2 U : FVec Ideal S2048x1024 .bf16) (ext2 G : FVec Ideal S2048x1024 .f32) (ext2 A : FVec Ideal S1024x1024 .f32)
      = (ext2 fun f d => A f d + part U G f d : FVec Ideal S1024x1024 .f32) := by
  funext j
  idx_vars j
  pointwise [k0_pay3, k0_pay1]
  rfl

theorem last_eq (A : Fin 1024 → Fin 1024 → EReal) :
    k0_pay4 (F := Ideal) (ext2 A : FVec Ideal S1024x1024 .f32) = (ext2 A : FVec Ideal S1024x1024 .bf16) := by
  funext j
  idx_vars j
  pointwise [k0_pay4]

variable (m : (ℓ : Loc nD τ sig) → Buf (Elt Ideal) ℓ) (c : Dev nD)

theorem u_eq (h : m ((c.tc : Thread nD τ).loc main_arg0) = (ext3 u : FVec Ideal S2x2048x4096 .f32)) :
    V m c main_v1 = (ext2 (flat u) : FVec Ideal S4096x4096 .bf16) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp
  rw [show m (c, Proc.tc.devRef main_arg0) = _ from h]
  funext j
  idx_vars j
  pointwise
  rfl

theorem ct_eq (h : m ((c.tc : Thread nD τ).loc main_arg1) = (ext3 g : FVec Ideal S2x2048x1024 .f32)) :
    V m c main_v2 = (ext2 (flat g) : FVec Ideal S4096x1024 .f32) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp
  rw [show m (c, Proc.tc.devRef main_arg1) = _ from h]
  funext j
  idx_vars j
  pointwise
  rfl

theorem idx0 : ∀ t : Fin cfg0.N, win0_0.index t = ![t.val % 2, t.val / 2] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![t.val / 2, 0] := (by decide +kernel : ∀ t : Fin grid0.N, _)

theorem lt (t : Fin cfg0.N) : t.val < 8 := lt_of_lt_of_eq t.isLt (show cfg0.N = 8 from N_0)

/-- The half of the tokens and the block of features a grid point meets. -/
def half (x : Fin 4096 → Fin 4096 → EReal) (t : ℕ) (ht : t < 8) (r : Fin 2048) (f : Fin 1024) : EReal :=
  x ⟨t % 2 * 2048 + r, by omega⟩ ⟨t / 2 * 1024 + f, by omega⟩
/-- The half of the cotangent. -/
def halfCt (x : Fin 4096 → Fin 1024 → EReal) (t : ℕ) (r : Fin 2048) (d : Fin 1024) : EReal := x ⟨t % 2 * 2048 + r, by omega⟩ d
/-- The block of features it writes. -/
def tile (x : Fin 4096 → Fin 1024 → EReal) (t : ℕ) (ht : t < 8) (f d : Fin 1024) : EReal := x ⟨t / 2 * 1024 + f, by omega⟩ d

theorem u_blk {x : Fin 4096 → Fin 4096 → EReal} (h : V m c main_v1 = (ext2 x : FVec Ideal S4096x4096 .bf16)) (t : Fin cfg0.N) :
    iblk m c 0 t = (ext2 (half x t (lt t)) : FVec Ideal S2048x1024 .bf16) := by
  funext y
  idx_vars y
  blk_simp [iblk]
  rw [h]
  refine ext2_at x _ _ _ ?_ ?_ <;> blk_simp [idx0 t]

theorem ct_blk {x : Fin 4096 → Fin 1024 → EReal} (h : V m c main_v2 = (ext2 x : FVec Ideal S4096x1024 .f32)) (t : Fin cfg0.N) :
    iblk m c 1 t = (ext2 (halfCt x t) : FVec Ideal S2048x1024 .f32) := by
  funext y
  idx_vars y
  blk_simp [iblk]
  rw [h]
  refine ext2_at x _ _ _ ?_ ?_ <;> blk_simp [idx1 t]

theorem tile_at {φ : FTy} (x : Fin 4096 → Fin 1024 → EReal) (t : ℕ) (ht : t < 8) (y : S1024x1024.Idx) (j : S4096x1024.Idx)
    (h0 : (j 0).val = t / 2 * 1024 + (y 0).val) (h1 : (j 1).val = (y 1).val) :
    (ext2 (tile x t ht) : FVec Ideal S1024x1024 φ) y = (ext2 x : FVec Ideal S4096x1024 φ) j :=
  (ext2_at x j _ _ h0 h1).symm

/-- Two halves make the sum. -/
theorem parts (t : ℕ) (ht : t < 8) (h1 : t % 2 = 1) (f d : Fin 1024) :
    part (half (flat u) (t - 1) (by omega)) (halfCt (flat g) (t - 1)) f d + part (half (flat u) t ht) (halfCt (flat g) t) f d = tile (grad u g) t ht f d := by
  unfold tile grad
  rw [sum_halves]
  unfold part half halfCt
  have e0 : (t - 1) / 2 = t / 2 := by omega
  have e1 : (t - 1) % 2 = 0 := by omega
  simp only [e0, e1, h1, Nat.zero_mul, Nat.one_mul, Nat.zero_add]

variable {u g m c} (hu : m ((c.tc : Thread nD τ).loc main_arg0) = (ext3 u : FVec Ideal S2x2048x4096 .f32))
  (hg : m ((c.tc : Thread nD τ).loc main_arg1) = (ext3 g : FVec Ideal S2x2048x1024 .f32))

include hu hg

theorem first (t : Fin cfg0.N) (h0 : t.val % 2 = 0) :
    (outsAt0 m c t.val t.isLt).2 = (ext2 (part (half (flat u) t (lt t)) (halfCt (flat g) t)) : FVec Ideal S1024x1024 .f32) := by
  rw [outsAt0_A m c t h0 (by omega) (by omega)]
  frame_out
  rw [u_blk m c (u_eq u m c hu), ct_blk m c (ct_eq g m c hg), first_eq]

theorem out (t : Fin cfg0.N) (h1 : t.val % 2 = 1) :
    (outsAt0 m c t.val t.isLt).1 = (ext2 (tile (grad u g) t (lt t)) : FVec Ideal S1024x1024 .bf16) := by
  rw [outsAt0_B m c t (by omega) h1 h1]
  frame_out
  rw [u_blk m c (u_eq u m c hu), ct_blk m c (ct_eq g m c hg),
    first hu hg ⟨t.val - 1, lt_of_le_of_lt (Nat.sub_le _ _) t.isLt⟩ (by show (t.val - 1) % 2 = 0; omega), read_unread_whole, next_eq, last_eq]
  refine congrArg ext2 ?_
  funext f d
  exact parts u g t (lt t) h1 f d

omit hu hg in
theorem flush2 : ∀ t : Fin cfg0.N, (cfg0.win 2).flush t = true → t.val % 2 = 1 := (by decide +kernel : ∀ t : Fin grid0.N, _)

theorem final : (dats m 0 c).arrAt 2 cfg0.N = (ext2 (grad u g) : FVec Ideal S4096x1024 .bf16) := by
  refine (dats m 0 c).arrAt_eq_of_covers 2 _ (by decide +kernel) fun t hf y => ?_
  blk_simp
  rw [after0_2, out hu hg t (flush2 t hf)]
  refine tile_at (φ := .bf16) _ t.val (lt t) y ((win0_2.blk t).view.emb y) ?_ ?_ <;> blk_simp [idx2 t]

end Cert.MlpDownWeight
-- ==== Proof.MlpHidden.lean ====
/- The gradient of the squared rectifier's argument: the cotangent of the block's result through the second product, times
   twice the rectified value. -/
module

public import proofs.«01_k».proof.Proof.Grids
public import proofs.«01_k».proof.Proof.Gen.Kernel4Ideal.Value
public import proofs.«01_k».proof.Proof.Gen.Reference4Ideal
public import proofs.«01_k».proof.Proof.Gen.Reference4Ideal.Run

@[expose] public section

set_option maxRecDepth 16384

noncomputable section

namespace Cert.MlpHidden

open Cert.Grids Idealize.ShloMosaic Idealize.ShloMosaic.TcCoe Idealize.SL.Sem

section Math

variable (s : Fin 2 → Fin 2048 → Fin 4096 → EReal) (w : Fin 4096 → Fin 1024 → EReal) (g : Fin 2 → Fin 2048 → Fin 1024 → EReal)

/-- The gradient, a row a token. -/
def grad (t : Fin 4096) (f : Fin 4096) : EReal := (∑ d, flat g t d * w f d) * (2 * max (flat s t f) 0)

theorem two : Ideal.ofBits .f32 0x40000000#32 = 2 := by
  simp [Ideal.ofBits, Ideal.ieee]
  rw [← EReal.coe_mul]
  norm_num
  rfl

/-- Twice a product, as the sum of its two orders. -/
theorem relu_square (x y : EReal) : (if 0 < x then max x 0 * y + y * max x 0 else 0) = y * (2 * max x 0) := by
  split
  · rename_i h
    have two_mul : ∀ z : EReal, 2 * z = z + z := fun z => by
      rw [← one_add_one_eq_two, EReal.right_distrib_of_nonneg zero_le_one zero_le_one, one_mul]
    rw [mul_comm (max x 0) y, ← two_mul, mul_left_comm]
  · rename_i h
    rw [max_eq_right (not_lt.mp h), mul_zero, mul_zero]

end Math

section Reference

open Cert.Reference4Ideal Cert.Reference4Ideal.Gen

variable (s : Fin 2 → Fin 2048 → Fin 4096 → EReal) (w : Fin 4096 → Fin 1024 → EReal) (g : Fin 2 → Fin 2048 → Fin 1024 → EReal)

theorem zeros_eq : (broadcastInDim S2x2048x4096 ![] bcast_S_S2x2048x4096 (constant S_ .f32 0x00000000#32) : FVec Ideal S2x2048x4096 .f32)
    = ext3 fun _ _ _ => 0 := by
  funext j
  idx_vars j
  pointwise

theorem through_eq : (Host.dotGeneral dot_S2x2048x1024_S4096x1024_S2x2048x4096_2_1_01_0_n_n none (ext3 g : FVec Ideal S2x2048x1024 .f32)
    (ext2 w : FVec Ideal S4096x1024 .f32) : FVec Ideal S2x2048x4096 .f32) = ext3 fun b t f => ∑ d, g b t d * w f d := by
  funext j
  idx_vars j
  pointwise

/-- The rectifier's derivative selects where the argument is positive. -/
theorem reference_eq : (truncf .bf16 (shapeCast S4096x4096 (select (cmpf .ogt (ext3 s : FVec Ideal S2x2048x4096 .f32) (ext3 fun _ _ _ => 0))
      (addf (mulf (maximumf (ext3 s) (ext3 fun _ _ _ => 0)) (Host.dotGeneral dot_S2x2048x1024_S4096x1024_S2x2048x4096_2_1_01_0_n_n none
        (ext3 g : FVec Ideal S2x2048x1024 .f32) (ext2 w : FVec Ideal S4096x1024 .f32)))
        (mulf (Host.dotGeneral dot_S2x2048x1024_S4096x1024_S2x2048x4096_2_1_01_0_n_n none (ext3 g : FVec Ideal S2x2048x1024 .f32)
          (ext2 w : FVec Ideal S4096x1024 .f32)) (maximumf (ext3 s) (ext3 fun _ _ _ => 0)))) (ext3 fun _ _ _ => 0))
      shapeCasts_S2x2048x4096_S4096x4096 : FVec Ideal S4096x4096 .f32) bitsLt_bf16_f32 : FVec Ideal S4096x4096 .bf16) = ext2 (grad s w g) := by
  rw [through_eq]
  funext j
  idx_vars j
  pointwise
  exact relu_square _ _

theorem reference_run (m : (ℓ : Loc nD τ sig) → Buf (Elt Ideal) ℓ) (ρ : Dev nD → PrngReg)
    (hs : ∀ c : Dev nD, m ((c.tc : Thread nD τ).loc main_arg0) = (ext3 s : FVec Ideal S2x2048x4096 .f32))
    (hw : ∀ c : Dev nD, m ((c.tc : Thread nD τ).loc main_arg1) = (ext2 w : FVec Ideal S4096x1024 .f32))
    (hg : ∀ c : Dev nD, m ((c.tc : Thread nD τ).loc main_arg2) = (ext3 g : FVec Ideal S2x2048x1024 .f32)) :
    θ_run defs (onTc (τ := τ) (main (F := Ideal))) ⟨m, fun _ => 0, ρ⟩ fun r => ∀ c : Dev nD,
      r.2.mem ((c.tc : Thread nD τ).loc main_v13) = (ext2 (grad s w g) : FVec Ideal S4096x4096 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
    refine ⟨(h c).1.trans ?_, (h c).2⟩
    rw [hs, hw, hg, zeros_eq]
    exact reference_eq s w g) (Value.run m ρ)

/-- The reference's frame: its run leaves the arguments alone, and the program declares no semaphore. -/
theorem reference_frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run defs _ _).mono (fun r h => ⟨fun c => (h c).2, sem_eq_zero_of_no_sems (by decide) r.2⟩) (Value.run (F := Ideal) m ρ)

end Reference

open Cert.Kernel4Ideal Cert.Kernel4Ideal.Gen

variable (s : Fin 2 → Fin 2048 → Fin 4096 → EReal) (w : Fin 4096 → Fin 1024 → EReal) (g : Fin 2 → Fin 2048 → Fin 1024 → EReal)

theorem pay_eq (A : Fin 512 → Fin 1024 → EReal) (B : Fin 2048 → Fin 1024 → EReal) (U : Fin 512 → Fin 2048 → EReal) :
    k0_pay1 (F := Ideal) (ext2 A : FVec Ideal S512x1024 .f32) (ext2 B : FVec Ideal S2048x1024 .bf16) (ext2 U : FVec Ideal S512x2048 .bf16)
      = (ext2 fun r c => (∑ d, A r d * B c d) * (2 * U r c) : FVec Ideal S512x2048 .bf16) := by
  funext j
  idx_vars j
  pointwise [k0_pay1]
  rw [two]

variable (m : (ℓ : Loc nD τ sig) → Buf (Elt Ideal) ℓ) (c : Dev nD)

theorem ct_eq (h : m ((c.tc : Thread nD τ).loc main_arg2) = (ext3 g : FVec Ideal S2x2048x1024 .f32)) :
    V m c main_v1 = (ext2 (flat g) : FVec Ideal S4096x1024 .f32) := by
  simp only [V, hostOps0, hostOps0_1, List.flatten_cons, List.flatten_nil, List.append_nil, List.cons_append, List.nil_append, StableHlo.TRef.nullary, StableHlo.TRef.binary, StableHlo.TRef.unary, StableHlo.TRef.toBuf, StableHlo.TRef.ofBuf, cast_eq]
  after_results_simp
  rw [show m (c, Proc.tc.devRef main_arg2) = _ from h]
  funext j
  idx_vars j
  pointwise
  rfl

theorem w_eq (h : m ((c.tc : Thread nD τ).loc main_arg1) = (ext2 w : FVec Ideal S4096x1024 .f32)) :
    V m c main_v2 = (ext2 w : FVec Ideal S4096x1024 .bf16) := by
  simp only [V, hostOps0, hostOps0_1, List.flatten_cons, List.flatten_nil, List.append_nil, List.cons_append, List.nil_append, StableHlo.TRef.nullary, StableHlo.TRef.binary, StableHlo.TRef.unary, StableHlo.TRef.toBuf, StableHlo.TRef.ofBuf, cast_eq]
  after_results_simp
  rw [show m (c, Proc.tc.devRef main_arg1) = _ from h]
  funext j
  idx_vars j
  pointwise

theorem u_eq (h : m ((c.tc : Thread nD τ).loc main_arg0) = (ext3 s : FVec Ideal S2x2048x4096 .f32)) :
    V m c main_v4 = (ext2 fun t f => max (flat s t f) 0 : FVec Ideal S4096x4096 .bf16) := by
  simp only [V, hostOps0, hostOps0_1, List.flatten_cons, List.flatten_nil, List.append_nil, List.cons_append, List.nil_append, StableHlo.TRef.nullary, StableHlo.TRef.binary, StableHlo.TRef.unary, StableHlo.TRef.toBuf, StableHlo.TRef.ofBuf, cast_eq]
  after_results_simp
  rw [show m (c, Proc.tc.devRef main_arg0) = _ from h]
  funext j
  idx_vars j
  pointwise
  rfl

theorem idx0 : ∀ t : Fin cfg0.N, win0_0.index t = ![t.val % 8, 0] := (by decide +kernel : ∀ t : Fin grid0.N, _)
theorem idx1 : ∀ t : Fin cfg0.N, win0_1.index t = ![t.val / 8, 0] := (by decide +kernel : ∀ t : Fin grid0.N, _)
theorem idx2 : ∀ t : Fin cfg0.N, win0_2.index t = ![t.val % 8, t.val / 8] := (by decide +kernel : ∀ t : Fin grid0.N, _)
theorem idx3 : ∀ t : Fin cfg0.N, win0_3.index t = ![t.val % 8, t.val / 8] := (by decide +kernel : ∀ t : Fin grid0.N, _)

theorem lt (t : Fin cfg0.N) : t.val < 16 := lt_of_lt_of_eq t.isLt (show cfg0.N = 16 from N_0)

/-- The rows a grid point meets. -/
def rows {n : ℕ} (x : Fin 4096 → Fin n → EReal) (t : ℕ) (r : Fin 512) (d : Fin n) : EReal := x ⟨t % 8 * 512 + r, by omega⟩ d
/-- The features it meets. -/
def feats (x : Fin 4096 → Fin 1024 → EReal) (t : ℕ) (ht : t < 16) (f : Fin 2048) (d : Fin 1024) : EReal := x ⟨t / 8 * 2048 + f, by omega⟩ d
/-- The tile of rows and features it meets. -/
def tile (x : Fin 4096 → Fin 4096 → EReal) (t : ℕ) (ht : t < 16) (r : Fin 512) (f : Fin 2048) : EReal :=
  x ⟨t % 8 * 512 + r, by omega⟩ ⟨t / 8 * 2048 + f, by omega⟩

theorem ct_blk {x : Fin 4096 → Fin 1024 → EReal} (h : V m c main_v1 = (ext2 x : FVec Ideal S4096x1024 .f32)) (t : Fin cfg0.N) :
    iblk m c 0 t = (ext2 (rows x t) : FVec Ideal S512x1024 .f32) := by
  funext y
  idx_vars y
  blk_simp [iblk]
  rw [h]
  refine ext2_at x _ _ _ ?_ ?_ <;> blk_simp [idx0 t]

theorem w_blk {x : Fin 4096 → Fin 1024 → EReal} (h : V m c main_v2 = (ext2 x : FVec Ideal S4096x1024 .bf16)) (t : Fin cfg0.N) :
    iblk m c 1 t = (ext2 (feats x t (lt t)) : FVec Ideal S2048x1024 .bf16) := by
  funext y
  idx_vars y
  blk_simp [iblk]
  rw [h]
  refine ext2_at x _ _ _ ?_ ?_ <;> blk_simp [idx1 t]

theorem u_blk {x : Fin 4096 → Fin 4096 → EReal} (h : V m c main_v4 = (ext2 x : FVec Ideal S4096x4096 .bf16)) (t : Fin cfg0.N) :
    iblk m c 2 t = (ext2 (tile x t (lt t)) : FVec Ideal S512x2048 .bf16) := by
  funext y
  idx_vars y
  blk_simp [iblk]
  rw [h]
  refine ext2_at x _ _ _ ?_ ?_ <;> blk_simp [idx2 t]

theorem tile_at {φ : FTy} (x : Fin 4096 → Fin 4096 → EReal) (t : ℕ) (ht : t < 16) (y : S512x2048.Idx) (j : S4096x4096.Idx)
    (h0 : (j 0).val = t % 8 * 512 + (y 0).val) (h1 : (j 1).val = t / 8 * 2048 + (y 1).val) :
    (ext2 (tile x t ht) : FVec Ideal S512x2048 φ) y = (ext2 x : FVec Ideal S4096x4096 φ) j :=
  (ext2_at x j _ _ h0 h1).symm

variable {s w g m c} (hs : m ((c.tc : Thread nD τ).loc main_arg0) = (ext3 s : FVec Ideal S2x2048x4096 .f32))
  (hw : m ((c.tc : Thread nD τ).loc main_arg1) = (ext2 w : FVec Ideal S4096x1024 .f32))
  (hg : m ((c.tc : Thread nD τ).loc main_arg2) = (ext3 g : FVec Ideal S2x2048x1024 .f32))

include hs hw hg

theorem out (t : Fin cfg0.N) : out0_3 (iblk m c 0 t) (iblk m c 1 t) (iblk m c 2 t)
    = (ext2 (tile (grad s w g) t (lt t)) : FVec Ideal S512x2048 .bf16) := by
  frame_out
  rw [ct_blk m c (ct_eq g m c hg), w_blk m c (w_eq w m c hw), u_blk m c (u_eq s m c hs), pay_eq]
  rfl

theorem final : (dats m 0 c).arrAt 3 cfg0.N = (ext2 (grad s w g) : FVec Ideal S4096x4096 .bf16) := by
  refine (dats m 0 c).arrAt_eq_of_covers 3 _ (by decide +kernel) fun t hf y => ?_
  blk_simp
  rw [after0_3, out hs hw hg t]
  refine tile_at (φ := .bf16) _ t.val (lt t) y ((win0_3.blk t).view.emb y) ?_ ?_ <;> blk_simp [idx3 t]

end Cert.MlpHidden
-- ==== Proof.MlpUpWeight.lean ====
/- The gradient of the first weight of the squared-rectifier block: the block's normed input against the cotangent of the
   features, summed over the tokens, a slot for every 1024 features. -/
module

public import proofs.«01_k».proof.Proof.MlpDownWeight
public import proofs.«01_k».proof.Proof.Gen.Kernel5Ideal.Value
public import proofs.«01_k».proof.Proof.Gen.Reference5Ideal
public import proofs.«01_k».proof.Proof.Gen.Reference5Ideal.Run

@[expose] public section

set_option maxRecDepth 16384

noncomputable section

namespace Cert.MlpUpWeight

open Cert.Grids Idealize.ShloMosaic Idealize.ShloMosaic.TcCoe Idealize.SL.Sem
variable (h : Fin 2 → Fin 2048 → Fin 1024 → EReal) (g : Fin 2 → Fin 2048 → Fin 4096 → EReal)

/-- The gradient: slot, row, column in the slot. -/
def grad (j : Fin 4) (d f : Fin 1024) : EReal := ∑ t, flat h t d * flat g t ⟨j * 1024 + f, by omega⟩

section Reference

open Cert.Reference5Ideal Cert.Reference5Ideal.Gen

theorem reference_eq : (truncf .bf16 (transpose S4x1024x1024 [1, 0, 2] (shapeCast S1024x4x1024 (transpose S1024x4096 [1, 0]
      (Host.dotGeneral dot_S2x2048x4096_S2x2048x1024_S4096x1024_01_01_2_2_n_n none
        (ext3 g : FVec Ideal S2x2048x4096 .f32) (ext3 h : FVec Ideal S2x2048x1024 .f32) : FVec Ideal S4096x1024 .f32)
      transposes_S4096x1024_S1024x4096_1_0 : FVec Ideal S1024x4096 .f32) shapeCasts_S1024x4096_S1024x4x1024 : FVec Ideal S1024x4x1024 .f32)
      transposes_S1024x4x1024_S4x1024x1024_1_0_2 : FVec Ideal S4x1024x1024 .f32) bitsLt_bf16_f32 : FVec Ideal S4x1024x1024 .bf16) = ext3 (grad h g) := by
  funext j
  idx_vars j
  pointwise
  refine (MlpDownWeight.sum_flat _).trans ?_
  exact Finset.sum_congr rfl fun t _ => mul_comm _ _

theorem reference_run (m : (ℓ : Loc nD τ sig) → Buf (Elt Ideal) ℓ) (ρ : Dev nD → PrngReg)
    (hh : ∀ c : Dev nD, m ((c.tc : Thread nD τ).loc main_arg0) = (ext3 h : FVec Ideal S2x2048x1024 .f32))
    (hg : ∀ c : Dev nD, m ((c.tc : Thread nD τ).loc main_arg1) = (ext3 g : FVec Ideal S2x2048x4096 .f32)) :
    θ_run defs (onTc (τ := τ) (main (F := Ideal))) ⟨m, fun _ => 0, ρ⟩ fun r => ∀ c : Dev nD,
      r.2.mem ((c.tc : Thread nD τ).loc main_v4) = (ext3 (grad h g) : FVec Ideal S4x1024x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r hr c => by
    refine ⟨(hr c).1.trans ?_, (hr c).2⟩
    rw [hh, hg]
    exact reference_eq h g) (Value.run m ρ)

/-- The reference's frame: its run leaves the arguments alone, and the program declares no semaphore. -/
theorem reference_frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, sem_eq_zero_of_no_sems (by decide) r.2⟩) (Value.run (F := Ideal) m ρ)

end Reference

open Cert.Kernel5Ideal Cert.Kernel5Ideal.Gen

theorem prod_eq (H G : Fin 4096 → Fin 1024 → EReal) :
    k0_pay2 (F := Ideal) (ext2 H : FVec Ideal S4096x1024 .bf16) (ext2 G : FVec Ideal S4096x1024 .bf16)
      = (ext2 fun d f => ∑ t, H t d * G t f : FVec Ideal S1024x1024 .f32) := by
  funext j
  idx_vars j
  pointwise [k0_pay2, k0_pay1]

theorem slot_eq (A : Fin 1024 → Fin 1024 → EReal) :
    k0_pay4 (F := Ideal) (ext2 A : FVec Ideal S1024x1024 .f32) = (ext3 fun _ => A : FVec Ideal S1x1024x1024 .bf16) := by
  funext j
  idx_vars j
  pointwise [k0_pay4]

variable (m : (ℓ : Loc nD τ sig) → Buf (Elt Ideal) ℓ) (c : Dev nD)

theorem h_eq (hh : m ((c.tc : Thread nD τ).loc main_arg0) = (ext3 h : FVec Ideal S2x2048x1024 .f32)) :
    V m c main_v1 = (ext2 (flat h) : FVec Ideal S4096x1024 .bf16) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp
  rw [show m (c, Proc.tc.devRef main_arg0) = _ from hh]
  funext j
  idx_vars j
  pointwise
  rfl

theorem ct_eq (hg : m ((c.tc : Thread nD τ).loc main_arg1) = (ext3 g : FVec Ideal S2x2048x4096 .f32)) :
    V m c main_v3 = (ext2 (flat g) : FVec Ideal S4096x4096 .bf16) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp
  rw [show m (c, Proc.tc.devRef main_arg1) = _ from hg]
  funext j
  idx_vars j
  pointwise
  rfl

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![t.val, 0, 0] := (by decide +kernel : ∀ t : Fin grid0.N, _)

theorem lt (t : Fin cfg0.N) : t.val < 4 := lt_of_lt_of_eq t.isLt (show cfg0.N = 4 from N_0)

/-- The features of a slot. -/
def feats (x : Fin 4096 → Fin 4096 → EReal) (t : ℕ) (ht : t < 4) (r : Fin 4096) (f : Fin 1024) : EReal := x r ⟨t * 1024 + f, by omega⟩
/-- A slot. -/
def slot (x : Fin 4 → Fin 1024 → Fin 1024 → EReal) (t : ℕ) (ht : t < 4) (_ : Fin 1) : Fin 1024 → Fin 1024 → EReal := x ⟨t, ht⟩

theorem h_blk {x : Fin 4096 → Fin 1024 → EReal} (h : V m c main_v1 = (ext2 x : FVec Ideal S4096x1024 .bf16)) (t : Fin cfg0.N) :
    iblk m c 0 t = (ext2 x : FVec Ideal S4096x1024 .bf16) := by
  funext y
  idx_vars y
  blk_simp [iblk]
  rw [h]
  refine ext2_at x _ _ _ ?_ ?_ <;> blk_simp [idx0 t]

theorem ct_blk {x : Fin 4096 → Fin 4096 → EReal} (h : V m c main_v3 = (ext2 x : FVec Ideal S4096x4096 .bf16)) (t : Fin cfg0.N) :
    iblk m c 1 t = (ext2 (feats x t (lt t)) : FVec Ideal S4096x1024 .bf16) := by
  funext y
  idx_vars y
  blk_simp [iblk]
  rw [h]
  refine ext2_at x _ _ _ ?_ ?_ <;> blk_simp [idx1 t]

theorem slot_at {φ : FTy} (x : Fin 4 → Fin 1024 → Fin 1024 → EReal) (t : ℕ) (ht : t < 4) (y : S1x1024x1024.Idx) (j : S4x1024x1024.Idx)
    (h0 : (j 0).val = t + (y 0).val) (h1 : (j 1).val = (y 1).val) (h2 : (j 2).val = (y 2).val) :
    (ext3 (slot x t ht) : FVec Ideal S1x1024x1024 φ) y = (ext3 x : FVec Ideal S4x1024x1024 φ) j :=
  (ext3_at x j _ _ _ (h0.trans (by have : (y 0).val < 1 := (y 0).isLt; show t + (y 0).val = t; omega)) h1 h2).symm

variable {h g m c} (hh : m ((c.tc : Thread nD τ).loc main_arg0) = (ext3 h : FVec Ideal S2x2048x1024 .f32))
  (hg : m ((c.tc : Thread nD τ).loc main_arg1) = (ext3 g : FVec Ideal S2x2048x4096 .f32))

include hh hg

theorem out (t : Fin cfg0.N) : outsAt0 m c t = (ext3 (slot (grad h g) t (lt t)) : FVec Ideal S1x1024x1024 .bf16) := by
  unfold outsAt0
  frame_out
  rw [h_blk m c (h_eq h m c hh), ct_blk m c (ct_eq g m c hg), prod_eq, slot_eq]
  rfl

theorem final : (dats m 0 c).arrAt 2 cfg0.N = (ext3 (grad h g) : FVec Ideal S4x1024x1024 .bf16) := by
  refine (dats m 0 c).arrAt_eq_of_covers 2 _ (by decide +kernel) fun t hf y => ?_
  blk_simp
  rw [after0_2, out hh hg t]
  refine slot_at (φ := .bf16) _ t.val (lt t) y ((win0_2.blk t).view.emb y) ?_ ?_ ?_ <;> blk_simp [idx2 t]

end Cert.MlpUpWeight
-- ==== Proof.MlpUp.lean ====
/- The features of the squared-rectifier block: the normed rows times the first weight, cut off below zero. -/
module

public import proofs.«01_k».proof.Proof.Grids
public import proofs.«01_k».proof.Proof.Gen.Kernel7Ideal.Value
public import proofs.«01_k».proof.Proof.Gen.Reference7Ideal
public import proofs.«01_k».proof.Proof.Gen.Reference7Ideal.Run

@[expose] public section

set_option maxRecDepth 16384

noncomputable section

namespace Cert.MlpUp

open Cert.Grids Idealize.ShloMosaic Idealize.ShloMosaic.TcCoe Idealize.SL.Sem
variable (h : Fin 2 → Fin 2048 → Fin 1024 → EReal) (w : Fin 1024 → Fin 4096 → EReal)

/-- The features. -/
def feat (t f : Fin 4096) : EReal := max (∑ d, flat h t d * w d f) 0

/-- The weight a slot for every 1024 features. -/
def slots (j : Fin 4) (d f : Fin 1024) : EReal := w d ⟨j * 1024 + f, by omega⟩

section Reference

open Cert.Reference7Ideal Cert.Reference7Ideal.Gen

theorem zeros_eq : (broadcastInDim S2x2048x4096 ![] bcast_S_S2x2048x4096 (constant (F := Ideal) S_ .f32 0x00000000#32) : FVec Ideal S2x2048x4096 .f32)
    = ext3 fun _ _ _ => 0 := by
  funext j
  idx_vars j
  pointwise

theorem reference_eq : (truncf .bf16 (shapeCast S4096x4096 (maximumf (Host.dotGeneral dot_S2x2048x1024_S1024x4096_S2x2048x4096_2_0_01_1_n_n none
      (ext3 h : FVec Ideal S2x2048x1024 .f32) (ext2 w : FVec Ideal S1024x4096 .f32) : FVec Ideal S2x2048x4096 .f32) (ext3 fun _ _ _ => 0))
      shapeCasts_S2x2048x4096_S4096x4096 : FVec Ideal S4096x4096 .f32) bitsLt_bf16_f32 : FVec Ideal S4096x4096 .bf16) = ext2 (feat h w) := by
  funext j
  idx_vars j
  pointwise
  rfl

theorem reference_run (m : (ℓ : Loc nD τ sig) → Buf (Elt Ideal) ℓ) (ρ : Dev nD → PrngReg)
    (hh : ∀ c : Dev nD, m ((c.tc : Thread nD τ).loc main_arg0) = (ext3 h : FVec Ideal S2x2048x1024 .f32))
    (hw : ∀ c : Dev nD, m ((c.tc : Thread nD τ).loc main_arg1) = (ext2 w : FVec Ideal S1024x4096 .f32)) :
    θ_run defs (onTc (τ := τ) (main (F := Ideal))) ⟨m, fun _ => 0, ρ⟩ fun r => ∀ c : Dev nD,
      r.2.mem ((c.tc : Thread nD τ).loc main_v3) = (ext2 (feat h w) : FVec Ideal S4096x4096 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r hr c => by
    refine ⟨(hr c).1.trans ?_, (hr c).2⟩
    rw [hh, hw, zeros_eq]
    exact reference_eq h w) (Value.run m ρ)

/-- The reference's frame: its run leaves the arguments alone, and the program declares no semaphore. -/
theorem reference_frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, sem_eq_zero_of_no_sems (by decide) r.2⟩) (Value.run (F := Ideal) m ρ)

end Reference

open Cert.Kernel7Ideal Cert.Kernel7Ideal.Gen

theorem pay_eq (H : Fin 1024 → Fin 1024 → EReal) (W : Fin 1 → Fin 1024 → Fin 1024 → EReal) :
    k0_pay1 (F := Ideal) (ext2 H : FVec Ideal S1024x1024 .bf16) (ext3 W : FVec Ideal S1x1024x1024 .bf16)
      = (ext2 fun t f => max (∑ d, H t d * W 0 d f) 0 : FVec Ideal S1024x1024 .bf16) := by
  funext j
  idx_vars j
  pointwise [k0_pay1]

variable (m : (ℓ : Loc nD τ sig) → Buf (Elt Ideal) ℓ) (c : Dev nD)

theorem h_eq (hh : m ((c.tc : Thread nD τ).loc main_arg0) = (ext3 h : FVec Ideal S2x2048x1024 .f32)) :
    V m c main_v4 = (ext2 (flat h) : FVec Ideal S4096x1024 .bf16) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp
  rw [show m (c, Proc.tc.devRef main_arg0) = _ from hh]
  funext j
  idx_vars j
  pointwise
  rfl

theorem w_eq (hw : m ((c.tc : Thread nD τ).loc main_arg1) = (ext2 w : FVec Ideal S1024x4096 .f32)) :
    V m c main_v2 = (ext3 (slots w) : FVec Ideal S4x1024x1024 .bf16) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp
  rw [show m (c, Proc.tc.devRef main_arg1) = _ from hw]
  funext j
  idx_vars j
  pointwise
  rfl

theorem idx0 : ∀ t : Fin cfg0.N, win0_0.index t = ![t.val % 4, 0] := (by decide +kernel : ∀ t : Fin grid0.N, _)
theorem idx1 : ∀ t : Fin cfg0.N, win0_1.index t = ![t.val / 4, 0, 0] := (by decide +kernel : ∀ t : Fin grid0.N, _)
theorem idx2 : ∀ t : Fin cfg0.N, win0_2.index t = ![t.val % 4, t.val / 4] := (by decide +kernel : ∀ t : Fin grid0.N, _)

theorem lt (t : Fin cfg0.N) : t.val < 16 := lt_of_lt_of_eq t.isLt (show cfg0.N = 16 from N_0)

/-- The rows a grid point meets. -/
def rows (x : Fin 4096 → Fin 1024 → EReal) (t : ℕ) (r d : Fin 1024) : EReal := x ⟨t % 4 * 1024 + r, by omega⟩ d
/-- The slot it meets. -/
def slot (x : Fin 4 → Fin 1024 → Fin 1024 → EReal) (t : ℕ) (ht : t < 16) (_ : Fin 1) : Fin 1024 → Fin 1024 → EReal := x ⟨t / 4, by omega⟩
/-- The tile it writes. -/
def tile (x : Fin 4096 → Fin 4096 → EReal) (t : ℕ) (ht : t < 16) (r f : Fin 1024) : EReal :=
  x ⟨t % 4 * 1024 + r, by omega⟩ ⟨t / 4 * 1024 + f, by omega⟩

theorem h_blk {x : Fin 4096 → Fin 1024 → EReal} (h : V m c main_v4 = (ext2 x : FVec Ideal S4096x1024 .bf16)) (t : Fin cfg0.N) :
    iblk m c 0 t = (ext2 (rows x t) : FVec Ideal S1024x1024 .bf16) := by
  funext y
  idx_vars y
  blk_simp [iblk]
  rw [h]
  refine ext2_at x _ _ _ ?_ ?_ <;> blk_simp [idx0 t]

theorem w_blk {x : Fin 4 → Fin 1024 → Fin 1024 → EReal} (h : V m c main_v2 = (ext3 x : FVec Ideal S4x1024x1024 .bf16)) (t : Fin cfg0.N) :
    iblk m c 1 t = (ext3 (slot x t (lt t)) : FVec Ideal S1x1024x1024 .bf16) := by
  funext y
  idx_vars y
  blk_simp [iblk]
  rw [h]
  refine ext3_at x _ _ _ _ ?_ ?_ ?_ <;> blk_simp [idx1 t]

theorem tile_at {φ : FTy} (x : Fin 4096 → Fin 4096 → EReal) (t : ℕ) (ht : t < 16) (y : S1024x1024.Idx) (j : S4096x4096.Idx)
    (h0 : (j 0).val = t % 4 * 1024 + (y 0).val) (h1 : (j 1).val = t / 4 * 1024 + (y 1).val) :
    (ext2 (tile x t ht) : FVec Ideal S1024x1024 φ) y = (ext2 x : FVec Ideal S4096x4096 φ) j :=
  (ext2_at x j _ _ h0 h1).symm

variable {h w m c} (hh : m ((c.tc : Thread nD τ).loc main_arg0) = (ext3 h : FVec Ideal S2x2048x1024 .f32))
  (hw : m ((c.tc : Thread nD τ).loc main_arg1) = (ext2 w : FVec Ideal S1024x4096 .f32))

include hh hw

theorem out (t : Fin cfg0.N) : out0_2 (iblk m c 0 t) (iblk m c 1 t) = (ext2 (tile (feat h w) t (lt t)) : FVec Ideal S1024x1024 .bf16) := by
  frame_out
  rw [h_blk m c (h_eq h m c hh), w_blk m c (w_eq w m c hw), pay_eq]
  rfl

theorem final : (dats m 0 c).arrAt 2 cfg0.N = (ext2 (feat h w) : FVec Ideal S4096x4096 .bf16) := by
  refine (dats m 0 c).arrAt_eq_of_covers 2 _ (by decide +kernel) fun t hf y => ?_
  blk_simp
  rw [after0_2, out hh hw t]
  refine tile_at (φ := .bf16) _ t.val (lt t) y ((win0_2.blk t).view.emb y) ?_ ?_ <;> blk_simp [idx2 t]

end Cert.MlpUp
-- ==== Proof.Norm.lean ====
/- The root-mean-square norm of a row of 1024 numbers, and the constants it is written with. -/
module

public import proofs.«01_k».proof.Proof.Grids

@[expose] public section

noncomputable section

namespace Cert.Norm

open Idealize.ShloMosaic

/-- The number added to the mean square. -/
def eps : EReal := Ideal.ofBits .f32 0x358637BD#32

/-- The length of a row, as the host writes it. -/
theorem length_bits : (Ideal.ofBits .f32 0x44800000#32 : EReal) = ((1024 : ℝ) : EReal) := by
  simp [Ideal.ofBits, Ideal.ieee]
  rw [← EReal.coe_mul]
  norm_num

/-- Its reciprocal, as the kernels write it. -/
theorem recip_bits : (Ideal.ofBits .f32 0x3A800000#32 : EReal) = ((1 / 1024 : ℝ) : EReal) := by
  simp [Ideal.ofBits, Ideal.ieee]
  rw [← EReal.coe_mul]
  norm_num

/-- The number added is a positive one. -/
theorem exists_eps : ∃ e : ℝ, 0 < e ∧ eps = (e : EReal) := by
  refine ⟨8796093 * 2 ^ (-43 : ℤ), by positivity, ?_⟩
  unfold eps
  simp [Ideal.ofBits, Ideal.ieee]

/-- The mean of a row from its sum. -/
theorem mean (x : EReal) : Ideal.div x (Ideal.ofBits .f32 0x44800000#32) = x * Ideal.ofBits .f32 0x3A800000#32 := by
  rw [length_bits, recip_bits, Ideal.div_coe (by norm_num)]

/-- The factor a row is scaled by. -/
def factor (v : Fin 1024 → EReal) : EReal := Ideal.rsqrt ((∑ k, v k * v k) * Ideal.ofBits .f32 0x3A800000#32 + eps)

/-- The normed row, weighted. -/
def normed (v g : Fin 1024 → EReal) (d : Fin 1024) : EReal := v d * factor v * g d

end Cert.Norm
-- ==== Proof.MlpDown.lean ====
/- The result of the squared-rectifier block: the residual plus the squared features times the second weight, and its norm. -/
module

public import proofs.«01_k».proof.Proof.Norm
public import proofs.«01_k».proof.Proof.Gen.Kernel8Ideal.Value
public import proofs.«01_k».proof.Proof.Gen.Reference8Ideal
public import proofs.«01_k».proof.Proof.Gen.Reference8Ideal.Run

@[expose] public section

set_option maxRecDepth 16384

noncomputable section

namespace Cert.MlpDown

open Cert.Grids Cert.Norm Idealize.ShloMosaic Idealize.ShloMosaic.TcCoe Idealize.SL.Sem
variable (u : Fin 2 → Fin 2048 → Fin 4096 → EReal) (w : Fin 4096 → Fin 1024 → EReal) (x : Fin 2 → Fin 2048 → Fin 1024 → EReal) (g : Fin 1024 → EReal)

/-- The block's result. -/
def row (t : Fin 4096) (d : Fin 1024) : EReal := flat x t d + ∑ f, flat u t f * flat u t f * w f d
/-- Its norm. -/
def norm (t : Fin 4096) : Fin 1024 → EReal := normed (row u w x t) g

section Reference

open Cert.Reference8Ideal Cert.Reference8Ideal.Gen

/-- The block's result by sequence and token. -/
def row3 (b : Fin 2) (i : Fin 2048) (d : Fin 1024) : EReal := x b i d + ∑ f, u b i f * u b i f * w f d

theorem sum_eq : (addf (ext3 x : FVec Ideal S2x2048x1024 .f32) (Host.dotGeneral dot_S2x2048x4096_S4096x1024_S2x2048x1024_2_0_01_1_n_n none
      (mulf (ext3 u : FVec Ideal S2x2048x4096 .f32) (ext3 u)) (ext2 w : FVec Ideal S4096x1024 .f32) : FVec Ideal S2x2048x1024 .f32))
    = ext3 (row3 u w x) := by
  funext j
  idx_vars j
  pointwise
  rfl

theorem row_eq : (shapeCast S4096x1024 (ext3 (row3 u w x) : FVec Ideal S2x2048x1024 .f32) shapeCasts_S2x2048x1024_S4096x1024 : FVec Ideal S4096x1024 .f32)
    = ext2 (row u w x) := by
  funext j
  idx_vars j
  pointwise
  rfl

theorem squares_eq (y : Fin 2 → Fin 2048 → Fin 1024 → EReal) :
    (Host.reduceAdd (mulf (ext3 y : FVec Ideal S2x2048x1024 .f32) (ext3 y)) (constant S_ .f32 0x00000000#32) reducesTo_S2x2048x1024_S2x2048_d2 h_S_ : FVec Ideal S2x2048 .f32)
      = ext2 fun b i => ∑ k, y b i k * y b i k := by
  funext j
  idx_vars j
  pointwise

theorem factor_eq (y : Fin 2 → Fin 2048 → Fin 1024 → EReal) :
    (Host.rsqrt (addf (Host.divf (broadcastInDim S2x2048x1 ![0, 1] bcast_S2x2048_S2x2048x1_0_1 (ext2 (fun b i => ∑ k, y b i k * y b i k) : FVec Ideal S2x2048 .f32))
        (broadcastInDim S2x2048x1 ![] bcast_S_S2x2048x1 (constant S_ .f32 0x44800000#32))) (broadcastInDim S2x2048x1 ![] bcast_S_S2x2048x1 (constant S_ .f32 0x358637BD#32))) : FVec Ideal S2x2048x1 .f32)
      = ext3 fun b i _ => factor (y b i) := by
  funext j
  idx_vars j
  pointwise
  rw [mean]
  rfl

theorem norm_eq : (truncf .bf16 (shapeCast S4096x1024 (mulf (mulf (ext3 (row3 u w x) : FVec Ideal S2x2048x1024 .f32)
      (broadcastInDim S2x2048x1024 ![0, 1, 2] bcast_S2x2048x1_S2x2048x1024_0_1_2 (ext3 (fun b i _ => factor (row3 u w x b i)) : FVec Ideal S2x2048x1 .f32)))
      (broadcastInDim S2x2048x1024 ![0, 1, 2] bcast_S1x1x1024_S2x2048x1024_0_1_2 (broadcastInDim S1x1x1024 ![2] bcast_S1024_S1x1x1024_2 (ext1 g : FVec Ideal S1024 .f32))) : FVec Ideal S2x2048x1024 .f32)
      shapeCasts_S2x2048x1024_S4096x1024 : FVec Ideal S4096x1024 .f32) bitsLt_bf16_f32 : FVec Ideal S4096x1024 .bf16) = ext2 (norm u w x g) := by
  funext j
  idx_vars j
  pointwise
  rfl

theorem reference_run (m : (ℓ : Loc nD τ sig) → Buf (Elt Ideal) ℓ) (ρ : Dev nD → PrngReg)
    (hu : ∀ c : Dev nD, m ((c.tc : Thread nD τ).loc main_arg0) = (ext3 u : FVec Ideal S2x2048x4096 .f32))
    (hw : ∀ c : Dev nD, m ((c.tc : Thread nD τ).loc main_arg1) = (ext2 w : FVec Ideal S4096x1024 .f32))
    (hx : ∀ c : Dev nD, m ((c.tc : Thread nD τ).loc main_arg2) = (ext3 x : FVec Ideal S2x2048x1024 .f32))
    (hg : ∀ c : Dev nD, m ((c.tc : Thread nD τ).loc main_arg3) = (ext1 g : FVec Ideal S1024 .f32)) :
    θ_run defs (onTc (τ := τ) (main (F := Ideal))) ⟨m, fun _ => 0, ρ⟩ fun r => ∀ c : Dev nD,
      r.2.mem ((c.tc : Thread nD τ).loc main_v3) = (ext2 (row u w x) : FVec Ideal S4096x1024 .f32)
      ∧ r.2.mem ((c.tc : Thread nD τ).loc main_v18) = (ext2 (norm u w x g) : FVec Ideal S4096x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r hr c => by
    refine ⟨(hr c).1.trans ?_, (hr c).2.1.trans ?_, (hr c).2.2⟩
    · rw [hu, hw, hx, sum_eq]
      exact row_eq u w x
    · rw [hu, hw, hx, hg, sum_eq, squares_eq, factor_eq]
      exact norm_eq u w x g) (Value.run m ρ)

/-- The reference's frame: its run leaves the arguments alone, and the program declares no semaphore. -/
theorem reference_frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => (h c).2.2, sem_eq_zero_of_no_sems (by decide) r.2⟩) (Value.run (F := Ideal) m ρ)

end Reference

open Cert.Kernel8Ideal Cert.Kernel8Ideal.Gen

/-- The rows of a block, from the block's features and residual. -/
def rowOf (U : Fin 512 → Fin 4096 → EReal) (X : Fin 512 → Fin 1024 → EReal) (r : Fin 512) (d : Fin 1024) : EReal :=
  X r d + ∑ f, U r f * U r f * w f d

theorem pay1_eq (U : Fin 512 → Fin 4096 → EReal) (X : Fin 512 → Fin 1024 → EReal) :
    k0_pay1 (F := Ideal) (ext2 U : FVec Ideal S512x4096 .bf16) (ext2 w : FVec Ideal S4096x1024 .bf16) (ext2 X : FVec Ideal S512x1024 .f32)
      = (ext2 (rowOf w U X) : FVec Ideal S512x1024 .f32) := by
  funext j
  idx_vars j
  pointwise [k0_pay1]
  rfl

theorem pay2_eq (U : Fin 512 → Fin 4096 → EReal) (X : Fin 512 → Fin 1024 → EReal) (G : Fin 1 → Fin 1024 → EReal) :
    k0_pay2 (F := Ideal) (ext2 U : FVec Ideal S512x4096 .bf16) (ext2 w : FVec Ideal S4096x1024 .bf16) (ext2 X : FVec Ideal S512x1024 .f32) (ext2 G : FVec Ideal S1x1024 .f32)
      = (ext2 fun r => normed (rowOf w U X r) (G 0) : FVec Ideal S512x1024 .bf16) := by
  funext j
  idx_vars j
  unfold k0_pay2
  rw [pay1_eq]
  pointwise
  rfl

variable (m : (ℓ : Loc nD τ sig) → Buf (Elt Ideal) ℓ) (c : Dev nD)

theorem u_eq (h : m ((c.tc : Thread nD τ).loc main_arg0) = (ext3 u : FVec Ideal S2x2048x4096 .f32)) :
    V m c main_v1 = (ext2 (flat u) : FVec Ideal S4096x4096 .bf16) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp
  rw [show m (c, Proc.tc.devRef main_arg0) = _ from h]
  funext j
  idx_vars j
  pointwise
  rfl

theorem w_eq (h : m ((c.tc : Thread nD τ).loc main_arg1) = (ext2 w : FVec Ideal S4096x1024 .f32)) :
    V m c main_v2 = (ext2 w : FVec Ideal S4096x1024 .bf16) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp
  rw [show m (c, Proc.tc.devRef main_arg1) = _ from h]
  funext j
  idx_vars j
  pointwise

theorem x_eq (h : m ((c.tc : Thread nD τ).loc main_arg2) = (ext3 x : FVec Ideal S2x2048x1024 .f32)) :
    V m c main_v3 = (ext2 (flat x) : FVec Ideal S4096x1024 .f32) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp
  rw [show m (c, Proc.tc.devRef main_arg2) = _ from h]
  funext j
  idx_vars j
  pointwise
  rfl

theorem g_eq (h : m ((c.tc : Thread nD τ).loc main_arg3) = (ext1 g : FVec Ideal S1024 .f32)) :
    V m c main_v4 = (ext2 fun _ => g : FVec Ideal S1x1024 .f32) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp
  rw [show m (c, Proc.tc.devRef main_arg3) = _ from h]
  funext j
  idx_vars j
  pointwise

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)

theorem lt (t : Fin cfg0.N) : t.val < 8 := lt_of_lt_of_eq t.isLt (show cfg0.N = 8 from N_0)

/-- The rows a grid point meets. -/
def rows {n : ℕ} (x : Fin 4096 → Fin n → EReal) (t : ℕ) (ht : t < 8) (r : Fin 512) : Fin n → EReal := x ⟨t * 512 + r, by omega⟩

theorem u_blk {x : Fin 4096 → Fin 4096 → EReal} (h : V m c main_v1 = (ext2 x : FVec Ideal S4096x4096 .bf16)) (t : Fin cfg0.N) :
    iblk m c 0 t = (ext2 (rows x t (lt t)) : FVec Ideal S512x4096 .bf16) := by
  funext y
  idx_vars y
  blk_simp [iblk]
  rw [h]
  refine ext2_at x _ _ _ ?_ ?_ <;> blk_simp [idx0 t]

theorem w_blk {x : Fin 4096 → Fin 1024 → EReal} (h : V m c main_v2 = (ext2 x : FVec Ideal S4096x1024 .bf16)) (t : Fin cfg0.N) :
    iblk m c 1 t = (ext2 x : FVec Ideal S4096x1024 .bf16) := by
  funext y
  idx_vars y
  blk_simp [iblk]
  rw [h]
  refine ext2_at x _ _ _ ?_ ?_ <;> blk_simp [idx1 t]

theorem x_blk {x : Fin 4096 → Fin 1024 → EReal} (h : V m c main_v3 = (ext2 x : FVec Ideal S4096x1024 .f32)) (t : Fin cfg0.N) :
    iblk m c 2 t = (ext2 (rows x t (lt t)) : FVec Ideal S512x1024 .f32) := by
  funext y
  idx_vars y
  blk_simp [iblk]
  rw [h]
  refine ext2_at x _ _ _ ?_ ?_ <;> blk_simp [idx2 t]

theorem g_blk {x : Fin 1 → Fin 1024 → EReal} (h : V m c main_v4 = (ext2 x : FVec Ideal S1x1024 .f32)) (t : Fin cfg0.N) :
    iblk m c 3 t = (ext2 x : FVec Ideal S1x1024 .f32) := by
  funext y
  idx_vars y
  blk_simp [iblk]
  rw [h]
  refine ext2_at x _ _ _ ?_ ?_ <;> blk_simp [idx3 t]

theorem rows_at {φ : FTy} (x : Fin 4096 → Fin 1024 → EReal) (t : ℕ) (ht : t < 8) (y : S512x1024.Idx) (j : S4096x1024.Idx)
    (h0 : (j 0).val = t * 512 + (y 0).val) (h1 : (j 1).val = (y 1).val) :
    (ext2 (rows x t ht) : FVec Ideal S512x1024 φ) y = (ext2 x : FVec Ideal S4096x1024 φ) j :=
  (ext2_at x j _ _ h0 h1).symm

variable {u w x g m c} (hu : m ((c.tc : Thread nD τ).loc main_arg0) = (ext3 u : FVec Ideal S2x2048x4096 .f32))
  (hw : m ((c.tc : Thread nD τ).loc main_arg1) = (ext2 w : FVec Ideal S4096x1024 .f32))
  (hx : m ((c.tc : Thread nD τ).loc main_arg2) = (ext3 x : FVec Ideal S2x2048x1024 .f32))
  (hg : m ((c.tc : Thread nD τ).loc main_arg3) = (ext1 g : FVec Ideal S1024 .f32))

include hu hw hx

omit hg in
theorem out_row (t : Fin cfg0.N) (G : Vec Ideal S1x1024 .f32) : out0_4 (iblk m c 0 t) (iblk m c 1 t) (iblk m c 2 t) G
    = (ext2 (rows (row u w x) t (lt t)) : FVec Ideal S512x1024 .f32) := by
  frame_out
  rw [u_blk m c (u_eq u m c hu), w_blk m c (w_eq w m c hw), x_blk m c (x_eq x m c hx), pay1_eq]
  rfl

theorem final_row : (dats m 0 c).arrAt 4 cfg0.N = (ext2 (row u w x) : FVec Ideal S4096x1024 .f32) := by
  refine (dats m 0 c).arrAt_eq_of_covers 4 _ (by decide +kernel) fun t hf y => ?_
  blk_simp
  rw [after0_4, out_row hu hw hx t]
  refine rows_at (φ := .f32) _ t.val (lt t) y ((win0_4.blk t).view.emb y) ?_ ?_ <;> blk_simp [idx4 t]

include hg

theorem out_norm (t : Fin cfg0.N) : out0_5 (iblk m c 0 t) (iblk m c 1 t) (iblk m c 2 t) (iblk m c 3 t)
    = (ext2 (rows (norm u w x g) t (lt t)) : FVec Ideal S512x1024 .bf16) := by
  frame_out
  rw [u_blk m c (u_eq u m c hu), w_blk m c (w_eq w m c hw), x_blk m c (x_eq x m c hx), g_blk m c (g_eq g m c hg), pay2_eq]
  rfl

theorem final_norm : (dats m 0 c).arrAt 5 cfg0.N = (ext2 (norm u w x g) : FVec Ideal S4096x1024 .bf16) := by
  refine (dats m 0 c).arrAt_eq_of_covers 5 _ (by decide +kernel) fun t hf y => ?_
  blk_simp
  rw [after0_5, out_norm hu hw hx hg t]
  refine rows_at (φ := .bf16) _ t.val (lt t) y ((win0_5.blk t).view.emb y) ?_ ?_ <;> blk_simp [idx5 t]

end Cert.MlpDown
-- ==== Proof.Sums.lean ====
/- Sums taken block by block, and the values that are numbers. -/
module

public import proofs.«01_k».proof.Proof.Grids
public import proofs.«01_k».proof.Proof.Numbers

@[expose] public section

noncomputable section

namespace Cert.Sums

theorem place_lt {n b : ℕ} (i : Fin n) (r : Fin b) : i.val * b + r.val < n * b := by
  have h := Nat.mul_le_mul_right b (Nat.succ_le_of_lt i.isLt)
  have h' := r.isLt
  rw [Nat.succ_mul] at h
  omega

/-- A sum over `n` blocks of `b`, block by block. -/
theorem sum_blocks (n b : ℕ) {N : ℕ} (hN : n * b = N) (f : Fin N → EReal) :
    ∑ t, f t = ∑ i : Fin n, ∑ r : Fin b, f ⟨i * b + r, hN ▸ place_lt i r⟩ := by
  subst hN
  rw [← Fintype.sum_prod_type', ← Fintype.sum_equiv finProdFinEquiv (fun p => f (finProdFinEquiv p)) f fun _ => rfl]
  exact Finset.sum_congr rfl fun p _ => congrArg f (Fin.ext (by show p.2.val + b * p.1.val = p.1.val * b + p.2.val; rw [Nat.mul_comm, Nat.add_comm]))

/-- What the first `t + 1` of `n` blocks add up to. -/
def upto {n : ℕ} (f : Fin n → EReal) (t : ℕ) : EReal := ∑ i ∈ Finset.range (t + 1), if h : i < n then f ⟨i, h⟩ else 0

theorem upto_zero {n : ℕ} (f : Fin n → EReal) (h : 0 < n) : upto f 0 = f ⟨0, h⟩ := by
  simp [upto, h]

theorem upto_succ {n : ℕ} (f : Fin n → EReal) (t : ℕ) (h : t + 1 < n) : upto f (t + 1) = upto f t + f ⟨t + 1, h⟩ := by
  rw [upto, Finset.sum_range_succ, dif_pos h]
  rfl

theorem upto_last {n : ℕ} (f : Fin n → EReal) (t : ℕ) (h : t + 1 = n) : upto f t = ∑ i, f i := by
  subst h
  rw [upto, Finset.sum_range]
  exact Finset.sum_congr rfl fun i _ => dif_pos i.isLt

/-- A value that is a number: neither infinity. -/
def IsNum (x : EReal) : Prop := ∃ r : ℝ, x = (r : EReal)

theorem IsNum.mul {x y : EReal} : IsNum x → IsNum y → IsNum (x * y)
  | ⟨a, ha⟩, ⟨b, hb⟩ => ⟨a * b, by rw [ha, hb, EReal.coe_mul]⟩

theorem IsNum.sum {ι : Type} [Fintype ι] {f : ι → EReal} (h : ∀ i, IsNum (f i)) : IsNum (∑ i, f i) := by
  choose r hr using h
  exact ⟨∑ i, r i, by rw [Numbers.coe_sum]; exact Finset.sum_congr rfl fun i _ => hr i⟩

theorem IsNum.zero : IsNum 0 := ⟨0, rfl⟩

section Lead

open Idealize.ShloMosaic

variable {n0 n1 n2 : ℕ} {t : Shape}

theorem lead_rank (h : (⟨3, ![n0, n1, n2]⟩ : Shape).ReducesTo [0, 1] t) : t.rank = 1 := h.1
theorem lead_pos (h : (⟨3, ![n0, n1, n2]⟩ : Shape).ReducesTo [0, 1] t) : 0 < t.rank := lead_rank h ▸ (by decide)
theorem lead_size (h : (⟨3, ![n0, n1, n2]⟩ : Shape).ReducesTo [0, 1] t) : t.size ⟨0, lead_pos h⟩ = n2 := h.2 ⟨0, lead_pos h⟩

theorem lead_fiber (h : (⟨3, ![n0, n1, n2]⟩ : Shape).ReducesTo [0, 1] t) (j : t.Idx) (i : (⟨3, ![n0, n1, n2]⟩ : Shape).Idx) :
    h.drop i = j ↔ ∃ k : Fin n0 × Fin n1, ix3 k.1 k.2 ⟨(j ⟨0, lead_pos h⟩).val, Shape.coordLt (j ⟨0, lead_pos h⟩) (lead_size h)⟩ = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e ⟨0, lead_pos h⟩)).symm
  · rintro ⟨k, rfl⟩
    funext b
    apply Fin.ext
    match b with
    | ⟨0, _⟩ => rfl
    | ⟨_ + 1, hb⟩ => exact absurd hb (by have := lead_rank h; omega)

/-- An array summed over its two leading axes. -/
@[pointwise] theorem sum_lead (h : (⟨3, ![n0, n1, n2]⟩ : Shape).ReducesTo [0, 1] t) (v : (⟨3, ![n0, n1, n2]⟩ : Shape).Idx → EReal) (init : EReal) (j : t.Idx) :
    Ideal.hostReduceAdd h v init j = init + ∑ k0 : Fin n0, ∑ k1 : Fin n1, v (ix3 k0 k1 ⟨(j ⟨0, lead_pos h⟩).val, Shape.coordLt (j ⟨0, lead_pos h⟩) (lead_size h)⟩) := by
  refine congrArg (init + ·) ((Finset.sum_filter_eq_sum_of_fiber _
    (fun k : Fin n0 × Fin n1 => ix3 k.1 k.2 ⟨(j ⟨0, lead_pos h⟩).val, Shape.coordLt (j ⟨0, lead_pos h⟩) (lead_size h)⟩)
    (fun _ _ e => Prod.ext (congrFun e 0) (congrFun e 1)) (lead_fiber h j) v).trans ?_)
  simp only [Fintype.sum_prod_type]

end Lead

end Cert.Sums
-- ==== Proof.NormGrad.lean ====
/- The cotangent of a row from that of its root-mean-square norm, in the two ways it is written. -/
module

public import proofs.«01_k».proof.Proof.Norm
public import proofs.«01_k».proof.Proof.Sums

@[expose] public section

noncomputable section

namespace Cert.NormGrad

open Cert.Norm Cert.Sums Idealize.ShloMosaic

/-- The cotangent of a row `v`, where `y` is that of the norm, weighted. -/
def back (v y : Fin 1024 → EReal) (d : Fin 1024) : EReal :=
  factor v * (y d - v d * factor v * ((∑ k, y k * (v k * factor v)) * Ideal.ofBits .f32 0x3A800000#32))

/-- Half the cotangent of a row's sum of squares. -/
def coef (v y : Fin 1024 → EReal) : EReal :=
  Ideal.div ((∑ k, v k * y k) * (Ideal.ofBits .f32 0xBF000000#32 * Ideal.div (factor v) ((∑ k, v k * v k) * Ideal.ofBits .f32 0x3A800000#32 + eps)))
    (Ideal.ofBits .f32 0x44800000#32)

theorem half_bits : (Ideal.ofBits .f32 0xBF000000#32 : EReal) = ((-(1 / 2) : ℝ) : EReal) := by
  simp [Ideal.ofBits, Ideal.ieee]
  rw [← EReal.coe_mul]
  norm_num

/-- The factor of a row of numbers, with what its square is. -/
theorem factor_coe (a : Fin 1024 → ℝ) : ∃ f s : ℝ, 0 ≤ f ∧ s ≠ 0 ∧ f * f = 1 / s ∧ factor (fun k => (a k : EReal)) = (f : EReal)
    ∧ (∑ k, (a k : EReal) * (a k : EReal)) * Ideal.ofBits .f32 0x3A800000#32 + eps = (s : EReal) := by
  obtain ⟨e, he, hee⟩ := exists_eps
  have hs : 0 < (∑ k, a k * a k) * (1 / 1024) + e :=
    add_pos_of_nonneg_of_pos (mul_nonneg (Finset.sum_nonneg fun k _ => mul_self_nonneg _) (by norm_num)) he
  have hm : (∑ k, (a k : EReal) * (a k : EReal)) * Ideal.ofBits .f32 0x3A800000#32 + eps = (((∑ k, a k * a k) * (1 / 1024) + e : ℝ) : EReal) := by
    rw [recip_bits, hee, EReal.coe_add, EReal.coe_mul, Numbers.coe_sum]
    simp only [EReal.coe_mul]
  refine ⟨(Real.sqrt ((∑ k, a k * a k) * (1 / 1024) + e))⁻¹, _, inv_nonneg.mpr (Real.sqrt_nonneg _), hs.ne', ?_, ?_, hm⟩
  · rw [← mul_inv, Real.mul_self_sqrt hs.le]
    exact (one_div _).symm
  · rw [factor, hm, Ideal.rsqrt_coe, if_neg (not_lt.mpr hs.le), if_neg hs.ne']

theorem square_nonneg (x : EReal) : 0 ≤ x * x := by
  induction x using EReal.rec with
  | bot => simp
  | top => simp
  | coe x => rw [← EReal.coe_mul]; exact EReal.coe_nonneg.mpr (mul_self_nonneg x)

/-- A row that is not of numbers has an infinite sum of squares. -/
theorem squares_top (v : Fin 1024 → EReal) (k : Fin 1024) (h : ¬IsNum (v k)) : ∑ k, v k * v k = ⊤ := by
  have hk : v k * v k = ⊤ := by
    generalize v k = x at h
    induction x using EReal.rec with
    | bot => simp
    | top => simp
    | coe x => exact absurd ⟨x, rfl⟩ h
  exact top_le_iff.mp (hk ▸ Finset.single_le_sum (f := fun k => v k * v k) (fun k _ => square_nonneg _) (Finset.mem_univ k))

theorem sum_scaled (y : Fin 1024 → EReal) (f : ℝ) (hf : 0 ≤ f) : ∑ k, y k * (f : EReal) = (∑ k, y k) * (f : EReal) := by
  have h : ∀ s : Finset (Fin 1024), ∑ k ∈ s, y k * (f : EReal) = (∑ k ∈ s, y k) * (f : EReal) := fun s => by
    induction s using Finset.induction_on with
    | empty => simp
    | insert k s hk ih =>
      rw [Finset.sum_insert hk, Finset.sum_insert hk, ih, EReal.right_distrib_of_nonneg_of_ne_top (EReal.coe_nonneg.mpr hf) (EReal.coe_ne_top f)]
  exact h _

theorem twice (a : ℝ) (x : EReal) : (a : EReal) * x + (a : EReal) * x = ((2 * a : ℝ) : EReal) * x := by
  rw [EReal.coe_mul, mul_assoc]
  generalize (a : EReal) * x = z
  induction z using EReal.rec with
  | bot => rw [EReal.coe_mul_bot_of_pos (by norm_num)]; rfl
  | top => rw [EReal.coe_mul_top_of_pos (by norm_num)]; rfl
  | coe z => rw [← EReal.coe_add, ← EReal.coe_mul, two_mul]

theorem back_eq (v y : Fin 1024 → EReal) (r : EReal) (d : Fin 1024) :
    r + y d * factor v + v d * coef v y + coef v y * v d = back v y d + r := by
  by_cases hv : ∀ k, IsNum (v k)
  · choose a ha using hv
    obtain rfl : v = fun k => (a k : EReal) := funext ha
    obtain ⟨f, s, h0, hs, hf, hF, hm⟩ := factor_coe a
    have h2 : ∑ k, y k * ((a k : EReal) * (f : EReal)) = (∑ k, (a k : EReal) * y k) * (f : EReal) := by
      rw [← sum_scaled _ f h0]
      exact Finset.sum_congr rfl fun k _ => by rw [← mul_assoc, mul_comm (y k)]
    unfold back coef
    rw [hF, hm, h2, half_bits, length_bits, recip_bits, Ideal.div_coe hs, Ideal.div_coe (by norm_num)]
    generalize ∑ k, (a k : EReal) * y k = T
    have e1 : T * (((-(1 / 2) : ℝ) : EReal) * ((f : EReal) * ((1 / s : ℝ) : EReal))) * ((1 / 1024 : ℝ) : EReal)
        = ((-(1 / 2) * (f * (1 / s)) * (1 / 1024) : ℝ) : EReal) * T := by
      simp only [EReal.coe_mul]
      rw [mul_assoc, mul_comm]
    have e2 : (a d : EReal) * (f : EReal) * (T * (f : EReal) * ((1 / 1024 : ℝ) : EReal)) = ((a d * f * (f * (1 / 1024)) : ℝ) : EReal) * T := by
      simp only [EReal.coe_mul]
      rw [mul_assoc T, mul_comm T, ← mul_assoc]
    rw [e1, e2, mul_comm (_ * T) (a d : EReal), ← mul_assoc, ← EReal.coe_mul, sub_eq_add_neg, ← EReal.neg_mul, ← EReal.coe_neg,
      EReal.left_distrib_of_nonneg_of_ne_top (EReal.coe_nonneg.mpr h0) (EReal.coe_ne_top f), ← mul_assoc (f : EReal), ← EReal.coe_mul, add_assoc, twice, add_assoc,
      add_comm r, mul_comm (y d)]
    refine congrArg (fun z : ℝ => (f : EReal) * y d + (z : EReal) * T + r) ?_
    rw [← hf]
    ring
  · obtain ⟨k, hk⟩ := not_forall.mp hv
    obtain ⟨e, _, hee⟩ := exists_eps
    have hm : (∑ k, v k * v k) * Ideal.ofBits .f32 0x3A800000#32 + eps = ⊤ := by
      rw [squares_top v k hk, recip_bits, hee, EReal.top_mul_coe_of_pos (by norm_num), EReal.top_add_coe]
    have hF : factor v = 0 := by rw [factor, hm]; rfl
    have hc : coef v y = 0 := by
      rw [coef, hm, hF, length_bits, Ideal.div_coe (by norm_num)]
      simp [Ideal.div]
    rw [back, hF, hc]
    simp

end Cert.NormGrad
-- ==== Proof.MlpUpInput.lean ====
/- The cotangent of the squared-rectifier block's input and of its norm's weight: the features' cotangent times the transposed
   first weight, taken back through the norm, plus the residual's. -/
module

public import proofs.«01_k».proof.Proof.NormGrad
public import proofs.«01_k».proof.Proof.Gen.Kernel6Ideal.Value
public import proofs.«01_k».proof.Proof.Gen.Reference6Ideal
public import proofs.«01_k».proof.Proof.Gen.Reference6Ideal.Run
public import proofs.«01_k».proof.Proof.MlpDownWeight
public import Idealize.ShloMosaic.Lib.Pipeline.ReadBack

@[expose] public section

set_option maxRecDepth 16384

noncomputable section

namespace Cert.MlpUpInput

open Cert.Grids Cert.Norm Cert.NormGrad Cert.Sums Cert.MlpDownWeight Idealize.ShloMosaic Idealize.ShloMosaic.TcCoe Idealize.SL.Sem
variable (x : Fin 2 → Fin 2048 → Fin 1024 → EReal) (g : Fin 1024 → EReal) (w : Fin 1024 → Fin 4096 → EReal)
  (s : Fin 2 → Fin 2048 → Fin 4096 → EReal) (r : Fin 2 → Fin 2048 → Fin 1024 → EReal)

/-- The cotangent of the normed rows. -/
def dh (t : Fin 4096) (d : Fin 1024) : EReal := ∑ f, flat s t f * w d f
/-- The cotangent of the input. -/
def input (t : Fin 4096) (d : Fin 1024) : EReal := back (flat x t) (fun k => dh w s t k * g k) d + flat r t d
/-- The cotangent of the norm's weight. -/
def gain (d : Fin 1024) : EReal := ∑ t, dh w s t d * (flat x t d * factor (flat x t))

section Reference

open Cert.Reference6Ideal Cert.Reference6Ideal.Gen Cert.Reference6Ideal.Value

/-- The product's cotangent, by sequence and token. -/
def dh3 (b : Fin 2) (i : Fin 2048) (d : Fin 1024) : EReal := ∑ f, s b i f * w d f

theorem dh_eq : (Host.dotGeneral dot_S2x2048x4096_S1024x4096_S2x2048x1024_2_1_01_0_n_n none (ext3 s : FVec Ideal S2x2048x4096 .f32)
    (ext2 w : FVec Ideal S1024x4096 .f32) : FVec Ideal S2x2048x1024 .f32) = ext3 (dh3 w s) := by
  funext j
  idx_vars j
  pointwise
  rfl

theorem weighted_eq (y : Fin 2 → Fin 2048 → Fin 1024 → EReal) : (mulf (ext3 y : FVec Ideal S2x2048x1024 .f32)
    (broadcastInDim S2x2048x1024 ![0, 1, 2] bcast_S1x1x1024_S2x2048x1024_0_1_2 (broadcastInDim S1x1x1024 ![2] bcast_S1024_S1x1x1024_2 (ext1 g : FVec Ideal S1024 .f32)))
      : FVec Ideal S2x2048x1024 .f32) = ext3 fun b i d => y b i d * g d := by
  funext j
  idx_vars j
  pointwise

theorem inner_eq (y z : Fin 2 → Fin 2048 → Fin 1024 → EReal) :
    (Host.reduceAdd (mulf (ext3 y : FVec Ideal S2x2048x1024 .f32) (ext3 z)) (constant S_ .f32 0x00000000#32) reducesTo_S2x2048x1024_S2x2048_d2 h_S_ : FVec Ideal S2x2048 .f32)
      = ext2 fun b i => ∑ k, y b i k * z b i k := by
  funext j
  idx_vars j
  pointwise

theorem square_eq (y : Fin 2 → Fin 2048 → Fin 1024 → EReal) :
    (addf (Host.divf (broadcastInDim S2x2048x1 ![0, 1] bcast_S2x2048_S2x2048x1_0_1 (ext2 (fun b i => ∑ k, y b i k * y b i k) : FVec Ideal S2x2048 .f32))
        (broadcastInDim S2x2048x1 ![] bcast_S_S2x2048x1 (constant S_ .f32 0x44800000#32))) (broadcastInDim S2x2048x1 ![] bcast_S_S2x2048x1 (constant S_ .f32 0x358637BD#32)) : FVec Ideal S2x2048x1 .f32)
      = ext3 fun b i _ => (∑ k, y b i k * y b i k) * Ideal.ofBits .f32 0x3A800000#32 + eps := by
  funext j
  idx_vars j
  pointwise
  rw [mean]
  rfl

theorem factor_eq (y : Fin 2 → Fin 2048 → Fin 1024 → EReal) :
    (Host.rsqrt (ext3 (fun b i _ => (∑ k, y b i k * y b i k) * Ideal.ofBits .f32 0x3A800000#32 + eps) : FVec Ideal S2x2048x1 .f32) : FVec Ideal S2x2048x1 .f32)
      = ext3 fun b i _ => factor (y b i) := by
  funext j
  idx_vars j
  pointwise
  rfl

theorem coef_eq (y z : Fin 2 → Fin 2048 → Fin 1024 → EReal) :
    (Host.reduceAdd (Host.divf (mulf (shapeCast S2x2048x1 (ext2 (fun b i => ∑ k, y b i k * z b i k) : FVec Ideal S2x2048 .f32) shapeCasts_S2x2048_S2x2048x1 : FVec Ideal S2x2048x1 .f32)
        (mulf (broadcastInDim S2x2048x1 ![] bcast_S_S2x2048x1 (constant S_ .f32 0xBF000000#32)) (Host.divf (ext3 (fun b i _ => factor (y b i)))
          (ext3 (fun b i _ => (∑ k, y b i k * y b i k) * Ideal.ofBits .f32 0x3A800000#32 + eps)))))
        (broadcastInDim S2x2048x1 ![] bcast_S_S2x2048x1 (constant S_ .f32 0x44800000#32))) (constant S_ .f32 0x00000000#32) reducesTo_S2x2048x1_S2x2048_d2 h_S_ : FVec Ideal S2x2048 .f32)
      = ext2 fun b i => coef (y b i) (z b i) := by
  funext j
  idx_vars j
  pointwise
  exact Fin.sum_univ_one _

theorem terms_eq (y : Fin 2 → Fin 2048 → Fin 1024 → EReal) (f h : Fin 2 → Fin 2048 → EReal) :
    (shapeCast S4096x1024 (addf (addf (addf (ext3 r : FVec Ideal S2x2048x1024 .f32) (mulf (ext3 y)
        (broadcastInDim S2x2048x1024 ![0, 1, 2] bcast_S2x2048x1_S2x2048x1024_0_1_2 (ext3 (fun b i _ => f b i) : FVec Ideal S2x2048x1 .f32))))
        (mulf (ext3 x) (broadcastInDim S2x2048x1024 ![0, 1] bcast_S2x2048_S2x2048x1024_0_1 (ext2 h : FVec Ideal S2x2048 .f32))))
        (mulf (broadcastInDim S2x2048x1024 ![0, 1] bcast_S2x2048_S2x2048x1024_0_1 (ext2 h : FVec Ideal S2x2048 .f32)) (ext3 x))
      : FVec Ideal S2x2048x1024 .f32) shapeCasts_S2x2048x1024_S4096x1024 : FVec Ideal S4096x1024 .f32)
      = ext2 fun t d => flat r t d + flat y t d * f ⟨t / 2048, by omega⟩ ⟨t % 2048, by omega⟩ + flat x t d * h ⟨t / 2048, by omega⟩ ⟨t % 2048, by omega⟩
        + h ⟨t / 2048, by omega⟩ ⟨t % 2048, by omega⟩ * flat x t d := by
  funext j
  idx_vars j
  pointwise
  rfl

theorem input_eq :
    (fun t d => flat r t d + flat (fun b i d => dh3 w s b i d * g d) t d * factor (flat x t)
      + flat x t d * coef (flat x t) (flat (fun b i d => dh3 w s b i d * g d) t)
      + coef (flat x t) (flat (fun b i d => dh3 w s b i d * g d) t) * flat x t d) = input x g w s r := by
  funext t d
  exact (back_eq (flat x t) (flat (fun b i d => dh3 w s b i d * g d) t) (flat r t d) d).trans rfl

theorem gain_eq (y z : Fin 2 → Fin 2048 → Fin 1024 → EReal) (f : Fin 2 → Fin 2048 → EReal) :
    (shapeCast S1x1024 (Host.reduceAdd (shapeCast S1x1x1024 (Host.reduceAdd (mulf (mulf (ext3 y : FVec Ideal S2x2048x1024 .f32)
      (broadcastInDim S2x2048x1024 ![0, 1, 2] bcast_S2x2048x1_S2x2048x1024_0_1_2 (ext3 (fun b i _ => f b i) : FVec Ideal S2x2048x1 .f32)))
      (ext3 z)) (constant S_ .f32 0x00000000#32) reducesTo_S2x2048x1024_S1024_d0_1 h_S_ : FVec Ideal S1024 .f32) shapeCasts_S1024_S1x1x1024 : FVec Ideal S1x1x1024 .f32)
      (constant S_ .f32 0x00000000#32) reducesTo_S1x1x1024_S1024_d0_1 h_S_ : FVec Ideal S1024 .f32) shapeCasts_S1024_S1x1024 : FVec Ideal S1x1024 .f32)
      = ext2 fun _ d => ∑ t, flat z t d * (flat y t d * f ⟨t / 2048, by omega⟩ ⟨t % 2048, by omega⟩) := by
  funext j
  idx_vars j
  pointwise
  simp only [Fin.sum_univ_one, zero_add]
  refine (sum_flat _).trans ?_
  exact Finset.sum_congr rfl fun t _ => mul_comm _ _
theorem reference_run (m : (ℓ : Loc nD τ sig) → Buf (Elt Ideal) ℓ) (ρ : Dev nD → PrngReg)
    (hx : ∀ c : Dev nD, m ((c.tc : Thread nD τ).loc main_arg0) = (ext3 x : FVec Ideal S2x2048x1024 .f32))
    (hg : ∀ c : Dev nD, m ((c.tc : Thread nD τ).loc main_arg1) = (ext1 g : FVec Ideal S1024 .f32))
    (hw : ∀ c : Dev nD, m ((c.tc : Thread nD τ).loc main_arg2) = (ext2 w : FVec Ideal S1024x4096 .f32))
    (hs : ∀ c : Dev nD, m ((c.tc : Thread nD τ).loc main_arg3) = (ext3 s : FVec Ideal S2x2048x4096 .f32))
    (hr : ∀ c : Dev nD, m ((c.tc : Thread nD τ).loc main_arg4) = (ext3 r : FVec Ideal S2x2048x1024 .f32)) :
    θ_run defs (onTc (τ := τ) (main (F := Ideal))) ⟨m, fun _ => 0, ρ⟩ fun z => ∀ c : Dev nD,
      z.2.mem ((c.tc : Thread nD τ).loc main_v39) = (ext2 (input x g w s r) : FVec Ideal S4096x1024 .f32)
      ∧ z.2.mem ((c.tc : Thread nD τ).loc main_v40) = (ext2 fun _ => gain x w s : FVec Ideal S1x1024 .f32)
      ∧ z.2.mem ((c.tc : Thread nD τ).loc main_arg0) = m ((c.tc : Thread nD τ).loc main_arg0)
      ∧ z.2.mem ((c.tc : Thread nD τ).loc main_arg1) = m ((c.tc : Thread nD τ).loc main_arg1)
      ∧ z.2.mem ((c.tc : Thread nD τ).loc main_arg2) = m ((c.tc : Thread nD τ).loc main_arg2)
      ∧ z.2.mem ((c.tc : Thread nD τ).loc main_arg3) = m ((c.tc : Thread nD τ).loc main_arg3)
      ∧ z.2.mem ((c.tc : Thread nD τ).loc main_arg4) = m ((c.tc : Thread nD τ).loc main_arg4) :=
  (θ_run defs _ _).mono (fun z h c => by
    refine ⟨(h c).1.trans ?_, (h c).2.1.trans ?_, (h c).2.2⟩
    · unfold res_main_v39
      rw [hx, hg, hw, hs, hr, dh_eq, weighted_eq, inner_eq x x, square_eq, factor_eq, inner_eq, coef_eq]
      exact (terms_eq x r _ _ _).trans (congrArg ext2 (input_eq x g w s r))
    · rw [hx, hw, hs, dh_eq, inner_eq x x, square_eq, factor_eq]
      exact gain_eq x _ _) (Value.run m ρ)

/-- The reference's frame: its run leaves the arguments alone, and the program declares no semaphore. -/
theorem reference_frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0 :=
  (θ_run defs _ _).mono (fun r h => ⟨fun c => (h c).2.2, sem_eq_zero_of_no_sems (by decide) r.2⟩) (Value.run (F := Ideal) m ρ)

end Reference

open Cert.Kernel6Ideal Cert.Kernel6Ideal.Gen

theorem quarters (t : Fin 4096) (d : Fin 1024) : (∑ f : Fin 1024, flat s t ⟨0 * 1024 + f, by omega⟩ * w d ⟨0 * 1024 + f, by omega⟩)
    + (∑ f : Fin 1024, flat s t ⟨1 * 1024 + f, by omega⟩ * w d ⟨1 * 1024 + f, by omega⟩)
    + (∑ f : Fin 1024, flat s t ⟨2 * 1024 + f, by omega⟩ * w d ⟨2 * 1024 + f, by omega⟩)
    + (∑ f : Fin 1024, flat s t ⟨3 * 1024 + f, by omega⟩ * w d ⟨3 * 1024 + f, by omega⟩) = dh w s t d := by
  rw [dh, sum_blocks 4 1024 rfl, Fin.sum_univ_four]
  rfl

/-- A block's product from its four parts. -/
def product (S0 S1 S2 S3 : Fin 512 → Fin 1024 → EReal) (W0 W1 W2 W3 : Fin 1 → Fin 1024 → Fin 1024 → EReal) (i : Fin 512) (d : Fin 1024) : EReal :=
  (∑ f, S0 i f * W0 0 d f) + (∑ f, S1 i f * W1 0 d f) + (∑ f, S2 i f * W2 0 d f) + (∑ f, S3 i f * W3 0 d f)

theorem product_eq (S0 S1 S2 S3 : Fin 512 → Fin 1024 → EReal) (W0 W1 W2 W3 : Fin 1 → Fin 1024 → Fin 1024 → EReal) :
    k0_pay6 (F := Ideal) (ext2 S0 : FVec Ideal S512x1024 .bf16) (ext3 W0 : FVec Ideal S1x1024x1024 .bf16) (ext2 S1 : FVec Ideal S512x1024 .bf16) (ext3 W1 : FVec Ideal S1x1024x1024 .bf16)
      (ext2 S2 : FVec Ideal S512x1024 .bf16) (ext3 W2 : FVec Ideal S1x1024x1024 .bf16) (ext2 S3 : FVec Ideal S512x1024 .bf16) (ext3 W3 : FVec Ideal S1x1024x1024 .bf16)
      = (ext2 (product S0 S1 S2 S3 W0 W1 W2 W3) : FVec Ideal S512x1024 .f32) := by
  funext j
  idx_vars j
  pointwise [k0_pay6]
  rfl

theorem x_read (X : Fin 512 → Fin 1024 → EReal) : k0_pay7 (F := Ideal) (ext2 X : FVec Ideal S512x1024 .f32) = (ext2 X : FVec Ideal S512x1024 .f32) := by
  funext j
  idx_vars j
  pointwise [k0_pay7]

theorem r_read (X : Fin 512 → Fin 1024 → EReal) : k0_pay8 (F := Ideal) (ext2 X : FVec Ideal S512x1024 .f32) = (ext2 X : FVec Ideal S512x1024 .f32) := by
  funext j
  idx_vars j
  pointwise [k0_pay8]

theorem factor_blk (X : Fin 512 → Fin 1024 → EReal) :
    k0_pay1 (F := Ideal) (ext2 X : FVec Ideal S512x1024 .f32) = (ext2 (fun i _ => factor (X i)) : FVec Ideal S512x1 .f32) := by
  funext j
  idx_vars j
  pointwise [k0_pay1]
  rfl

theorem normed_blk (X : Fin 512 → Fin 1024 → EReal) :
    k0_pay2 (F := Ideal) (ext2 X : FVec Ideal S512x1024 .f32) = (ext2 (fun i d => X i d * factor (X i)) : FVec Ideal S512x1024 .f32) := by
  unfold k0_pay2
  rw [factor_blk]
  funext j
  idx_vars j
  pointwise

theorem back_blk (D X R : Fin 512 → Fin 1024 → EReal) (G : Fin 1 → Fin 1024 → EReal) :
    k0_pay4 (F := Ideal) (ext2 D : FVec Ideal S512x1024 .f32) (ext2 X : FVec Ideal S512x1024 .f32) (ext2 R : FVec Ideal S512x1024 .f32) (ext2 G : FVec Ideal S1x1024 .f32)
      = (ext2 (fun i d => back (X i) (fun k => D i k * G 0 k) d + R i d) : FVec Ideal S512x1024 .f32) := by
  unfold k0_pay4
  rw [normed_blk, factor_blk]
  funext j
  idx_vars j
  pointwise
  rfl

theorem gain_blk (D X : Fin 512 → Fin 1024 → EReal) :
    k0_pay3 (F := Ideal) (ext2 D : FVec Ideal S512x1024 .f32) (ext2 X : FVec Ideal S512x1024 .f32)
      = (ext2 (fun _ d => ∑ i, D i d * (X i d * factor (X i))) : FVec Ideal S1x1024 .f32) := by
  unfold k0_pay3
  rw [normed_blk]
  funext j
  idx_vars j
  pointwise

theorem gain_next (D X : Fin 512 → Fin 1024 → EReal) (A : Fin 1 → Fin 1024 → EReal) :
    k0_pay5 (F := Ideal) (ext2 D : FVec Ideal S512x1024 .f32) (ext2 X : FVec Ideal S512x1024 .f32) (ext2 A : FVec Ideal S1x1024 .f32)
      = (ext2 (fun e d => A e d + ∑ i, D i d * (X i d * factor (X i))) : FVec Ideal S1x1024 .f32) := by
  unfold k0_pay5
  rw [gain_blk]
  funext j
  idx_vars j
  pointwise

variable (m : (ℓ : Loc nD τ sig) → Buf (Elt Ideal) ℓ) (c : Dev nD)

/-- The first weight in four slots of 1024 columns. -/
def slots (j : Fin 4) (d f : Fin 1024) : EReal := w d ⟨j * 1024 + f, by omega⟩

theorem s_eq (h : m ((c.tc : Thread nD τ).loc main_arg3) = (ext3 s : FVec Ideal S2x2048x4096 .f32)) :
    V m c main_v4 = (ext2 (flat s) : FVec Ideal S4096x4096 .bf16) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp
  rw [show m (c, Proc.tc.devRef main_arg3) = _ from h]
  funext j
  idx_vars j
  pointwise
  rfl

theorem w_eq (h : m ((c.tc : Thread nD τ).loc main_arg2) = (ext2 w : FVec Ideal S1024x4096 .f32)) :
    V m c main_v2 = (ext3 (slots w) : FVec Ideal S4x1024x1024 .bf16) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp
  rw [show m (c, Proc.tc.devRef main_arg2) = _ from h]
  funext j
  idx_vars j
  pointwise
  rfl

theorem x_eq (h : m ((c.tc : Thread nD τ).loc main_arg0) = (ext3 x : FVec Ideal S2x2048x1024 .f32)) :
    V m c main_v5 = (ext2 (flat x) : FVec Ideal S4096x1024 .f32) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp
  rw [show m (c, Proc.tc.devRef main_arg0) = _ from h]
  funext j
  idx_vars j
  pointwise
  rfl

theorem r_eq (h : m ((c.tc : Thread nD τ).loc main_arg4) = (ext3 r : FVec Ideal S2x2048x1024 .f32)) :
    V m c main_v6 = (ext2 (flat r) : FVec Ideal S4096x1024 .f32) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp
  rw [show m (c, Proc.tc.devRef main_arg4) = _ from h]
  funext j
  idx_vars j
  pointwise
  rfl

theorem g_eq (h : m ((c.tc : Thread nD τ).loc main_arg1) = (ext1 g : FVec Ideal S1024 .f32)) :
    V m c main_v7 = (ext2 fun _ => g : FVec Ideal S1x1024 .f32) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp
  rw [show m (c, Proc.tc.devRef main_arg1) = _ from h]
  funext j
  idx_vars j
  pointwise

theorem idx0 : ∀ t : Fin cfg0.N, win0_0.index t = ![t.val, 0] := (by decide +kernel : ∀ t : Fin grid0.N, _)
theorem idx1 : ∀ t : Fin cfg0.N, win0_1.index t = ![t.val, 1] := (by decide +kernel : ∀ t : Fin grid0.N, _)
theorem idx2 : ∀ t : Fin cfg0.N, win0_2.index t = ![t.val, 2] := (by decide +kernel : ∀ t : Fin grid0.N, _)
theorem idx3 : ∀ t : Fin cfg0.N, win0_3.index t = ![t.val, 3] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![1, 0, 0] := (by decide +kernel : ∀ t : Fin grid0.N, _)
theorem idx6 : ∀ t : Fin cfg0.N, win0_6.index t = ![2, 0, 0] := (by decide +kernel : ∀ t : Fin grid0.N, _)
theorem idx7 : ∀ t : Fin cfg0.N, win0_7.index t = ![3, 0, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![0, 0] := (by decide +kernel : ∀ t : Fin grid0.N, _)

theorem lt (t : Fin cfg0.N) : t.val < 8 := lt_of_lt_of_eq t.isLt (show cfg0.N = 8 from N_0)

/-- The rows a grid point meets. -/
def rows {n : ℕ} (x : Fin 4096 → Fin n → EReal) (t : ℕ) (ht : t < 8) (i : Fin 512) : Fin n → EReal := x ⟨t * 512 + i, by omega⟩
/-- Their columns of slot `j`. -/
def cut (x : Fin 4096 → Fin 4096 → EReal) (j : ℕ) (hj : j < 4) (t : ℕ) (ht : t < 8) (i : Fin 512) (f : Fin 1024) : EReal :=
  x ⟨t * 512 + i, by omega⟩ ⟨j * 1024 + f, by omega⟩

theorem s_blk0 {x : Fin 4096 → Fin 4096 → EReal} (h : V m c main_v4 = (ext2 x : FVec Ideal S4096x4096 .bf16)) (t : Fin cfg0.N) :
    iblk m c 0 t = (ext2 (cut x 0 (by omega) t (lt t)) : FVec Ideal S512x1024 .bf16) := by
  funext y
  idx_vars y
  blk_simp [iblk]
  rw [h]
  refine ext2_at x _ _ _ ?_ ?_ <;> blk_simp [idx0 t]

theorem w_blk0 {x : Fin 4 → Fin 1024 → Fin 1024 → EReal} (h : V m c main_v2 = (ext3 x : FVec Ideal S4x1024x1024 .bf16)) (t : Fin cfg0.N) :
    iblk m c 4 t = (ext3 fun _ => x 0 : FVec Ideal S1x1024x1024 .bf16) := by
  funext y
  idx_vars y
  blk_simp [iblk]
  rw [h]
  refine ext3_at x _ _ _ _ ?_ ?_ ?_ <;> blk_simp [idx4 t]
  rfl

theorem s_blk1 {x : Fin 4096 → Fin 4096 → EReal} (h : V m c main_v4 = (ext2 x : FVec Ideal S4096x4096 .bf16)) (t : Fin cfg0.N) :
    iblk m c 1 t = (ext2 (cut x 1 (by omega) t (lt t)) : FVec Ideal S512x1024 .bf16) := by
  funext y
  idx_vars y
  blk_simp [iblk]
  rw [h]
  refine ext2_at x _ _ _ ?_ ?_ <;> blk_simp [idx1 t]

theorem w_blk1 {x : Fin 4 → Fin 1024 → Fin 1024 → EReal} (h : V m c main_v2 = (ext3 x : FVec Ideal S4x1024x1024 .bf16)) (t : Fin cfg0.N) :
    iblk m c 5 t = (ext3 fun _ => x 1 : FVec Ideal S1x1024x1024 .bf16) := by
  funext y
  idx_vars y
  blk_simp [iblk]
  rw [h]
  refine ext3_at x _ _ _ _ ?_ ?_ ?_ <;> blk_simp [idx5 t]
  rfl

theorem s_blk2 {x : Fin 4096 → Fin 4096 → EReal} (h : V m c main_v4 = (ext2 x : FVec Ideal S4096x4096 .bf16)) (t : Fin cfg0.N) :
    iblk m c 2 t = (ext2 (cut x 2 (by omega) t (lt t)) : FVec Ideal S512x1024 .bf16) := by
  funext y
  idx_vars y
  blk_simp [iblk]
  rw [h]
  refine ext2_at x _ _ _ ?_ ?_ <;> blk_simp [idx2 t]

theorem w_blk2 {x : Fin 4 → Fin 1024 → Fin 1024 → EReal} (h : V m c main_v2 = (ext3 x : FVec Ideal S4x1024x1024 .bf16)) (t : Fin cfg0.N) :
    iblk m c 6 t = (ext3 fun _ => x 2 : FVec Ideal S1x1024x1024 .bf16) := by
  funext y
  idx_vars y
  blk_simp [iblk]
  rw [h]
  refine ext3_at x _ _ _ _ ?_ ?_ ?_ <;> blk_simp [idx6 t]
  rfl

theorem s_blk3 {x : Fin 4096 → Fin 4096 → EReal} (h : V m c main_v4 = (ext2 x : FVec Ideal S4096x4096 .bf16)) (t : Fin cfg0.N) :
    iblk m c 3 t = (ext2 (cut x 3 (by omega) t (lt t)) : FVec Ideal S512x1024 .bf16) := by
  funext y
  idx_vars y
  blk_simp [iblk]
  rw [h]
  refine ext2_at x _ _ _ ?_ ?_ <;> blk_simp [idx3 t]

theorem w_blk3 {x : Fin 4 → Fin 1024 → Fin 1024 → EReal} (h : V m c main_v2 = (ext3 x : FVec Ideal S4x1024x1024 .bf16)) (t : Fin cfg0.N) :
    iblk m c 7 t = (ext3 fun _ => x 3 : FVec Ideal S1x1024x1024 .bf16) := by
  funext y
  idx_vars y
  blk_simp [iblk]
  rw [h]
  refine ext3_at x _ _ _ _ ?_ ?_ ?_ <;> blk_simp [idx7 t]
  rfl

theorem x_blk {x : Fin 4096 → Fin 1024 → EReal} (h : V m c main_v5 = (ext2 x : FVec Ideal S4096x1024 .f32)) (t : Fin cfg0.N) :
    iblk m c 8 t = (ext2 (rows x t (lt t)) : FVec Ideal S512x1024 .f32) := by
  funext y
  idx_vars y
  blk_simp [iblk]
  rw [h]
  refine ext2_at x _ _ _ ?_ ?_ <;> blk_simp [idx8 t]

theorem r_blk {x : Fin 4096 → Fin 1024 → EReal} (h : V m c main_v6 = (ext2 x : FVec Ideal S4096x1024 .f32)) (t : Fin cfg0.N) :
    iblk m c 9 t = (ext2 (rows x t (lt t)) : FVec Ideal S512x1024 .f32) := by
  funext y
  idx_vars y
  blk_simp [iblk]
  rw [h]
  refine ext2_at x _ _ _ ?_ ?_ <;> blk_simp [idx9 t]

theorem g_blk {x : Fin 1 → Fin 1024 → EReal} (h : V m c main_v7 = (ext2 x : FVec Ideal S1x1024 .f32)) (t : Fin cfg0.N) :
    iblk m c 10 t = (ext2 x : FVec Ideal S1x1024 .f32) := by
  funext y
  idx_vars y
  blk_simp [iblk]
  rw [h]
  refine ext2_at x _ _ _ ?_ ?_ <;> blk_simp [idx10 t]

theorem rows_at {φ : FTy} (x : Fin 4096 → Fin 1024 → EReal) (t : ℕ) (ht : t < 8) (y : S512x1024.Idx) (j : S4096x1024.Idx)
    (h0 : (j 0).val = t * 512 + (y 0).val) (h1 : (j 1).val = (y 1).val) :
    (ext2 (rows x t ht) : FVec Ideal S512x1024 φ) y = (ext2 x : FVec Ideal S4096x1024 φ) j :=
  (ext2_at x j _ _ h0 h1).symm

/-- A block of 512 tokens' part of the weight's cotangent. -/
def part (d : Fin 1024) (t : Fin 8) : EReal :=
  ∑ i : Fin 512, rows (dh w s) t t.isLt i d * (rows (flat x) t t.isLt i d * factor (rows (flat x) t t.isLt i))

theorem gain_parts (d : Fin 1024) : ∑ t, part x w s d t = gain x w s d := by
  rw [gain, sum_blocks 8 512 rfl]
  rfl

theorem product_cut (t : ℕ) (ht : t < 8) :
    product (cut (flat s) 0 (by omega) t ht) (cut (flat s) 1 (by omega) t ht) (cut (flat s) 2 (by omega) t ht) (cut (flat s) 3 (by omega) t ht)
      (fun _ => slots w 0) (fun _ => slots w 1) (fun _ => slots w 2) (fun _ => slots w 3) = rows (dh w s) t ht := by
  funext i d
  exact quarters w s _ d

variable {x g w s r m c} (hx : m ((c.tc : Thread nD τ).loc main_arg0) = (ext3 x : FVec Ideal S2x2048x1024 .f32))
  (hg : m ((c.tc : Thread nD τ).loc main_arg1) = (ext1 g : FVec Ideal S1024 .f32))
  (hw : m ((c.tc : Thread nD τ).loc main_arg2) = (ext2 w : FVec Ideal S1024x4096 .f32))
  (hs : m ((c.tc : Thread nD τ).loc main_arg3) = (ext3 s : FVec Ideal S2x2048x4096 .f32))
  (hr : m ((c.tc : Thread nD τ).loc main_arg4) = (ext3 r : FVec Ideal S2x2048x1024 .f32))

include hw hs in
theorem product_blk (t : Fin cfg0.N) : k0_pay6 (F := Ideal) (iblk m c 0 t) (iblk m c 4 t) (iblk m c 1 t) (iblk m c 5 t) (iblk m c 2 t) (iblk m c 6 t) (iblk m c 3 t) (iblk m c 7 t)
    = (ext2 (rows (dh w s) t (lt t)) : FVec Ideal S512x1024 .f32) := by
  rw [s_blk0 m c (s_eq s m c hs), s_blk1 m c (s_eq s m c hs), s_blk2 m c (s_eq s m c hs), s_blk3 m c (s_eq s m c hs),
    w_blk0 m c (w_eq w m c hw), w_blk1 m c (w_eq w m c hw), w_blk2 m c (w_eq w m c hw), w_blk3 m c (w_eq w m c hw), product_eq, product_cut]

include hx hw hs

theorem gain_first (t : Fin cfg0.N) (h0 : t.val = 0) : (outsAt0 m c t.val t.isLt).2 = (ext2 (fun _ d => part x w s d ⟨0, by omega⟩) : FVec Ideal S1x1024 .f32) := by
  rw [outsAt0_A m c t (by omega) (by omega)]
  frame_out
  rw [product_blk hw hs, x_blk m c (x_eq x m c hx), x_read, gain_blk]
  obtain ⟨t, ht⟩ := t
  obtain rfl : t = 0 := h0
  rfl

theorem gain_at : ∀ (n : ℕ) (hn : n < cfg0.N), (outsAt0 m c n hn).2 = (ext2 (fun _ d => upto (part x w s d) n) : FVec Ideal S1x1024 .f32)
  | 0, hn => by
    rw [gain_first hx hw hs ⟨0, hn⟩ rfl]
    refine congrArg ext2 ?_
    funext e d
    exact (upto_zero _ _).symm
  | n + 1, hn => by
    have h8 : n + 1 < 8 := lt ⟨n + 1, hn⟩
    rw [outsAt0_B m c ⟨n + 1, hn⟩ (by show ¬(n + 1) % 8 = 0; omega) (by show 1 ≤ n + 1; omega)]
    frame_out
    rw [product_blk hw hs, x_blk m c (x_eq x m c hx), x_read, show outsAt0 m c (n + 1 - 1) _ = outsAt0 m c n (Nat.lt_of_succ_lt hn) from rfl,
      gain_at n (Nat.lt_of_succ_lt hn), gain_next]
    refine congrArg ext2 ?_
    funext e d
    exact (upto_succ (part x w s d) n h8).symm

include hg hr

theorem out (t : Fin cfg0.N) : (outsAt0 m c t.val t.isLt).1 = (ext2 (rows (input x g w s r) t (lt t)) : FVec Ideal S512x1024 .f32) := by
  by_cases h0 : t.val = 0
  · rw [outsAt0_A m c t (by omega) (by omega)]
    frame_out
    rw [product_blk hw hs, x_blk m c (x_eq x m c hx), r_blk m c (r_eq r m c hr), g_blk m c (g_eq g m c hg), x_read, r_read, back_blk]
    rfl
  · rw [outsAt0_B m c t (by have := lt t; omega) (by omega)]
    frame_out
    rw [product_blk hw hs, x_blk m c (x_eq x m c hx), r_blk m c (r_eq r m c hr), g_blk m c (g_eq g m c hg), x_read, r_read, back_blk]
    rfl

theorem final_input : (dats m 0 c).arrAt 11 cfg0.N = (ext2 (input x g w s r) : FVec Ideal S4096x1024 .f32) := by
  refine (dats m 0 c).arrAt_eq_of_covers 11 _ (by decide +kernel) fun t hf y => ?_
  blk_simp
  rw [after0_11, out hx hg hw hs hr t]
  refine rows_at (φ := .f32) _ t.val (lt t) y ((win0_11.blk t).view.emb y) ?_ ?_ <;> blk_simp [idx11 t]

omit hg hr hx hw hs in
theorem flush12 : ∀ t : Fin cfg0.N, (cfg0.win 12).flush t = true → t.val = 7 := (by decide +kernel : ∀ t : Fin grid0.N, _)

omit hg hr in
theorem final_gain : (dats m 0 c).arrAt 12 cfg0.N = (ext2 (fun _ => gain x w s) : FVec Ideal S1x1024 .f32) := by
  refine (dats m 0 c).arrAt_eq_of_covers 12 _ (by decide +kernel) fun t hf y => ?_
  have h7 := flush12 t hf
  blk_simp
  rw [after0_12, gain_at hx hw hs]
  have hu : ∀ d, upto (part x w s d) t.val = gain x w s d := fun d => (upto_last _ _ (by omega)).trans (gain_parts x w s d)
  simp only [hu]
  refine (ext2_at (φ := .f32) (fun _ : Fin 1 => gain x w s) ((win0_12.blk t).view.emb y) (y 0) (y 1) ?_ ?_).symm <;> blk_simp [idx12 t]

end Cert.MlpUpInput
-- ==== Proof.Layout.lean ====
/- Four-axis arrays of extended reals, and heads of `d` lanes laid in blocks of 128. -/
module

public import proofs.«01_k».proof.Proof.Grids

@[expose] public section

noncomputable section

namespace Cert.Layout

open Idealize.ShloMosaic

variable {a b c d : ℕ} {φ : FTy}

/-- A four-axis array. -/
def ext4 (f : Fin a → Fin b → Fin c → Fin d → EReal) : FVec Ideal ⟨4, ![a, b, c, d]⟩ φ := fun j => f (j 0) (j 1) (j 2) (j 3)

@[pointwise] theorem ext4_apply (f : Fin a → Fin b → Fin c → Fin d → EReal) (i : Fin a) (j : Fin b) (k : Fin c) (l : Fin d) :
    ext4 (φ := φ) f (ix4 i j k l) = f i j k l := rfl

theorem exists_ext4 (x : FVec Ideal ⟨4, ![a, b, c, d]⟩ φ) : ∃ f, x = ext4 f :=
  ⟨fun i j k l => x (ix4 i j k l), funext fun y => congrArg x (by funext t; fin_cases t <;> rfl)⟩

/-- Eight heads of `d` lanes, each in a block of 128, a token a row. -/
def laid (x : Fin 2 → Fin 2048 → Fin 8 → Fin d → EReal) (t : Fin 4096) (e : Fin 1024) : EReal :=
  if h : e % 128 < d then x ⟨t / 2048, by omega⟩ ⟨t % 2048, by omega⟩ ⟨e / 128, by omega⟩ ⟨e % 128, h⟩ else 0

/-- `laid` where the head's number is guarded too, as a padding's value is. -/
theorem laid_guard (x : Fin 2 → Fin 2048 → Fin 8 → Fin d → EReal) (t : Fin 4096) (e : Fin 1024) (z : EReal) (hz : z = 0) :
    (if h : t.val / 2048 < 2 ∧ t.val % 2048 < 2048 ∧ e.val / 128 < 8 ∧ e.val % 128 < d then
      x ⟨t / 2048, h.1⟩ ⟨t % 2048, h.2.1⟩ ⟨e / 128, h.2.2.1⟩ ⟨e % 128, h.2.2.2⟩ else z) = laid x t e := by
  subst hz
  unfold laid
  by_cases h : e.val % 128 < d
  · rw [dif_pos h, dif_pos (by omega)]
  · rw [dif_neg h, dif_neg (by omega)]

/-- The zero that paddings are filled with. -/
theorem zero_eq : (FloatOps.sitofp (F := Ideal) .f32 (0#32 : BitVec 32) : EReal) = 0 := by
  show ((((0#32 : BitVec 32).toInt : ℤ) : ℝ) : EReal) = 0
  simp

end Cert.Layout
-- ==== Proof.MergeWeight.lean ====
/- The gradient of the weight after the gated sum: the gated sum of the mixers against the cotangent of its product, summed
   over the tokens in four blocks. -/
module

public import proofs.«01_k».proof.Proof.Grids
public import proofs.«01_k».proof.Proof.Gen.Kernel9Ideal.Value
public import proofs.«01_k».proof.Proof.Gen.Reference9Ideal
public import proofs.«01_k».proof.Proof.Gen.Reference9Ideal.Run
public import proofs.«01_k».proof.Proof.MlpDownWeight
public import proofs.«01_k».proof.Proof.Layout
public import proofs.«01_k».proof.Proof.Sums
public import Idealize.ShloMosaic.Lib.Pipeline.ReadBack

@[expose] public section

set_option maxRecDepth 16384

noncomputable section

namespace Cert.MergeWeight

open Cert.Grids Cert.Layout Cert.Sums Idealize.ShloMosaic Idealize.ShloMosaic.TcCoe Idealize.SL.Sem

section Math

variable (x : Fin 2 → Fin 2048 → Fin 1024 → EReal) (g : Fin 2 → Fin 2048 → Fin 1024 → EReal)

/-- The gradient: a feature of the gated sum a row. -/
def grad (f : Fin 1024) (d : Fin 1024) : EReal := ∑ t, flat x t f * flat g t d

end Math

section Reference

open Cert.Reference9Ideal Cert.Reference9Ideal.Gen

variable (x : Fin 2 → Fin 2048 → Fin 1024 → EReal) (g : Fin 2 → Fin 2048 → Fin 1024 → EReal)

theorem reference_eq : (truncf .bf16 (transpose S1024x1024 [1, 0] (Host.dotGeneral dot_S2x2048x1024_S2x2048x1024_S1024x1024_01_01_2_2_n_n none
      (ext3 g : FVec Ideal S2x2048x1024 .f32) (ext3 x : FVec Ideal S2x2048x1024 .f32) : FVec Ideal S1024x1024 .f32)
      transposes_S1024x1024_S1024x1024_1_0 : FVec Ideal S1024x1024 .f32) bitsLt_bf16_f32 : FVec Ideal S1024x1024 .bf16) = ext2 (grad x g) := by
  funext j
  idx_vars j
  pointwise
  refine (MlpDownWeight.sum_flat _).trans ?_
  exact Finset.sum_congr rfl fun t _ => mul_comm _ _

theorem reference_run (m : (ℓ : Loc nD τ sig) → Buf (Elt Ideal) ℓ) (ρ : Dev nD → PrngReg)
    (hx : ∀ c : Dev nD, m ((c.tc : Thread nD τ).loc main_arg0) = (ext3 x : FVec Ideal S2x2048x1024 .f32))
    (hg : ∀ c : Dev nD, m ((c.tc : Thread nD τ).loc main_arg1) = (ext3 g : FVec Ideal S2x2048x1024 .f32)) :
    θ_run defs (onTc (τ := τ) (main (F := Ideal))) ⟨m, fun _ => 0, ρ⟩ fun r => ∀ c : Dev nD,
      r.2.mem ((c.tc : Thread nD τ).loc main_v2) = (ext2 (grad x g) : FVec Ideal S1024x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
    refine ⟨(h c).1.trans ?_, (h c).2⟩
    rw [hx, hg]
    exact reference_eq x g) (Value.run m ρ)

/-- The reference's frame: its run leaves the arguments alone, and the program declares no semaphore. -/
theorem reference_frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, sem_eq_zero_of_no_sems (by decide) r.2⟩) (Value.run (F := Ideal) m ρ)

end Reference

open Cert.Kernel9Ideal Cert.Kernel9Ideal.Gen

variable (x : Fin 2 → Fin 2048 → Fin 1024 → EReal) (g : Fin 2 → Fin 2048 → Fin 1024 → EReal)

/-- A block's part of the gradient. -/
def part (U : Fin 1024 → Fin 1024 → EReal) (G : Fin 1024 → Fin 1024 → EReal) (f : Fin 1024) (d : Fin 1024) : EReal := ∑ r, U r f * G r d

theorem first_eq (U : Fin 1024 → Fin 1024 → EReal) (G : Fin 1024 → Fin 1024 → EReal) :
    k0_pay2 (F := Ideal) (ext2 U : FVec Ideal S1024x1024 .bf16) (ext2 G : FVec Ideal S1024x1024 .f32) = (ext2 (part U G) : FVec Ideal S1024x1024 .f32) := by
  funext j
  idx_vars j
  pointwise [k0_pay2, k0_pay1]
  rfl

theorem next_eq (U : Fin 1024 → Fin 1024 → EReal) (G : Fin 1024 → Fin 1024 → EReal) (A : Fin 1024 → Fin 1024 → EReal) :
    k0_pay3 (F := Ideal) (ext2 U : FVec Ideal S1024x1024 .bf16) (ext2 G : FVec Ideal S1024x1024 .f32) (ext2 A : FVec Ideal S1024x1024 .f32)
      = (ext2 fun f d => A f d + part U G f d : FVec Ideal S1024x1024 .f32) := by
  funext j
  idx_vars j
  pointwise [k0_pay3, k0_pay1]
  rfl

theorem last_eq (A : Fin 1024 → Fin 1024 → EReal) :
    k0_pay4 (F := Ideal) (ext2 A : FVec Ideal S1024x1024 .f32) = (ext2 A : FVec Ideal S1024x1024 .bf16) := by
  funext j
  idx_vars j
  pointwise [k0_pay4]

variable (m : (ℓ : Loc nD τ sig) → Buf (Elt Ideal) ℓ) (c : Dev nD)

theorem x_eq (h : m ((c.tc : Thread nD τ).loc main_arg0) = (ext3 x : FVec Ideal S2x2048x1024 .f32)) :
    V m c main_v1 = (ext2 (flat x) : FVec Ideal S4096x1024 .bf16) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp
  rw [show m (c, Proc.tc.devRef main_arg0) = _ from h]
  funext j
  idx_vars j
  pointwise
  rfl

theorem ct_eq (h : m ((c.tc : Thread nD τ).loc main_arg1) = (ext3 g : FVec Ideal S2x2048x1024 .f32)) :
    V m c main_v2 = (ext2 (flat g) : FVec Ideal S4096x1024 .f32) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp
  rw [show m (c, Proc.tc.devRef main_arg1) = _ from h]
  funext j
  idx_vars j
  pointwise
  rfl

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)

theorem lt (t : Fin cfg0.N) : t.val < 4 := lt_of_lt_of_eq t.isLt (show cfg0.N = 4 from N_0)

/-- The `i`-th block of 1024 tokens. -/
def rows {k : ℕ} (y : Fin 4096 → Fin k → EReal) (i : Fin 4) (r : Fin 1024) (e : Fin k) : EReal := y ⟨i * 1024 + r, by omega⟩ e

theorem x_blk {x : Fin 4096 → Fin 1024 → EReal} (h : V m c main_v1 = (ext2 x : FVec Ideal S4096x1024 .bf16)) (t : Fin cfg0.N) :
    iblk m c 0 t = (ext2 (rows x ⟨t, lt t⟩) : FVec Ideal S1024x1024 .bf16) := by
  funext y
  idx_vars y
  blk_simp [iblk]
  rw [h]
  refine ext2_at x _ _ _ ?_ ?_ <;> blk_simp [idx0 t]

theorem ct_blk {x : Fin 4096 → Fin 1024 → EReal} (h : V m c main_v2 = (ext2 x : FVec Ideal S4096x1024 .f32)) (t : Fin cfg0.N) :
    iblk m c 1 t = (ext2 (rows x ⟨t, lt t⟩) : FVec Ideal S1024x1024 .f32) := by
  funext y
  idx_vars y
  blk_simp [iblk]
  rw [h]
  refine ext2_at x _ _ _ ?_ ?_ <;> blk_simp [idx1 t]

/-- The parts of the blocks. -/
def parts (i : Fin 4) (f : Fin 1024) (d : Fin 1024) : EReal := part (rows (flat x) i) (rows (flat g) i) f d

theorem parts_all (f : Fin 1024) (d : Fin 1024) : upto (fun i => parts x g i f d) 3 = grad x g f d :=
  (upto_last _ _ rfl).trans (sum_blocks 4 1024 rfl fun t => flat x t f * flat g t d).symm

variable {x g m c} (hx : m ((c.tc : Thread nD τ).loc main_arg0) = (ext3 x : FVec Ideal S2x2048x1024 .f32))
  (hg : m ((c.tc : Thread nD τ).loc main_arg1) = (ext3 g : FVec Ideal S2x2048x1024 .f32))

include hx hg

theorem sum_at : ∀ (n : ℕ) (hn : n < cfg0.N), n < 3 →
    (outsAt0 m c n hn).2 = (ext2 (fun f d => upto (fun i => parts x g i f d) n) : FVec Ideal S1024x1024 .f32)
  | 0, hn, _ => by
    rw [outsAt0_A m c ⟨0, hn⟩ rfl (by show ¬1 ≤ 0; omega) (by show ¬0 % 4 = 3; omega)]
    frame_out
    rw [x_blk m c (x_eq x m c hx), ct_blk m c (ct_eq g m c hg), first_eq]
    refine congrArg ext2 ?_
    funext f d
    exact (upto_zero (fun i => parts x g i f d) (by omega)).symm
  | n + 1, hn, h => by
    rw [outsAt0_B m c ⟨n + 1, hn⟩ (by show ¬(n + 1) % 4 = 0; omega) (by show 1 ≤ n + 1; omega) (by show ¬(n + 1) % 4 = 3; omega)]
    frame_out
    rw [x_blk m c (x_eq x m c hx), ct_blk m c (ct_eq g m c hg), show outsAt0 m c (n + 1 - 1) _ = outsAt0 m c n (Nat.lt_of_succ_lt hn) from rfl,
      sum_at n (Nat.lt_of_succ_lt hn) (by omega), read_unread_whole, next_eq]
    refine congrArg ext2 ?_
    funext f d
    exact (upto_succ (fun i => parts x g i f d) n (by omega)).symm

theorem out (t : Fin cfg0.N) (h : t.val = 3) : (outsAt0 m c t.val t.isLt).1 = (ext2 (grad x g) : FVec Ideal S1024x1024 .bf16) := by
  obtain ⟨n, hn⟩ := t
  obtain rfl : n = 3 := h
  rw [outsAt0_C m c ⟨3, hn⟩ (by show ¬3 % 4 = 0; omega) (by show 1 ≤ 3; omega) rfl]
  frame_out
  rw [x_blk m c (x_eq x m c hx), ct_blk m c (ct_eq g m c hg), show outsAt0 m c (3 - 1) _ = outsAt0 m c 2 (Nat.lt_of_succ_lt hn) from rfl,
    sum_at hx hg 2 (Nat.lt_of_succ_lt hn) (by omega), read_unread_whole, next_eq, last_eq]
  refine congrArg ext2 ?_
  funext f d
  rw [← parts_all]
  exact (upto_succ (fun i => parts x g i f d) 2 (by omega)).symm

omit hx hg in
theorem flush2 : ∀ t : Fin cfg0.N, (cfg0.win 2).flush t = true → t.val = 3 := (by decide +kernel : ∀ t : Fin grid0.N, _)

theorem final : (dats m 0 c).arrAt 2 cfg0.N = (ext2 (grad x g) : FVec Ideal S1024x1024 .bf16) := by
  refine (dats m 0 c).arrAt_eq_of_covers 2 _ (by decide +kernel) fun t hf y => ?_
  blk_simp
  rw [after0_2, out hx hg t (flush2 t hf)]
  refine (ext2_at (φ := .bf16) _ ((win0_2.blk t).view.emb y) (y 0) (y 1) ?_ ?_).symm <;> blk_simp [idx2 t]

end Cert.MergeWeight
-- ==== Proof.EmbedWeight.lean ====
/- The gradient of the layer embedding's weight: the embeddings against the cotangent of their product, summed over the tokens
   in four blocks. -/
module

public import proofs.«01_k».proof.Proof.Grids
public import proofs.«01_k».proof.Proof.Gen.Kernel18Ideal.Value
public import proofs.«01_k».proof.Proof.Gen.Reference18Ideal
public import proofs.«01_k».proof.Proof.Gen.Reference18Ideal.Run
public import proofs.«01_k».proof.Proof.MlpDownWeight
public import proofs.«01_k».proof.Proof.Layout
public import proofs.«01_k».proof.Proof.Sums
public import Idealize.ShloMosaic.Lib.Pipeline.ReadBack

@[expose] public section

set_option maxRecDepth 16384

noncomputable section

namespace Cert.EmbedWeight

open Cert.Grids Cert.Layout Cert.Sums Idealize.ShloMosaic Idealize.ShloMosaic.TcCoe Idealize.SL.Sem

section Math

variable (x : Fin 2 → Fin 2048 → Fin 256 → EReal) (g : Fin 2 → Fin 2048 → Fin 1024 → EReal)

/-- The gradient: a feature of the embedding a row. -/
def grad (f : Fin 256) (d : Fin 1024) : EReal := ∑ t, flat x t f * flat g t d

end Math

section Reference

open Cert.Reference18Ideal Cert.Reference18Ideal.Gen

variable (x : Fin 2 → Fin 2048 → Fin 256 → EReal) (g : Fin 2 → Fin 2048 → Fin 1024 → EReal)

theorem reference_eq : (truncf .bf16 (transpose S256x1024 [1, 0] (Host.dotGeneral dot_S2x2048x1024_S2x2048x256_S1024x256_01_01_2_2_n_n none
      (ext3 g : FVec Ideal S2x2048x1024 .f32) (ext3 x : FVec Ideal S2x2048x256 .f32) : FVec Ideal S1024x256 .f32)
      transposes_S1024x256_S256x1024_1_0 : FVec Ideal S256x1024 .f32) bitsLt_bf16_f32 : FVec Ideal S256x1024 .bf16) = ext2 (grad x g) := by
  funext j
  idx_vars j
  pointwise
  refine (MlpDownWeight.sum_flat _).trans ?_
  exact Finset.sum_congr rfl fun t _ => mul_comm _ _

theorem reference_run (m : (ℓ : Loc nD τ sig) → Buf (Elt Ideal) ℓ) (ρ : Dev nD → PrngReg)
    (hx : ∀ c : Dev nD, m ((c.tc : Thread nD τ).loc main_arg0) = (ext3 x : FVec Ideal S2x2048x256 .f32))
    (hg : ∀ c : Dev nD, m ((c.tc : Thread nD τ).loc main_arg1) = (ext3 g : FVec Ideal S2x2048x1024 .f32)) :
    θ_run defs (onTc (τ := τ) (main (F := Ideal))) ⟨m, fun _ => 0, ρ⟩ fun r => ∀ c : Dev nD,
      r.2.mem ((c.tc : Thread nD τ).loc main_v2) = (ext2 (grad x g) : FVec Ideal S256x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
    refine ⟨(h c).1.trans ?_, (h c).2⟩
    rw [hx, hg]
    exact reference_eq x g) (Value.run m ρ)

/-- The reference's frame: its run leaves the arguments alone, and the program declares no semaphore. -/
theorem reference_frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, sem_eq_zero_of_no_sems (by decide) r.2⟩) (Value.run (F := Ideal) m ρ)

end Reference

open Cert.Kernel18Ideal Cert.Kernel18Ideal.Gen

variable (x : Fin 2 → Fin 2048 → Fin 256 → EReal) (g : Fin 2 → Fin 2048 → Fin 1024 → EReal)

/-- A block's part of the gradient. -/
def part (U : Fin 1024 → Fin 256 → EReal) (G : Fin 1024 → Fin 1024 → EReal) (f : Fin 256) (d : Fin 1024) : EReal := ∑ r, U r f * G r d

theorem first_eq (U : Fin 1024 → Fin 256 → EReal) (G : Fin 1024 → Fin 1024 → EReal) :
    k0_pay2 (F := Ideal) (ext2 U : FVec Ideal S1024x256 .f32) (ext2 G : FVec Ideal S1024x1024 .bf16) = (ext2 (part U G) : FVec Ideal S256x1024 .f32) := by
  funext j
  idx_vars j
  pointwise [k0_pay2, k0_pay1]
  rfl

theorem next_eq (U : Fin 1024 → Fin 256 → EReal) (G : Fin 1024 → Fin 1024 → EReal) (A : Fin 256 → Fin 1024 → EReal) :
    k0_pay3 (F := Ideal) (ext2 U : FVec Ideal S1024x256 .f32) (ext2 G : FVec Ideal S1024x1024 .bf16) (ext2 A : FVec Ideal S256x1024 .f32)
      = (ext2 fun f d => A f d + part U G f d : FVec Ideal S256x1024 .f32) := by
  funext j
  idx_vars j
  pointwise [k0_pay3, k0_pay1]
  rfl

theorem last_eq (A : Fin 256 → Fin 1024 → EReal) :
    k0_pay4 (F := Ideal) (ext2 A : FVec Ideal S256x1024 .f32) = (ext2 A : FVec Ideal S256x1024 .bf16) := by
  funext j
  idx_vars j
  pointwise [k0_pay4]

variable (m : (ℓ : Loc nD τ sig) → Buf (Elt Ideal) ℓ) (c : Dev nD)

theorem x_eq (h : m ((c.tc : Thread nD τ).loc main_arg0) = (ext3 x : FVec Ideal S2x2048x256 .f32)) :
    V m c main_v0 = (ext2 (flat x) : FVec Ideal S4096x256 .f32) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp
  rw [show m (c, Proc.tc.devRef main_arg0) = _ from h]
  funext j
  idx_vars j
  pointwise
  rfl

theorem ct_eq (h : m ((c.tc : Thread nD τ).loc main_arg1) = (ext3 g : FVec Ideal S2x2048x1024 .f32)) :
    V m c main_v2 = (ext2 (flat g) : FVec Ideal S4096x1024 .bf16) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp
  rw [show m (c, Proc.tc.devRef main_arg1) = _ from h]
  funext j
  idx_vars j
  pointwise
  rfl

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)

theorem lt (t : Fin cfg0.N) : t.val < 4 := lt_of_lt_of_eq t.isLt (show cfg0.N = 4 from N_0)

/-- The `i`-th block of 1024 tokens. -/
def rows {k : ℕ} (y : Fin 4096 → Fin k → EReal) (i : Fin 4) (r : Fin 1024) (e : Fin k) : EReal := y ⟨i * 1024 + r, by omega⟩ e

theorem x_blk {x : Fin 4096 → Fin 256 → EReal} (h : V m c main_v0 = (ext2 x : FVec Ideal S4096x256 .f32)) (t : Fin cfg0.N) :
    iblk m c 0 t = (ext2 (rows x ⟨t, lt t⟩) : FVec Ideal S1024x256 .f32) := by
  funext y
  idx_vars y
  blk_simp [iblk]
  rw [h]
  refine ext2_at x _ _ _ ?_ ?_ <;> blk_simp [idx0 t]

theorem ct_blk {x : Fin 4096 → Fin 1024 → EReal} (h : V m c main_v2 = (ext2 x : FVec Ideal S4096x1024 .bf16)) (t : Fin cfg0.N) :
    iblk m c 1 t = (ext2 (rows x ⟨t, lt t⟩) : FVec Ideal S1024x1024 .bf16) := by
  funext y
  idx_vars y
  blk_simp [iblk]
  rw [h]
  refine ext2_at x _ _ _ ?_ ?_ <;> blk_simp [idx1 t]

/-- The parts of the blocks. -/
def parts (i : Fin 4) (f : Fin 256) (d : Fin 1024) : EReal := part (rows (flat x) i) (rows (flat g) i) f d

theorem parts_all (f : Fin 256) (d : Fin 1024) : upto (fun i => parts x g i f d) 3 = grad x g f d :=
  (upto_last _ _ rfl).trans (sum_blocks 4 1024 rfl fun t => flat x t f * flat g t d).symm

variable {x g m c} (hx : m ((c.tc : Thread nD τ).loc main_arg0) = (ext3 x : FVec Ideal S2x2048x256 .f32))
  (hg : m ((c.tc : Thread nD τ).loc main_arg1) = (ext3 g : FVec Ideal S2x2048x1024 .f32))

include hx hg

theorem sum_at : ∀ (n : ℕ) (hn : n < cfg0.N), n < 3 →
    (outsAt0 m c n hn).2 = (ext2 (fun f d => upto (fun i => parts x g i f d) n) : FVec Ideal S256x1024 .f32)
  | 0, hn, _ => by
    rw [outsAt0_A m c ⟨0, hn⟩ rfl (by show ¬1 ≤ 0; omega) (by show ¬0 % 4 = 3; omega)]
    frame_out
    rw [x_blk m c (x_eq x m c hx), ct_blk m c (ct_eq g m c hg), first_eq]
    refine congrArg ext2 ?_
    funext f d
    exact (upto_zero (fun i => parts x g i f d) (by omega)).symm
  | n + 1, hn, h => by
    rw [outsAt0_B m c ⟨n + 1, hn⟩ (by show ¬(n + 1) % 4 = 0; omega) (by show 1 ≤ n + 1; omega) (by show ¬(n + 1) % 4 = 3; omega)]
    frame_out
    rw [x_blk m c (x_eq x m c hx), ct_blk m c (ct_eq g m c hg), show outsAt0 m c (n + 1 - 1) _ = outsAt0 m c n (Nat.lt_of_succ_lt hn) from rfl,
      sum_at n (Nat.lt_of_succ_lt hn) (by omega), read_unread_whole, next_eq]
    refine congrArg ext2 ?_
    funext f d
    exact (upto_succ (fun i => parts x g i f d) n (by omega)).symm

theorem out (t : Fin cfg0.N) (h : t.val = 3) : (outsAt0 m c t.val t.isLt).1 = (ext2 (grad x g) : FVec Ideal S256x1024 .bf16) := by
  obtain ⟨n, hn⟩ := t
  obtain rfl : n = 3 := h
  rw [outsAt0_C m c ⟨3, hn⟩ (by show ¬3 % 4 = 0; omega) (by show 1 ≤ 3; omega) rfl]
  frame_out
  rw [x_blk m c (x_eq x m c hx), ct_blk m c (ct_eq g m c hg), show outsAt0 m c (3 - 1) _ = outsAt0 m c 2 (Nat.lt_of_succ_lt hn) from rfl,
    sum_at hx hg 2 (Nat.lt_of_succ_lt hn) (by omega), read_unread_whole, next_eq, last_eq]
  refine congrArg ext2 ?_
  funext f d
  rw [← parts_all]
  exact (upto_succ (fun i => parts x g i f d) 2 (by omega)).symm

omit hx hg in
theorem flush2 : ∀ t : Fin cfg0.N, (cfg0.win 2).flush t = true → t.val = 3 := (by decide +kernel : ∀ t : Fin grid0.N, _)

theorem final : (dats m 0 c).arrAt 2 cfg0.N = (ext2 (grad x g) : FVec Ideal S256x1024 .bf16) := by
  refine (dats m 0 c).arrAt_eq_of_covers 2 _ (by decide +kernel) fun t hf y => ?_
  blk_simp
  rw [after0_2, out hx hg t (flush2 t hf)]
  refine (ext2_at (φ := .bf16) _ ((win0_2.blk t).view.emb y) (y 0) (y 1) ?_ ?_).symm <;> blk_simp [idx2 t]

end Cert.EmbedWeight
-- ==== Proof.QueryWeight.lean ====
/- The gradient of mixer A's query weight: the latent queries against the cotangent of the heads' queries, summed over the
   tokens in two halves. -/
module

public import proofs.«01_k».proof.Proof.Grids
public import proofs.«01_k».proof.Proof.Gen.Kernel19Ideal.Value
public import proofs.«01_k».proof.Proof.Gen.Reference19Ideal
public import proofs.«01_k».proof.Proof.Gen.Reference19Ideal.Run
public import proofs.«01_k».proof.Proof.MlpDownWeight
public import proofs.«01_k».proof.Proof.Layout
public import proofs.«01_k».proof.Proof.Sums
public import Idealize.ShloMosaic.Lib.Pipeline.ReadBack

@[expose] public section

set_option maxRecDepth 16384

noncomputable section

namespace Cert.QueryWeight

open Cert.Grids Cert.Layout Cert.Sums Idealize.ShloMosaic Idealize.ShloMosaic.TcCoe Idealize.SL.Sem

section Math

variable (x : Fin 2 → Fin 2048 → Fin 256 → EReal) (g : Fin 2 → Fin 2048 → Fin 8 → Fin 96 → EReal)

/-- The gradient: a latent feature a row, every head's columns in a block of 128. -/
def grad (f : Fin 256) (d : Fin 1024) : EReal := ∑ t, flat x t f * laid g t d

end Math

section Reference

open Cert.Reference19Ideal Cert.Reference19Ideal.Gen

variable (x : Fin 2 → Fin 2048 → Fin 256 → EReal) (g : Fin 2 → Fin 2048 → Fin 8 → Fin 96 → EReal)

theorem reference_eq : (truncf .bf16 (shapeCast S256x1024 (pad S256x8x128 ![0, 0, 0] ![0, 0, 32] ![0, 0, 0] (transpose S256x8x96 [2, 0, 1]
      (Host.dotGeneral dot_S2x2048x8x96_S2x2048x256_S8x96x256_01_01_23_2_n_n none (ext4 g : FVec Ideal S2x2048x8x96 .f32)
      (ext3 x : FVec Ideal S2x2048x256 .f32) : FVec Ideal S8x96x256 .f32) transposes_S8x96x256_S256x8x96_2_0_1 : FVec Ideal S256x8x96 .f32)
      (sitofp .f32 (constantI S_ 32 0#32)) pads_S256x8x96_S256x8x128_000_000_0320 h_S_) shapeCasts_S256x8x128_S256x1024 : FVec Ideal S256x1024 .f32)
      bitsLt_bf16_f32 : FVec Ideal S256x1024 .bf16) = ext2 (grad x g) := by
  funext j
  idx_vars j
  pointwise
  have hd : ((j1 : ℕ) / 128 < 8 ∧ (j1 : ℕ) % 128 < 96) ↔ (j1 : ℕ) % 128 < 96 := by omega
  unfold grad laid
  by_cases h : (j1 : ℕ) % 128 < 96
  · rw [dif_pos (hd.mpr h)]
    refine (MlpDownWeight.sum_flat _).trans (Finset.sum_congr rfl fun t _ => ?_)
    rw [dif_pos h]
    exact mul_comm _ _
  · rw [dif_neg (fun h' => h (hd.mp h'))]
    refine zero_eq.trans (Finset.sum_eq_zero fun t _ => ?_).symm
    rw [dif_neg h]
    exact mul_zero _

theorem reference_run (m : (ℓ : Loc nD τ sig) → Buf (Elt Ideal) ℓ) (ρ : Dev nD → PrngReg)
    (hx : ∀ c : Dev nD, m ((c.tc : Thread nD τ).loc main_arg0) = (ext3 x : FVec Ideal S2x2048x256 .f32))
    (hg : ∀ c : Dev nD, m ((c.tc : Thread nD τ).loc main_arg1) = (ext4 g : FVec Ideal S2x2048x8x96 .f32)) :
    θ_run defs (onTc (τ := τ) (main (F := Ideal))) ⟨m, fun _ => 0, ρ⟩ fun r => ∀ c : Dev nD,
      r.2.mem ((c.tc : Thread nD τ).loc main_v4) = (ext2 (grad x g) : FVec Ideal S256x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
    refine ⟨(h c).1.trans ?_, (h c).2⟩
    rw [hx, hg]
    exact reference_eq x g) (Value.run m ρ)

/-- The reference's frame: its run leaves the arguments alone, and the program declares no semaphore. -/
theorem reference_frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, sem_eq_zero_of_no_sems (by decide) r.2⟩) (Value.run (F := Ideal) m ρ)

end Reference

open Cert.Kernel19Ideal Cert.Kernel19Ideal.Gen

variable (x : Fin 2 → Fin 2048 → Fin 256 → EReal) (g : Fin 2 → Fin 2048 → Fin 8 → Fin 96 → EReal)

/-- A block's part of the gradient. -/
def part (U : Fin 2048 → Fin 256 → EReal) (G : Fin 2048 → Fin 1024 → EReal) (f : Fin 256) (d : Fin 1024) : EReal := ∑ r, U r f * G r d

theorem first_eq (U : Fin 2048 → Fin 256 → EReal) (G : Fin 2048 → Fin 1024 → EReal) :
    k0_pay2 (F := Ideal) (ext2 U : FVec Ideal S2048x256 .bf16) (ext2 G : FVec Ideal S2048x1024 .bf16) = (ext2 (part U G) : FVec Ideal S256x1024 .f32) := by
  funext j
  idx_vars j
  pointwise [k0_pay2, k0_pay1]
  rfl

theorem next_eq (U : Fin 2048 → Fin 256 → EReal) (G : Fin 2048 → Fin 1024 → EReal) (A : Fin 256 → Fin 1024 → EReal) :
    k0_pay3 (F := Ideal) (ext2 U : FVec Ideal S2048x256 .bf16) (ext2 G : FVec Ideal S2048x1024 .bf16) (ext2 A : FVec Ideal S256x1024 .f32)
      = (ext2 fun f d => A f d + part U G f d : FVec Ideal S256x1024 .f32) := by
  funext j
  idx_vars j
  pointwise [k0_pay3, k0_pay1]
  rfl

theorem last_eq (A : Fin 256 → Fin 1024 → EReal) :
    k0_pay4 (F := Ideal) (ext2 A : FVec Ideal S256x1024 .f32) = (ext2 A : FVec Ideal S256x1024 .bf16) := by
  funext j
  idx_vars j
  pointwise [k0_pay4]

variable (m : (ℓ : Loc nD τ sig) → Buf (Elt Ideal) ℓ) (c : Dev nD)

theorem x_eq (h : m ((c.tc : Thread nD τ).loc main_arg0) = (ext3 x : FVec Ideal S2x2048x256 .f32)) :
    V m c main_v1 = (ext2 (flat x) : FVec Ideal S4096x256 .bf16) := by
  simp only [V, hostOps0, hostOps0_1, hostOps0_2, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp
  rw [show m (c, Proc.tc.devRef main_arg0) = _ from h]
  funext j
  idx_vars j
  pointwise
  rfl

theorem ct_eq (h : m ((c.tc : Thread nD τ).loc main_arg1) = (ext4 g : FVec Ideal S2x2048x8x96 .f32)) :
    V m c main_v4 = (ext2 (laid g) : FVec Ideal S4096x1024 .bf16) := by
  simp only [V, hostOps0, hostOps0_1, hostOps0_2, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp
  rw [show m (c, Proc.tc.devRef main_arg1) = _ from h]
  funext j
  idx_vars j
  pointwise
  exact laid_guard g j0 j1 _ zero_eq

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)

theorem lt (t : Fin cfg0.N) : t.val < 2 := lt_of_lt_of_eq t.isLt (show cfg0.N = 2 from N_0)

/-- The `i`-th block of 2048 tokens. -/
def rows {k : ℕ} (y : Fin 4096 → Fin k → EReal) (i : Fin 2) (r : Fin 2048) (e : Fin k) : EReal := y ⟨i * 2048 + r, by omega⟩ e

theorem x_blk {x : Fin 4096 → Fin 256 → EReal} (h : V m c main_v1 = (ext2 x : FVec Ideal S4096x256 .bf16)) (t : Fin cfg0.N) :
    iblk m c 0 t = (ext2 (rows x ⟨t, lt t⟩) : FVec Ideal S2048x256 .bf16) := by
  funext y
  idx_vars y
  blk_simp [iblk]
  rw [h]
  refine ext2_at x _ _ _ ?_ ?_ <;> blk_simp [idx0 t]

theorem ct_blk {x : Fin 4096 → Fin 1024 → EReal} (h : V m c main_v4 = (ext2 x : FVec Ideal S4096x1024 .bf16)) (t : Fin cfg0.N) :
    iblk m c 1 t = (ext2 (rows x ⟨t, lt t⟩) : FVec Ideal S2048x1024 .bf16) := by
  funext y
  idx_vars y
  blk_simp [iblk]
  rw [h]
  refine ext2_at x _ _ _ ?_ ?_ <;> blk_simp [idx1 t]

/-- The parts of the blocks. -/
def parts (i : Fin 2) (f : Fin 256) (d : Fin 1024) : EReal := part (rows (flat x) i) (rows (laid g) i) f d

theorem parts_all (f : Fin 256) (d : Fin 1024) : upto (fun i => parts x g i f d) 1 = grad x g f d :=
  (upto_last _ _ rfl).trans (sum_blocks 2 2048 rfl fun t => flat x t f * laid g t d).symm

variable {x g m c} (hx : m ((c.tc : Thread nD τ).loc main_arg0) = (ext3 x : FVec Ideal S2x2048x256 .f32))
  (hg : m ((c.tc : Thread nD τ).loc main_arg1) = (ext4 g : FVec Ideal S2x2048x8x96 .f32))

include hx hg

theorem first (hn : 0 < cfg0.N) : (outsAt0 m c 0 hn).2 = (ext2 (parts x g 0) : FVec Ideal S256x1024 .f32) := by
  rw [outsAt0_A m c ⟨0, hn⟩ rfl (by show ¬0 % 2 = 1; omega) (by show ¬0 % 2 = 1; omega)]
  frame_out
  rw [x_blk m c (x_eq x m c hx), ct_blk m c (ct_eq g m c hg), first_eq]
  rfl

theorem out (t : Fin cfg0.N) (h : t.val = 1) : (outsAt0 m c t.val t.isLt).1 = (ext2 (grad x g) : FVec Ideal S256x1024 .bf16) := by
  obtain ⟨n, hn⟩ := t
  obtain rfl : n = 1 := h
  rw [outsAt0_B m c ⟨1, hn⟩ (by show ¬1 % 2 = 0; omega) rfl rfl]
  frame_out
  rw [x_blk m c (x_eq x m c hx), ct_blk m c (ct_eq g m c hg), show outsAt0 m c (1 - 1) _ = outsAt0 m c 0 (Nat.lt_of_succ_lt hn) from rfl,
    first hx hg, read_unread_whole, next_eq, last_eq]
  refine congrArg ext2 ?_
  funext f d
  refine Eq.trans ?_ ((upto_succ (fun i => parts x g i f d) 0 (by omega)).symm.trans (parts_all x g f d))
  rw [upto_zero _ (by omega)]
  rfl

omit hx hg in
theorem flush2 : ∀ t : Fin cfg0.N, (cfg0.win 2).flush t = true → t.val = 1 := (by decide +kernel : ∀ t : Fin grid0.N, _)

theorem final : (dats m 0 c).arrAt 2 cfg0.N = (ext2 (grad x g) : FVec Ideal S256x1024 .bf16) := by
  refine (dats m 0 c).arrAt_eq_of_covers 2 _ (by decide +kernel) fun t hf y => ?_
  blk_simp
  rw [after0_2, out hx hg t (flush2 t hf)]
  refine (ext2_at (φ := .bf16) _ ((win0_2.blk t).view.emb y) (y 0) (y 1) ?_ ?_).symm <;> blk_simp [idx2 t]

end Cert.QueryWeight
-- ==== Proof.Columns.lean ====
/- The columns of the input projection in blocks of 128 lanes: the queries of mixer B's eight heads, mixer A's latent columns, the
   keys and values of mixer B's two groups, and the gates; a head's 64 columns and the rotary key's 32 leave the rest of their
   block zero. -/
module

public import proofs.«01_k».proof.Proof.Layout

@[expose] public section

set_option maxRecDepth 16384

noncomputable section

namespace Cert.Columns

open Cert.Grids Cert.Layout Idealize.ShloMosaic

/-- The projection's column that a laid column holds; 3232 where it holds none. -/
def src (c : ℕ) : ℕ :=
  if c < 1024 then (if c % 128 < 64 then 416 + c / 128 * 64 + c % 128 else 3232)
  else if c < 1440 then c - 1024
  else if c < 1536 then 3232
  else if c < 2048 then (if c % 128 < 64 then 928 + (c - 1536) / 128 * 64 + c % 128 else 3232)
  else c - 864

/-- The laid column that holds a column of the projection. -/
def dst (f : ℕ) : ℕ :=
  if f < 416 then f + 1024
  else if f < 928 then (f - 416) / 64 * 128 + (f - 416) % 64
  else if f < 1184 then 1536 + (f - 928) / 64 * 128 + (f - 928) % 64
  else f + 864

theorem dst_lt (f : ℕ) (h : f < 3232) : dst f < 4096 := by
  unfold dst
  split_ifs <;> omega

theorem src_dst (f : ℕ) (h : f < 3232) : src (dst f) = f := by
  unfold dst
  split_ifs <;> unfold src <;> split_ifs <;> omega

theorem dst_src (c : ℕ) (hc : c < 4096) (h : src c < 3232) : dst (src c) = c := by
  revert h
  unfold src
  split_ifs <;> intro h <;> unfold dst <;> split_ifs <;> omega

variable {R : ℕ}

/-- The columns of an array, laid in blocks. -/
def columns (x : Fin R → Fin 3232 → EReal) (t : Fin R) (c : Fin 4096) : EReal :=
  if h : src c < 3232 then x t ⟨src c, h⟩ else 0

theorem columns_of (x : Fin R → Fin 3232 → EReal) (t : Fin R) (c : Fin 4096) (f : Fin 3232) (h : src c = f) : columns x t c = x t f := by
  unfold columns
  rw [dif_pos (h ▸ f.isLt)]
  exact congrArg (x t) (Fin.ext h)

theorem columns_none (x : Fin R → Fin 3232 → EReal) (t : Fin R) (c : Fin 4096) (h : 3232 ≤ src c) : columns x t c = 0 :=
  dif_neg (by omega)

/-- A sum over the laid columns of what vanishes where there is no column is the sum over the columns. -/
theorem sum_columns (F : Fin 4096 → EReal) (G : Fin 3232 → EReal) (hF : ∀ c : Fin 4096, 3232 ≤ src c → F c = 0)
    (hG : ∀ f : Fin 3232, G f = F ⟨dst f, dst_lt f f.isLt⟩) : ∑ f, G f = ∑ c, F c :=
  Fintype.sum_of_injective (fun f : Fin 3232 => (⟨dst f, dst_lt f f.isLt⟩ : Fin 4096))
    (fun f f' h => Fin.ext (by rw [← src_dst f f.isLt, ← src_dst f' f'.isLt, Fin.mk.inj h])) G F
    (fun c hc => hF c (by
      by_contra h
      exact hc ⟨⟨src c, by omega⟩, Fin.ext (dst_src c c.isLt (by omega))⟩))
    hG

/-- A product summed over the laid columns is the product summed over the columns. -/
theorem sum_mul {S : ℕ} (x : Fin R → Fin 3232 → EReal) (y : Fin S → Fin 3232 → EReal) (t : Fin R) (s : Fin S) :
    ∑ f, x t f * y s f = ∑ c, columns x t c * columns y s c :=
  sum_columns _ _ (fun c h => by rw [columns_none x t c h, zero_mul])
    fun f => by rw [columns_of x t _ f (src_dst f f.isLt), columns_of y s _ f (src_dst f f.isLt)]

/-- The columns of a product are its factor's columns' product. -/
theorem columns_mul {K : ℕ} (h : Fin R → Fin K → EReal) (w : Fin K → Fin 3232 → EReal) (t : Fin R) (c : Fin 4096) :
    columns (fun t f => ∑ k, h t k * w k f) t c = ∑ k, h t k * columns w k c := by
  by_cases hc : src c < 3232
  · rw [columns_of _ t c ⟨src c, hc⟩ rfl]
    exact Finset.sum_congr rfl fun k _ => by rw [columns_of w k c ⟨src c, hc⟩ rfl]
  · rw [columns_none _ t c (by omega)]
    exact (Finset.sum_eq_zero fun k _ => by rw [columns_none w k c (by omega), mul_zero]).symm

/-! ## 1024 rows -/

theorem queries_1024 (x : Fin 1024 → Fin 3232 → EReal) {hs hc hp hz hd} :
    (shapeCast ⟨2, ![1024, 1024]⟩ (pad ⟨3, ![1024, 8, 128]⟩ ![0, 0, 0] ![0, 0, 64] ![0, 0, 0] (shapeCast ⟨3, ![1024, 8, 64]⟩
      (extractStridedSlice ⟨2, ![1024, 512]⟩ ![0, 416] (ext2 x : FVec Ideal ⟨2, ![1024, 3232]⟩ .f32) hs : FVec Ideal ⟨2, ![1024, 512]⟩ .f32) hc : FVec Ideal ⟨3, ![1024, 8, 64]⟩ .f32)
      (sitofp .f32 (constantI ⟨0, ![]⟩ 32 0#32)) hp hz : FVec Ideal ⟨3, ![1024, 8, 128]⟩ .f32) hd : FVec Ideal ⟨2, ![1024, 1024]⟩ .f32) = ext2 fun t c => columns x t ⟨c, by omega⟩ := by
  funext j
  idx_vars j
  pointwise
  by_cases h : (j1 : ℕ) % 128 < 64
  · rw [dif_pos (by omega)]
    exact (columns_of x j0 _ _ (by unfold src; dsimp only; split_ifs <;> omega)).symm
  · rw [dif_neg (by omega)]
    exact zero_eq.trans (columns_none x j0 _ (by unfold src; dsimp only; split_ifs <;> omega)).symm

theorem keys_1024 (x : Fin 1024 → Fin 3232 → EReal) {hs hc hp hz hd} :
    (shapeCast ⟨2, ![1024, 256]⟩ (pad ⟨3, ![1024, 2, 128]⟩ ![0, 0, 0] ![0, 0, 64] ![0, 0, 0] (shapeCast ⟨3, ![1024, 2, 64]⟩
      (extractStridedSlice ⟨2, ![1024, 128]⟩ ![0, 928] (ext2 x : FVec Ideal ⟨2, ![1024, 3232]⟩ .f32) hs : FVec Ideal ⟨2, ![1024, 128]⟩ .f32) hc : FVec Ideal ⟨3, ![1024, 2, 64]⟩ .f32)
      (sitofp .f32 (constantI ⟨0, ![]⟩ 32 0#32)) hp hz : FVec Ideal ⟨3, ![1024, 2, 128]⟩ .f32) hd : FVec Ideal ⟨2, ![1024, 256]⟩ .f32) = ext2 fun t c => columns x t ⟨1536 + c, by omega⟩ := by
  funext j
  idx_vars j
  pointwise
  by_cases h : (j1 : ℕ) % 128 < 64
  · rw [dif_pos (by omega)]
    exact (columns_of x j0 _ _ (by unfold src; dsimp only; split_ifs <;> omega)).symm
  · rw [dif_neg (by omega)]
    exact zero_eq.trans (columns_none x j0 _ (by unfold src; dsimp only; split_ifs <;> omega)).symm

theorem values_1024 (x : Fin 1024 → Fin 3232 → EReal) {hs hc hp hz hd} :
    (shapeCast ⟨2, ![1024, 256]⟩ (pad ⟨3, ![1024, 2, 128]⟩ ![0, 0, 0] ![0, 0, 64] ![0, 0, 0] (shapeCast ⟨3, ![1024, 2, 64]⟩
      (extractStridedSlice ⟨2, ![1024, 128]⟩ ![0, 1056] (ext2 x : FVec Ideal ⟨2, ![1024, 3232]⟩ .f32) hs : FVec Ideal ⟨2, ![1024, 128]⟩ .f32) hc : FVec Ideal ⟨3, ![1024, 2, 64]⟩ .f32)
      (sitofp .f32 (constantI ⟨0, ![]⟩ 32 0#32)) hp hz : FVec Ideal ⟨3, ![1024, 2, 128]⟩ .f32) hd : FVec Ideal ⟨2, ![1024, 256]⟩ .f32) = ext2 fun t c => columns x t ⟨1792 + c, by omega⟩ := by
  funext j
  idx_vars j
  pointwise
  by_cases h : (j1 : ℕ) % 128 < 64
  · rw [dif_pos (by omega)]
    exact (columns_of x j0 _ _ (by unfold src; dsimp only; split_ifs <;> omega)).symm
  · rw [dif_neg (by omega)]
    exact zero_eq.trans (columns_none x j0 _ (by unfold src; dsimp only; split_ifs <;> omega)).symm

theorem rotary_1024 (x : Fin 1024 → Fin 3232 → EReal) {hs hp hz} :
    (pad ⟨2, ![1024, 128]⟩ ![0, 0] ![0, 96] ![0, 0] (extractStridedSlice ⟨2, ![1024, 32]⟩ ![0, 384] (ext2 x : FVec Ideal ⟨2, ![1024, 3232]⟩ .f32) hs : FVec Ideal ⟨2, ![1024, 32]⟩ .f32)
      (sitofp .f32 (constantI ⟨0, ![]⟩ 32 0#32)) hp hz : FVec Ideal ⟨2, ![1024, 128]⟩ .f32) = ext2 fun t c => columns x t ⟨1408 + c, by omega⟩ := by
  funext j
  idx_vars j
  pointwise
  by_cases h : (j1 : ℕ) < 32
  · rw [dif_pos (by omega)]
    exact (columns_of x j0 _ _ (by unfold src; dsimp only; split_ifs <;> omega)).symm
  · rw [dif_neg (by omega)]
    exact zero_eq.trans (columns_none x j0 _ (by unfold src; dsimp only; split_ifs <;> omega)).symm

theorem latent_1024 (x : Fin 1024 → Fin 3232 → EReal) {hs} :
    (extractStridedSlice ⟨2, ![1024, 256]⟩ ![0, 0] (ext2 x : FVec Ideal ⟨2, ![1024, 3232]⟩ .f32) hs : FVec Ideal ⟨2, ![1024, 256]⟩ .f32) = ext2 fun t c => columns x t ⟨1024 + c, by omega⟩ := by
  funext j
  idx_vars j
  pointwise
  exact (columns_of x j0 _ _ (by unfold src; dsimp only; split_ifs <;> omega)).symm

theorem compressed_1024 (x : Fin 1024 → Fin 3232 → EReal) {hs} :
    (extractStridedSlice ⟨2, ![1024, 128]⟩ ![0, 256] (ext2 x : FVec Ideal ⟨2, ![1024, 3232]⟩ .f32) hs : FVec Ideal ⟨2, ![1024, 128]⟩ .f32) = ext2 fun t c => columns x t ⟨1280 + c, by omega⟩ := by
  funext j
  idx_vars j
  pointwise
  exact (columns_of x j0 _ _ (by unfold src; dsimp only; split_ifs <;> omega)).symm

theorem gateA_1024 (x : Fin 1024 → Fin 3232 → EReal) {hs} :
    (extractStridedSlice ⟨2, ![1024, 1024]⟩ ![0, 1184] (ext2 x : FVec Ideal ⟨2, ![1024, 3232]⟩ .f32) hs : FVec Ideal ⟨2, ![1024, 1024]⟩ .f32) = ext2 fun t c => columns x t ⟨2048 + c, by omega⟩ := by
  funext j
  idx_vars j
  pointwise
  exact (columns_of x j0 _ _ (by unfold src; dsimp only; split_ifs <;> omega)).symm

theorem gateB_1024 (x : Fin 1024 → Fin 3232 → EReal) {hs} :
    (extractStridedSlice ⟨2, ![1024, 1024]⟩ ![0, 2208] (ext2 x : FVec Ideal ⟨2, ![1024, 3232]⟩ .f32) hs : FVec Ideal ⟨2, ![1024, 1024]⟩ .f32) = ext2 fun t c => columns x t ⟨3072 + c, by omega⟩ := by
  funext j
  idx_vars j
  pointwise
  exact (columns_of x j0 _ _ (by unfold src; dsimp only; split_ifs <;> omega)).symm

/-- Eight runs of columns, one beside another. -/
theorem beside_1024 (y : Fin 1024 → Fin 4096 → EReal) {h} :
    (concatenate ⟨2, ![1024, 4096]⟩ 1 [⟨⟨2, ![1024, 1024]⟩, (ext2 (fun t c => y t ⟨c, by omega⟩) : FVec Ideal ⟨2, ![1024, 1024]⟩ .f32)⟩,
      ⟨⟨2, ![1024, 256]⟩, (ext2 (fun t c => y t ⟨1024 + c, by omega⟩) : FVec Ideal ⟨2, ![1024, 256]⟩ .f32)⟩,
      ⟨⟨2, ![1024, 128]⟩, (ext2 (fun t c => y t ⟨1280 + c, by omega⟩) : FVec Ideal ⟨2, ![1024, 128]⟩ .f32)⟩,
      ⟨⟨2, ![1024, 128]⟩, (ext2 (fun t c => y t ⟨1408 + c, by omega⟩) : FVec Ideal ⟨2, ![1024, 128]⟩ .f32)⟩,
      ⟨⟨2, ![1024, 256]⟩, (ext2 (fun t c => y t ⟨1536 + c, by omega⟩) : FVec Ideal ⟨2, ![1024, 256]⟩ .f32)⟩,
      ⟨⟨2, ![1024, 256]⟩, (ext2 (fun t c => y t ⟨1792 + c, by omega⟩) : FVec Ideal ⟨2, ![1024, 256]⟩ .f32)⟩,
      ⟨⟨2, ![1024, 1024]⟩, (ext2 (fun t c => y t ⟨2048 + c, by omega⟩) : FVec Ideal ⟨2, ![1024, 1024]⟩ .f32)⟩,
      ⟨⟨2, ![1024, 1024]⟩, (ext2 (fun t c => y t ⟨3072 + c, by omega⟩) : FVec Ideal ⟨2, ![1024, 1024]⟩ .f32)⟩] h : FVec Ideal ⟨2, ![1024, 4096]⟩ .f32) = ext2 y := by
  funext j
  idx_vars j
  pointwise
  split_ifs <;> exact congrArg (y j0) (Fin.ext (by dsimp only <;> omega))

/-! ## 4096 rows -/

theorem queries_4096 (x : Fin 4096 → Fin 3232 → EReal) {hs hc hp hz hd} :
    (shapeCast ⟨2, ![4096, 1024]⟩ (pad ⟨3, ![4096, 8, 128]⟩ ![0, 0, 0] ![0, 0, 64] ![0, 0, 0] (shapeCast ⟨3, ![4096, 8, 64]⟩
      (extractStridedSlice ⟨2, ![4096, 512]⟩ ![0, 416] (ext2 x : FVec Ideal ⟨2, ![4096, 3232]⟩ .f32) hs : FVec Ideal ⟨2, ![4096, 512]⟩ .f32) hc : FVec Ideal ⟨3, ![4096, 8, 64]⟩ .f32)
      (sitofp .f32 (constantI ⟨0, ![]⟩ 32 0#32)) hp hz : FVec Ideal ⟨3, ![4096, 8, 128]⟩ .f32) hd : FVec Ideal ⟨2, ![4096, 1024]⟩ .f32) = ext2 fun t c => columns x t ⟨c, by omega⟩ := by
  funext j
  idx_vars j
  pointwise
  by_cases h : (j1 : ℕ) % 128 < 64
  · rw [dif_pos (by omega)]
    exact (columns_of x j0 _ _ (by unfold src; dsimp only; split_ifs <;> omega)).symm
  · rw [dif_neg (by omega)]
    exact zero_eq.trans (columns_none x j0 _ (by unfold src; dsimp only; split_ifs <;> omega)).symm

theorem keys_4096 (x : Fin 4096 → Fin 3232 → EReal) {hs hc hp hz hd} :
    (shapeCast ⟨2, ![4096, 256]⟩ (pad ⟨3, ![4096, 2, 128]⟩ ![0, 0, 0] ![0, 0, 64] ![0, 0, 0] (shapeCast ⟨3, ![4096, 2, 64]⟩
      (extractStridedSlice ⟨2, ![4096, 128]⟩ ![0, 928] (ext2 x : FVec Ideal ⟨2, ![4096, 3232]⟩ .f32) hs : FVec Ideal ⟨2, ![4096, 128]⟩ .f32) hc : FVec Ideal ⟨3, ![4096, 2, 64]⟩ .f32)
      (sitofp .f32 (constantI ⟨0, ![]⟩ 32 0#32)) hp hz : FVec Ideal ⟨3, ![4096, 2, 128]⟩ .f32) hd : FVec Ideal ⟨2, ![4096, 256]⟩ .f32) = ext2 fun t c => columns x t ⟨1536 + c, by omega⟩ := by
  funext j
  idx_vars j
  pointwise
  by_cases h : (j1 : ℕ) % 128 < 64
  · rw [dif_pos (by omega)]
    exact (columns_of x j0 _ _ (by unfold src; dsimp only; split_ifs <;> omega)).symm
  · rw [dif_neg (by omega)]
    exact zero_eq.trans (columns_none x j0 _ (by unfold src; dsimp only; split_ifs <;> omega)).symm

theorem values_4096 (x : Fin 4096 → Fin 3232 → EReal) {hs hc hp hz hd} :
    (shapeCast ⟨2, ![4096, 256]⟩ (pad ⟨3, ![4096, 2, 128]⟩ ![0, 0, 0] ![0, 0, 64] ![0, 0, 0] (shapeCast ⟨3, ![4096, 2, 64]⟩
      (extractStridedSlice ⟨2, ![4096, 128]⟩ ![0, 1056] (ext2 x : FVec Ideal ⟨2, ![4096, 3232]⟩ .f32) hs : FVec Ideal ⟨2, ![4096, 128]⟩ .f32) hc : FVec Ideal ⟨3, ![4096, 2, 64]⟩ .f32)
      (sitofp .f32 (constantI ⟨0, ![]⟩ 32 0#32)) hp hz : FVec Ideal ⟨3, ![4096, 2, 128]⟩ .f32) hd : FVec Ideal ⟨2, ![4096, 256]⟩ .f32) = ext2 fun t c => columns x t ⟨1792 + c, by omega⟩ := by
  funext j
  idx_vars j
  pointwise
  by_cases h : (j1 : ℕ) % 128 < 64
  · rw [dif_pos (by omega)]
    exact (columns_of x j0 _ _ (by unfold src; dsimp only; split_ifs <;> omega)).symm
  · rw [dif_neg (by omega)]
    exact zero_eq.trans (columns_none x j0 _ (by unfold src; dsimp only; split_ifs <;> omega)).symm

theorem rotary_4096 (x : Fin 4096 → Fin 3232 → EReal) {hs hp hz} :
    (pad ⟨2, ![4096, 128]⟩ ![0, 0] ![0, 96] ![0, 0] (extractStridedSlice ⟨2, ![4096, 32]⟩ ![0, 384] (ext2 x : FVec Ideal ⟨2, ![4096, 3232]⟩ .f32) hs : FVec Ideal ⟨2, ![4096, 32]⟩ .f32)
      (sitofp .f32 (constantI ⟨0, ![]⟩ 32 0#32)) hp hz : FVec Ideal ⟨2, ![4096, 128]⟩ .f32) = ext2 fun t c => columns x t ⟨1408 + c, by omega⟩ := by
  funext j
  idx_vars j
  pointwise
  by_cases h : (j1 : ℕ) < 32
  · rw [dif_pos (by omega)]
    exact (columns_of x j0 _ _ (by unfold src; dsimp only; split_ifs <;> omega)).symm
  · rw [dif_neg (by omega)]
    exact zero_eq.trans (columns_none x j0 _ (by unfold src; dsimp only; split_ifs <;> omega)).symm

theorem latent_4096 (x : Fin 4096 → Fin 3232 → EReal) {hs} :
    (extractStridedSlice ⟨2, ![4096, 256]⟩ ![0, 0] (ext2 x : FVec Ideal ⟨2, ![4096, 3232]⟩ .f32) hs : FVec Ideal ⟨2, ![4096, 256]⟩ .f32) = ext2 fun t c => columns x t ⟨1024 + c, by omega⟩ := by
  funext j
  idx_vars j
  pointwise
  exact (columns_of x j0 _ _ (by unfold src; dsimp only; split_ifs <;> omega)).symm

theorem compressed_4096 (x : Fin 4096 → Fin 3232 → EReal) {hs} :
    (extractStridedSlice ⟨2, ![4096, 128]⟩ ![0, 256] (ext2 x : FVec Ideal ⟨2, ![4096, 3232]⟩ .f32) hs : FVec Ideal ⟨2, ![4096, 128]⟩ .f32) = ext2 fun t c => columns x t ⟨1280 + c, by omega⟩ := by
  funext j
  idx_vars j
  pointwise
  exact (columns_of x j0 _ _ (by unfold src; dsimp only; split_ifs <;> omega)).symm

theorem gateA_4096 (x : Fin 4096 → Fin 3232 → EReal) {hs} :
    (extractStridedSlice ⟨2, ![4096, 1024]⟩ ![0, 1184] (ext2 x : FVec Ideal ⟨2, ![4096, 3232]⟩ .f32) hs : FVec Ideal ⟨2, ![4096, 1024]⟩ .f32) = ext2 fun t c => columns x t ⟨2048 + c, by omega⟩ := by
  funext j
  idx_vars j
  pointwise
  exact (columns_of x j0 _ _ (by unfold src; dsimp only; split_ifs <;> omega)).symm

theorem gateB_4096 (x : Fin 4096 → Fin 3232 → EReal) {hs} :
    (extractStridedSlice ⟨2, ![4096, 1024]⟩ ![0, 2208] (ext2 x : FVec Ideal ⟨2, ![4096, 3232]⟩ .f32) hs : FVec Ideal ⟨2, ![4096, 1024]⟩ .f32) = ext2 fun t c => columns x t ⟨3072 + c, by omega⟩ := by
  funext j
  idx_vars j
  pointwise
  exact (columns_of x j0 _ _ (by unfold src; dsimp only; split_ifs <;> omega)).symm

/-- Eight runs of columns, one beside another. -/
theorem beside_4096 (y : Fin 4096 → Fin 4096 → EReal) {h} :
    (concatenate ⟨2, ![4096, 4096]⟩ 1 [⟨⟨2, ![4096, 1024]⟩, (ext2 (fun t c => y t ⟨c, by omega⟩) : FVec Ideal ⟨2, ![4096, 1024]⟩ .f32)⟩,
      ⟨⟨2, ![4096, 256]⟩, (ext2 (fun t c => y t ⟨1024 + c, by omega⟩) : FVec Ideal ⟨2, ![4096, 256]⟩ .f32)⟩,
      ⟨⟨2, ![4096, 128]⟩, (ext2 (fun t c => y t ⟨1280 + c, by omega⟩) : FVec Ideal ⟨2, ![4096, 128]⟩ .f32)⟩,
      ⟨⟨2, ![4096, 128]⟩, (ext2 (fun t c => y t ⟨1408 + c, by omega⟩) : FVec Ideal ⟨2, ![4096, 128]⟩ .f32)⟩,
      ⟨⟨2, ![4096, 256]⟩, (ext2 (fun t c => y t ⟨1536 + c, by omega⟩) : FVec Ideal ⟨2, ![4096, 256]⟩ .f32)⟩,
      ⟨⟨2, ![4096, 256]⟩, (ext2 (fun t c => y t ⟨1792 + c, by omega⟩) : FVec Ideal ⟨2, ![4096, 256]⟩ .f32)⟩,
      ⟨⟨2, ![4096, 1024]⟩, (ext2 (fun t c => y t ⟨2048 + c, by omega⟩) : FVec Ideal ⟨2, ![4096, 1024]⟩ .f32)⟩,
      ⟨⟨2, ![4096, 1024]⟩, (ext2 (fun t c => y t ⟨3072 + c, by omega⟩) : FVec Ideal ⟨2, ![4096, 1024]⟩ .f32)⟩] h : FVec Ideal ⟨2, ![4096, 4096]⟩ .f32) = ext2 y := by
  funext j
  idx_vars j
  pointwise
  split_ifs <;> exact congrArg (y j0) (Fin.ext (by dsimp only <;> omega))

/-- The columns of 1024 rows as the host lays them. -/
theorem columns_1024 (x : Fin 1024 → Fin 3232 → EReal) {hs0 hc0 hp0 hz0 hd0 hs1 hs2 hs3 hp3 hz3 hs4 hc4 hp4 hz4 hd4 hs5 hc5 hp5 hz5 hd5 hs6 hs7 h} :
    (concatenate ⟨2, ![1024, 4096]⟩ 1 [⟨⟨2, ![1024, 1024]⟩, (shapeCast ⟨2, ![1024, 1024]⟩ (pad ⟨3, ![1024, 8, 128]⟩ ![0, 0, 0] ![0, 0, 64] ![0, 0, 0] (shapeCast ⟨3, ![1024, 8, 64]⟩
      (extractStridedSlice ⟨2, ![1024, 512]⟩ ![0, 416] (ext2 x : FVec Ideal ⟨2, ![1024, 3232]⟩ .f32) hs0 : FVec Ideal ⟨2, ![1024, 512]⟩ .f32) hc0 : FVec Ideal ⟨3, ![1024, 8, 64]⟩ .f32)
      (sitofp .f32 (constantI ⟨0, ![]⟩ 32 0#32)) hp0 hz0 : FVec Ideal ⟨3, ![1024, 8, 128]⟩ .f32) hd0 : FVec Ideal ⟨2, ![1024, 1024]⟩ .f32)⟩,
      ⟨⟨2, ![1024, 256]⟩, (extractStridedSlice ⟨2, ![1024, 256]⟩ ![0, 0] (ext2 x : FVec Ideal ⟨2, ![1024, 3232]⟩ .f32) hs1 : FVec Ideal ⟨2, ![1024, 256]⟩ .f32)⟩,
      ⟨⟨2, ![1024, 128]⟩, (extractStridedSlice ⟨2, ![1024, 128]⟩ ![0, 256] (ext2 x : FVec Ideal ⟨2, ![1024, 3232]⟩ .f32) hs2 : FVec Ideal ⟨2, ![1024, 128]⟩ .f32)⟩,
      ⟨⟨2, ![1024, 128]⟩, (pad ⟨2, ![1024, 128]⟩ ![0, 0] ![0, 96] ![0, 0] (extractStridedSlice ⟨2, ![1024, 32]⟩ ![0, 384] (ext2 x : FVec Ideal ⟨2, ![1024, 3232]⟩ .f32) hs3 : FVec Ideal ⟨2, ![1024, 32]⟩ .f32)
      (sitofp .f32 (constantI ⟨0, ![]⟩ 32 0#32)) hp3 hz3 : FVec Ideal ⟨2, ![1024, 128]⟩ .f32)⟩,
      ⟨⟨2, ![1024, 256]⟩, (shapeCast ⟨2, ![1024, 256]⟩ (pad ⟨3, ![1024, 2, 128]⟩ ![0, 0, 0] ![0, 0, 64] ![0, 0, 0] (shapeCast ⟨3, ![1024, 2, 64]⟩
      (extractStridedSlice ⟨2, ![1024, 128]⟩ ![0, 928] (ext2 x : FVec Ideal ⟨2, ![1024, 3232]⟩ .f32) hs4 : FVec Ideal ⟨2, ![1024, 128]⟩ .f32) hc4 : FVec Ideal ⟨3, ![1024, 2, 64]⟩ .f32)
      (sitofp .f32 (constantI ⟨0, ![]⟩ 32 0#32)) hp4 hz4 : FVec Ideal ⟨3, ![1024, 2, 128]⟩ .f32) hd4 : FVec Ideal ⟨2, ![1024, 256]⟩ .f32)⟩,
      ⟨⟨2, ![1024, 256]⟩, (shapeCast ⟨2, ![1024, 256]⟩ (pad ⟨3, ![1024, 2, 128]⟩ ![0, 0, 0] ![0, 0, 64] ![0, 0, 0] (shapeCast ⟨3, ![1024, 2, 64]⟩
      (extractStridedSlice ⟨2, ![1024, 128]⟩ ![0, 1056] (ext2 x : FVec Ideal ⟨2, ![1024, 3232]⟩ .f32) hs5 : FVec Ideal ⟨2, ![1024, 128]⟩ .f32) hc5 : FVec Ideal ⟨3, ![1024, 2, 64]⟩ .f32)
      (sitofp .f32 (constantI ⟨0, ![]⟩ 32 0#32)) hp5 hz5 : FVec Ideal ⟨3, ![1024, 2, 128]⟩ .f32) hd5 : FVec Ideal ⟨2, ![1024, 256]⟩ .f32)⟩,
      ⟨⟨2, ![1024, 1024]⟩, (extractStridedSlice ⟨2, ![1024, 1024]⟩ ![0, 1184] (ext2 x : FVec Ideal ⟨2, ![1024, 3232]⟩ .f32) hs6 : FVec Ideal ⟨2, ![1024, 1024]⟩ .f32)⟩,
      ⟨⟨2, ![1024, 1024]⟩, (extractStridedSlice ⟨2, ![1024, 1024]⟩ ![0, 2208] (ext2 x : FVec Ideal ⟨2, ![1024, 3232]⟩ .f32) hs7 : FVec Ideal ⟨2, ![1024, 1024]⟩ .f32)⟩] h : FVec Ideal ⟨2, ![1024, 4096]⟩ .f32) = ext2 (columns x) := by
  rw [queries_1024, latent_1024, compressed_1024, rotary_1024, keys_1024, values_1024, gateA_1024, gateB_1024]
  exact beside_1024 (columns x)

/-- The columns of 4096 rows as the host lays them. -/
theorem columns_4096 (x : Fin 4096 → Fin 3232 → EReal) {hs0 hc0 hp0 hz0 hd0 hs1 hs2 hs3 hp3 hz3 hs4 hc4 hp4 hz4 hd4 hs5 hc5 hp5 hz5 hd5 hs6 hs7 h} :
    (concatenate ⟨2, ![4096, 4096]⟩ 1 [⟨⟨2, ![4096, 1024]⟩, (shapeCast ⟨2, ![4096, 1024]⟩ (pad ⟨3, ![4096, 8, 128]⟩ ![0, 0, 0] ![0, 0, 64] ![0, 0, 0] (shapeCast ⟨3, ![4096, 8, 64]⟩
      (extractStridedSlice ⟨2, ![4096, 512]⟩ ![0, 416] (ext2 x : FVec Ideal ⟨2, ![4096, 3232]⟩ .f32) hs0 : FVec Ideal ⟨2, ![4096, 512]⟩ .f32) hc0 : FVec Ideal ⟨3, ![4096, 8, 64]⟩ .f32)
      (sitofp .f32 (constantI ⟨0, ![]⟩ 32 0#32)) hp0 hz0 : FVec Ideal ⟨3, ![4096, 8, 128]⟩ .f32) hd0 : FVec Ideal ⟨2, ![4096, 1024]⟩ .f32)⟩,
      ⟨⟨2, ![4096, 256]⟩, (extractStridedSlice ⟨2, ![4096, 256]⟩ ![0, 0] (ext2 x : FVec Ideal ⟨2, ![4096, 3232]⟩ .f32) hs1 : FVec Ideal ⟨2, ![4096, 256]⟩ .f32)⟩,
      ⟨⟨2, ![4096, 128]⟩, (extractStridedSlice ⟨2, ![4096, 128]⟩ ![0, 256] (ext2 x : FVec Ideal ⟨2, ![4096, 3232]⟩ .f32) hs2 : FVec Ideal ⟨2, ![4096, 128]⟩ .f32)⟩,
      ⟨⟨2, ![4096, 128]⟩, (pad ⟨2, ![4096, 128]⟩ ![0, 0] ![0, 96] ![0, 0] (extractStridedSlice ⟨2, ![4096, 32]⟩ ![0, 384] (ext2 x : FVec Ideal ⟨2, ![4096, 3232]⟩ .f32) hs3 : FVec Ideal ⟨2, ![4096, 32]⟩ .f32)
      (sitofp .f32 (constantI ⟨0, ![]⟩ 32 0#32)) hp3 hz3 : FVec Ideal ⟨2, ![4096, 128]⟩ .f32)⟩,
      ⟨⟨2, ![4096, 256]⟩, (shapeCast ⟨2, ![4096, 256]⟩ (pad ⟨3, ![4096, 2, 128]⟩ ![0, 0, 0] ![0, 0, 64] ![0, 0, 0] (shapeCast ⟨3, ![4096, 2, 64]⟩
      (extractStridedSlice ⟨2, ![4096, 128]⟩ ![0, 928] (ext2 x : FVec Ideal ⟨2, ![4096, 3232]⟩ .f32) hs4 : FVec Ideal ⟨2, ![4096, 128]⟩ .f32) hc4 : FVec Ideal ⟨3, ![4096, 2, 64]⟩ .f32)
      (sitofp .f32 (constantI ⟨0, ![]⟩ 32 0#32)) hp4 hz4 : FVec Ideal ⟨3, ![4096, 2, 128]⟩ .f32) hd4 : FVec Ideal ⟨2, ![4096, 256]⟩ .f32)⟩,
      ⟨⟨2, ![4096, 256]⟩, (shapeCast ⟨2, ![4096, 256]⟩ (pad ⟨3, ![4096, 2, 128]⟩ ![0, 0, 0] ![0, 0, 64] ![0, 0, 0] (shapeCast ⟨3, ![4096, 2, 64]⟩
      (extractStridedSlice ⟨2, ![4096, 128]⟩ ![0, 1056] (ext2 x : FVec Ideal ⟨2, ![4096, 3232]⟩ .f32) hs5 : FVec Ideal ⟨2, ![4096, 128]⟩ .f32) hc5 : FVec Ideal ⟨3, ![4096, 2, 64]⟩ .f32)
      (sitofp .f32 (constantI ⟨0, ![]⟩ 32 0#32)) hp5 hz5 : FVec Ideal ⟨3, ![4096, 2, 128]⟩ .f32) hd5 : FVec Ideal ⟨2, ![4096, 256]⟩ .f32)⟩,
      ⟨⟨2, ![4096, 1024]⟩, (extractStridedSlice ⟨2, ![4096, 1024]⟩ ![0, 1184] (ext2 x : FVec Ideal ⟨2, ![4096, 3232]⟩ .f32) hs6 : FVec Ideal ⟨2, ![4096, 1024]⟩ .f32)⟩,
      ⟨⟨2, ![4096, 1024]⟩, (extractStridedSlice ⟨2, ![4096, 1024]⟩ ![0, 2208] (ext2 x : FVec Ideal ⟨2, ![4096, 3232]⟩ .f32) hs7 : FVec Ideal ⟨2, ![4096, 1024]⟩ .f32)⟩] h : FVec Ideal ⟨2, ![4096, 4096]⟩ .f32) = ext2 (columns x) := by
  rw [queries_4096, latent_4096, compressed_4096, rotary_4096, keys_4096, values_4096, gateA_4096, gateB_4096]
  exact beside_4096 (columns x)

/-- Eight runs of columns that are an array's. -/
theorem joined_1024 (y : Fin 1024 → Fin 4096 → EReal) (a0 : FVec Ideal ⟨2, ![1024, 1024]⟩ .f32) (a1 : FVec Ideal ⟨2, ![1024, 256]⟩ .f32) (a2 : FVec Ideal ⟨2, ![1024, 128]⟩ .f32) (a3 : FVec Ideal ⟨2, ![1024, 128]⟩ .f32)
    (a4 : FVec Ideal ⟨2, ![1024, 256]⟩ .f32) (a5 : FVec Ideal ⟨2, ![1024, 256]⟩ .f32) (a6 : FVec Ideal ⟨2, ![1024, 1024]⟩ .f32) (a7 : FVec Ideal ⟨2, ![1024, 1024]⟩ .f32) {h}
    (h0 : a0 = ext2 fun t c => y t ⟨c, by omega⟩)
    (h1 : a1 = ext2 fun t c => y t ⟨1024 + c, by omega⟩)
    (h2 : a2 = ext2 fun t c => y t ⟨1280 + c, by omega⟩)
    (h3 : a3 = ext2 fun t c => y t ⟨1408 + c, by omega⟩)
    (h4 : a4 = ext2 fun t c => y t ⟨1536 + c, by omega⟩)
    (h5 : a5 = ext2 fun t c => y t ⟨1792 + c, by omega⟩)
    (h6 : a6 = ext2 fun t c => y t ⟨2048 + c, by omega⟩)
    (h7 : a7 = ext2 fun t c => y t ⟨3072 + c, by omega⟩) :
    (concatenate ⟨2, ![1024, 4096]⟩ 1 [⟨⟨2, ![1024, 1024]⟩, a0⟩, ⟨⟨2, ![1024, 256]⟩, a1⟩, ⟨⟨2, ![1024, 128]⟩, a2⟩, ⟨⟨2, ![1024, 128]⟩, a3⟩, ⟨⟨2, ![1024, 256]⟩, a4⟩, ⟨⟨2, ![1024, 256]⟩, a5⟩, ⟨⟨2, ![1024, 1024]⟩, a6⟩, ⟨⟨2, ![1024, 1024]⟩, a7⟩] h : FVec Ideal ⟨2, ![1024, 4096]⟩ .f32) = ext2 y := by
  subst h0 h1 h2 h3 h4 h5 h6 h7
  exact beside_1024 y

/-- Eight runs of columns that are an array's. -/
theorem joined_4096 (y : Fin 4096 → Fin 4096 → EReal) (a0 : FVec Ideal ⟨2, ![4096, 1024]⟩ .f32) (a1 : FVec Ideal ⟨2, ![4096, 256]⟩ .f32) (a2 : FVec Ideal ⟨2, ![4096, 128]⟩ .f32) (a3 : FVec Ideal ⟨2, ![4096, 128]⟩ .f32)
    (a4 : FVec Ideal ⟨2, ![4096, 256]⟩ .f32) (a5 : FVec Ideal ⟨2, ![4096, 256]⟩ .f32) (a6 : FVec Ideal ⟨2, ![4096, 1024]⟩ .f32) (a7 : FVec Ideal ⟨2, ![4096, 1024]⟩ .f32) {h}
    (h0 : a0 = ext2 fun t c => y t ⟨c, by omega⟩)
    (h1 : a1 = ext2 fun t c => y t ⟨1024 + c, by omega⟩)
    (h2 : a2 = ext2 fun t c => y t ⟨1280 + c, by omega⟩)
    (h3 : a3 = ext2 fun t c => y t ⟨1408 + c, by omega⟩)
    (h4 : a4 = ext2 fun t c => y t ⟨1536 + c, by omega⟩)
    (h5 : a5 = ext2 fun t c => y t ⟨1792 + c, by omega⟩)
    (h6 : a6 = ext2 fun t c => y t ⟨2048 + c, by omega⟩)
    (h7 : a7 = ext2 fun t c => y t ⟨3072 + c, by omega⟩) :
    (concatenate ⟨2, ![4096, 4096]⟩ 1 [⟨⟨2, ![4096, 1024]⟩, a0⟩, ⟨⟨2, ![4096, 256]⟩, a1⟩, ⟨⟨2, ![4096, 128]⟩, a2⟩, ⟨⟨2, ![4096, 128]⟩, a3⟩, ⟨⟨2, ![4096, 256]⟩, a4⟩, ⟨⟨2, ![4096, 256]⟩, a5⟩, ⟨⟨2, ![4096, 1024]⟩, a6⟩, ⟨⟨2, ![4096, 1024]⟩, a7⟩] h : FVec Ideal ⟨2, ![4096, 4096]⟩ .f32) = ext2 y := by
  subst h0 h1 h2 h3 h4 h5 h6 h7
  exact beside_4096 y

end Cert.Columns
-- ==== Proof.InProjInput.lean ====
/- The cotangent of the mixers' input and of their norm's weight: the projection's cotangent times the transposed projection,
   its columns laid in blocks of 128 lanes, taken back through the norm, plus the residual's. -/
module

public import proofs.«01_k».proof.Proof.NormGrad
public import proofs.«01_k».proof.Proof.Gen.Kernel11Ideal.Value
public import proofs.«01_k».proof.Proof.Gen.Reference11Ideal
public import proofs.«01_k».proof.Proof.Gen.Reference11Ideal.Run
public import proofs.«01_k».proof.Proof.MlpDownWeight
public import proofs.«01_k».proof.Proof.Columns
public import Idealize.ShloMosaic.Lib.Pipeline.ReadBack
public import Idealize.ShloMosaic.Lib.StableHlo.RunRead

@[expose] public section

set_option maxRecDepth 16384

noncomputable section

namespace Cert.InProjInput

open Cert.Grids Cert.Layout Cert.Columns Cert.Norm Cert.NormGrad Cert.Sums Cert.MlpDownWeight Idealize.ShloMosaic Idealize.ShloMosaic.TcCoe Idealize.SL.Sem
variable (x : Fin 2 → Fin 2048 → Fin 1024 → EReal) (g : Fin 1024 → EReal) (w : Fin 1024 → Fin 3232 → EReal)
  (s : Fin 2 → Fin 2048 → Fin 3232 → EReal) (r : Fin 2 → Fin 2048 → Fin 1024 → EReal)

/-- The cotangent of the normed rows. -/
def dh (t : Fin 4096) (d : Fin 1024) : EReal := ∑ f, flat s t f * w d f
/-- The cotangent of the input. -/
def input (t : Fin 4096) (d : Fin 1024) : EReal := back (flat x t) (fun k => dh w s t k * g k) d + flat r t d
/-- The cotangent of the norm's weight. -/
def gain (d : Fin 1024) : EReal := ∑ t, dh w s t d * (flat x t d * factor (flat x t))

section Reference

open Cert.Reference11Ideal Cert.Reference11Ideal.Gen Cert.Reference11Ideal.Value

/-- The product's cotangent, by sequence and token. -/
def dh3 (b : Fin 2) (i : Fin 2048) (d : Fin 1024) : EReal := ∑ f, s b i f * w d f

theorem dh_eq : (Host.dotGeneral dot_S2x2048x3232_S1024x3232_S2x2048x1024_2_1_01_0_n_n none (ext3 s : FVec Ideal S2x2048x3232 .f32)
    (ext2 w : FVec Ideal S1024x3232 .f32) : FVec Ideal S2x2048x1024 .f32) = ext3 (dh3 w s) := by
  funext j
  idx_vars j
  pointwise
  rfl

theorem weighted_eq (y : Fin 2 → Fin 2048 → Fin 1024 → EReal) : (mulf (ext3 y : FVec Ideal S2x2048x1024 .f32)
    (broadcastInDim S2x2048x1024 ![0, 1, 2] bcast_S1x1x1024_S2x2048x1024_0_1_2 (broadcastInDim S1x1x1024 ![2] bcast_S1024_S1x1x1024_2 (ext1 g : FVec Ideal S1024 .f32)))
      : FVec Ideal S2x2048x1024 .f32) = ext3 fun b i d => y b i d * g d := by
  funext j
  idx_vars j
  pointwise

theorem inner_eq (y z : Fin 2 → Fin 2048 → Fin 1024 → EReal) :
    (Host.reduceAdd (mulf (ext3 y : FVec Ideal S2x2048x1024 .f32) (ext3 z)) (constant S_ .f32 0x00000000#32) reducesTo_S2x2048x1024_S2x2048_d2 h_S_ : FVec Ideal S2x2048 .f32)
      = ext2 fun b i => ∑ k, y b i k * z b i k := by
  funext j
  idx_vars j
  pointwise

theorem square_eq (y : Fin 2 → Fin 2048 → Fin 1024 → EReal) :
    (addf (Host.divf (broadcastInDim S2x2048x1 ![0, 1] bcast_S2x2048_S2x2048x1_0_1 (ext2 (fun b i => ∑ k, y b i k * y b i k) : FVec Ideal S2x2048 .f32))
        (broadcastInDim S2x2048x1 ![] bcast_S_S2x2048x1 (constant S_ .f32 0x44800000#32))) (broadcastInDim S2x2048x1 ![] bcast_S_S2x2048x1 (constant S_ .f32 0x358637BD#32)) : FVec Ideal S2x2048x1 .f32)
      = ext3 fun b i _ => (∑ k, y b i k * y b i k) * Ideal.ofBits .f32 0x3A800000#32 + eps := by
  funext j
  idx_vars j
  pointwise
  rw [mean]
  rfl

theorem factor_eq (y : Fin 2 → Fin 2048 → Fin 1024 → EReal) :
    (Host.rsqrt (ext3 (fun b i _ => (∑ k, y b i k * y b i k) * Ideal.ofBits .f32 0x3A800000#32 + eps) : FVec Ideal S2x2048x1 .f32) : FVec Ideal S2x2048x1 .f32)
      = ext3 fun b i _ => factor (y b i) := by
  funext j
  idx_vars j
  pointwise
  rfl

theorem coef_eq (y z : Fin 2 → Fin 2048 → Fin 1024 → EReal) :
    (Host.reduceAdd (Host.divf (mulf (shapeCast S2x2048x1 (ext2 (fun b i => ∑ k, y b i k * z b i k) : FVec Ideal S2x2048 .f32) shapeCasts_S2x2048_S2x2048x1 : FVec Ideal S2x2048x1 .f32)
        (mulf (broadcastInDim S2x2048x1 ![] bcast_S_S2x2048x1 (constant S_ .f32 0xBF000000#32)) (Host.divf (ext3 (fun b i _ => factor (y b i)))
          (ext3 (fun b i _ => (∑ k, y b i k * y b i k) * Ideal.ofBits .f32 0x3A800000#32 + eps)))))
        (broadcastInDim S2x2048x1 ![] bcast_S_S2x2048x1 (constant S_ .f32 0x44800000#32))) (constant S_ .f32 0x00000000#32) reducesTo_S2x2048x1_S2x2048_d2 h_S_ : FVec Ideal S2x2048 .f32)
      = ext2 fun b i => coef (y b i) (z b i) := by
  funext j
  idx_vars j
  pointwise
  exact Fin.sum_univ_one _

theorem terms_eq (y : Fin 2 → Fin 2048 → Fin 1024 → EReal) (f h : Fin 2 → Fin 2048 → EReal) :
    (shapeCast S4096x1024 (addf (addf (addf (ext3 r : FVec Ideal S2x2048x1024 .f32) (mulf (ext3 y)
        (broadcastInDim S2x2048x1024 ![0, 1, 2] bcast_S2x2048x1_S2x2048x1024_0_1_2 (ext3 (fun b i _ => f b i) : FVec Ideal S2x2048x1 .f32))))
        (mulf (ext3 x) (broadcastInDim S2x2048x1024 ![0, 1] bcast_S2x2048_S2x2048x1024_0_1 (ext2 h : FVec Ideal S2x2048 .f32))))
        (mulf (broadcastInDim S2x2048x1024 ![0, 1] bcast_S2x2048_S2x2048x1024_0_1 (ext2 h : FVec Ideal S2x2048 .f32)) (ext3 x))
      : FVec Ideal S2x2048x1024 .f32) shapeCasts_S2x2048x1024_S4096x1024 : FVec Ideal S4096x1024 .f32)
      = ext2 fun t d => flat r t d + flat y t d * f ⟨t / 2048, by omega⟩ ⟨t % 2048, by omega⟩ + flat x t d * h ⟨t / 2048, by omega⟩ ⟨t % 2048, by omega⟩
        + h ⟨t / 2048, by omega⟩ ⟨t % 2048, by omega⟩ * flat x t d := by
  funext j
  idx_vars j
  pointwise
  rfl

theorem input_eq :
    (fun t d => flat r t d + flat (fun b i d => dh3 w s b i d * g d) t d * factor (flat x t)
      + flat x t d * coef (flat x t) (flat (fun b i d => dh3 w s b i d * g d) t)
      + coef (flat x t) (flat (fun b i d => dh3 w s b i d * g d) t) * flat x t d) = input x g w s r := by
  funext t d
  exact (back_eq (flat x t) (flat (fun b i d => dh3 w s b i d * g d) t) (flat r t d) d).trans rfl

theorem gain_eq (y z : Fin 2 → Fin 2048 → Fin 1024 → EReal) (f : Fin 2 → Fin 2048 → EReal) :
    (shapeCast S1x1024 (Host.reduceAdd (shapeCast S1x1x1024 (Host.reduceAdd (mulf (mulf (ext3 y : FVec Ideal S2x2048x1024 .f32)
      (broadcastInDim S2x2048x1024 ![0, 1, 2] bcast_S2x2048x1_S2x2048x1024_0_1_2 (ext3 (fun b i _ => f b i) : FVec Ideal S2x2048x1 .f32)))
      (ext3 z)) (constant S_ .f32 0x00000000#32) reducesTo_S2x2048x1024_S1024_d0_1 h_S_ : FVec Ideal S1024 .f32) shapeCasts_S1024_S1x1x1024 : FVec Ideal S1x1x1024 .f32)
      (constant S_ .f32 0x00000000#32) reducesTo_S1x1x1024_S1024_d0_1 h_S_ : FVec Ideal S1024 .f32) shapeCasts_S1024_S1x1024 : FVec Ideal S1x1024 .f32)
      = ext2 fun _ d => ∑ t, flat z t d * (flat y t d * f ⟨t / 2048, by omega⟩ ⟨t % 2048, by omega⟩) := by
  funext j
  idx_vars j
  pointwise
  simp only [Fin.sum_univ_one, zero_add]
  refine (sum_flat _).trans ?_
  exact Finset.sum_congr rfl fun t _ => mul_comm _ _
theorem reference_run (m : (ℓ : Loc nD τ sig) → Buf (Elt Ideal) ℓ) (ρ : Dev nD → PrngReg)
    (hx : ∀ c : Dev nD, m ((c.tc : Thread nD τ).loc main_arg0) = (ext3 x : FVec Ideal S2x2048x1024 .f32))
    (hg : ∀ c : Dev nD, m ((c.tc : Thread nD τ).loc main_arg1) = (ext1 g : FVec Ideal S1024 .f32))
    (hw : ∀ c : Dev nD, m ((c.tc : Thread nD τ).loc main_arg2) = (ext2 w : FVec Ideal S1024x3232 .f32))
    (hs : ∀ c : Dev nD, m ((c.tc : Thread nD τ).loc main_arg3) = (ext3 s : FVec Ideal S2x2048x3232 .f32))
    (hr : ∀ c : Dev nD, m ((c.tc : Thread nD τ).loc main_arg4) = (ext3 r : FVec Ideal S2x2048x1024 .f32)) :
    θ_run defs (onTc (τ := τ) (main (F := Ideal))) ⟨m, fun _ => 0, ρ⟩ fun z => ∀ c : Dev nD,
      z.2.mem ((c.tc : Thread nD τ).loc main_v39) = (ext2 (input x g w s r) : FVec Ideal S4096x1024 .f32)
      ∧ z.2.mem ((c.tc : Thread nD τ).loc main_v40) = (ext2 fun _ => gain x w s : FVec Ideal S1x1024 .f32)
      ∧ z.2.mem ((c.tc : Thread nD τ).loc main_arg0) = m ((c.tc : Thread nD τ).loc main_arg0)
      ∧ z.2.mem ((c.tc : Thread nD τ).loc main_arg1) = m ((c.tc : Thread nD τ).loc main_arg1)
      ∧ z.2.mem ((c.tc : Thread nD τ).loc main_arg2) = m ((c.tc : Thread nD τ).loc main_arg2)
      ∧ z.2.mem ((c.tc : Thread nD τ).loc main_arg3) = m ((c.tc : Thread nD τ).loc main_arg3)
      ∧ z.2.mem ((c.tc : Thread nD τ).loc main_arg4) = m ((c.tc : Thread nD τ).loc main_arg4) :=
  (θ_run defs _ _).mono (fun z h c => by
    refine ⟨(h c).1.trans ?_, (h c).2.1.trans ?_, (h c).2.2⟩
    · unfold res_main_v39
      rw [hx, hg, hw, hs, hr, dh_eq, weighted_eq, inner_eq x x, square_eq, factor_eq, inner_eq, coef_eq]
      exact (terms_eq x r _ _ _).trans (congrArg ext2 (input_eq x g w s r))
    · rw [hx, hw, hs, dh_eq, inner_eq x x, square_eq, factor_eq]
      exact gain_eq x _ _) (Value.run m ρ)

/-- The reference's frame: its run leaves the arguments alone, and the program declares no semaphore. -/
theorem reference_frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0 :=
  (θ_run defs _ _).mono (fun r h => ⟨fun c => (h c).2.2, sem_eq_zero_of_no_sems (by decide) r.2⟩) (Value.run (F := Ideal) m ρ)

end Reference

open Cert.Kernel11Ideal Cert.Kernel11Ideal.Gen

/-- A quarter of an array's laid columns. -/
def quarter {R : ℕ} (x : Fin R → Fin 4096 → EReal) (j : ℕ) (hj : j < 4) (t : Fin R) (f : Fin 1024) : EReal := x t ⟨j * 1024 + f, by omega⟩

theorem quarters (t : Fin 4096) (d : Fin 1024) :
    (∑ f, quarter (columns (flat s)) 0 (by omega) t f * quarter (columns w) 0 (by omega) d f)
    + (∑ f, quarter (columns (flat s)) 1 (by omega) t f * quarter (columns w) 1 (by omega) d f)
    + (∑ f, quarter (columns (flat s)) 2 (by omega) t f * quarter (columns w) 2 (by omega) d f)
    + (∑ f, quarter (columns (flat s)) 3 (by omega) t f * quarter (columns w) 3 (by omega) d f) = dh w s t d := by
  rw [dh, Columns.sum_mul (flat s) w t d, sum_blocks 4 1024 rfl, Fin.sum_univ_four]
  rfl

/-- A block's product from its four parts. -/
def product (S0 S1 S2 S3 : Fin 256 → Fin 1024 → EReal) (W0 W1 W2 W3 : Fin 1024 → Fin 1024 → EReal) (i : Fin 256) (d : Fin 1024) : EReal :=
  (∑ f, S0 i f * W0 d f) + (∑ f, S1 i f * W1 d f) + (∑ f, S2 i f * W2 d f) + (∑ f, S3 i f * W3 d f)

theorem product_eq (S0 S1 S2 S3 : Fin 256 → Fin 1024 → EReal) (W0 W1 W2 W3 : Fin 1024 → Fin 1024 → EReal) :
    k0_pay6 (F := Ideal) (ext2 S0 : FVec Ideal S256x1024 .bf16) (ext2 W0 : FVec Ideal S1024x1024 .bf16) (ext2 S1 : FVec Ideal S256x1024 .bf16) (ext2 W1 : FVec Ideal S1024x1024 .bf16)
      (ext2 S2 : FVec Ideal S256x1024 .bf16) (ext2 W2 : FVec Ideal S1024x1024 .bf16) (ext2 S3 : FVec Ideal S256x1024 .bf16) (ext2 W3 : FVec Ideal S1024x1024 .bf16)
      = (ext2 (product S0 S1 S2 S3 W0 W1 W2 W3) : FVec Ideal S256x1024 .f32) := by
  funext j
  idx_vars j
  pointwise [k0_pay6]
  rfl

theorem x_read (X : Fin 256 → Fin 1024 → EReal) : k0_pay7 (F := Ideal) (ext2 X : FVec Ideal S256x1024 .f32) = (ext2 X : FVec Ideal S256x1024 .f32) := by
  funext j
  idx_vars j
  pointwise [k0_pay7]

theorem r_read (X : Fin 256 → Fin 1024 → EReal) : k0_pay8 (F := Ideal) (ext2 X : FVec Ideal S256x1024 .f32) = (ext2 X : FVec Ideal S256x1024 .f32) := by
  funext j
  idx_vars j
  pointwise [k0_pay8]

theorem g_read (X : Fin 1 → Fin 1024 → EReal) : k0_pay9 (F := Ideal) (ext2 X : FVec Ideal S1x1024 .f32) = (ext2 X : FVec Ideal S1x1024 .f32) := by
  funext j
  idx_vars j
  pointwise [k0_pay9]

theorem square_blk (X : Fin 256 → Fin 1024 → EReal) : k0_pay10 (F := Ideal) (ext2 X : FVec Ideal S256x1024 .f32) = (ext1 (fun i => ∑ k, X i k * X i k) : FVec Ideal S256 .f32) := by
  unfold k0_pay10
  rw [x_read]
  funext j
  idx_vars j
  pointwise

/-- The rows' sums of squares. -/
abbrev squares (X : Fin 256 → Fin 1024 → EReal) : FVec Ideal S256 .f32 := ext1 fun i => ∑ k, X i k * X i k

theorem factor_blk (X : Fin 256 → Fin 1024 → EReal) :
    k0_pay1 (F := Ideal) (squares X) = (ext2 (fun i _ => factor (X i)) : FVec Ideal S256x1 .f32) := by
  funext j
  idx_vars j
  pointwise [k0_pay1]
  rfl

theorem normed_blk (X : Fin 256 → Fin 1024 → EReal) :
    k0_pay2 (F := Ideal) (ext2 X : FVec Ideal S256x1024 .f32) (squares X) = (ext2 (fun i d => X i d * factor (X i)) : FVec Ideal S256x1024 .f32) := by
  unfold k0_pay2
  rw [factor_blk]
  funext j
  idx_vars j
  pointwise

theorem back_blk (D X R : Fin 256 → Fin 1024 → EReal) (G : Fin 1 → Fin 1024 → EReal) :
    k0_pay4 (F := Ideal) (ext2 D : FVec Ideal S256x1024 .f32) (ext2 X : FVec Ideal S256x1024 .f32) (ext2 R : FVec Ideal S256x1024 .f32) (ext2 G : FVec Ideal S1x1024 .f32) (squares X)
      = (ext2 (fun i d => back (X i) (fun k => D i k * G 0 k) d + R i d) : FVec Ideal S256x1024 .f32) := by
  unfold k0_pay4
  rw [normed_blk, factor_blk]
  funext j
  idx_vars j
  pointwise
  rfl

theorem gain_blk (D X : Fin 256 → Fin 1024 → EReal) :
    k0_pay3 (F := Ideal) (ext2 D : FVec Ideal S256x1024 .f32) (ext2 X : FVec Ideal S256x1024 .f32) (squares X)
      = (ext2 (fun _ d => ∑ i, D i d * (X i d * factor (X i))) : FVec Ideal S1x1024 .f32) := by
  unfold k0_pay3
  rw [normed_blk]
  funext j
  idx_vars j
  pointwise

theorem gain_next (D X : Fin 256 → Fin 1024 → EReal) (A : Fin 1 → Fin 1024 → EReal) :
    k0_pay5 (F := Ideal) (ext2 D : FVec Ideal S256x1024 .f32) (ext2 X : FVec Ideal S256x1024 .f32) (squares X) (ext2 A : FVec Ideal S1x1024 .f32)
      = (ext2 (fun e d => A e d + ∑ i, D i d * (X i d * factor (X i))) : FVec Ideal S1x1024 .f32) := by
  unfold k0_pay5
  rw [gain_blk]
  funext j
  idx_vars j
  pointwise

variable (m : (ℓ : Loc nD τ sig) → Buf (Elt Ideal) ℓ) (c : Dev nD)

theorem flat_eq : (fun i => shapeCast main_v20.ty.shape (ext3 s : FVec Ideal S2x2048x3232 .f32) shapeCasts_S2x2048x3232_S4096x3232 i)
    = (ext2 (flat s) : FVec Ideal S4096x3232 .f32) := by
  funext j
  idx_vars j
  pointwise
  rfl

theorem s_eq0 (hs : m ((c.tc : Thread nD τ).loc main_arg3) = (ext3 s : FVec Ideal S2x2048x3232 .f32)) :
    V m c main_v41 = (ext2 (quarter (columns (flat s)) 0 (by omega)) : FVec Ideal S4096x1024 .bf16) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append,
    StableHlo.TRef.nullary, StableHlo.TRef.binary, StableHlo.TRef.unary, StableHlo.TRef.toBuf, StableHlo.TRef.ofBuf, cast_eq]
  after_reads_simp
  refine (congrArg (fun x : FVec Ideal S4096x4096 .f32 => (extractStridedSlice S4096x1024 ![0, 0] (truncf .bf16 x bitsLt_bf16_f32 : FVec Ideal S4096x4096 .bf16) slices_S4096x4096_S4096x1024_0_0 : FVec Ideal S4096x1024 .bf16))
    (joined_4096 (columns (flat s)) _ _ _ _ _ _ _ _ ?_ ?_ ?_ ?_ ?_ ?_ ?_ ?_)).trans ?_
  · show StableHlo.upto _ _ _ (Proc.devRef .tc main_v24) = _
    after_reads_simp
    rw [show m (c, Proc.tc.devRef main_arg3) = _ from hs, flat_eq s]
    exact queries_4096 (flat s)
  · show StableHlo.upto _ _ _ (Proc.devRef .tc main_v25) = _
    after_reads_simp
    rw [show m (c, Proc.tc.devRef main_arg3) = _ from hs, flat_eq s]
    exact latent_4096 (flat s)
  · show StableHlo.upto _ _ _ (Proc.devRef .tc main_v26) = _
    after_reads_simp
    rw [show m (c, Proc.tc.devRef main_arg3) = _ from hs, flat_eq s]
    exact compressed_4096 (flat s)
  · show StableHlo.upto _ _ _ (Proc.devRef .tc main_v28) = _
    after_reads_simp
    rw [show m (c, Proc.tc.devRef main_arg3) = _ from hs, flat_eq s]
    exact rotary_4096 (flat s)
  · show StableHlo.upto _ _ _ (Proc.devRef .tc main_v32) = _
    after_reads_simp
    rw [show m (c, Proc.tc.devRef main_arg3) = _ from hs, flat_eq s]
    exact keys_4096 (flat s)
  · show StableHlo.upto _ _ _ (Proc.devRef .tc main_v36) = _
    after_reads_simp
    rw [show m (c, Proc.tc.devRef main_arg3) = _ from hs, flat_eq s]
    exact values_4096 (flat s)
  · show StableHlo.upto _ _ _ (Proc.devRef .tc main_v37) = _
    after_reads_simp
    rw [show m (c, Proc.tc.devRef main_arg3) = _ from hs, flat_eq s]
    exact gateA_4096 (flat s)
  · show StableHlo.upto _ _ _ (Proc.devRef .tc main_v38) = _
    after_reads_simp
    rw [show m (c, Proc.tc.devRef main_arg3) = _ from hs, flat_eq s]
    exact gateB_4096 (flat s)
  · funext j
    idx_vars j
    pointwise
    exact congrArg (columns (flat s) j0) (Fin.ext (by dsimp only <;> omega))

theorem s_eq1 (hs : m ((c.tc : Thread nD τ).loc main_arg3) = (ext3 s : FVec Ideal S2x2048x3232 .f32)) :
    V m c main_v42 = (ext2 (quarter (columns (flat s)) 1 (by omega)) : FVec Ideal S4096x1024 .bf16) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append,
    StableHlo.TRef.nullary, StableHlo.TRef.binary, StableHlo.TRef.unary, StableHlo.TRef.toBuf, StableHlo.TRef.ofBuf, cast_eq]
  after_reads_simp
  refine (congrArg (fun x : FVec Ideal S4096x4096 .f32 => (extractStridedSlice S4096x1024 ![0, 1024] (truncf .bf16 x bitsLt_bf16_f32 : FVec Ideal S4096x4096 .bf16) slices_S4096x4096_S4096x1024_0_1024 : FVec Ideal S4096x1024 .bf16))
    (joined_4096 (columns (flat s)) _ _ _ _ _ _ _ _ ?_ ?_ ?_ ?_ ?_ ?_ ?_ ?_)).trans ?_
  · show StableHlo.upto _ _ _ (Proc.devRef .tc main_v24) = _
    after_reads_simp
    rw [show m (c, Proc.tc.devRef main_arg3) = _ from hs, flat_eq s]
    exact queries_4096 (flat s)
  · show StableHlo.upto _ _ _ (Proc.devRef .tc main_v25) = _
    after_reads_simp
    rw [show m (c, Proc.tc.devRef main_arg3) = _ from hs, flat_eq s]
    exact latent_4096 (flat s)
  · show StableHlo.upto _ _ _ (Proc.devRef .tc main_v26) = _
    after_reads_simp
    rw [show m (c, Proc.tc.devRef main_arg3) = _ from hs, flat_eq s]
    exact compressed_4096 (flat s)
  · show StableHlo.upto _ _ _ (Proc.devRef .tc main_v28) = _
    after_reads_simp
    rw [show m (c, Proc.tc.devRef main_arg3) = _ from hs, flat_eq s]
    exact rotary_4096 (flat s)
  · show StableHlo.upto _ _ _ (Proc.devRef .tc main_v32) = _
    after_reads_simp
    rw [show m (c, Proc.tc.devRef main_arg3) = _ from hs, flat_eq s]
    exact keys_4096 (flat s)
  · show StableHlo.upto _ _ _ (Proc.devRef .tc main_v36) = _
    after_reads_simp
    rw [show m (c, Proc.tc.devRef main_arg3) = _ from hs, flat_eq s]
    exact values_4096 (flat s)
  · show StableHlo.upto _ _ _ (Proc.devRef .tc main_v37) = _
    after_reads_simp
    rw [show m (c, Proc.tc.devRef main_arg3) = _ from hs, flat_eq s]
    exact gateA_4096 (flat s)
  · show StableHlo.upto _ _ _ (Proc.devRef .tc main_v38) = _
    after_reads_simp
    rw [show m (c, Proc.tc.devRef main_arg3) = _ from hs, flat_eq s]
    exact gateB_4096 (flat s)
  · funext j
    idx_vars j
    pointwise
    rfl

theorem s_eq2 (hs : m ((c.tc : Thread nD τ).loc main_arg3) = (ext3 s : FVec Ideal S2x2048x3232 .f32)) :
    V m c main_v43 = (ext2 (quarter (columns (flat s)) 2 (by omega)) : FVec Ideal S4096x1024 .bf16) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append,
    StableHlo.TRef.nullary, StableHlo.TRef.binary, StableHlo.TRef.unary, StableHlo.TRef.toBuf, StableHlo.TRef.ofBuf, cast_eq]
  after_reads_simp
  refine (congrArg (fun x : FVec Ideal S4096x4096 .f32 => (extractStridedSlice S4096x1024 ![0, 2048] (truncf .bf16 x bitsLt_bf16_f32 : FVec Ideal S4096x4096 .bf16) slices_S4096x4096_S4096x1024_0_2048 : FVec Ideal S4096x1024 .bf16))
    (joined_4096 (columns (flat s)) _ _ _ _ _ _ _ _ ?_ ?_ ?_ ?_ ?_ ?_ ?_ ?_)).trans ?_
  · show StableHlo.upto _ _ _ (Proc.devRef .tc main_v24) = _
    after_reads_simp
    rw [show m (c, Proc.tc.devRef main_arg3) = _ from hs, flat_eq s]
    exact queries_4096 (flat s)
  · show StableHlo.upto _ _ _ (Proc.devRef .tc main_v25) = _
    after_reads_simp
    rw [show m (c, Proc.tc.devRef main_arg3) = _ from hs, flat_eq s]
    exact latent_4096 (flat s)
  · show StableHlo.upto _ _ _ (Proc.devRef .tc main_v26) = _
    after_reads_simp
    rw [show m (c, Proc.tc.devRef main_arg3) = _ from hs, flat_eq s]
    exact compressed_4096 (flat s)
  · show StableHlo.upto _ _ _ (Proc.devRef .tc main_v28) = _
    after_reads_simp
    rw [show m (c, Proc.tc.devRef main_arg3) = _ from hs, flat_eq s]
    exact rotary_4096 (flat s)
  · show StableHlo.upto _ _ _ (Proc.devRef .tc main_v32) = _
    after_reads_simp
    rw [show m (c, Proc.tc.devRef main_arg3) = _ from hs, flat_eq s]
    exact keys_4096 (flat s)
  · show StableHlo.upto _ _ _ (Proc.devRef .tc main_v36) = _
    after_reads_simp
    rw [show m (c, Proc.tc.devRef main_arg3) = _ from hs, flat_eq s]
    exact values_4096 (flat s)
  · show StableHlo.upto _ _ _ (Proc.devRef .tc main_v37) = _
    after_reads_simp
    rw [show m (c, Proc.tc.devRef main_arg3) = _ from hs, flat_eq s]
    exact gateA_4096 (flat s)
  · show StableHlo.upto _ _ _ (Proc.devRef .tc main_v38) = _
    after_reads_simp
    rw [show m (c, Proc.tc.devRef main_arg3) = _ from hs, flat_eq s]
    exact gateB_4096 (flat s)
  · funext j
    idx_vars j
    pointwise
    rfl

theorem s_eq3 (hs : m ((c.tc : Thread nD τ).loc main_arg3) = (ext3 s : FVec Ideal S2x2048x3232 .f32)) :
    V m c main_v44 = (ext2 (quarter (columns (flat s)) 3 (by omega)) : FVec Ideal S4096x1024 .bf16) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append,
    StableHlo.TRef.nullary, StableHlo.TRef.binary, StableHlo.TRef.unary, StableHlo.TRef.toBuf, StableHlo.TRef.ofBuf, cast_eq]
  after_reads_simp
  refine (congrArg (fun x : FVec Ideal S4096x4096 .f32 => (extractStridedSlice S4096x1024 ![0, 3072] (truncf .bf16 x bitsLt_bf16_f32 : FVec Ideal S4096x4096 .bf16) slices_S4096x4096_S4096x1024_0_3072 : FVec Ideal S4096x1024 .bf16))
    (joined_4096 (columns (flat s)) _ _ _ _ _ _ _ _ ?_ ?_ ?_ ?_ ?_ ?_ ?_ ?_)).trans ?_
  · show StableHlo.upto _ _ _ (Proc.devRef .tc main_v24) = _
    after_reads_simp
    rw [show m (c, Proc.tc.devRef main_arg3) = _ from hs, flat_eq s]
    exact queries_4096 (flat s)
  · show StableHlo.upto _ _ _ (Proc.devRef .tc main_v25) = _
    after_reads_simp
    rw [show m (c, Proc.tc.devRef main_arg3) = _ from hs, flat_eq s]
    exact latent_4096 (flat s)
  · show StableHlo.upto _ _ _ (Proc.devRef .tc main_v26) = _
    after_reads_simp
    rw [show m (c, Proc.tc.devRef main_arg3) = _ from hs, flat_eq s]
    exact compressed_4096 (flat s)
  · show StableHlo.upto _ _ _ (Proc.devRef .tc main_v28) = _
    after_reads_simp
    rw [show m (c, Proc.tc.devRef main_arg3) = _ from hs, flat_eq s]
    exact rotary_4096 (flat s)
  · show StableHlo.upto _ _ _ (Proc.devRef .tc main_v32) = _
    after_reads_simp
    rw [show m (c, Proc.tc.devRef main_arg3) = _ from hs, flat_eq s]
    exact keys_4096 (flat s)
  · show StableHlo.upto _ _ _ (Proc.devRef .tc main_v36) = _
    after_reads_simp
    rw [show m (c, Proc.tc.devRef main_arg3) = _ from hs, flat_eq s]
    exact values_4096 (flat s)
  · show StableHlo.upto _ _ _ (Proc.devRef .tc main_v37) = _
    after_reads_simp
    rw [show m (c, Proc.tc.devRef main_arg3) = _ from hs, flat_eq s]
    exact gateA_4096 (flat s)
  · show StableHlo.upto _ _ _ (Proc.devRef .tc main_v38) = _
    after_reads_simp
    rw [show m (c, Proc.tc.devRef main_arg3) = _ from hs, flat_eq s]
    exact gateB_4096 (flat s)
  · funext j
    idx_vars j
    pointwise
    rfl

theorem w_eq (hw : m ((c.tc : Thread nD τ).loc main_arg2) = (ext2 w : FVec Ideal S1024x3232 .f32)) :
    V m c main_v19 = (ext2 (columns w) : FVec Ideal S1024x4096 .bf16) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append,
    StableHlo.TRef.nullary, StableHlo.TRef.binary, StableHlo.TRef.unary, StableHlo.TRef.toBuf, StableHlo.TRef.ofBuf, cast_eq]
  after_reads_simp
  refine (congrArg (fun x : FVec Ideal S1024x4096 .f32 => (truncf .bf16 x bitsLt_bf16_f32 : FVec Ideal S1024x4096 .bf16))
    (joined_1024 (columns w) _ _ _ _ _ _ _ _ ?_ ?_ ?_ ?_ ?_ ?_ ?_ ?_)).trans ?_
  · show StableHlo.upto _ _ _ (Proc.devRef .tc main_v3) = _
    after_reads_simp
    rw [show m (c, Proc.tc.devRef main_arg2) = _ from hw]
    exact queries_1024 w
  · show StableHlo.upto _ _ _ (Proc.devRef .tc main_v4) = _
    after_reads_simp
    rw [show m (c, Proc.tc.devRef main_arg2) = _ from hw]
    exact latent_1024 w
  · show StableHlo.upto _ _ _ (Proc.devRef .tc main_v5) = _
    after_reads_simp
    rw [show m (c, Proc.tc.devRef main_arg2) = _ from hw]
    exact compressed_1024 w
  · show StableHlo.upto _ _ _ (Proc.devRef .tc main_v7) = _
    after_reads_simp
    rw [show m (c, Proc.tc.devRef main_arg2) = _ from hw]
    exact rotary_1024 w
  · show StableHlo.upto _ _ _ (Proc.devRef .tc main_v11) = _
    after_reads_simp
    rw [show m (c, Proc.tc.devRef main_arg2) = _ from hw]
    exact keys_1024 w
  · show StableHlo.upto _ _ _ (Proc.devRef .tc main_v15) = _
    after_reads_simp
    rw [show m (c, Proc.tc.devRef main_arg2) = _ from hw]
    exact values_1024 w
  · show StableHlo.upto _ _ _ (Proc.devRef .tc main_v16) = _
    after_reads_simp
    rw [show m (c, Proc.tc.devRef main_arg2) = _ from hw]
    exact gateA_1024 w
  · show StableHlo.upto _ _ _ (Proc.devRef .tc main_v17) = _
    after_reads_simp
    rw [show m (c, Proc.tc.devRef main_arg2) = _ from hw]
    exact gateB_1024 w
  · funext j
    idx_vars j
    pointwise

theorem x_eq (h : m ((c.tc : Thread nD τ).loc main_arg0) = (ext3 x : FVec Ideal S2x2048x1024 .f32)) :
    V m c main_v45 = (ext2 (flat x) : FVec Ideal S4096x1024 .f32) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp
  rw [show m (c, Proc.tc.devRef main_arg0) = _ from h]
  funext j
  idx_vars j
  pointwise
  rfl

theorem r_eq (h : m ((c.tc : Thread nD τ).loc main_arg4) = (ext3 r : FVec Ideal S2x2048x1024 .f32)) :
    V m c main_v46 = (ext2 (flat r) : FVec Ideal S4096x1024 .f32) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp
  rw [show m (c, Proc.tc.devRef main_arg4) = _ from h]
  funext j
  idx_vars j
  pointwise
  rfl

theorem g_eq (h : m ((c.tc : Thread nD τ).loc main_arg1) = (ext1 g : FVec Ideal S1024 .f32)) :
    V m c main_v47 = (ext2 fun _ => g : FVec Ideal S1x1024 .f32) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp
  rw [show m (c, Proc.tc.devRef main_arg1) = _ from h]
  funext j
  idx_vars j
  pointwise

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 1] := (by decide +kernel : ∀ t : Fin grid0.N, _)
theorem idx6 : ∀ t : Fin cfg0.N, win0_6.index t = ![0, 2] := (by decide +kernel : ∀ t : Fin grid0.N, _)
theorem idx7 : ∀ t : Fin cfg0.N, win0_7.index t = ![0, 3] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![0, 0] := (by decide +kernel : ∀ t : Fin grid0.N, _)

theorem lt (t : Fin cfg0.N) : t.val < 16 := lt_of_lt_of_eq t.isLt (show cfg0.N = 16 from N_0)

/-- The rows a grid point meets. -/
def rows (x : Fin 4096 → Fin 1024 → EReal) (t : ℕ) (ht : t < 16) (i : Fin 256) : Fin 1024 → EReal := x ⟨t * 256 + i, by omega⟩

theorem s_blk0 {x : Fin 4096 → Fin 1024 → EReal} (h : V m c main_v41 = (ext2 x : FVec Ideal S4096x1024 .bf16)) (t : Fin cfg0.N) :
    iblk m c 0 t = (ext2 (rows x t (lt t)) : FVec Ideal S256x1024 .bf16) := by
  funext y
  idx_vars y
  blk_simp [iblk]
  rw [h]
  refine ext2_at x _ _ _ ?_ ?_ <;> blk_simp [idx0 t]

theorem w_blk0 {x : Fin 1024 → Fin 4096 → EReal} (h : V m c main_v19 = (ext2 x : FVec Ideal S1024x4096 .bf16)) (t : Fin cfg0.N) :
    iblk m c 4 t = (ext2 (quarter x 0 (by omega)) : FVec Ideal S1024x1024 .bf16) := by
  funext y
  idx_vars y
  blk_simp [iblk]
  rw [h]
  refine ext2_at x _ _ _ ?_ ?_ <;> blk_simp [idx4 t]

theorem s_blk1 {x : Fin 4096 → Fin 1024 → EReal} (h : V m c main_v42 = (ext2 x : FVec Ideal S4096x1024 .bf16)) (t : Fin cfg0.N) :
    iblk m c 1 t = (ext2 (rows x t (lt t)) : FVec Ideal S256x1024 .bf16) := by
  funext y
  idx_vars y
  blk_simp [iblk]
  rw [h]
  refine ext2_at x _ _ _ ?_ ?_ <;> blk_simp [idx1 t]

theorem w_blk1 {x : Fin 1024 → Fin 4096 → EReal} (h : V m c main_v19 = (ext2 x : FVec Ideal S1024x4096 .bf16)) (t : Fin cfg0.N) :
    iblk m c 5 t = (ext2 (quarter x 1 (by omega)) : FVec Ideal S1024x1024 .bf16) := by
  funext y
  idx_vars y
  blk_simp [iblk]
  rw [h]
  refine ext2_at x _ _ _ ?_ ?_ <;> blk_simp [idx5 t]

theorem s_blk2 {x : Fin 4096 → Fin 1024 → EReal} (h : V m c main_v43 = (ext2 x : FVec Ideal S4096x1024 .bf16)) (t : Fin cfg0.N) :
    iblk m c 2 t = (ext2 (rows x t (lt t)) : FVec Ideal S256x1024 .bf16) := by
  funext y
  idx_vars y
  blk_simp [iblk]
  rw [h]
  refine ext2_at x _ _ _ ?_ ?_ <;> blk_simp [idx2 t]

theorem w_blk2 {x : Fin 1024 → Fin 4096 → EReal} (h : V m c main_v19 = (ext2 x : FVec Ideal S1024x4096 .bf16)) (t : Fin cfg0.N) :
    iblk m c 6 t = (ext2 (quarter x 2 (by omega)) : FVec Ideal S1024x1024 .bf16) := by
  funext y
  idx_vars y
  blk_simp [iblk]
  rw [h]
  refine ext2_at x _ _ _ ?_ ?_ <;> blk_simp [idx6 t]

theorem s_blk3 {x : Fin 4096 → Fin 1024 → EReal} (h : V m c main_v44 = (ext2 x : FVec Ideal S4096x1024 .bf16)) (t : Fin cfg0.N) :
    iblk m c 3 t = (ext2 (rows x t (lt t)) : FVec Ideal S256x1024 .bf16) := by
  funext y
  idx_vars y
  blk_simp [iblk]
  rw [h]
  refine ext2_at x _ _ _ ?_ ?_ <;> blk_simp [idx3 t]

theorem w_blk3 {x : Fin 1024 → Fin 4096 → EReal} (h : V m c main_v19 = (ext2 x : FVec Ideal S1024x4096 .bf16)) (t : Fin cfg0.N) :
    iblk m c 7 t = (ext2 (quarter x 3 (by omega)) : FVec Ideal S1024x1024 .bf16) := by
  funext y
  idx_vars y
  blk_simp [iblk]
  rw [h]
  refine ext2_at x _ _ _ ?_ ?_ <;> blk_simp [idx7 t]

theorem x_blk {x : Fin 4096 → Fin 1024 → EReal} (h : V m c main_v45 = (ext2 x : FVec Ideal S4096x1024 .f32)) (t : Fin cfg0.N) :
    iblk m c 8 t = (ext2 (rows x t (lt t)) : FVec Ideal S256x1024 .f32) := by
  funext y
  idx_vars y
  blk_simp [iblk]
  rw [h]
  refine ext2_at x _ _ _ ?_ ?_ <;> blk_simp [idx8 t]

theorem r_blk {x : Fin 4096 → Fin 1024 → EReal} (h : V m c main_v46 = (ext2 x : FVec Ideal S4096x1024 .f32)) (t : Fin cfg0.N) :
    iblk m c 9 t = (ext2 (rows x t (lt t)) : FVec Ideal S256x1024 .f32) := by
  funext y
  idx_vars y
  blk_simp [iblk]
  rw [h]
  refine ext2_at x _ _ _ ?_ ?_ <;> blk_simp [idx9 t]

theorem g_blk {x : Fin 1 → Fin 1024 → EReal} (h : V m c main_v47 = (ext2 x : FVec Ideal S1x1024 .f32)) (t : Fin cfg0.N) :
    iblk m c 10 t = (ext2 x : FVec Ideal S1x1024 .f32) := by
  funext y
  idx_vars y
  blk_simp [iblk]
  rw [h]
  refine ext2_at x _ _ _ ?_ ?_ <;> blk_simp [idx10 t]

theorem rows_at {φ : FTy} (x : Fin 4096 → Fin 1024 → EReal) (t : ℕ) (ht : t < 16) (y : S256x1024.Idx) (j : S4096x1024.Idx)
    (h0 : (j 0).val = t * 256 + (y 0).val) (h1 : (j 1).val = (y 1).val) :
    (ext2 (rows x t ht) : FVec Ideal S256x1024 φ) y = (ext2 x : FVec Ideal S4096x1024 φ) j :=
  (ext2_at x j _ _ h0 h1).symm

/-- A block of 256 tokens' part of the weight's cotangent. -/
def part (d : Fin 1024) (t : Fin 16) : EReal :=
  ∑ i : Fin 256, rows (dh w s) t t.isLt i d * (rows (flat x) t t.isLt i d * factor (rows (flat x) t t.isLt i))

theorem gain_parts (d : Fin 1024) : ∑ t, part x w s d t = gain x w s d := by
  rw [gain, sum_blocks 16 256 rfl]
  rfl

theorem product_cut (t : ℕ) (ht : t < 16) :
    product (rows (quarter (columns (flat s)) 0 (by omega)) t ht) (rows (quarter (columns (flat s)) 1 (by omega)) t ht)
      (rows (quarter (columns (flat s)) 2 (by omega)) t ht) (rows (quarter (columns (flat s)) 3 (by omega)) t ht)
      (quarter (columns w) 0 (by omega)) (quarter (columns w) 1 (by omega)) (quarter (columns w) 2 (by omega)) (quarter (columns w) 3 (by omega))
      = rows (dh w s) t ht := by
  funext i d
  exact quarters w s _ d

variable {x g w s r m c} (hx : m ((c.tc : Thread nD τ).loc main_arg0) = (ext3 x : FVec Ideal S2x2048x1024 .f32))
  (hg : m ((c.tc : Thread nD τ).loc main_arg1) = (ext1 g : FVec Ideal S1024 .f32))
  (hw : m ((c.tc : Thread nD τ).loc main_arg2) = (ext2 w : FVec Ideal S1024x3232 .f32))
  (hs : m ((c.tc : Thread nD τ).loc main_arg3) = (ext3 s : FVec Ideal S2x2048x3232 .f32))
  (hr : m ((c.tc : Thread nD τ).loc main_arg4) = (ext3 r : FVec Ideal S2x2048x1024 .f32))

include hw hs in
theorem product_blk (t : Fin cfg0.N) : k0_pay6 (F := Ideal) (iblk m c 0 t) (iblk m c 4 t) (iblk m c 1 t) (iblk m c 5 t) (iblk m c 2 t) (iblk m c 6 t) (iblk m c 3 t) (iblk m c 7 t)
    = (ext2 (rows (dh w s) t (lt t)) : FVec Ideal S256x1024 .f32) := by
  rw [s_blk0 m c (s_eq0 s m c hs), s_blk1 m c (s_eq1 s m c hs), s_blk2 m c (s_eq2 s m c hs), s_blk3 m c (s_eq3 s m c hs),
    w_blk0 m c (w_eq w m c hw), w_blk1 m c (w_eq w m c hw), w_blk2 m c (w_eq w m c hw), w_blk3 m c (w_eq w m c hw), product_eq, product_cut]

include hx hw hs

theorem gain_first (t : Fin cfg0.N) (h0 : t.val = 0) : (outsAt0 m c t.val t.isLt).2 = (ext2 (fun _ d => part x w s d ⟨0, by omega⟩) : FVec Ideal S1x1024 .f32) := by
  rw [outsAt0_A m c t (by omega) (by omega)]
  frame_out
  rw [product_blk hw hs, x_blk m c (x_eq x m c hx), x_read, square_blk, gain_blk]
  obtain ⟨t, ht⟩ := t
  obtain rfl : t = 0 := h0
  rfl

theorem gain_at : ∀ (n : ℕ) (hn : n < cfg0.N), (outsAt0 m c n hn).2 = (ext2 (fun _ d => upto (part x w s d) n) : FVec Ideal S1x1024 .f32)
  | 0, hn => by
    rw [gain_first hx hw hs ⟨0, hn⟩ rfl]
    refine congrArg ext2 ?_
    funext e d
    exact (upto_zero _ _).symm
  | n + 1, hn => by
    have h8 : n + 1 < 16 := lt ⟨n + 1, hn⟩
    rw [outsAt0_B m c ⟨n + 1, hn⟩ (by show ¬(n + 1) % 16 = 0; omega) (by show 1 ≤ n + 1; omega)]
    frame_out
    rw [product_blk hw hs, x_blk m c (x_eq x m c hx), x_read, square_blk, show outsAt0 m c (n + 1 - 1) _ = outsAt0 m c n (Nat.lt_of_succ_lt hn) from rfl,
      gain_at n (Nat.lt_of_succ_lt hn), gain_next]
    refine congrArg ext2 ?_
    funext e d
    exact (upto_succ (part x w s d) n h8).symm

include hg hr

theorem out (t : Fin cfg0.N) : (outsAt0 m c t.val t.isLt).1 = (ext2 (rows (input x g w s r) t (lt t)) : FVec Ideal S256x1024 .f32) := by
  by_cases h0 : t.val = 0
  · rw [outsAt0_A m c t (by omega) (by omega)]
    frame_out
    rw [product_blk hw hs, x_blk m c (x_eq x m c hx), r_blk m c (r_eq r m c hr), g_blk m c (g_eq g m c hg), x_read, r_read, g_read, square_blk, back_blk]
    rfl
  · rw [outsAt0_B m c t (by have := lt t; omega) (by omega)]
    frame_out
    rw [product_blk hw hs, x_blk m c (x_eq x m c hx), r_blk m c (r_eq r m c hr), g_blk m c (g_eq g m c hg), x_read, r_read, g_read, square_blk, back_blk]
    rfl

theorem final_input : (dats m 0 c).arrAt 11 cfg0.N = (ext2 (input x g w s r) : FVec Ideal S4096x1024 .f32) := by
  refine (dats m 0 c).arrAt_eq_of_covers 11 _ (by decide +kernel) fun t hf y => ?_
  blk_simp
  rw [after0_11, out hx hg hw hs hr t]
  refine rows_at (φ := .f32) _ t.val (lt t) y ((win0_11.blk t).view.emb y) ?_ ?_ <;> blk_simp [idx11 t]

omit hg hr hx hw hs in
theorem flush12 : ∀ t : Fin cfg0.N, (cfg0.win 12).flush t = true → t.val = 15 := (by decide +kernel : ∀ t : Fin grid0.N, _)

omit hg hr in
theorem final_gain : (dats m 0 c).arrAt 12 cfg0.N = (ext2 (fun _ => gain x w s) : FVec Ideal S1x1024 .f32) := by
  refine (dats m 0 c).arrAt_eq_of_covers 12 _ (by decide +kernel) fun t hf y => ?_
  have h7 := flush12 t hf
  blk_simp
  rw [after0_12, gain_at hx hw hs]
  have hu : ∀ d, upto (part x w s d) t.val = gain x w s d := fun d => (upto_last _ _ (by omega)).trans (gain_parts x w s d)
  simp only [hu]
  refine (ext2_at (φ := .f32) (fun _ : Fin 1 => gain x w s) ((win0_12.blk t).view.emb y) (y 0) (y 1) ?_ ?_).symm <;> blk_simp [idx12 t]

end Cert.InProjInput
-- ==== Proof.InProj.lean ====
/- The input projection: the normed rows times the weight whose columns are laid in blocks of 128 lanes. -/
module

public import proofs.«01_k».proof.Proof.Columns
public import proofs.«01_k».proof.Proof.Gen.Kernel12Ideal.Value
public import proofs.«01_k».proof.Proof.Gen.Reference12Ideal
public import proofs.«01_k».proof.Proof.Gen.Reference12Ideal.Run
public import Idealize.ShloMosaic.Lib.StableHlo.RunRead

@[expose] public section

set_option maxRecDepth 16384

noncomputable section

namespace Cert.InProj

open Cert.Grids Cert.Layout Cert.Columns Idealize.ShloMosaic Idealize.ShloMosaic.TcCoe Idealize.SL.Sem
variable (h : Fin 2 → Fin 2048 → Fin 1024 → EReal) (w : Fin 1024 → Fin 3232 → EReal)

/-- The projection, its columns laid in blocks. -/
def proj (t c : Fin 4096) : EReal := ∑ d, flat h t d * columns w d c

section Reference

open Cert.Reference12Ideal Cert.Reference12Ideal.Gen

theorem product_eq : (shapeCast S4096x3232 (Host.dotGeneral dot_S2x2048x1024_S1024x3232_S2x2048x3232_2_0_01_1_n_n none
      (ext3 h : FVec Ideal S2x2048x1024 .f32) (ext2 w : FVec Ideal S1024x3232 .f32) : FVec Ideal S2x2048x3232 .f32)
      shapeCasts_S2x2048x3232_S4096x3232 : FVec Ideal S4096x3232 .f32) = ext2 fun t f => ∑ d, flat h t d * w d f := by
  funext j
  idx_vars j
  pointwise
  rfl

theorem narrow_eq (x : Fin 4096 → Fin 4096 → EReal) :
    (truncf .bf16 (ext2 x : FVec Ideal S4096x4096 .f32) bitsLt_bf16_f32 : FVec Ideal S4096x4096 .bf16) = ext2 x := by
  funext j
  idx_vars j
  pointwise

theorem laid_eq : (ext2 (columns fun t f => ∑ d, flat h t d * w d f) : FVec Ideal S4096x4096 .bf16) = ext2 (proj h w) :=
  congrArg ext2 (funext fun t => funext fun c => columns_mul (flat h) w t c)

theorem reference_run (m : (ℓ : Loc nD τ sig) → Buf (Elt Ideal) ℓ) (ρ : Dev nD → PrngReg)
    (hh : ∀ c : Dev nD, m ((c.tc : Thread nD τ).loc main_arg0) = (ext3 h : FVec Ideal S2x2048x1024 .f32))
    (hw : ∀ c : Dev nD, m ((c.tc : Thread nD τ).loc main_arg1) = (ext2 w : FVec Ideal S1024x3232 .f32)) :
    θ_run defs (onTc (τ := τ) (main (F := Ideal))) ⟨m, fun _ => 0, ρ⟩ fun r => ∀ c : Dev nD,
      r.2.mem ((c.tc : Thread nD τ).loc main_v21) = (ext2 (proj h w) : FVec Ideal S4096x4096 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r hr c => by
    refine ⟨(hr c).1.trans ?_, (hr c).2⟩
    rw [hh, hw, product_eq]
    exact ((congrArg (fun x : FVec Ideal S4096x4096 .f32 => (truncf .bf16 x bitsLt_bf16_f32 : FVec Ideal S4096x4096 .bf16))
      (columns_4096 _)).trans (narrow_eq _)).trans (laid_eq h w)) (Value.run m ρ)

/-- The reference's frame: its run leaves the arguments alone, and the program declares no semaphore. -/
theorem reference_frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, sem_eq_zero_of_no_sems (by decide) r.2⟩) (Value.run (F := Ideal) m ρ)

end Reference

open Cert.Kernel12Ideal Cert.Kernel12Ideal.Gen

theorem pay_eq (H : Fin 512 → Fin 1024 → EReal) (W : Fin 1024 → Fin 2048 → EReal) :
    k0_pay1 (F := Ideal) (ext2 H : FVec Ideal S512x1024 .bf16) (ext2 W : FVec Ideal S1024x2048 .bf16)
      = (ext2 fun t f => ∑ d, H t d * W d f : FVec Ideal S512x2048 .bf16) := by
  funext j
  idx_vars j
  pointwise [k0_pay1]

variable (m : (ℓ : Loc nD τ sig) → Buf (Elt Ideal) ℓ) (c : Dev nD)

theorem h_eq (hh : m ((c.tc : Thread nD τ).loc main_arg0) = (ext3 h : FVec Ideal S2x2048x1024 .f32)) :
    V m c main_v1 = (ext2 (flat h) : FVec Ideal S4096x1024 .bf16) := by
  simp only [V, hostOps0, hostOps0_1, hostOps0_2, hostOps0_3, hostOps0_4, hostOps0_5, hostOps0_6, hostOps0_7, hostOps0_8, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp
  rw [show m (c, Proc.tc.devRef main_arg0) = _ from hh]
  funext j
  idx_vars j
  pointwise
  rfl

theorem w_eq (hw : m ((c.tc : Thread nD τ).loc main_arg1) = (ext2 w : FVec Ideal S1024x3232 .f32)) :
    V m c main_v21 = (ext2 (columns w) : FVec Ideal S1024x4096 .bf16) := by
  simp only [V, hostOps0, hostOps0_1, hostOps0_2, hostOps0_3, hostOps0_4, hostOps0_5, hostOps0_6, hostOps0_7, hostOps0_8, List.flatten_cons, List.flatten_nil, List.append_nil, List.cons_append, List.nil_append,
    StableHlo.TRef.nullary, StableHlo.TRef.binary, StableHlo.TRef.unary, StableHlo.TRef.toBuf, StableHlo.TRef.ofBuf, cast_eq]
  after_reads_simp
  refine (congrArg (fun x : FVec Ideal S1024x4096 .f32 => (truncf .bf16 x bitsLt_bf16_f32 : FVec Ideal S1024x4096 .bf16))
    (joined_1024 (columns w) _ _ _ _ _ _ _ _ ?_ ?_ ?_ ?_ ?_ ?_ ?_ ?_)).trans ?_
  · show StableHlo.upto _ _ _ (Proc.devRef .tc main_v5) = _
    after_reads_simp
    rw [show m (c, Proc.tc.devRef main_arg1) = _ from hw]
    exact queries_1024 w
  · show StableHlo.upto _ _ _ (Proc.devRef .tc main_v6) = _
    after_reads_simp
    rw [show m (c, Proc.tc.devRef main_arg1) = _ from hw]
    exact latent_1024 w
  · show StableHlo.upto _ _ _ (Proc.devRef .tc main_v7) = _
    after_reads_simp
    rw [show m (c, Proc.tc.devRef main_arg1) = _ from hw]
    exact compressed_1024 w
  · show StableHlo.upto _ _ _ (Proc.devRef .tc main_v9) = _
    after_reads_simp
    rw [show m (c, Proc.tc.devRef main_arg1) = _ from hw]
    exact rotary_1024 w
  · show StableHlo.upto _ _ _ (Proc.devRef .tc main_v13) = _
    after_reads_simp
    rw [show m (c, Proc.tc.devRef main_arg1) = _ from hw]
    exact keys_1024 w
  · show StableHlo.upto _ _ _ (Proc.devRef .tc main_v17) = _
    after_reads_simp
    rw [show m (c, Proc.tc.devRef main_arg1) = _ from hw]
    exact values_1024 w
  · show StableHlo.upto _ _ _ (Proc.devRef .tc main_v18) = _
    after_reads_simp
    rw [show m (c, Proc.tc.devRef main_arg1) = _ from hw]
    exact gateA_1024 w
  · show StableHlo.upto _ _ _ (Proc.devRef .tc main_v19) = _
    after_reads_simp
    rw [show m (c, Proc.tc.devRef main_arg1) = _ from hw]
    exact gateB_1024 w
  · funext j
    idx_vars j
    pointwise

theorem idx0 : ∀ t : Fin cfg0.N, win0_0.index t = ![t.val % 8, 0] := (by decide +kernel : ∀ t : Fin grid0.N, _)
theorem idx1 : ∀ t : Fin cfg0.N, win0_1.index t = ![0, t.val / 8] := (by decide +kernel : ∀ t : Fin grid0.N, _)
theorem idx2 : ∀ t : Fin cfg0.N, win0_2.index t = ![t.val % 8, t.val / 8] := (by decide +kernel : ∀ t : Fin grid0.N, _)

theorem lt (t : Fin cfg0.N) : t.val < 16 := lt_of_lt_of_eq t.isLt (show cfg0.N = 16 from N_0)

/-- The rows a grid point meets. -/
def rows (x : Fin 4096 → Fin 1024 → EReal) (t : ℕ) (r : Fin 512) (d : Fin 1024) : EReal := x ⟨t % 8 * 512 + r, by omega⟩ d
/-- The half of the laid columns it meets. -/
def half (x : Fin 1024 → Fin 4096 → EReal) (t : ℕ) (ht : t < 16) (d : Fin 1024) (f : Fin 2048) : EReal := x d ⟨t / 8 * 2048 + f, by omega⟩
/-- The tile it writes. -/
def tile (x : Fin 4096 → Fin 4096 → EReal) (t : ℕ) (ht : t < 16) (r : Fin 512) (f : Fin 2048) : EReal :=
  x ⟨t % 8 * 512 + r, by omega⟩ ⟨t / 8 * 2048 + f, by omega⟩

theorem h_blk {x : Fin 4096 → Fin 1024 → EReal} (h : V m c main_v1 = (ext2 x : FVec Ideal S4096x1024 .bf16)) (t : Fin cfg0.N) :
    iblk m c 0 t = (ext2 (rows x t) : FVec Ideal S512x1024 .bf16) := by
  funext y
  idx_vars y
  blk_simp [iblk]
  rw [h]
  refine ext2_at x _ _ _ ?_ ?_ <;> blk_simp [idx0 t]

theorem w_blk {x : Fin 1024 → Fin 4096 → EReal} (h : V m c main_v21 = (ext2 x : FVec Ideal S1024x4096 .bf16)) (t : Fin cfg0.N) :
    iblk m c 1 t = (ext2 (half x t (lt t)) : FVec Ideal S1024x2048 .bf16) := by
  funext y
  idx_vars y
  blk_simp [iblk]
  rw [h]
  refine ext2_at x _ _ _ ?_ ?_ <;> blk_simp [idx1 t]

theorem tile_at {φ : FTy} (x : Fin 4096 → Fin 4096 → EReal) (t : ℕ) (ht : t < 16) (y : S512x2048.Idx) (j : S4096x4096.Idx)
    (h0 : (j 0).val = t % 8 * 512 + (y 0).val) (h1 : (j 1).val = t / 8 * 2048 + (y 1).val) :
    (ext2 (tile x t ht) : FVec Ideal S512x2048 φ) y = (ext2 x : FVec Ideal S4096x4096 φ) j :=
  (ext2_at x j _ _ h0 h1).symm

variable {h w m c} (hh : m ((c.tc : Thread nD τ).loc main_arg0) = (ext3 h : FVec Ideal S2x2048x1024 .f32))
  (hw : m ((c.tc : Thread nD τ).loc main_arg1) = (ext2 w : FVec Ideal S1024x3232 .f32))

include hh hw

theorem out (t : Fin cfg0.N) : out0_2 (iblk m c 0 t) (iblk m c 1 t) = (ext2 (tile (proj h w) t (lt t)) : FVec Ideal S512x2048 .bf16) := by
  frame_out
  rw [h_blk m c (h_eq h m c hh), w_blk m c (w_eq w m c hw), pay_eq]
  rfl

theorem final : (dats m 0 c).arrAt 2 cfg0.N = (ext2 (proj h w) : FVec Ideal S4096x4096 .bf16) := by
  refine (dats m 0 c).arrAt_eq_of_covers 2 _ (by decide +kernel) fun t hf y => ?_
  blk_simp
  rw [after0_2, out hh hw t]
  refine tile_at (φ := .bf16) _ t.val (lt t) y ((win0_2.blk t).view.emb y) ?_ ?_ <;> blk_simp [idx2 t]

end Cert.InProj
-- ==== Proof.Merge.lean ====
/- The gated merge of the two mixers: the logistic gates, and weights whose rows hold eight heads of 64 lanes in blocks of 128. -/
module

public import proofs.«01_k».proof.Proof.Columns

@[expose] public section

noncomputable section

namespace Cert.Merge

open Cert.Grids Cert.Layout Cert.Columns Idealize.ShloMosaic

/-- The logistic function. -/
def sig (x : EReal) : EReal := Ideal.div 1 (1 + Ideal.exp (-x))

theorem sig_sub (x : EReal) : Ideal.div 1 (1 + Ideal.exp (0 - x)) = sig x := by
  rw [sub_eq_add_neg, zero_add]
  rfl

/-- The gates: the logistic function of the projection's last columns. -/
def gateA (z : Fin 2 → Fin 2048 → Fin 3232 → EReal) (t : Fin 4096) (d : Fin 1024) : EReal := sig (flat z t ⟨1184 + d, by omega⟩)
def gateB (z : Fin 2 → Fin 2048 → Fin 3232 → EReal) (t : Fin 4096) (d : Fin 1024) : EReal := sig (flat z t ⟨2208 + d, by omega⟩)

theorem gateA_laid (z : Fin 2 → Fin 2048 → Fin 3232 → EReal) (t : Fin 4096) (d : Fin 1024) (c : Fin 4096) (h : c.val = 2048 + d.val) :
    sig (columns (flat z) t c) = gateA z t d := by
  rw [columns_of (flat z) t c ⟨1184 + d, by omega⟩ (by unfold src; dsimp only; split_ifs <;> omega)]
  rfl

theorem gateB_laid (z : Fin 2 → Fin 2048 → Fin 3232 → EReal) (t : Fin 4096) (d : Fin 1024) (c : Fin 4096) (h : c.val = 3072 + d.val) :
    sig (columns (flat z) t c) = gateB z t d := by
  rw [columns_of (flat z) t c ⟨2208 + d, by omega⟩ (by unfold src; dsimp only; split_ifs <;> omega)]
  rfl

/-- A weight's rows, a head in a block of 128. -/
def headRows (w : Fin 512 → Fin 1024 → EReal) (e d : Fin 1024) : EReal :=
  if h : e.val % 128 < 64 then w ⟨e / 128 * 64 + e % 128, by omega⟩ d else 0

/-- A product with such a row is the product with the weight's row, or zero past a head's lanes. -/
theorem headRows_sum (w : Fin 512 → Fin 1024 → EReal) (y : Fin 1024 → EReal) (e : Fin 1024) :
    ∑ d, y d * headRows w e d = if h : e.val % 128 < 64 then ∑ d, y d * w ⟨e / 128 * 64 + e % 128, by omega⟩ d else 0 := by
  unfold headRows
  split
  · rfl
  · exact Finset.sum_eq_zero fun d _ => mul_zero _

end Cert.Merge
-- ==== Proof.MergeGrad.lean ====
/- The gated merge's gradients: the cotangent times the transposed output weight, through the gates to the branches, to the gates
   and, by the transposed mixers' weights, to the mixers' results. -/
module

public import proofs.«01_k».proof.Proof.Merge
public import proofs.«01_k».proof.Proof.Gen.Kernel16Ideal.Value
public import proofs.«01_k».proof.Proof.Gen.Reference16Ideal
public import proofs.«01_k».proof.Proof.Gen.Reference16Ideal.Run
public import Idealize.ShloMosaic.Lib.StableHlo.RunRead

@[expose] public section

set_option maxRecDepth 16384

noncomputable section

namespace Cert.MergeGrad

open Cert.Grids Cert.Layout Cert.Columns Cert.Merge Idealize.ShloMosaic Idealize.ShloMosaic.TcCoe Idealize.SL.Sem
variable (ct : Fin 2 → Fin 2048 → Fin 1024 → EReal) (z : Fin 2 → Fin 2048 → Fin 3232 → EReal) (y ya yb : Fin 2 → Fin 2048 → Fin 1024 → EReal)
  (w wa wb : Fin 512 → Fin 1024 → EReal) (wo : Fin 1024 → Fin 1024 → EReal) (s : Fin 4096 → Fin 1024 → EReal)

/-- The cotangent of the merged sum. -/
def dm (t : Fin 4096) (d : Fin 1024) : EReal := ∑ e, flat ct t e * wo d e
/-- The cotangent of a branch under the gate `s`. -/
def branch (t : Fin 4096) (d : Fin 1024) : EReal := dm ct wo t d * s t d
/-- The cotangent of the gate's argument, where the gate is `s` and its branch `y`. -/
def gate (t : Fin 4096) (d : Fin 1024) : EReal := dm ct wo t d * flat y t d * s t d * (1 - s t d)
/-- The cotangent of the mixer's result behind a branch, a head in a block of 128. -/
def mixed (t : Fin 4096) (e : Fin 1024) : EReal := ∑ d, branch ct wo s t d * headRows w e d

section Reference

open Cert.Reference16Ideal Cert.Reference16Ideal.Gen Cert.Reference16Ideal.Value

/-- The merged sum's cotangent, by sequence and token. -/
def dm3 (b : Fin 2) (i : Fin 2048) (d : Fin 1024) : EReal := ∑ e, ct b i e * wo d e

theorem dm_eq : (Host.dotGeneral dot_S2x2048x1024_S1024x1024_S2x2048x1024_2_1_01_0_n_n none (ext3 ct : FVec Ideal S2x2048x1024 .f32)
    (ext2 wo : FVec Ideal S1024x1024 .f32) : FVec Ideal S2x2048x1024 .f32) = ext3 (dm3 ct wo) := by
  funext j
  idx_vars j
  pointwise
  rfl

theorem gateA_eq : (Host.divf (broadcastInDim S2x2048x1024 ![] bcast_S_S2x2048x1024 (constant S_ .f32 0x3F800000#32))
    (addf (broadcastInDim S2x2048x1024 ![] bcast_S_S2x2048x1024 (constant S_ .f32 0x3F800000#32))
      (Host.exp (Host.negf (extractStridedSlice S2x2048x1024 ![0, 0, 1184] (ext3 z : FVec Ideal S2x2048x3232 .f32) slices_S2x2048x3232_S2x2048x1024_0_0_1184))))
      : FVec Ideal S2x2048x1024 .f32) = ext3 fun b i d => sig (z b i ⟨1184 + d, by omega⟩) := by
  funext j
  idx_vars j
  pointwise
  rfl

theorem gateB_eq : (Host.divf (broadcastInDim S2x2048x1024 ![] bcast_S_S2x2048x1024 (constant S_ .f32 0x3F800000#32))
    (addf (broadcastInDim S2x2048x1024 ![] bcast_S_S2x2048x1024 (constant S_ .f32 0x3F800000#32))
      (Host.exp (Host.negf (extractStridedSlice S2x2048x1024 ![0, 0, 2208] (ext3 z : FVec Ideal S2x2048x3232 .f32) slices_S2x2048x3232_S2x2048x1024_0_0_2208))))
      : FVec Ideal S2x2048x1024 .f32) = ext3 fun b i d => sig (z b i ⟨2208 + d, by omega⟩) := by
  funext j
  idx_vars j
  pointwise
  rfl

theorem branch_eq (p q : Fin 2 → Fin 2048 → Fin 1024 → EReal) :
    (truncf .bf16 (shapeCast S4096x1024 (mulf (ext3 p) (ext3 q) : FVec Ideal S2x2048x1024 .f32) shapeCasts_S2x2048x1024_S4096x1024 : FVec Ideal S4096x1024 .f32) bitsLt_bf16_f32
      : FVec Ideal S4096x1024 .bf16) = ext2 fun t d => flat q t d * flat p t d := by
  funext j
  idx_vars j
  pointwise
  exact mul_comm _ _

theorem gate_eq (q p : Fin 2 → Fin 2048 → Fin 1024 → EReal) :
    (truncf .bf16 (shapeCast S4096x1024 (mulf (mulf (ext3 q) (ext3 y)) (mulf (ext3 p) (subf (broadcastInDim S2x2048x1024 ![] bcast_S_S2x2048x1024 (constant S_ .f32 0x3F800000#32)) (ext3 p)))
      : FVec Ideal S2x2048x1024 .f32) shapeCasts_S2x2048x1024_S4096x1024 : FVec Ideal S4096x1024 .f32) bitsLt_bf16_f32
      : FVec Ideal S4096x1024 .bf16) = ext2 fun t d => flat q t d * flat y t d * flat p t d * (1 - flat p t d) := by
  funext j
  idx_vars j
  pointwise
  exact (mul_assoc _ _ _).symm

theorem mixed_eq (p q : Fin 2 → Fin 2048 → Fin 1024 → EReal) :
    (truncf .bf16 (shapeCast S4096x1024 (pad S2x2048x8x128 ![0, 0, 0, 0] ![0, 0, 0, 64] ![0, 0, 0, 0]
      (shapeCast S2x2048x8x64 (Host.dotGeneral dot_S2x2048x1024_S512x1024_S2x2048x512_2_1_01_0_n_n none (mulf (ext3 p) (ext3 q) : FVec Ideal S2x2048x1024 .f32)
        (ext2 w : FVec Ideal S512x1024 .f32) : FVec Ideal S2x2048x512 .f32) shapeCasts_S2x2048x512_S2x2048x8x64 : FVec Ideal S2x2048x8x64 .f32)
      (sitofp .f32 (constantI S_ 32 0#32)) pads_S2x2048x8x64_S2x2048x8x128_000_000_000_0640 h_S_ : FVec Ideal S2x2048x8x128 .f32)
      shapeCasts_S2x2048x8x128_S4096x1024 : FVec Ideal S4096x1024 .f32) bitsLt_bf16_f32 : FVec Ideal S4096x1024 .bf16)
      = ext2 fun t e => ∑ d, flat q t d * flat p t d * headRows w e d := by
  funext j
  idx_vars j
  pointwise
  rw [headRows_sum w (fun d => flat q j0 d * flat p j0 d) j1]
  by_cases h : (j1 : ℕ) % 128 < 64
  · refine (dif_pos ⟨by omega, by omega, by omega, h⟩).trans (Eq.trans ?_ (dif_pos h).symm)
    exact Finset.sum_congr rfl fun d _ => congrArg (· * _) (mul_comm _ _)
  · exact ((dif_neg fun k => h k.2.2.2).trans zero_eq).trans (dif_neg h).symm

theorem reference_run (m : (ℓ : Loc nD τ sig) → Buf (Elt Ideal) ℓ) (ρ : Dev nD → PrngReg)
    (hc : ∀ c : Dev nD, m ((c.tc : Thread nD τ).loc main_arg0) = (ext3 ct : FVec Ideal S2x2048x1024 .f32))
    (hz : ∀ c : Dev nD, m ((c.tc : Thread nD τ).loc main_arg1) = (ext3 z : FVec Ideal S2x2048x3232 .f32))
    (ha : ∀ c : Dev nD, m ((c.tc : Thread nD τ).loc main_arg2) = (ext3 ya : FVec Ideal S2x2048x1024 .f32))
    (hb : ∀ c : Dev nD, m ((c.tc : Thread nD τ).loc main_arg3) = (ext3 yb : FVec Ideal S2x2048x1024 .f32))
    (hwa : ∀ c : Dev nD, m ((c.tc : Thread nD τ).loc main_arg4) = (ext2 wa : FVec Ideal S512x1024 .f32))
    (hwb : ∀ c : Dev nD, m ((c.tc : Thread nD τ).loc main_arg5) = (ext2 wb : FVec Ideal S512x1024 .f32))
    (hwo : ∀ c : Dev nD, m ((c.tc : Thread nD τ).loc main_arg6) = (ext2 wo : FVec Ideal S1024x1024 .f32)) :
    θ_run defs (onTc (τ := τ) (main (F := Ideal))) ⟨m, fun _ => 0, ρ⟩ fun r => ∀ c : Dev nD,
      r.2.mem ((c.tc : Thread nD τ).loc main_v38) = (ext2 (branch ct wo (gateA z)) : FVec Ideal S4096x1024 .bf16)
      ∧ r.2.mem ((c.tc : Thread nD τ).loc main_v40) = (ext2 (branch ct wo (gateB z)) : FVec Ideal S4096x1024 .bf16)
      ∧ r.2.mem ((c.tc : Thread nD τ).loc main_v42) = (ext2 (gate ct ya wo (gateA z)) : FVec Ideal S4096x1024 .bf16)
      ∧ r.2.mem ((c.tc : Thread nD τ).loc main_v44) = (ext2 (gate ct yb wo (gateB z)) : FVec Ideal S4096x1024 .bf16)
      ∧ r.2.mem ((c.tc : Thread nD τ).loc main_v46) = (ext2 (mixed ct wa wo (gateA z)) : FVec Ideal S4096x1024 .bf16)
      ∧ r.2.mem ((c.tc : Thread nD τ).loc main_v48) = (ext2 (mixed ct wb wo (gateB z)) : FVec Ideal S4096x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => by
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2⟩
    · rw [hc, hz, hwo, dm_eq, gateA_eq]
      exact branch_eq _ _
    · rw [hc, hz, hwo, dm_eq, gateB_eq]
      exact branch_eq _ _
    · rw [hc, hz, ha, hwo, dm_eq, gateA_eq]
      exact gate_eq ya _ _
    · rw [hc, hz, hb, hwo, dm_eq, gateB_eq]
      exact gate_eq yb _ _
    · rw [hc, hz, hwa, hwo, dm_eq, gateA_eq]
      exact mixed_eq wa _ _
    · rw [hc, hz, hwb, hwo, dm_eq, gateB_eq]
      exact mixed_eq wb _ _) (Value.run m ρ)

/-- The reference's frame: its run leaves the arguments alone, and the program declares no semaphore. -/
theorem reference_frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0 :=
  (θ_run defs _ _).mono (fun r h => ⟨fun c => (h c).2.2.2.2.2.2, sem_eq_zero_of_no_sems (by decide) r.2⟩) (Value.run (F := Ideal) m ρ)

end Reference

open Cert.Kernel16Ideal Cert.Kernel16Ideal.Gen

section Payloads

variable (C D S Y : Fin 256 → Fin 1024 → EReal) (W : Fin 1024 → Fin 1024 → EReal)

theorem dm_blk : k0_pay7 (F := Ideal) (ext2 C : FVec Ideal S256x1024 .f32) (ext2 W : FVec Ideal S1024x1024 .bf16)
    = (ext2 fun i d => ∑ e, C i e * W d e : FVec Ideal S256x1024 .f32) := by
  funext j
  idx_vars j
  pointwise [k0_pay7]

theorem gateA_blk : k0_pay12 (F := Ideal) (ext2 S : FVec Ideal S256x1024 .bf16) = (ext2 fun i d => sig (S i d) : FVec Ideal S256x1024 .f32) := by
  funext j
  idx_vars j
  pointwise [k0_pay12]
  exact sig_sub _

theorem gateB_blk : k0_pay13 (F := Ideal) (ext2 S : FVec Ideal S256x1024 .bf16) = (ext2 fun i d => sig (S i d) : FVec Ideal S256x1024 .f32) := by
  funext j
  idx_vars j
  pointwise [k0_pay13]
  exact sig_sub _

theorem ya_read : k0_pay8 (F := Ideal) (ext2 Y : FVec Ideal S256x1024 .bf16) = (ext2 Y : FVec Ideal S256x1024 .bf16) := by
  funext j
  idx_vars j
  pointwise [k0_pay8]

theorem yb_read : k0_pay9 (F := Ideal) (ext2 Y : FVec Ideal S256x1024 .bf16) = (ext2 Y : FVec Ideal S256x1024 .bf16) := by
  funext j
  idx_vars j
  pointwise [k0_pay9]

theorem wa_read : k0_pay10 (F := Ideal) (ext2 W : FVec Ideal S1024x1024 .bf16) = (ext2 W : FVec Ideal S1024x1024 .bf16) := by
  funext j
  idx_vars j
  pointwise [k0_pay10]

theorem wb_read : k0_pay11 (F := Ideal) (ext2 W : FVec Ideal S1024x1024 .bf16) = (ext2 W : FVec Ideal S1024x1024 .bf16) := by
  funext j
  idx_vars j
  pointwise [k0_pay11]

theorem product_blk (Z : Fin 256 → Fin 1024 → EReal) : k0_pay14 (F := Ideal) (ext2 C : FVec Ideal S256x1024 .f32) (ext2 W : FVec Ideal S1024x1024 .bf16) (ext2 Z : FVec Ideal S256x1024 .bf16)
    = (ext2 fun i d => (∑ e, C i e * W d e) * sig (Z i d) : FVec Ideal S256x1024 .f32) := by
  unfold k0_pay14
  rw [dm_blk, gateA_blk]
  funext j
  idx_vars j
  pointwise

theorem narrow_blk : k0_pay1 (F := Ideal) (ext2 D : FVec Ideal S256x1024 .f32) = (ext2 D : FVec Ideal S256x1024 .bf16) := by
  funext j
  idx_vars j
  pointwise [k0_pay1]

theorem branch_blk : k0_pay2 (F := Ideal) (ext2 D : FVec Ideal S256x1024 .f32) (ext2 S : FVec Ideal S256x1024 .f32)
    = (ext2 fun i d => D i d * S i d : FVec Ideal S256x1024 .bf16) := by
  funext j
  idx_vars j
  pointwise [k0_pay2]

theorem gradA_blk : k0_pay3 (F := Ideal) (ext2 D : FVec Ideal S256x1024 .f32) (ext2 Y : FVec Ideal S256x1024 .bf16) (ext2 S : FVec Ideal S256x1024 .f32)
    = (ext2 fun i d => D i d * Y i d * S i d * (1 - S i d) : FVec Ideal S256x1024 .bf16) := by
  funext j
  idx_vars j
  pointwise [k0_pay3]

theorem gradB_blk : k0_pay4 (F := Ideal) (ext2 D : FVec Ideal S256x1024 .f32) (ext2 Y : FVec Ideal S256x1024 .bf16) (ext2 S : FVec Ideal S256x1024 .f32)
    = (ext2 fun i d => D i d * Y i d * S i d * (1 - S i d) : FVec Ideal S256x1024 .bf16) := by
  funext j
  idx_vars j
  pointwise [k0_pay4]

theorem mixedA_blk : k0_pay5 (F := Ideal) (ext2 W : FVec Ideal S1024x1024 .bf16) (ext2 D : FVec Ideal S256x1024 .f32)
    = (ext2 fun i e => ∑ d, D i d * W e d : FVec Ideal S256x1024 .bf16) := by
  unfold k0_pay5
  rw [narrow_blk]
  funext j
  idx_vars j
  pointwise

theorem mixedB_blk : k0_pay6 (F := Ideal) (ext2 D : FVec Ideal S256x1024 .f32) (ext2 W : FVec Ideal S1024x1024 .bf16) (ext2 S : FVec Ideal S256x1024 .f32)
    = (ext2 fun i e => ∑ d, D i d * S i d * W e d : FVec Ideal S256x1024 .bf16) := by
  unfold k0_pay6
  rw [branch_blk]
  funext j
  idx_vars j
  pointwise

end Payloads

variable (m : (ℓ : Loc nD τ sig) → Buf (Elt Ideal) ℓ) (c : Dev nD)

theorem flat_eq : (fun i => shapeCast main_v8.ty.shape (ext3 z : FVec Ideal S2x2048x3232 .f32) shapeCasts_S2x2048x3232_S4096x3232 i)
    = (ext2 (flat z) : FVec Ideal S4096x3232 .f32) := by
  funext j
  idx_vars j
  pointwise
  rfl

theorem z_eq (hz : m ((c.tc : Thread nD τ).loc main_arg1) = (ext3 z : FVec Ideal S2x2048x3232 .f32)) :
    V m c main_v28 = (ext2 (columns (flat z)) : FVec Ideal S4096x4096 .bf16) := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append,
    StableHlo.TRef.nullary, StableHlo.TRef.binary, StableHlo.TRef.unary, StableHlo.TRef.toBuf, StableHlo.TRef.ofBuf, cast_eq]
  after_reads_simp
  refine (congrArg (fun x : FVec Ideal S4096x4096 .f32 => (truncf .bf16 x bitsLt_bf16_f32 : FVec Ideal S4096x4096 .bf16))
    (joined_4096 (columns (flat z)) _ _ _ _ _ _ _ _ ?_ ?_ ?_ ?_ ?_ ?_ ?_ ?_)).trans ?_
  · show StableHlo.upto _ _ _ (Proc.devRef .tc main_v12) = _
    after_reads_simp
    rw [show m (c, Proc.tc.devRef main_arg1) = _ from hz, flat_eq z]
    exact queries_4096 (flat z)
  · show StableHlo.upto _ _ _ (Proc.devRef .tc main_v13) = _
    after_reads_simp
    rw [show m (c, Proc.tc.devRef main_arg1) = _ from hz, flat_eq z]
    exact latent_4096 (flat z)
  · show StableHlo.upto _ _ _ (Proc.devRef .tc main_v14) = _
    after_reads_simp
    rw [show m (c, Proc.tc.devRef main_arg1) = _ from hz, flat_eq z]
    exact compressed_4096 (flat z)
  · show StableHlo.upto _ _ _ (Proc.devRef .tc main_v16) = _
    after_reads_simp
    rw [show m (c, Proc.tc.devRef main_arg1) = _ from hz, flat_eq z]
    exact rotary_4096 (flat z)
  · show StableHlo.upto _ _ _ (Proc.devRef .tc main_v20) = _
    after_reads_simp
    rw [show m (c, Proc.tc.devRef main_arg1) = _ from hz, flat_eq z]
    exact keys_4096 (flat z)
  · show StableHlo.upto _ _ _ (Proc.devRef .tc main_v24) = _
    after_reads_simp
    rw [show m (c, Proc.tc.devRef main_arg1) = _ from hz, flat_eq z]
    exact values_4096 (flat z)
  · show StableHlo.upto _ _ _ (Proc.devRef .tc main_v25) = _
    after_reads_simp
    rw [show m (c, Proc.tc.devRef main_arg1) = _ from hz, flat_eq z]
    exact gateA_4096 (flat z)
  · show StableHlo.upto _ _ _ (Proc.devRef .tc main_v26) = _
    after_reads_simp
    rw [show m (c, Proc.tc.devRef main_arg1) = _ from hz, flat_eq z]
    exact gateB_4096 (flat z)
  · funext j
    idx_vars j
    pointwise

theorem ct_eq (h : m ((c.tc : Thread nD τ).loc main_arg0) = (ext3 ct : FVec Ideal S2x2048x1024 .f32)) :
    V m c main_v29 = (ext2 (flat ct) : FVec Ideal S4096x1024 .f32) := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp
  rw [show m (c, Proc.tc.devRef main_arg0) = _ from h]
  funext j
  idx_vars j
  pointwise
  rfl

theorem wo_eq (h : m ((c.tc : Thread nD τ).loc main_arg6) = (ext2 wo : FVec Ideal S1024x1024 .f32)) :
    V m c main_v30 = (ext2 wo : FVec Ideal S1024x1024 .bf16) := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp
  rw [show m (c, Proc.tc.devRef main_arg6) = _ from h]
  funext j
  idx_vars j
  pointwise

theorem ya_eq (h : m ((c.tc : Thread nD τ).loc main_arg2) = (ext3 ya : FVec Ideal S2x2048x1024 .f32)) :
    V m c main_v32 = (ext2 (flat ya) : FVec Ideal S4096x1024 .bf16) := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp
  rw [show m (c, Proc.tc.devRef main_arg2) = _ from h]
  funext j
  idx_vars j
  pointwise
  rfl

theorem yb_eq (h : m ((c.tc : Thread nD τ).loc main_arg3) = (ext3 yb : FVec Ideal S2x2048x1024 .f32)) :
    V m c main_v34 = (ext2 (flat yb) : FVec Ideal S4096x1024 .bf16) := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp
  rw [show m (c, Proc.tc.devRef main_arg3) = _ from h]
  funext j
  idx_vars j
  pointwise
  rfl

/-- The weight's rows as the program lays them. -/
theorem padded_eq : (truncf .bf16 (shapeCast S1024x1024 (pad S8x128x1024 ![0, 0, 0] ![0, 64, 0] ![0, 0, 0]
      (shapeCast S8x64x1024 (ext2 w : FVec Ideal S512x1024 .f32) shapeCasts_S512x1024_S8x64x1024 : FVec Ideal S8x64x1024 .f32)
      (sitofp .f32 (constantI S_ 32 0#32)) pads_S8x64x1024_S8x128x1024_000_0640_000 h_S_ : FVec Ideal S8x128x1024 .f32)
      shapeCasts_S8x128x1024_S1024x1024 : FVec Ideal S1024x1024 .f32) bitsLt_bf16_f32 : FVec Ideal S1024x1024 .bf16) = ext2 (headRows w) := by
  funext j
  idx_vars j
  pointwise
  unfold headRows
  by_cases h : (j0 : ℕ) % 128 < 64
  · refine (dif_pos ⟨by omega, h⟩).trans (Eq.trans ?_ (dif_pos h).symm)
    rfl
  · exact ((dif_neg fun k => h k.2).trans zero_eq).trans (dif_neg h).symm

theorem wa_eq (h : m ((c.tc : Thread nD τ).loc main_arg4) = (ext2 wa : FVec Ideal S512x1024 .f32)) :
    V m c main_v3 = (ext2 (headRows wa) : FVec Ideal S1024x1024 .bf16) := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp
  rw [show m (c, Proc.tc.devRef main_arg4) = _ from h]
  exact padded_eq wa

theorem wb_eq (h : m ((c.tc : Thread nD τ).loc main_arg5) = (ext2 wb : FVec Ideal S512x1024 .f32)) :
    V m c main_v7 = (ext2 (headRows wb) : FVec Ideal S1024x1024 .bf16) := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp
  rw [show m (c, Proc.tc.devRef main_arg5) = _ from h]
  exact padded_eq wb

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 2] := (by decide +kernel : ∀ t : Fin grid0.N, _)
theorem idx3 : ∀ t : Fin cfg0.N, win0_3.index t = ![t.val, 3] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![t.val, 0] := (by decide +kernel : ∀ t : Fin grid0.N, _)

theorem lt (t : Fin cfg0.N) : t.val < 16 := lt_of_lt_of_eq t.isLt (show cfg0.N = 16 from N_0)

/-- The rows a grid point meets. -/
def rows (x : Fin 4096 → Fin 1024 → EReal) (t : ℕ) (ht : t < 16) (i : Fin 256) : Fin 1024 → EReal := x ⟨t * 256 + i, by omega⟩
/-- Their columns in a quarter of the laid columns. -/
def cut (x : Fin 4096 → Fin 4096 → EReal) (j : ℕ) (hj : j < 4) (t : ℕ) (ht : t < 16) (i : Fin 256) (d : Fin 1024) : EReal :=
  x ⟨t * 256 + i, by omega⟩ ⟨j * 1024 + d, by omega⟩

theorem ct_blk {x : Fin 4096 → Fin 1024 → EReal} (h : V m c main_v29 = (ext2 x : FVec Ideal S4096x1024 .f32)) (t : Fin cfg0.N) :
    iblk m c 0 t = (ext2 (rows x t (lt t)) : FVec Ideal S256x1024 .f32) := by
  funext y
  idx_vars y
  blk_simp [iblk]
  rw [h]
  refine ext2_at x _ _ _ ?_ ?_ <;> blk_simp [idx0 t]

theorem wo_blk {x : Fin 1024 → Fin 1024 → EReal} (h : V m c main_v30 = (ext2 x : FVec Ideal S1024x1024 .bf16)) (t : Fin cfg0.N) :
    iblk m c 1 t = (ext2 x : FVec Ideal S1024x1024 .bf16) := by
  funext y
  idx_vars y
  blk_simp [iblk]
  rw [h]
  refine ext2_at x _ _ _ ?_ ?_ <;> blk_simp [idx1 t]

theorem zA_blk {x : Fin 4096 → Fin 4096 → EReal} (h : V m c main_v28 = (ext2 x : FVec Ideal S4096x4096 .bf16)) (t : Fin cfg0.N) :
    iblk m c 2 t = (ext2 (cut x 2 (by omega) t (lt t)) : FVec Ideal S256x1024 .bf16) := by
  funext y
  idx_vars y
  blk_simp [iblk]
  rw [h]
  refine ext2_at x _ _ _ ?_ ?_ <;> blk_simp [idx2 t]

theorem zB_blk {x : Fin 4096 → Fin 4096 → EReal} (h : V m c main_v28 = (ext2 x : FVec Ideal S4096x4096 .bf16)) (t : Fin cfg0.N) :
    iblk m c 3 t = (ext2 (cut x 3 (by omega) t (lt t)) : FVec Ideal S256x1024 .bf16) := by
  funext y
  idx_vars y
  blk_simp [iblk]
  rw [h]
  refine ext2_at x _ _ _ ?_ ?_ <;> blk_simp [idx3 t]

theorem ya_blk {x : Fin 4096 → Fin 1024 → EReal} (h : V m c main_v32 = (ext2 x : FVec Ideal S4096x1024 .bf16)) (t : Fin cfg0.N) :
    iblk m c 4 t = (ext2 (rows x t (lt t)) : FVec Ideal S256x1024 .bf16) := by
  funext y
  idx_vars y
  blk_simp [iblk]
  rw [h]
  refine ext2_at x _ _ _ ?_ ?_ <;> blk_simp [idx4 t]

theorem yb_blk {x : Fin 4096 → Fin 1024 → EReal} (h : V m c main_v34 = (ext2 x : FVec Ideal S4096x1024 .bf16)) (t : Fin cfg0.N) :
    iblk m c 5 t = (ext2 (rows x t (lt t)) : FVec Ideal S256x1024 .bf16) := by
  funext y
  idx_vars y
  blk_simp [iblk]
  rw [h]
  refine ext2_at x _ _ _ ?_ ?_ <;> blk_simp [idx5 t]

theorem wa_blk {x : Fin 1024 → Fin 1024 → EReal} (h : V m c main_v3 = (ext2 x : FVec Ideal S1024x1024 .bf16)) (t : Fin cfg0.N) :
    iblk m c 6 t = (ext2 x : FVec Ideal S1024x1024 .bf16) := by
  funext y
  idx_vars y
  blk_simp [iblk]
  rw [h]
  refine ext2_at x _ _ _ ?_ ?_ <;> blk_simp [idx6 t]

theorem wb_blk {x : Fin 1024 → Fin 1024 → EReal} (h : V m c main_v7 = (ext2 x : FVec Ideal S1024x1024 .bf16)) (t : Fin cfg0.N) :
    iblk m c 7 t = (ext2 x : FVec Ideal S1024x1024 .bf16) := by
  funext y
  idx_vars y
  blk_simp [iblk]
  rw [h]
  refine ext2_at x _ _ _ ?_ ?_ <;> blk_simp [idx7 t]

theorem cutA (t : ℕ) (ht : t < 16) (i : Fin 256) (d : Fin 1024) : sig (cut (columns (flat z)) 2 (by omega) t ht i d) = rows (gateA z) t ht i d :=
  gateA_laid z _ d _ rfl
theorem cutB (t : ℕ) (ht : t < 16) (i : Fin 256) (d : Fin 1024) : sig (cut (columns (flat z)) 3 (by omega) t ht i d) = rows (gateB z) t ht i d :=
  gateB_laid z _ d _ rfl

theorem rows_at {φ : FTy} (x : Fin 4096 → Fin 1024 → EReal) (t : ℕ) (ht : t < 16) (y : S256x1024.Idx) (j : S4096x1024.Idx)
    (h0 : (j 0).val = t * 256 + (y 0).val) (h1 : (j 1).val = (y 1).val) :
    (ext2 (rows x t ht) : FVec Ideal S256x1024 φ) y = (ext2 x : FVec Ideal S4096x1024 φ) j :=
  (ext2_at x j _ _ h0 h1).symm

variable {ct z ya yb wa wb wo m c}
variable (hc : m ((c.tc : Thread nD τ).loc main_arg0) = (ext3 ct : FVec Ideal S2x2048x1024 .f32))
  (hz : m ((c.tc : Thread nD τ).loc main_arg1) = (ext3 z : FVec Ideal S2x2048x3232 .f32))
  (ha : m ((c.tc : Thread nD τ).loc main_arg2) = (ext3 ya : FVec Ideal S2x2048x1024 .f32))
  (hb : m ((c.tc : Thread nD τ).loc main_arg3) = (ext3 yb : FVec Ideal S2x2048x1024 .f32))
  (hwa : m ((c.tc : Thread nD τ).loc main_arg4) = (ext2 wa : FVec Ideal S512x1024 .f32))
  (hwb : m ((c.tc : Thread nD τ).loc main_arg5) = (ext2 wb : FVec Ideal S512x1024 .f32))
  (hwo : m ((c.tc : Thread nD τ).loc main_arg6) = (ext2 wo : FVec Ideal S1024x1024 .f32))

include hc hz hwo in
theorem branchA_out (t : Fin cfg0.N) : out0_8 (iblk m c 0 t) (iblk m c 1 t) (iblk m c 2 t) (iblk m c 3 t) (iblk m c 4 t) (iblk m c 5 t) (iblk m c 6 t) (iblk m c 7 t)
    = (ext2 (rows (branch ct wo (gateA z)) t (lt t)) : FVec Ideal S256x1024 .bf16) := by
  unfold_out out0_8
  frame_out
  rw [ct_blk m c (ct_eq ct m c hc), wo_blk m c (wo_eq wo m c hwo), zA_blk m c (z_eq z m c hz), product_blk, narrow_blk]
  refine congrArg ext2 ?_
  funext i d
  simp only [cutA z]
  rfl

include hc hz hwo in
theorem final_branchA : (dats m 0 c).arrAt 8 cfg0.N = (ext2 (branch ct wo (gateA z)) : FVec Ideal S4096x1024 .bf16) := by
  refine (dats m 0 c).arrAt_eq_of_covers 8 _ (by decide +kernel) fun t hf y => ?_
  blk_simp
  rw [after0_8, branchA_out hc hz hwo t]
  refine rows_at (φ := .bf16) _ t.val (lt t) y ((win0_8.blk t).view.emb y) ?_ ?_ <;> blk_simp [idx8 t]

include hc hz hwo in
theorem branchB_out (t : Fin cfg0.N) : out0_9 (iblk m c 0 t) (iblk m c 1 t) (iblk m c 2 t) (iblk m c 3 t) (iblk m c 4 t) (iblk m c 5 t) (iblk m c 6 t) (iblk m c 7 t)
    = (ext2 (rows (branch ct wo (gateB z)) t (lt t)) : FVec Ideal S256x1024 .bf16) := by
  unfold_out out0_9
  frame_out
  rw [ct_blk m c (ct_eq ct m c hc), wo_blk m c (wo_eq wo m c hwo), zB_blk m c (z_eq z m c hz), dm_blk, gateB_blk, branch_blk]
  refine congrArg ext2 ?_
  funext i d
  simp only [cutB z]
  rfl

include hc hz hwo in
theorem final_branchB : (dats m 0 c).arrAt 9 cfg0.N = (ext2 (branch ct wo (gateB z)) : FVec Ideal S4096x1024 .bf16) := by
  refine (dats m 0 c).arrAt_eq_of_covers 9 _ (by decide +kernel) fun t hf y => ?_
  blk_simp
  rw [after0_9, branchB_out hc hz hwo t]
  refine rows_at (φ := .bf16) _ t.val (lt t) y ((win0_9.blk t).view.emb y) ?_ ?_ <;> blk_simp [idx9 t]

include hc hz ha hwo in
theorem gateA_out (t : Fin cfg0.N) : out0_10 (iblk m c 0 t) (iblk m c 1 t) (iblk m c 2 t) (iblk m c 3 t) (iblk m c 4 t) (iblk m c 5 t) (iblk m c 6 t) (iblk m c 7 t)
    = (ext2 (rows (gate ct ya wo (gateA z)) t (lt t)) : FVec Ideal S256x1024 .bf16) := by
  unfold_out out0_10
  frame_out
  rw [ct_blk m c (ct_eq ct m c hc), wo_blk m c (wo_eq wo m c hwo), zA_blk m c (z_eq z m c hz), ya_blk m c (ya_eq ya m c ha), dm_blk, gateA_blk, ya_read, gradA_blk]
  refine congrArg ext2 ?_
  funext i d
  simp only [cutA z]
  rfl

include hc hz ha hwo in
theorem final_gateA : (dats m 0 c).arrAt 10 cfg0.N = (ext2 (gate ct ya wo (gateA z)) : FVec Ideal S4096x1024 .bf16) := by
  refine (dats m 0 c).arrAt_eq_of_covers 10 _ (by decide +kernel) fun t hf y => ?_
  blk_simp
  rw [after0_10, gateA_out hc hz ha hwo t]
  refine rows_at (φ := .bf16) _ t.val (lt t) y ((win0_10.blk t).view.emb y) ?_ ?_ <;> blk_simp [idx10 t]

include hc hz hb hwo in
theorem gateB_out (t : Fin cfg0.N) : out0_11 (iblk m c 0 t) (iblk m c 1 t) (iblk m c 2 t) (iblk m c 3 t) (iblk m c 4 t) (iblk m c 5 t) (iblk m c 6 t) (iblk m c 7 t)
    = (ext2 (rows (gate ct yb wo (gateB z)) t (lt t)) : FVec Ideal S256x1024 .bf16) := by
  unfold_out out0_11
  frame_out
  rw [ct_blk m c (ct_eq ct m c hc), wo_blk m c (wo_eq wo m c hwo), zB_blk m c (z_eq z m c hz), yb_blk m c (yb_eq yb m c hb), dm_blk, gateB_blk, yb_read, gradB_blk]
  refine congrArg ext2 ?_
  funext i d
  simp only [cutB z]
  rfl

include hc hz hb hwo in
theorem final_gateB : (dats m 0 c).arrAt 11 cfg0.N = (ext2 (gate ct yb wo (gateB z)) : FVec Ideal S4096x1024 .bf16) := by
  refine (dats m 0 c).arrAt_eq_of_covers 11 _ (by decide +kernel) fun t hf y => ?_
  blk_simp
  rw [after0_11, gateB_out hc hz hb hwo t]
  refine rows_at (φ := .bf16) _ t.val (lt t) y ((win0_11.blk t).view.emb y) ?_ ?_ <;> blk_simp [idx11 t]

include hc hz hwa hwo in
theorem mixedA_out (t : Fin cfg0.N) : out0_12 (iblk m c 0 t) (iblk m c 1 t) (iblk m c 2 t) (iblk m c 3 t) (iblk m c 4 t) (iblk m c 5 t) (iblk m c 6 t) (iblk m c 7 t)
    = (ext2 (rows (mixed ct wa wo (gateA z)) t (lt t)) : FVec Ideal S256x1024 .bf16) := by
  unfold_out out0_12
  frame_out
  rw [ct_blk m c (ct_eq ct m c hc), wo_blk m c (wo_eq wo m c hwo), zA_blk m c (z_eq z m c hz), wa_blk m c (wa_eq wa m c hwa), product_blk, wa_read, mixedA_blk]
  refine congrArg ext2 ?_
  funext i d
  simp only [cutA z]
  rfl

include hc hz hwa hwo in
theorem final_mixedA : (dats m 0 c).arrAt 12 cfg0.N = (ext2 (mixed ct wa wo (gateA z)) : FVec Ideal S4096x1024 .bf16) := by
  refine (dats m 0 c).arrAt_eq_of_covers 12 _ (by decide +kernel) fun t hf y => ?_
  blk_simp
  rw [after0_12, mixedA_out hc hz hwa hwo t]
  refine rows_at (φ := .bf16) _ t.val (lt t) y ((win0_12.blk t).view.emb y) ?_ ?_ <;> blk_simp [idx12 t]

include hc hz hwb hwo in
theorem mixedB_out (t : Fin cfg0.N) : out0_13 (iblk m c 0 t) (iblk m c 1 t) (iblk m c 2 t) (iblk m c 3 t) (iblk m c 4 t) (iblk m c 5 t) (iblk m c 6 t) (iblk m c 7 t)
    = (ext2 (rows (mixed ct wb wo (gateB z)) t (lt t)) : FVec Ideal S256x1024 .bf16) := by
  unfold_out out0_13
  frame_out
  rw [ct_blk m c (ct_eq ct m c hc), wo_blk m c (wo_eq wo m c hwo), zB_blk m c (z_eq z m c hz), wb_blk m c (wb_eq wb m c hwb), dm_blk, gateB_blk, wb_read, mixedB_blk]
  refine congrArg ext2 ?_
  funext i d
  simp only [cutB z]
  rfl

include hc hz hwb hwo in
theorem final_mixedB : (dats m 0 c).arrAt 13 cfg0.N = (ext2 (mixed ct wb wo (gateB z)) : FVec Ideal S4096x1024 .bf16) := by
  refine (dats m 0 c).arrAt_eq_of_covers 13 _ (by decide +kernel) fun t hf y => ?_
  blk_simp
  rw [after0_13, mixedB_out hc hz hwb hwo t]
  refine rows_at (φ := .bf16) _ t.val (lt t) y ((win0_13.blk t).view.emb y) ?_ ?_ <;> blk_simp [idx13 t]

end Cert.MergeGrad
-- ==== Proof.MergeOut.lean ====
/- The gated merge and the output projection: each mixer's result times its weight, the gated sum, its product with the output
   weight onto the residual, and the norm of that. -/
module

public import proofs.«01_k».proof.Proof.Merge
public import proofs.«01_k».proof.Proof.Gen.Kernel15Ideal.Value
public import proofs.«01_k».proof.Proof.Gen.Reference15Ideal
public import proofs.«01_k».proof.Proof.Gen.Reference15Ideal.Run
public import proofs.«01_k».proof.Proof.Norm
public import Idealize.ShloMosaic.Lib.StableHlo.RunRead

@[expose] public section

set_option maxRecDepth 16384

noncomputable section

namespace Cert.MergeOut

open Cert.Grids Cert.Layout Cert.Columns Cert.Merge Cert.Norm Idealize.ShloMosaic Idealize.ShloMosaic.TcCoe Idealize.SL.Sem
variable (o oa ob : Fin 2 → Fin 2048 → Fin 8 → Fin 64 → EReal) (z : Fin 2 → Fin 2048 → Fin 3232 → EReal) (x : Fin 2 → Fin 2048 → Fin 1024 → EReal)
  (g : Fin 1024 → EReal) (w wa wb : Fin 512 → Fin 1024 → EReal) (wo : Fin 1024 → Fin 1024 → EReal)

/-- A mixer's result times its weight: the branch the gate multiplies. -/
def branch (t : Fin 4096) (d : Fin 1024) : EReal :=
  ∑ e : Fin 512, o ⟨t / 2048, by omega⟩ ⟨t % 2048, by omega⟩ ⟨e / 64, by omega⟩ ⟨e % 64, by omega⟩ * w e d
/-- The gated sum of the branches. -/
def merged (t : Fin 4096) (d : Fin 1024) : EReal := gateA z t d * branch oa wa t d + gateB z t d * branch ob wb t d
/-- The residual with the projected sum. -/
def row (t : Fin 4096) (d : Fin 1024) : EReal := flat x t d + ∑ e, merged oa ob z wa wb t e * wo e d
/-- Its norm. -/
def norm (t : Fin 4096) : Fin 1024 → EReal := normed (row oa ob z x wa wb wo t) g

/-- The lanes past a head's 64 add nothing to a branch. -/
theorem heads_sum (t : Fin 4096) (d : Fin 1024) : ∑ e, laid o t e * headRows w e d = branch o w t d := by
  refine (Fintype.sum_of_injective (fun e : Fin 512 => (⟨e / 64 * 128 + e % 64, by omega⟩ : Fin 1024)) ?_ _ _ ?_ ?_).symm
  · intro e e' h
    have := Fin.mk.inj h
    exact Fin.ext (by omega)
  · intro e he
    have h : ¬ e.val % 128 < 64 := fun h =>
      he ⟨⟨e / 128 * 64 + e % 128, by omega⟩, Fin.ext (by show (e.val / 128 * 64 + e.val % 128) / 64 * 128 + (e.val / 128 * 64 + e.val % 128) % 64 = e.val; omega)⟩
    unfold headRows
    rw [dif_neg h, mul_zero]
  · intro e
    have h : (e.val / 64 * 128 + e.val % 64) % 128 < 64 := by omega
    unfold laid headRows
    dsimp only
    rw [dif_pos h, dif_pos h]
    have h0 : (e.val / 64 * 128 + e.val % 64) / 128 = e.val / 64 := by omega
    have h1 : (e.val / 64 * 128 + e.val % 64) % 128 = e.val % 64 := by omega
    have h2 : (e.val / 64 * 128 + e.val % 64) / 128 * 64 + (e.val / 64 * 128 + e.val % 64) % 128 = e.val := by omega
    simp only [h0, h1, h2]
    exact congrArg (fun f : Fin 512 => _ * w f d) (Fin.ext (by show e.val = e.val / 64 * 64 + e.val % 64; omega))

section Reference

open Cert.Reference15Ideal Cert.Reference15Ideal.Gen Cert.Reference15Ideal.Value

/-- The same by sequence and token. -/
def branch3 (b : Fin 2) (i : Fin 2048) (d : Fin 1024) : EReal := ∑ e : Fin 512, o b i ⟨e / 64, by omega⟩ ⟨e % 64, by omega⟩ * w e d
def merged3 (b : Fin 2) (i : Fin 2048) (d : Fin 1024) : EReal :=
  sig (z b i ⟨1184 + d, by omega⟩) * branch3 oa wa b i d + sig (z b i ⟨2208 + d, by omega⟩) * branch3 ob wb b i d
def row3 (b : Fin 2) (i : Fin 2048) (d : Fin 1024) : EReal := x b i d + ∑ e, merged3 oa ob z wa wb b i e * wo e d

theorem branch_dot : (Host.dotGeneral dot_S2x2048x512_S512x1024_S2x2048x1024_2_0_01_1_n_n none
    (shapeCast S2x2048x512 (ext4 o : FVec Ideal S2x2048x8x64 .f32) shapeCasts_S2x2048x8x64_S2x2048x512 : FVec Ideal S2x2048x512 .f32)
    (ext2 w : FVec Ideal S512x1024 .f32) : FVec Ideal S2x2048x1024 .f32) = ext3 (branch3 o w) := by
  funext j
  idx_vars j
  pointwise
  rfl

theorem gateA_eq : (Host.divf (broadcastInDim S2x2048x1024 ![] bcast_S_S2x2048x1024 (constant S_ .f32 0x3F800000#32)) (addf (broadcastInDim S2x2048x1024 ![] bcast_S_S2x2048x1024 (constant S_ .f32 0x3F800000#32))
    (Host.exp (Host.negf (extractStridedSlice S2x2048x1024 ![0, 0, 1184] (ext3 z : FVec Ideal S2x2048x3232 .f32) slices_S2x2048x3232_S2x2048x1024_0_0_1184)))) : FVec Ideal S2x2048x1024 .f32) = ext3 fun b i d => sig (z b i ⟨1184 + d, by omega⟩) := by
  funext j
  idx_vars j
  pointwise
  rfl

theorem gateB_eq : (Host.divf (broadcastInDim S2x2048x1024 ![] bcast_S_S2x2048x1024 (constant S_ .f32 0x3F800000#32)) (addf (broadcastInDim S2x2048x1024 ![] bcast_S_S2x2048x1024 (constant S_ .f32 0x3F800000#32))
    (Host.exp (Host.negf (extractStridedSlice S2x2048x1024 ![0, 0, 2208] (ext3 z : FVec Ideal S2x2048x3232 .f32) slices_S2x2048x3232_S2x2048x1024_0_0_2208)))) : FVec Ideal S2x2048x1024 .f32) = ext3 fun b i d => sig (z b i ⟨2208 + d, by omega⟩) := by
  funext j
  idx_vars j
  pointwise
  rfl

theorem merged_dot : (addf (mulf (Host.divf (broadcastInDim S2x2048x1024 ![] bcast_S_S2x2048x1024 (constant S_ .f32 0x3F800000#32)) (addf (broadcastInDim S2x2048x1024 ![] bcast_S_S2x2048x1024 (constant S_ .f32 0x3F800000#32))
    (Host.exp (Host.negf (extractStridedSlice S2x2048x1024 ![0, 0, 1184] (ext3 z : FVec Ideal S2x2048x3232 .f32) slices_S2x2048x3232_S2x2048x1024_0_0_1184)))) : FVec Ideal S2x2048x1024 .f32) (Host.dotGeneral dot_S2x2048x512_S512x1024_S2x2048x1024_2_0_01_1_n_n none
    (shapeCast S2x2048x512 (ext4 oa : FVec Ideal S2x2048x8x64 .f32) shapeCasts_S2x2048x8x64_S2x2048x512 : FVec Ideal S2x2048x512 .f32)
    (ext2 wa : FVec Ideal S512x1024 .f32) : FVec Ideal S2x2048x1024 .f32)) (mulf (Host.divf (broadcastInDim S2x2048x1024 ![] bcast_S_S2x2048x1024 (constant S_ .f32 0x3F800000#32)) (addf (broadcastInDim S2x2048x1024 ![] bcast_S_S2x2048x1024 (constant S_ .f32 0x3F800000#32))
    (Host.exp (Host.negf (extractStridedSlice S2x2048x1024 ![0, 0, 2208] (ext3 z : FVec Ideal S2x2048x3232 .f32) slices_S2x2048x3232_S2x2048x1024_0_0_2208)))) : FVec Ideal S2x2048x1024 .f32) (Host.dotGeneral dot_S2x2048x512_S512x1024_S2x2048x1024_2_0_01_1_n_n none
    (shapeCast S2x2048x512 (ext4 ob : FVec Ideal S2x2048x8x64 .f32) shapeCasts_S2x2048x8x64_S2x2048x512 : FVec Ideal S2x2048x512 .f32)
    (ext2 wb : FVec Ideal S512x1024 .f32) : FVec Ideal S2x2048x1024 .f32)) : FVec Ideal S2x2048x1024 .f32) = ext3 (merged3 oa ob z wa wb) := by
  rw [branch_dot, branch_dot, gateA_eq, gateB_eq]
  funext j
  idx_vars j
  pointwise
  rfl

theorem row_dot : (addf (ext3 x : FVec Ideal S2x2048x1024 .f32) (Host.dotGeneral dot_S2x2048x1024_S1024x1024_S2x2048x1024_2_0_01_1_n_n none (addf (mulf (Host.divf (broadcastInDim S2x2048x1024 ![] bcast_S_S2x2048x1024 (constant S_ .f32 0x3F800000#32)) (addf (broadcastInDim S2x2048x1024 ![] bcast_S_S2x2048x1024 (constant S_ .f32 0x3F800000#32))
    (Host.exp (Host.negf (extractStridedSlice S2x2048x1024 ![0, 0, 1184] (ext3 z : FVec Ideal S2x2048x3232 .f32) slices_S2x2048x3232_S2x2048x1024_0_0_1184)))) : FVec Ideal S2x2048x1024 .f32) (Host.dotGeneral dot_S2x2048x512_S512x1024_S2x2048x1024_2_0_01_1_n_n none
    (shapeCast S2x2048x512 (ext4 oa : FVec Ideal S2x2048x8x64 .f32) shapeCasts_S2x2048x8x64_S2x2048x512 : FVec Ideal S2x2048x512 .f32)
    (ext2 wa : FVec Ideal S512x1024 .f32) : FVec Ideal S2x2048x1024 .f32)) (mulf (Host.divf (broadcastInDim S2x2048x1024 ![] bcast_S_S2x2048x1024 (constant S_ .f32 0x3F800000#32)) (addf (broadcastInDim S2x2048x1024 ![] bcast_S_S2x2048x1024 (constant S_ .f32 0x3F800000#32))
    (Host.exp (Host.negf (extractStridedSlice S2x2048x1024 ![0, 0, 2208] (ext3 z : FVec Ideal S2x2048x3232 .f32) slices_S2x2048x3232_S2x2048x1024_0_0_2208)))) : FVec Ideal S2x2048x1024 .f32) (Host.dotGeneral dot_S2x2048x512_S512x1024_S2x2048x1024_2_0_01_1_n_n none
    (shapeCast S2x2048x512 (ext4 ob : FVec Ideal S2x2048x8x64 .f32) shapeCasts_S2x2048x8x64_S2x2048x512 : FVec Ideal S2x2048x512 .f32)
    (ext2 wb : FVec Ideal S512x1024 .f32) : FVec Ideal S2x2048x1024 .f32)) : FVec Ideal S2x2048x1024 .f32) (ext2 wo : FVec Ideal S1024x1024 .f32) : FVec Ideal S2x2048x1024 .f32)) = ext3 (row3 oa ob z x wa wb wo) := by
  rw [merged_dot]
  funext j
  idx_vars j
  pointwise
  rfl

theorem squares_eq (y : Fin 2 → Fin 2048 → Fin 1024 → EReal) : (Host.reduceAdd (mulf (ext3 y : FVec Ideal S2x2048x1024 .f32) (ext3 y : FVec Ideal S2x2048x1024 .f32)) (constant S_ .f32 0x00000000#32) reducesTo_S2x2048x1024_S2x2048_d2 h_S_ : FVec Ideal S2x2048 .f32) = ext2 fun b i => ∑ k, y b i k * y b i k := by
  funext j
  idx_vars j
  pointwise

theorem factor_eq (y : Fin 2 → Fin 2048 → Fin 1024 → EReal) :
    (Host.rsqrt (addf (Host.divf (broadcastInDim S2x2048x1 ![0, 1] bcast_S2x2048_S2x2048x1_0_1 (ext2 (fun b i => ∑ k, y b i k * y b i k) : FVec Ideal S2x2048 .f32))
        (broadcastInDim S2x2048x1 ![] bcast_S_S2x2048x1 (constant S_ .f32 0x44800000#32))) (broadcastInDim S2x2048x1 ![] bcast_S_S2x2048x1 (constant S_ .f32 0x358637BD#32))) : FVec Ideal S2x2048x1 .f32) = ext3 fun b i _ => factor (y b i) := by
  funext j
  idx_vars j
  pointwise
  rw [mean]
  rfl

theorem branch_eq : (truncf .bf16 (shapeCast S4096x1024 (Host.dotGeneral dot_S2x2048x512_S512x1024_S2x2048x1024_2_0_01_1_n_n none
    (shapeCast S2x2048x512 (ext4 o : FVec Ideal S2x2048x8x64 .f32) shapeCasts_S2x2048x8x64_S2x2048x512 : FVec Ideal S2x2048x512 .f32)
    (ext2 w : FVec Ideal S512x1024 .f32) : FVec Ideal S2x2048x1024 .f32) shapeCasts_S2x2048x1024_S4096x1024 : FVec Ideal S4096x1024 .f32) bitsLt_bf16_f32 : FVec Ideal S4096x1024 .bf16) = ext2 (branch o w) := by
  rw [branch_dot]
  funext j
  idx_vars j
  pointwise
  rfl

theorem merged_eq : (truncf .bf16 (shapeCast S4096x1024 (addf (mulf (Host.divf (broadcastInDim S2x2048x1024 ![] bcast_S_S2x2048x1024 (constant S_ .f32 0x3F800000#32)) (addf (broadcastInDim S2x2048x1024 ![] bcast_S_S2x2048x1024 (constant S_ .f32 0x3F800000#32))
    (Host.exp (Host.negf (extractStridedSlice S2x2048x1024 ![0, 0, 1184] (ext3 z : FVec Ideal S2x2048x3232 .f32) slices_S2x2048x3232_S2x2048x1024_0_0_1184)))) : FVec Ideal S2x2048x1024 .f32) (Host.dotGeneral dot_S2x2048x512_S512x1024_S2x2048x1024_2_0_01_1_n_n none
    (shapeCast S2x2048x512 (ext4 oa : FVec Ideal S2x2048x8x64 .f32) shapeCasts_S2x2048x8x64_S2x2048x512 : FVec Ideal S2x2048x512 .f32)
    (ext2 wa : FVec Ideal S512x1024 .f32) : FVec Ideal S2x2048x1024 .f32)) (mulf (Host.divf (broadcastInDim S2x2048x1024 ![] bcast_S_S2x2048x1024 (constant S_ .f32 0x3F800000#32)) (addf (broadcastInDim S2x2048x1024 ![] bcast_S_S2x2048x1024 (constant S_ .f32 0x3F800000#32))
    (Host.exp (Host.negf (extractStridedSlice S2x2048x1024 ![0, 0, 2208] (ext3 z : FVec Ideal S2x2048x3232 .f32) slices_S2x2048x3232_S2x2048x1024_0_0_2208)))) : FVec Ideal S2x2048x1024 .f32) (Host.dotGeneral dot_S2x2048x512_S512x1024_S2x2048x1024_2_0_01_1_n_n none
    (shapeCast S2x2048x512 (ext4 ob : FVec Ideal S2x2048x8x64 .f32) shapeCasts_S2x2048x8x64_S2x2048x512 : FVec Ideal S2x2048x512 .f32)
    (ext2 wb : FVec Ideal S512x1024 .f32) : FVec Ideal S2x2048x1024 .f32)) : FVec Ideal S2x2048x1024 .f32) shapeCasts_S2x2048x1024_S4096x1024 : FVec Ideal S4096x1024 .f32) bitsLt_bf16_f32 : FVec Ideal S4096x1024 .bf16) = ext2 (merged oa ob z wa wb) := by
  rw [merged_dot]
  funext j
  idx_vars j
  pointwise
  rfl

theorem row_eq : (shapeCast S4096x1024 (addf (ext3 x : FVec Ideal S2x2048x1024 .f32) (Host.dotGeneral dot_S2x2048x1024_S1024x1024_S2x2048x1024_2_0_01_1_n_n none (addf (mulf (Host.divf (broadcastInDim S2x2048x1024 ![] bcast_S_S2x2048x1024 (constant S_ .f32 0x3F800000#32)) (addf (broadcastInDim S2x2048x1024 ![] bcast_S_S2x2048x1024 (constant S_ .f32 0x3F800000#32))
    (Host.exp (Host.negf (extractStridedSlice S2x2048x1024 ![0, 0, 1184] (ext3 z : FVec Ideal S2x2048x3232 .f32) slices_S2x2048x3232_S2x2048x1024_0_0_1184)))) : FVec Ideal S2x2048x1024 .f32) (Host.dotGeneral dot_S2x2048x512_S512x1024_S2x2048x1024_2_0_01_1_n_n none
    (shapeCast S2x2048x512 (ext4 oa : FVec Ideal S2x2048x8x64 .f32) shapeCasts_S2x2048x8x64_S2x2048x512 : FVec Ideal S2x2048x512 .f32)
    (ext2 wa : FVec Ideal S512x1024 .f32) : FVec Ideal S2x2048x1024 .f32)) (mulf (Host.divf (broadcastInDim S2x2048x1024 ![] bcast_S_S2x2048x1024 (constant S_ .f32 0x3F800000#32)) (addf (broadcastInDim S2x2048x1024 ![] bcast_S_S2x2048x1024 (constant S_ .f32 0x3F800000#32))
    (Host.exp (Host.negf (extractStridedSlice S2x2048x1024 ![0, 0, 2208] (ext3 z : FVec Ideal S2x2048x3232 .f32) slices_S2x2048x3232_S2x2048x1024_0_0_2208)))) : FVec Ideal S2x2048x1024 .f32) (Host.dotGeneral dot_S2x2048x512_S512x1024_S2x2048x1024_2_0_01_1_n_n none
    (shapeCast S2x2048x512 (ext4 ob : FVec Ideal S2x2048x8x64 .f32) shapeCasts_S2x2048x8x64_S2x2048x512 : FVec Ideal S2x2048x512 .f32)
    (ext2 wb : FVec Ideal S512x1024 .f32) : FVec Ideal S2x2048x1024 .f32)) : FVec Ideal S2x2048x1024 .f32) (ext2 wo : FVec Ideal S1024x1024 .f32) : FVec Ideal S2x2048x1024 .f32)) shapeCasts_S2x2048x1024_S4096x1024 : FVec Ideal S4096x1024 .f32) = ext2 (row oa ob z x wa wb wo) := by
  rw [row_dot]
  funext j
  idx_vars j
  pointwise
  rfl

theorem norm_eq : (truncf .bf16 (shapeCast S4096x1024 (mulf (mulf (addf (ext3 x : FVec Ideal S2x2048x1024 .f32) (Host.dotGeneral dot_S2x2048x1024_S1024x1024_S2x2048x1024_2_0_01_1_n_n none (addf (mulf (Host.divf (broadcastInDim S2x2048x1024 ![] bcast_S_S2x2048x1024 (constant S_ .f32 0x3F800000#32)) (addf (broadcastInDim S2x2048x1024 ![] bcast_S_S2x2048x1024 (constant S_ .f32 0x3F800000#32))
    (Host.exp (Host.negf (extractStridedSlice S2x2048x1024 ![0, 0, 1184] (ext3 z : FVec Ideal S2x2048x3232 .f32) slices_S2x2048x3232_S2x2048x1024_0_0_1184)))) : FVec Ideal S2x2048x1024 .f32) (Host.dotGeneral dot_S2x2048x512_S512x1024_S2x2048x1024_2_0_01_1_n_n none
    (shapeCast S2x2048x512 (ext4 oa : FVec Ideal S2x2048x8x64 .f32) shapeCasts_S2x2048x8x64_S2x2048x512 : FVec Ideal S2x2048x512 .f32)
    (ext2 wa : FVec Ideal S512x1024 .f32) : FVec Ideal S2x2048x1024 .f32)) (mulf (Host.divf (broadcastInDim S2x2048x1024 ![] bcast_S_S2x2048x1024 (constant S_ .f32 0x3F800000#32)) (addf (broadcastInDim S2x2048x1024 ![] bcast_S_S2x2048x1024 (constant S_ .f32 0x3F800000#32))
    (Host.exp (Host.negf (extractStridedSlice S2x2048x1024 ![0, 0, 2208] (ext3 z : FVec Ideal S2x2048x3232 .f32) slices_S2x2048x3232_S2x2048x1024_0_0_2208)))) : FVec Ideal S2x2048x1024 .f32) (Host.dotGeneral dot_S2x2048x512_S512x1024_S2x2048x1024_2_0_01_1_n_n none
    (shapeCast S2x2048x512 (ext4 ob : FVec Ideal S2x2048x8x64 .f32) shapeCasts_S2x2048x8x64_S2x2048x512 : FVec Ideal S2x2048x512 .f32)
    (ext2 wb : FVec Ideal S512x1024 .f32) : FVec Ideal S2x2048x1024 .f32)) : FVec Ideal S2x2048x1024 .f32) (ext2 wo : FVec Ideal S1024x1024 .f32) : FVec Ideal S2x2048x1024 .f32)) (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf (addf (ext3 x : FVec Ideal S2x2048x1024 .f32) (Host.dotGeneral dot_S2x2048x1024_S1024x1024_S2x2048x1024_2_0_01_1_n_n none (addf (mulf (Host.divf (broadcastInDim S2x2048x1024 ![] bcast_S_S2x2048x1024 (constant S_ .f32 0x3F800000#32)) (addf (broadcastInDim S2x2048x1024 ![] bcast_S_S2x2048x1024 (constant S_ .f32 0x3F800000#32))
    (Host.exp (Host.negf (extractStridedSlice S2x2048x1024 ![0, 0, 1184] (ext3 z : FVec Ideal S2x2048x3232 .f32) slices_S2x2048x3232_S2x2048x1024_0_0_1184)))) : FVec Ideal S2x2048x1024 .f32) (Host.dotGeneral dot_S2x2048x512_S512x1024_S2x2048x1024_2_0_01_1_n_n none
    (shapeCast S2x2048x512 (ext4 oa : FVec Ideal S2x2048x8x64 .f32) shapeCasts_S2x2048x8x64_S2x2048x512 : FVec Ideal S2x2048x512 .f32)
    (ext2 wa : FVec Ideal S512x1024 .f32) : FVec Ideal S2x2048x1024 .f32)) (mulf (Host.divf (broadcastInDim S2x2048x1024 ![] bcast_S_S2x2048x1024 (constant S_ .f32 0x3F800000#32)) (addf (broadcastInDim S2x2048x1024 ![] bcast_S_S2x2048x1024 (constant S_ .f32 0x3F800000#32))
    (Host.exp (Host.negf (extractStridedSlice S2x2048x1024 ![0, 0, 2208] (ext3 z : FVec Ideal S2x2048x3232 .f32) slices_S2x2048x3232_S2x2048x1024_0_0_2208)))) : FVec Ideal S2x2048x1024 .f32) (Host.dotGeneral dot_S2x2048x512_S512x1024_S2x2048x1024_2_0_01_1_n_n none
    (shapeCast S2x2048x512 (ext4 ob : FVec Ideal S2x2048x8x64 .f32) shapeCasts_S2x2048x8x64_S2x2048x512 : FVec Ideal S2x2048x512 .f32)
    (ext2 wb : FVec Ideal S512x1024 .f32) : FVec Ideal S2x2048x1024 .f32)) : FVec Ideal S2x2048x1024 .f32) (ext2 wo : FVec Ideal S1024x1024 .f32) : FVec Ideal S2x2048x1024 .f32)) (addf (ext3 x : FVec Ideal S2x2048x1024 .f32) (Host.dotGeneral dot_S2x2048x1024_S1024x1024_S2x2048x1024_2_0_01_1_n_n none (addf (mulf (Host.divf (broadcastInDim S2x2048x1024 ![] bcast_S_S2x2048x1024 (constant S_ .f32 0x3F800000#32)) (addf (broadcastInDim S2x2048x1024 ![] bcast_S_S2x2048x1024 (constant S_ .f32 0x3F800000#32))
    (Host.exp (Host.negf (extractStridedSlice S2x2048x1024 ![0, 0, 1184] (ext3 z : FVec Ideal S2x2048x3232 .f32) slices_S2x2048x3232_S2x2048x1024_0_0_1184)))) : FVec Ideal S2x2048x1024 .f32) (Host.dotGeneral dot_S2x2048x512_S512x1024_S2x2048x1024_2_0_01_1_n_n none
    (shapeCast S2x2048x512 (ext4 oa : FVec Ideal S2x2048x8x64 .f32) shapeCasts_S2x2048x8x64_S2x2048x512 : FVec Ideal S2x2048x512 .f32)
    (ext2 wa : FVec Ideal S512x1024 .f32) : FVec Ideal S2x2048x1024 .f32)) (mulf (Host.divf (broadcastInDim S2x2048x1024 ![] bcast_S_S2x2048x1024 (constant S_ .f32 0x3F800000#32)) (addf (broadcastInDim S2x2048x1024 ![] bcast_S_S2x2048x1024 (constant S_ .f32 0x3F800000#32))
    (Host.exp (Host.negf (extractStridedSlice S2x2048x1024 ![0, 0, 2208] (ext3 z : FVec Ideal S2x2048x3232 .f32) slices_S2x2048x3232_S2x2048x1024_0_0_2208)))) : FVec Ideal S2x2048x1024 .f32) (Host.dotGeneral dot_S2x2048x512_S512x1024_S2x2048x1024_2_0_01_1_n_n none
    (shapeCast S2x2048x512 (ext4 ob : FVec Ideal S2x2048x8x64 .f32) shapeCasts_S2x2048x8x64_S2x2048x512 : FVec Ideal S2x2048x512 .f32)
    (ext2 wb : FVec Ideal S512x1024 .f32) : FVec Ideal S2x2048x1024 .f32)) : FVec Ideal S2x2048x1024 .f32) (ext2 wo : FVec Ideal S1024x1024 .f32) : FVec Ideal S2x2048x1024 .f32))) (constant S_ .f32 0x00000000#32) reducesTo_S2x2048x1024_S2x2048_d2 h_S_ : FVec Ideal S2x2048 .f32))
        (broadcastInDim S2x2048x1 ![] bcast_S_S2x2048x1 (constant S_ .f32 0x44800000#32))) (broadcastInDim S2x2048x1 ![] bcast_S_S2x2048x1 (constant S_ .f32 0x358637BD#32))) : FVec Ideal S2x2048x1 .f32)))
      (broadcastInDim S2x2048x1024 ![0, 1, 2] bcast_S1x1x1024_S2x2048x1024_0_1_2 (broadcastInDim S1x1x1024 ![2] bcast_S1024_S1x1x1024_2 (ext1 g : FVec Ideal S1024 .f32))) : FVec Ideal S2x2048x1024 .f32) shapeCasts_S2x2048x1024_S4096x1024 : FVec Ideal S4096x1024 .f32) bitsLt_bf16_f32 : FVec Ideal S4096x1024 .bf16) = ext2 (norm oa ob z x g wa wb wo) := by
  rw [row_dot, squares_eq, factor_eq]
  funext j
  idx_vars j
  pointwise
  rfl

theorem reference_run (m : (ℓ : Loc nD τ sig) → Buf (Elt Ideal) ℓ) (ρ : Dev nD → PrngReg)
    (ha : ∀ c : Dev nD, m ((c.tc : Thread nD τ).loc main_arg0) = (ext4 oa : FVec Ideal S2x2048x8x64 .f32))
    (hb : ∀ c : Dev nD, m ((c.tc : Thread nD τ).loc main_arg1) = (ext4 ob : FVec Ideal S2x2048x8x64 .f32))
    (hz : ∀ c : Dev nD, m ((c.tc : Thread nD τ).loc main_arg2) = (ext3 z : FVec Ideal S2x2048x3232 .f32))
    (hx : ∀ c : Dev nD, m ((c.tc : Thread nD τ).loc main_arg3) = (ext3 x : FVec Ideal S2x2048x1024 .f32))
    (hg : ∀ c : Dev nD, m ((c.tc : Thread nD τ).loc main_arg4) = (ext1 g : FVec Ideal S1024 .f32))
    (hwa : ∀ c : Dev nD, m ((c.tc : Thread nD τ).loc main_arg5) = (ext2 wa : FVec Ideal S512x1024 .f32))
    (hwb : ∀ c : Dev nD, m ((c.tc : Thread nD τ).loc main_arg6) = (ext2 wb : FVec Ideal S512x1024 .f32))
    (hwo : ∀ c : Dev nD, m ((c.tc : Thread nD τ).loc main_arg7) = (ext2 wo : FVec Ideal S1024x1024 .f32)) :
    θ_run defs (onTc (τ := τ) (main (F := Ideal))) ⟨m, fun _ => 0, ρ⟩ fun r => ∀ c : Dev nD,
      r.2.mem ((c.tc : Thread nD τ).loc main_v37) = (ext2 (branch oa wa) : FVec Ideal S4096x1024 .bf16)
      ∧ r.2.mem ((c.tc : Thread nD τ).loc main_v39) = (ext2 (branch ob wb) : FVec Ideal S4096x1024 .bf16)
      ∧ r.2.mem ((c.tc : Thread nD τ).loc main_v41) = (ext2 (merged oa ob z wa wb) : FVec Ideal S4096x1024 .bf16)
      ∧ r.2.mem ((c.tc : Thread nD τ).loc main_v42) = (ext2 (row oa ob z x wa wb wo) : FVec Ideal S4096x1024 .f32)
      ∧ r.2.mem ((c.tc : Thread nD τ).loc main_v44) = (ext2 (norm oa ob z x g wa wb wo) : FVec Ideal S4096x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r hr c => by
    refine ⟨(hr c).1.trans ?_, (hr c).2.1.trans ?_, (hr c).2.2.1.trans ?_, (hr c).2.2.2.1.trans ?_, (hr c).2.2.2.2.1.trans ?_, (hr c).2.2.2.2.2⟩
    · rw [ha, hwa]
      exact branch_eq oa wa
    · rw [hb, hwb]
      exact branch_eq ob wb
    · rw [ha, hb, hz, hwa, hwb]
      exact merged_eq oa ob z wa wb
    · rw [ha, hb, hz, hx, hwa, hwb, hwo]
      exact row_eq oa ob z x wa wb wo
    · unfold res_main_v44
      rw [ha, hb, hz, hx, hg, hwa, hwb, hwo]
      exact norm_eq oa ob z x g wa wb wo) (Value.run m ρ)

/-- The reference's frame: its run leaves the arguments alone, and the program declares no semaphore. -/
theorem reference_frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0 :=
  (θ_run defs _ _).mono (fun r h => ⟨fun c => (h c).2.2.2.2.2, sem_eq_zero_of_no_sems (by decide) r.2⟩) (Value.run (F := Ideal) m ρ)

end Reference

open Cert.Kernel15Ideal Cert.Kernel15Ideal.Gen

section Payloads

variable (O Z A B E X : Fin 256 → Fin 1024 → EReal) (W : Fin 1024 → Fin 1024 → EReal) (G : Fin 1 → Fin 1024 → EReal)

/-- The gated sum of a block's rows: the first branch gated, the exponential in the second gate and the second branch. -/
def mixOf (i : Fin 256) (d : Fin 1024) : EReal := A i d + Ideal.div 1 (1 + E i d) * B i d
/-- The residual with the projected sum. -/
def rowOf (i : Fin 256) (d : Fin 1024) : EReal := X i d + ∑ e, A i e * W e d

theorem branchA_blk : k0_pay9 (F := Ideal) (ext2 O : FVec Ideal S256x1024 .bf16) (ext2 W : FVec Ideal S1024x1024 .bf16)
    = (ext2 fun i d => ∑ e, O i e * W e d : FVec Ideal S256x1024 .f32) := by
  funext j
  idx_vars j
  pointwise [k0_pay9]

theorem branchB_blk : k0_pay10 (F := Ideal) (ext2 O : FVec Ideal S256x1024 .bf16) (ext2 W : FVec Ideal S1024x1024 .bf16)
    = (ext2 fun i d => ∑ e, O i e * W e d : FVec Ideal S256x1024 .f32) := by
  funext j
  idx_vars j
  pointwise [k0_pay10]

theorem narrowA : k0_pay3 (F := Ideal) (ext2 A : FVec Ideal S256x1024 .f32) = (ext2 A : FVec Ideal S256x1024 .bf16) := by
  funext j
  idx_vars j
  pointwise [k0_pay3]

theorem narrowB : k0_pay4 (F := Ideal) (ext2 A : FVec Ideal S256x1024 .f32) = (ext2 A : FVec Ideal S256x1024 .bf16) := by
  funext j
  idx_vars j
  pointwise [k0_pay4]

theorem x_read : k0_pay6 (F := Ideal) (ext2 X : FVec Ideal S256x1024 .f32) = (ext2 X : FVec Ideal S256x1024 .f32) := by
  funext j
  idx_vars j
  pointwise [k0_pay6]

theorem g_read : k0_pay7 (F := Ideal) (ext2 G : FVec Ideal S1x1024 .f32) = (ext2 G : FVec Ideal S1x1024 .f32) := by
  funext j
  idx_vars j
  pointwise [k0_pay7]

theorem wo_read : k0_pay8 (F := Ideal) (ext2 W : FVec Ideal S1024x1024 .bf16) = (ext2 W : FVec Ideal S1024x1024 .bf16) := by
  funext j
  idx_vars j
  pointwise [k0_pay8]

theorem gated_blk : k0_pay11 (F := Ideal) (ext2 O : FVec Ideal S256x1024 .bf16) (ext2 Z : FVec Ideal S256x1024 .bf16) (ext2 W : FVec Ideal S1024x1024 .bf16)
    = (ext2 fun i d => sig (Z i d) * ∑ e, O i e * W e d : FVec Ideal S256x1024 .f32) := by
  unfold k0_pay11
  rw [branchA_blk]
  funext j
  idx_vars j
  pointwise
  exact congrArg (· * _) (sig_sub _)

theorem exp_blk : k0_pay12 (F := Ideal) (ext2 Z : FVec Ideal S256x1024 .bf16) = (ext2 fun i d => Ideal.exp (0 - Z i d) : FVec Ideal S256x1024 .f32) := by
  funext j
  idx_vars j
  pointwise [k0_pay12]

theorem merged_blk : k0_pay1 (F := Ideal) (ext2 B : FVec Ideal S256x1024 .f32) (ext2 A : FVec Ideal S256x1024 .f32) (ext2 E : FVec Ideal S256x1024 .f32)
    (Scalar.ofBits .f32 0x3F800000#32) = (ext2 (mixOf A B E) : FVec Ideal S256x1024 .bf16) := by
  funext j
  idx_vars j
  pointwise [k0_pay1]
  rfl

theorem row_blk : k0_pay2 (F := Ideal) (ext2 X : FVec Ideal S256x1024 .f32) (ext2 W : FVec Ideal S1024x1024 .bf16) (ext2 B : FVec Ideal S256x1024 .f32)
    (ext2 A : FVec Ideal S256x1024 .f32) (ext2 E : FVec Ideal S256x1024 .f32) (Scalar.ofBits .f32 0x3F800000#32)
    = (ext2 (rowOf (mixOf A B E) X W) : FVec Ideal S256x1024 .f32) := by
  unfold k0_pay2
  rw [merged_blk]
  funext j
  idx_vars j
  pointwise
  rfl

theorem norm_blk : k0_pay5 (F := Ideal) (ext2 X : FVec Ideal S256x1024 .f32) (ext2 G : FVec Ideal S1x1024 .f32) (ext2 W : FVec Ideal S1024x1024 .bf16)
    (ext2 B : FVec Ideal S256x1024 .f32) (ext2 A : FVec Ideal S256x1024 .f32) (ext2 E : FVec Ideal S256x1024 .f32) (Scalar.ofBits .f32 0x3F800000#32)
    = (ext2 fun i => normed (rowOf (mixOf A B E) X W i) (G 0) : FVec Ideal S256x1024 .bf16) := by
  unfold k0_pay5
  rw [row_blk]
  funext j
  idx_vars j
  pointwise
  rfl

end Payloads

variable (m : (ℓ : Loc nD τ sig) → Buf (Elt Ideal) ℓ) (c : Dev nD)

theorem flat_eq : (fun i => shapeCast main_v8.ty.shape (ext3 z : FVec Ideal S2x2048x3232 .f32) shapeCasts_S2x2048x3232_S4096x3232 i)
    = (ext2 (flat z) : FVec Ideal S4096x3232 .f32) := by
  funext j
  idx_vars j
  pointwise
  rfl

theorem z_eq (hz : m ((c.tc : Thread nD τ).loc main_arg2) = (ext3 z : FVec Ideal S2x2048x3232 .f32)) :
    V m c main_v28 = (ext2 (columns (flat z)) : FVec Ideal S4096x4096 .bf16) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append,
    StableHlo.TRef.nullary, StableHlo.TRef.binary, StableHlo.TRef.unary, StableHlo.TRef.toBuf, StableHlo.TRef.ofBuf, cast_eq]
  after_reads_simp
  refine (congrArg (fun x : FVec Ideal S4096x4096 .f32 => (truncf .bf16 x bitsLt_bf16_f32 : FVec Ideal S4096x4096 .bf16))
    (joined_4096 (columns (flat z)) _ _ _ _ _ _ _ _ ?_ ?_ ?_ ?_ ?_ ?_ ?_ ?_)).trans ?_
  · show StableHlo.upto _ _ _ (Proc.devRef .tc main_v12) = _
    after_reads_simp
    rw [show m (c, Proc.tc.devRef main_arg2) = _ from hz, flat_eq z]
    exact queries_4096 (flat z)
  · show StableHlo.upto _ _ _ (Proc.devRef .tc main_v13) = _
    after_reads_simp
    rw [show m (c, Proc.tc.devRef main_arg2) = _ from hz, flat_eq z]
    exact latent_4096 (flat z)
  · show StableHlo.upto _ _ _ (Proc.devRef .tc main_v14) = _
    after_reads_simp
    rw [show m (c, Proc.tc.devRef main_arg2) = _ from hz, flat_eq z]
    exact compressed_4096 (flat z)
  · show StableHlo.upto _ _ _ (Proc.devRef .tc main_v16) = _
    after_reads_simp
    rw [show m (c, Proc.tc.devRef main_arg2) = _ from hz, flat_eq z]
    exact rotary_4096 (flat z)
  · show StableHlo.upto _ _ _ (Proc.devRef .tc main_v20) = _
    after_reads_simp
    rw [show m (c, Proc.tc.devRef main_arg2) = _ from hz, flat_eq z]
    exact keys_4096 (flat z)
  · show StableHlo.upto _ _ _ (Proc.devRef .tc main_v24) = _
    after_reads_simp
    rw [show m (c, Proc.tc.devRef main_arg2) = _ from hz, flat_eq z]
    exact values_4096 (flat z)
  · show StableHlo.upto _ _ _ (Proc.devRef .tc main_v25) = _
    after_reads_simp
    rw [show m (c, Proc.tc.devRef main_arg2) = _ from hz, flat_eq z]
    exact gateA_4096 (flat z)
  · show StableHlo.upto _ _ _ (Proc.devRef .tc main_v26) = _
    after_reads_simp
    rw [show m (c, Proc.tc.devRef main_arg2) = _ from hz, flat_eq z]
    exact gateB_4096 (flat z)
  · funext j
    idx_vars j
    pointwise

theorem x_eq (h : m ((c.tc : Thread nD τ).loc main_arg3) = (ext3 x : FVec Ideal S2x2048x1024 .f32)) :
    V m c main_v35 = (ext2 (flat x) : FVec Ideal S4096x1024 .f32) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp
  rw [show m (c, Proc.tc.devRef main_arg3) = _ from h]
  funext j
  idx_vars j
  pointwise
  rfl

theorem g_eq (h : m ((c.tc : Thread nD τ).loc main_arg4) = (ext1 g : FVec Ideal S1024 .f32)) :
    V m c main_v36 = (ext2 fun _ => g : FVec Ideal S1x1024 .f32) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp
  rw [show m (c, Proc.tc.devRef main_arg4) = _ from h]
  funext j
  idx_vars j
  pointwise

theorem wo_eq (h : m ((c.tc : Thread nD τ).loc main_arg7) = (ext2 wo : FVec Ideal S1024x1024 .f32)) :
    V m c main_v37 = (ext2 wo : FVec Ideal S1024x1024 .bf16) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp
  rw [show m (c, Proc.tc.devRef main_arg7) = _ from h]
  funext j
  idx_vars j
  pointwise

theorem oa_eq (h : m ((c.tc : Thread nD τ).loc main_arg0) = (ext4 oa : FVec Ideal S2x2048x8x64 .f32)) :
    V m c main_v31 = (ext2 (laid oa) : FVec Ideal S4096x1024 .bf16) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp
  rw [show m (c, Proc.tc.devRef main_arg0) = _ from h]
  funext j
  idx_vars j
  pointwise
  exact laid_guard oa j0 j1 _ zero_eq

theorem ob_eq (h : m ((c.tc : Thread nD τ).loc main_arg1) = (ext4 ob : FVec Ideal S2x2048x8x64 .f32)) :
    V m c main_v34 = (ext2 (laid ob) : FVec Ideal S4096x1024 .bf16) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp
  rw [show m (c, Proc.tc.devRef main_arg1) = _ from h]
  funext j
  idx_vars j
  pointwise
  exact laid_guard ob j0 j1 _ zero_eq

/-- The weight's rows as the program lays them. -/
theorem padded_eq : (truncf .bf16 (shapeCast S1024x1024 (pad S8x128x1024 ![0, 0, 0] ![0, 64, 0] ![0, 0, 0]
      (shapeCast S8x64x1024 (ext2 w : FVec Ideal S512x1024 .f32) shapeCasts_S512x1024_S8x64x1024 : FVec Ideal S8x64x1024 .f32)
      (sitofp .f32 (constantI S_ 32 0#32)) pads_S8x64x1024_S8x128x1024_000_0640_000 h_S_ : FVec Ideal S8x128x1024 .f32)
      shapeCasts_S8x128x1024_S1024x1024 : FVec Ideal S1024x1024 .f32) bitsLt_bf16_f32 : FVec Ideal S1024x1024 .bf16) = ext2 (headRows w) := by
  funext j
  idx_vars j
  pointwise
  unfold headRows
  by_cases h : (j0 : ℕ) % 128 < 64
  · refine (dif_pos ⟨by omega, h⟩).trans (Eq.trans ?_ (dif_pos h).symm)
    rfl
  · exact ((dif_neg fun k => h k.2).trans zero_eq).trans (dif_neg h).symm

theorem wa_eq (h : m ((c.tc : Thread nD τ).loc main_arg5) = (ext2 wa : FVec Ideal S512x1024 .f32)) :
    V m c main_v3 = (ext2 (headRows wa) : FVec Ideal S1024x1024 .bf16) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp
  rw [show m (c, Proc.tc.devRef main_arg5) = _ from h]
  exact padded_eq wa

theorem wb_eq (h : m ((c.tc : Thread nD τ).loc main_arg6) = (ext2 wb : FVec Ideal S512x1024 .f32)) :
    V m c main_v7 = (ext2 (headRows wb) : FVec Ideal S1024x1024 .bf16) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp
  rw [show m (c, Proc.tc.devRef main_arg6) = _ from h]
  exact padded_eq wb

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 2] := (by decide +kernel : ∀ t : Fin grid0.N, _)
theorem idx3 : ∀ t : Fin cfg0.N, win0_3.index t = ![t.val, 3] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![t.val, 0] := (by decide +kernel : ∀ t : Fin grid0.N, _)

theorem lt (t : Fin cfg0.N) : t.val < 16 := lt_of_lt_of_eq t.isLt (show cfg0.N = 16 from N_0)

/-- The rows a grid point meets. -/
def rows (x : Fin 4096 → Fin 1024 → EReal) (t : ℕ) (ht : t < 16) (i : Fin 256) : Fin 1024 → EReal := x ⟨t * 256 + i, by omega⟩
/-- Their columns in a quarter of the laid columns. -/
def cut (x : Fin 4096 → Fin 4096 → EReal) (j : ℕ) (hj : j < 4) (t : ℕ) (ht : t < 16) (i : Fin 256) (d : Fin 1024) : EReal :=
  x ⟨t * 256 + i, by omega⟩ ⟨j * 1024 + d, by omega⟩

theorem oa_blk {x : Fin 4096 → Fin 1024 → EReal} (h : V m c main_v31 = (ext2 x : FVec Ideal S4096x1024 .bf16)) (t : Fin cfg0.N) :
    iblk m c 0 t = (ext2 (rows x t (lt t)) : FVec Ideal S256x1024 .bf16) := by
  funext y
  idx_vars y
  blk_simp [iblk]
  rw [h]
  refine ext2_at x _ _ _ ?_ ?_ <;> blk_simp [idx0 t]

theorem ob_blk {x : Fin 4096 → Fin 1024 → EReal} (h : V m c main_v34 = (ext2 x : FVec Ideal S4096x1024 .bf16)) (t : Fin cfg0.N) :
    iblk m c 1 t = (ext2 (rows x t (lt t)) : FVec Ideal S256x1024 .bf16) := by
  funext y
  idx_vars y
  blk_simp [iblk]
  rw [h]
  refine ext2_at x _ _ _ ?_ ?_ <;> blk_simp [idx1 t]

theorem zA_blk {x : Fin 4096 → Fin 4096 → EReal} (h : V m c main_v28 = (ext2 x : FVec Ideal S4096x4096 .bf16)) (t : Fin cfg0.N) :
    iblk m c 2 t = (ext2 (cut x 2 (by omega) t (lt t)) : FVec Ideal S256x1024 .bf16) := by
  funext y
  idx_vars y
  blk_simp [iblk]
  rw [h]
  refine ext2_at x _ _ _ ?_ ?_ <;> blk_simp [idx2 t]

theorem zB_blk {x : Fin 4096 → Fin 4096 → EReal} (h : V m c main_v28 = (ext2 x : FVec Ideal S4096x4096 .bf16)) (t : Fin cfg0.N) :
    iblk m c 3 t = (ext2 (cut x 3 (by omega) t (lt t)) : FVec Ideal S256x1024 .bf16) := by
  funext y
  idx_vars y
  blk_simp [iblk]
  rw [h]
  refine ext2_at x _ _ _ ?_ ?_ <;> blk_simp [idx3 t]

theorem x_blk {x : Fin 4096 → Fin 1024 → EReal} (h : V m c main_v35 = (ext2 x : FVec Ideal S4096x1024 .f32)) (t : Fin cfg0.N) :
    iblk m c 4 t = (ext2 (rows x t (lt t)) : FVec Ideal S256x1024 .f32) := by
  funext y
  idx_vars y
  blk_simp [iblk]
  rw [h]
  refine ext2_at x _ _ _ ?_ ?_ <;> blk_simp [idx4 t]

theorem g_blk {x : Fin 1 → Fin 1024 → EReal} (h : V m c main_v36 = (ext2 x : FVec Ideal S1x1024 .f32)) (t : Fin cfg0.N) :
    iblk m c 5 t = (ext2 x : FVec Ideal S1x1024 .f32) := by
  funext y
  idx_vars y
  blk_simp [iblk]
  rw [h]
  refine ext2_at x _ _ _ ?_ ?_ <;> blk_simp [idx5 t]

theorem wa_blk {x : Fin 1024 → Fin 1024 → EReal} (h : V m c main_v3 = (ext2 x : FVec Ideal S1024x1024 .bf16)) (t : Fin cfg0.N) :
    iblk m c 6 t = (ext2 x : FVec Ideal S1024x1024 .bf16) := by
  funext y
  idx_vars y
  blk_simp [iblk]
  rw [h]
  refine ext2_at x _ _ _ ?_ ?_ <;> blk_simp [idx6 t]

theorem wb_blk {x : Fin 1024 → Fin 1024 → EReal} (h : V m c main_v7 = (ext2 x : FVec Ideal S1024x1024 .bf16)) (t : Fin cfg0.N) :
    iblk m c 7 t = (ext2 x : FVec Ideal S1024x1024 .bf16) := by
  funext y
  idx_vars y
  blk_simp [iblk]
  rw [h]
  refine ext2_at x _ _ _ ?_ ?_ <;> blk_simp [idx7 t]

theorem wo_blk {x : Fin 1024 → Fin 1024 → EReal} (h : V m c main_v37 = (ext2 x : FVec Ideal S1024x1024 .bf16)) (t : Fin cfg0.N) :
    iblk m c 8 t = (ext2 x : FVec Ideal S1024x1024 .bf16) := by
  funext y
  idx_vars y
  blk_simp [iblk]
  rw [h]
  refine ext2_at x _ _ _ ?_ ?_ <;> blk_simp [idx8 t]

theorem cutA (t : ℕ) (ht : t < 16) (i : Fin 256) (d : Fin 1024) : sig (cut (columns (flat z)) 2 (by omega) t ht i d) = rows (gateA z) t ht i d :=
  gateA_laid z _ d _ rfl
theorem cutB (t : ℕ) (ht : t < 16) (i : Fin 256) (d : Fin 1024) : sig (cut (columns (flat z)) 3 (by omega) t ht i d) = rows (gateB z) t ht i d :=
  gateB_laid z _ d _ rfl

theorem branch_rows (t : ℕ) (ht : t < 16) :
    (fun (i : Fin 256) (d : Fin 1024) => ∑ e, rows (laid o) t ht i e * headRows w e d) = rows (branch o w) t ht :=
  funext fun i => funext fun d => heads_sum o w ⟨t * 256 + i, by omega⟩ d

theorem merged_rows (t : ℕ) (ht : t < 16) :
    mixOf (fun i d => sig (cut (columns (flat z)) 2 (by omega) t ht i d) * ∑ e, rows (laid oa) t ht i e * headRows wa e d)
      (rows (branch ob wb) t ht) (fun i d => Ideal.exp (0 - cut (columns (flat z)) 3 (by omega) t ht i d)) = rows (merged oa ob z wa wb) t ht := by
  funext i d
  unfold mixOf
  beta_reduce
  rw [cutA z, sig_sub, cutB z]
  exact congrArg (fun s => rows (gateA z) t ht i d * s + _) (heads_sum oa wa ⟨t * 256 + i, by omega⟩ d)

theorem rows_at {φ : FTy} (x : Fin 4096 → Fin 1024 → EReal) (t : ℕ) (ht : t < 16) (y : S256x1024.Idx) (j : S4096x1024.Idx)
    (h0 : (j 0).val = t * 256 + (y 0).val) (h1 : (j 1).val = (y 1).val) :
    (ext2 (rows x t ht) : FVec Ideal S256x1024 φ) y = (ext2 x : FVec Ideal S4096x1024 φ) j :=
  (ext2_at x j _ _ h0 h1).symm

variable {oa ob z x g wa wb wo m c}
variable (ha : m ((c.tc : Thread nD τ).loc main_arg0) = (ext4 oa : FVec Ideal S2x2048x8x64 .f32))
  (hb : m ((c.tc : Thread nD τ).loc main_arg1) = (ext4 ob : FVec Ideal S2x2048x8x64 .f32))
  (hz : m ((c.tc : Thread nD τ).loc main_arg2) = (ext3 z : FVec Ideal S2x2048x3232 .f32))
  (hx : m ((c.tc : Thread nD τ).loc main_arg3) = (ext3 x : FVec Ideal S2x2048x1024 .f32))
  (hg : m ((c.tc : Thread nD τ).loc main_arg4) = (ext1 g : FVec Ideal S1024 .f32))
  (hwa : m ((c.tc : Thread nD τ).loc main_arg5) = (ext2 wa : FVec Ideal S512x1024 .f32))
  (hwb : m ((c.tc : Thread nD τ).loc main_arg6) = (ext2 wb : FVec Ideal S512x1024 .f32))
  (hwo : m ((c.tc : Thread nD τ).loc main_arg7) = (ext2 wo : FVec Ideal S1024x1024 .f32))

include ha hwa in
theorem branchA_out (t : Fin cfg0.N) : out0_9 (iblk m c 0 t) (iblk m c 1 t) (iblk m c 2 t) (iblk m c 3 t) (iblk m c 4 t) (iblk m c 5 t) (iblk m c 6 t) (iblk m c 7 t) (iblk m c 8 t)
    = (ext2 (rows (branch oa wa) t (lt t)) : FVec Ideal S256x1024 .bf16) := by
  unfold_out out0_9
  frame_out
  rw [oa_blk m c (oa_eq oa m c ha), wa_blk m c (wa_eq wa m c hwa), branchA_blk, narrowA, branch_rows oa wa]

include ha hwa in
theorem final_branchA : (dats m 0 c).arrAt 9 cfg0.N = (ext2 (branch oa wa) : FVec Ideal S4096x1024 .bf16) := by
  refine (dats m 0 c).arrAt_eq_of_covers 9 _ (by decide +kernel) fun t hf y => ?_
  blk_simp
  rw [after0_9, branchA_out ha hwa t]
  refine rows_at (φ := .bf16) _ t.val (lt t) y ((win0_9.blk t).view.emb y) ?_ ?_ <;> blk_simp [idx9 t]

include hb hwb in
theorem branchB_out (t : Fin cfg0.N) : out0_10 (iblk m c 0 t) (iblk m c 1 t) (iblk m c 2 t) (iblk m c 3 t) (iblk m c 4 t) (iblk m c 5 t) (iblk m c 6 t) (iblk m c 7 t) (iblk m c 8 t)
    = (ext2 (rows (branch ob wb) t (lt t)) : FVec Ideal S256x1024 .bf16) := by
  unfold_out out0_10
  frame_out
  rw [ob_blk m c (ob_eq ob m c hb), wb_blk m c (wb_eq wb m c hwb), branchB_blk, narrowB, branch_rows ob wb]

include hb hwb in
theorem final_branchB : (dats m 0 c).arrAt 10 cfg0.N = (ext2 (branch ob wb) : FVec Ideal S4096x1024 .bf16) := by
  refine (dats m 0 c).arrAt_eq_of_covers 10 _ (by decide +kernel) fun t hf y => ?_
  blk_simp
  rw [after0_10, branchB_out hb hwb t]
  refine rows_at (φ := .bf16) _ t.val (lt t) y ((win0_10.blk t).view.emb y) ?_ ?_ <;> blk_simp [idx10 t]

include ha hb hz hwa hwb in
theorem merged_out (t : Fin cfg0.N) : out0_11 (iblk m c 0 t) (iblk m c 1 t) (iblk m c 2 t) (iblk m c 3 t) (iblk m c 4 t) (iblk m c 5 t) (iblk m c 6 t) (iblk m c 7 t) (iblk m c 8 t)
    = (ext2 (rows (merged oa ob z wa wb) t (lt t)) : FVec Ideal S256x1024 .bf16) := by
  unfold_out out0_11
  frame_out
  rw [oa_blk m c (oa_eq oa m c ha), ob_blk m c (ob_eq ob m c hb), zA_blk m c (z_eq z m c hz), zB_blk m c (z_eq z m c hz), wa_blk m c (wa_eq wa m c hwa), wb_blk m c (wb_eq wb m c hwb), branchB_blk, branch_rows ob wb, gated_blk, exp_blk, merged_blk, merged_rows oa ob z wa wb]

include ha hb hz hwa hwb in
theorem final_merged : (dats m 0 c).arrAt 11 cfg0.N = (ext2 (merged oa ob z wa wb) : FVec Ideal S4096x1024 .bf16) := by
  refine (dats m 0 c).arrAt_eq_of_covers 11 _ (by decide +kernel) fun t hf y => ?_
  blk_simp
  rw [after0_11, merged_out ha hb hz hwa hwb t]
  refine rows_at (φ := .bf16) _ t.val (lt t) y ((win0_11.blk t).view.emb y) ?_ ?_ <;> blk_simp [idx11 t]

include ha hb hz hx hwa hwb hwo in
theorem row_out (t : Fin cfg0.N) : out0_12 (iblk m c 0 t) (iblk m c 1 t) (iblk m c 2 t) (iblk m c 3 t) (iblk m c 4 t) (iblk m c 5 t) (iblk m c 6 t) (iblk m c 7 t) (iblk m c 8 t)
    = (ext2 (rows (row oa ob z x wa wb wo) t (lt t)) : FVec Ideal S256x1024 .f32) := by
  unfold_out out0_12
  frame_out
  rw [oa_blk m c (oa_eq oa m c ha), ob_blk m c (ob_eq ob m c hb), zA_blk m c (z_eq z m c hz), zB_blk m c (z_eq z m c hz), x_blk m c (x_eq x m c hx), wa_blk m c (wa_eq wa m c hwa), wb_blk m c (wb_eq wb m c hwb), wo_blk m c (wo_eq wo m c hwo), branchB_blk, branch_rows ob wb, gated_blk, exp_blk, x_read, wo_read, row_blk, merged_rows oa ob z wa wb]
  rfl

include ha hb hz hx hwa hwb hwo in
theorem final_row : (dats m 0 c).arrAt 12 cfg0.N = (ext2 (row oa ob z x wa wb wo) : FVec Ideal S4096x1024 .f32) := by
  refine (dats m 0 c).arrAt_eq_of_covers 12 _ (by decide +kernel) fun t hf y => ?_
  blk_simp
  rw [after0_12, row_out ha hb hz hx hwa hwb hwo t]
  refine rows_at (φ := .f32) _ t.val (lt t) y ((win0_12.blk t).view.emb y) ?_ ?_ <;> blk_simp [idx12 t]

include ha hb hz hx hg hwa hwb hwo in
theorem norm_out (t : Fin cfg0.N) : out0_13 (iblk m c 0 t) (iblk m c 1 t) (iblk m c 2 t) (iblk m c 3 t) (iblk m c 4 t) (iblk m c 5 t) (iblk m c 6 t) (iblk m c 7 t) (iblk m c 8 t)
    = (ext2 (rows (norm oa ob z x g wa wb wo) t (lt t)) : FVec Ideal S256x1024 .bf16) := by
  unfold_out out0_13
  frame_out
  rw [oa_blk m c (oa_eq oa m c ha), ob_blk m c (ob_eq ob m c hb), zA_blk m c (z_eq z m c hz), zB_blk m c (z_eq z m c hz), x_blk m c (x_eq x m c hx), g_blk m c (g_eq g m c hg), wa_blk m c (wa_eq wa m c hwa), wb_blk m c (wb_eq wb m c hwb), wo_blk m c (wo_eq wo m c hwo), branchB_blk, branch_rows ob wb, gated_blk, exp_blk, x_read, wo_read, g_read, norm_blk, merged_rows oa ob z wa wb]
  rfl

include ha hb hz hx hg hwa hwb hwo in
theorem final_norm : (dats m 0 c).arrAt 13 cfg0.N = (ext2 (norm oa ob z x g wa wb wo) : FVec Ideal S4096x1024 .bf16) := by
  refine (dats m 0 c).arrAt_eq_of_covers 13 _ (by decide +kernel) fun t hf y => ?_
  blk_simp
  rw [after0_13, norm_out ha hb hz hx hg hwa hwb hwo t]
  refine rows_at (φ := .bf16) _ t.val (lt t) y ((win0_13.blk t).view.emb y) ?_ ?_ <;> blk_simp [idx13 t]

end Cert.MergeOut
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Grads
public import proofs.«01_k».proof.Proof.Finite
public import proofs.«01_k».proof.Proof.MlpDownWeight
public import proofs.«01_k».proof.Proof.MlpHidden
public import proofs.«01_k».proof.Proof.MlpUpWeight
public import proofs.«01_k».proof.Proof.MlpUp
public import proofs.«01_k».proof.Proof.MlpDown
public import proofs.«01_k».proof.Proof.MlpUpInput
public import proofs.«01_k».proof.Proof.MergeWeight
public import proofs.«01_k».proof.Proof.EmbedWeight
public import proofs.«01_k».proof.Proof.QueryWeight
public import proofs.«01_k».proof.Proof.InProjInput
public import proofs.«01_k».proof.Proof.InProj
public import proofs.«01_k».proof.Proof.MergeGrad
public import proofs.«01_k».proof.Proof.MergeOut
public import Idealize.ShloMosaic.Adequacy
public import Idealize.ShloMosaic.Init
public import Idealize.ShloMosaic.Lib.Claim

@[expose] public section

noncomputable section

namespace Cert.Proof

open Idealize.ShloMosaic Idealize.SL.Sem

/-- The reference's frame: its run leaves the arguments alone, and the program declares no semaphore. -/
theorem frameReference : Cert.quiescent_ReferenceIdeal (hReferenceIdeal := Cert.ReferenceIdeal.Gen.facts) := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

open Cert.Arrays Cert.RefScores in
/-- Mixer A: the kernel's results are the gradients of softmax attention. -/
theorem mixerA : Cert.algebraic_KernelIdeal_ReferenceIdeal_pre_finite (hKernelIdeal := Cert.KernelIdeal.Gen.facts)
    (hReferenceIdeal := Cert.ReferenceIdeal.Gen.facts) (hPre_finite := Cert.Finite.facts) := by
  intro m ρ m' ρ' hpre hargs
  letI := Cert.Finite.facts
  have one : ∀ c : Dev Cert.KernelIdeal.nD, c = 0 := fun c => Subsingleton.elim c 0
  obtain ⟨nq, nk, nv, ng⟩ := Cert.Finite.numeric _ _ _ _ (hpre 0)
  obtain ⟨q, hq⟩ := nq.exists_num4
  obtain ⟨k, hk⟩ := nk.exists_num4
  obtain ⟨v, hv⟩ := nv.exists_num4
  obtain ⟨g, hg⟩ := ng.exists_num3
  obtain ⟨M, hM⟩ := maxima_exists q k
  have ops : ∀ c, Cert.Points.Operands q k v g M m c := fun c => by
    rw [one c]
    exact ⟨Cert.Operands.q_eq q m 0 hq, Cert.Operands.kv_eq k v m 0 hk hv, Cert.Operands.o_eq q k v M m 0 hq hk hv hM,
      Cert.Operands.do_eq g m 0 hg, Cert.Operands.lse_eq q k M m 0 hq hk hM⟩
  refine ⟨fun c => num2 (φ := .f32) (Cert.RefValue.laid (Cert.RefValue.DQ q k v g M)), fun c => num2 (φ := .bf16) (Cert.RefValue.laid (Cert.RefValue.DK q k v g M)),
    fun c => num2 (φ := .bf16) (Cert.RefValue.laid (Cert.RefValue.DV q k g M)), ?_, ?_⟩
  · refine (θ_run _ _ _).mono (fun r h c => ?_) (Cert.KernelIdeal.Value.run_blocks m ρ)
    obtain ⟨h0, h1, h2, hr⟩ := h c
    exact ⟨h0.trans (Cert.Grads.dq (ops c)), h1.trans (Cert.Grads.dk (ops c)), h2.trans (Cert.Grads.dv (ops c)), hr⟩
  · exact Cert.RefValue.run q k v g M m' ρ' (fun c => by rw [one c]; exact (hargs 0).1.trans hq) (fun c => by rw [one c]; exact (hargs 0).2.1.trans hk)
      (fun c => by rw [one c]; exact (hargs 0).2.2.1.trans hv) (fun c => by rw [one c]; exact (hargs 0).2.2.2.trans hg) hM

/-- The gradient of the block's second weight. -/
theorem mlpDownWeight : Cert.algebraic_Kernel3Ideal_Reference3Ideal (hKernel3Ideal := Cert.Kernel3Ideal.Gen.facts)
    (hReference3Ideal := Cert.Reference3Ideal.Gen.facts) := by
  intro m ρ m' ρ' _ hargs
  have one : ∀ c : Dev Cert.Kernel3Ideal.nD, c = 0 := fun c => Subsingleton.elim c 0
  obtain ⟨u, hu⟩ := Cert.Grids.exists_ext3 (m ((0 : Dev Cert.Kernel3Ideal.nD).tc.loc Cert.Kernel3Ideal.main_arg0))
  obtain ⟨g, hg⟩ := Cert.Grids.exists_ext3 (m ((0 : Dev Cert.Kernel3Ideal.nD).tc.loc Cert.Kernel3Ideal.main_arg1))
  have at0 : ∀ c : Dev Cert.Kernel3Ideal.nD, m (c.tc.loc Cert.Kernel3Ideal.main_arg0) = Cert.Grids.ext3 (φ := .f32) u ∧ m (c.tc.loc Cert.Kernel3Ideal.main_arg1) = Cert.Grids.ext3 (φ := .f32) g := fun c => by
    rw [one c]
    exact ⟨hu, hg⟩
  refine ⟨fun _ => Cert.Grids.ext2 (φ := .bf16) (Cert.MlpDownWeight.grad u g), ?_, ?_⟩
  · refine (θ_run _ _ _).mono (fun r h c => ?_) (Cert.Kernel3Ideal.Value.run_blocks m ρ)
    obtain ⟨h0, hr⟩ := h c
    exact ⟨h0.trans (Cert.MlpDownWeight.final (at0 c).1 (at0 c).2), hr⟩
  · exact Cert.MlpDownWeight.reference_run u g m' ρ'  (fun c => by rw [one c]; exact (hargs 0).1.trans hu)
      (fun c => by rw [one c]; exact (hargs 0).2.trans hg)

/-- The gradient of the block's features before the cut. -/
theorem mlpHidden : Cert.algebraic_Kernel4Ideal_Reference4Ideal (hKernel4Ideal := Cert.Kernel4Ideal.Gen.facts)
    (hReference4Ideal := Cert.Reference4Ideal.Gen.facts) := by
  intro m ρ m' ρ' _ hargs
  have one : ∀ c : Dev Cert.Kernel4Ideal.nD, c = 0 := fun c => Subsingleton.elim c 0
  obtain ⟨s, hs⟩ := Cert.Grids.exists_ext3 (m ((0 : Dev Cert.Kernel4Ideal.nD).tc.loc Cert.Kernel4Ideal.main_arg0))
  obtain ⟨w, hw⟩ := Cert.Grids.exists_ext2 (m ((0 : Dev Cert.Kernel4Ideal.nD).tc.loc Cert.Kernel4Ideal.main_arg1))
  obtain ⟨g, hg⟩ := Cert.Grids.exists_ext3 (m ((0 : Dev Cert.Kernel4Ideal.nD).tc.loc Cert.Kernel4Ideal.main_arg2))
  have at0 : ∀ c : Dev Cert.Kernel4Ideal.nD, m (c.tc.loc Cert.Kernel4Ideal.main_arg0) = Cert.Grids.ext3 (φ := .f32) s ∧ m (c.tc.loc Cert.Kernel4Ideal.main_arg1) = Cert.Grids.ext2 (φ := .f32) w ∧ m (c.tc.loc Cert.Kernel4Ideal.main_arg2) = Cert.Grids.ext3 (φ := .f32) g := fun c => by
    rw [one c]
    exact ⟨hs, hw, hg⟩
  refine ⟨fun _ => Cert.Grids.ext2 (φ := .bf16) (Cert.MlpHidden.grad s w g), ?_, ?_⟩
  · refine (θ_run _ _ _).mono (fun r h c => ?_) (Cert.Kernel4Ideal.Value.run_blocks m ρ)
    obtain ⟨h0, hr⟩ := h c
    exact ⟨h0.trans (Cert.MlpHidden.final (at0 c).1 (at0 c).2.1 (at0 c).2.2), hr⟩
  · exact Cert.MlpHidden.reference_run s w g m' ρ'  (fun c => by rw [one c]; exact (hargs 0).1.trans hs)
      (fun c => by rw [one c]; exact (hargs 0).2.1.trans hw)
      (fun c => by rw [one c]; exact (hargs 0).2.2.trans hg)

/-- The gradient of the block's first weight. -/
theorem mlpUpWeight : Cert.algebraic_Kernel5Ideal_Reference5Ideal (hKernel5Ideal := Cert.Kernel5Ideal.Gen.facts)
    (hReference5Ideal := Cert.Reference5Ideal.Gen.facts) := by
  intro m ρ m' ρ' _ hargs
  have one : ∀ c : Dev Cert.Kernel5Ideal.nD, c = 0 := fun c => Subsingleton.elim c 0
  obtain ⟨h, hh⟩ := Cert.Grids.exists_ext3 (m ((0 : Dev Cert.Kernel5Ideal.nD).tc.loc Cert.Kernel5Ideal.main_arg0))
  obtain ⟨g, hg⟩ := Cert.Grids.exists_ext3 (m ((0 : Dev Cert.Kernel5Ideal.nD).tc.loc Cert.Kernel5Ideal.main_arg1))
  have at0 : ∀ c : Dev Cert.Kernel5Ideal.nD, m (c.tc.loc Cert.Kernel5Ideal.main_arg0) = Cert.Grids.ext3 (φ := .f32) h ∧ m (c.tc.loc Cert.Kernel5Ideal.main_arg1) = Cert.Grids.ext3 (φ := .f32) g := fun c => by
    rw [one c]
    exact ⟨hh, hg⟩
  refine ⟨fun _ => Cert.Grids.ext3 (φ := .bf16) (Cert.MlpUpWeight.grad h g), ?_, ?_⟩
  · refine (θ_run _ _ _).mono (fun r h c => ?_) (Cert.Kernel5Ideal.Value.run_blocks m ρ)
    obtain ⟨h0, hr⟩ := h c
    exact ⟨h0.trans (Cert.MlpUpWeight.final (at0 c).1 (at0 c).2), hr⟩
  · exact Cert.MlpUpWeight.reference_run h g m' ρ'  (fun c => by rw [one c]; exact (hargs 0).1.trans hh)
      (fun c => by rw [one c]; exact (hargs 0).2.trans hg)

/-- The block's features. -/
theorem mlpUp : Cert.algebraic_Kernel7Ideal_Reference7Ideal (hKernel7Ideal := Cert.Kernel7Ideal.Gen.facts)
    (hReference7Ideal := Cert.Reference7Ideal.Gen.facts) := by
  intro m ρ m' ρ' _ hargs
  have one : ∀ c : Dev Cert.Kernel7Ideal.nD, c = 0 := fun c => Subsingleton.elim c 0
  obtain ⟨h, hh⟩ := Cert.Grids.exists_ext3 (m ((0 : Dev Cert.Kernel7Ideal.nD).tc.loc Cert.Kernel7Ideal.main_arg0))
  obtain ⟨w, hw⟩ := Cert.Grids.exists_ext2 (m ((0 : Dev Cert.Kernel7Ideal.nD).tc.loc Cert.Kernel7Ideal.main_arg1))
  have at0 : ∀ c : Dev Cert.Kernel7Ideal.nD, m (c.tc.loc Cert.Kernel7Ideal.main_arg0) = Cert.Grids.ext3 (φ := .f32) h ∧ m (c.tc.loc Cert.Kernel7Ideal.main_arg1) = Cert.Grids.ext2 (φ := .f32) w := fun c => by
    rw [one c]
    exact ⟨hh, hw⟩
  refine ⟨fun _ => Cert.Grids.ext2 (φ := .bf16) (Cert.MlpUp.feat h w), ?_, ?_⟩
  · refine (θ_run _ _ _).mono (fun r h c => ?_) (Cert.Kernel7Ideal.Value.run_blocks m ρ)
    obtain ⟨h0, hr⟩ := h c
    exact ⟨h0.trans (Cert.MlpUp.final (at0 c).1 (at0 c).2), hr⟩
  · exact Cert.MlpUp.reference_run h w m' ρ'  (fun c => by rw [one c]; exact (hargs 0).1.trans hh)
      (fun c => by rw [one c]; exact (hargs 0).2.trans hw)

/-- The block's result and its norm. -/
theorem mlpDown : Cert.algebraic_Kernel8Ideal_Reference8Ideal (hKernel8Ideal := Cert.Kernel8Ideal.Gen.facts)
    (hReference8Ideal := Cert.Reference8Ideal.Gen.facts) := by
  intro m ρ m' ρ' _ hargs
  have one : ∀ c : Dev Cert.Kernel8Ideal.nD, c = 0 := fun c => Subsingleton.elim c 0
  obtain ⟨u, hu⟩ := Cert.Grids.exists_ext3 (m ((0 : Dev Cert.Kernel8Ideal.nD).tc.loc Cert.Kernel8Ideal.main_arg0))
  obtain ⟨w, hw⟩ := Cert.Grids.exists_ext2 (m ((0 : Dev Cert.Kernel8Ideal.nD).tc.loc Cert.Kernel8Ideal.main_arg1))
  obtain ⟨x, hx⟩ := Cert.Grids.exists_ext3 (m ((0 : Dev Cert.Kernel8Ideal.nD).tc.loc Cert.Kernel8Ideal.main_arg2))
  obtain ⟨g, hg⟩ := Cert.Grids.exists_ext1 (m ((0 : Dev Cert.Kernel8Ideal.nD).tc.loc Cert.Kernel8Ideal.main_arg3))
  have at0 : ∀ c : Dev Cert.Kernel8Ideal.nD, m (c.tc.loc Cert.Kernel8Ideal.main_arg0) = Cert.Grids.ext3 (φ := .f32) u ∧ m (c.tc.loc Cert.Kernel8Ideal.main_arg1) = Cert.Grids.ext2 (φ := .f32) w ∧ m (c.tc.loc Cert.Kernel8Ideal.main_arg2) = Cert.Grids.ext3 (φ := .f32) x ∧ m (c.tc.loc Cert.Kernel8Ideal.main_arg3) = Cert.Grids.ext1 (φ := .f32) g := fun c => by
    rw [one c]
    exact ⟨hu, hw, hx, hg⟩
  refine ⟨fun _ => Cert.Grids.ext2 (φ := .f32) (Cert.MlpDown.row u w x), fun _ => Cert.Grids.ext2 (φ := .bf16) (Cert.MlpDown.norm u w x g), ?_, ?_⟩
  · refine (θ_run _ _ _).mono (fun r h c => ?_) (Cert.Kernel8Ideal.Value.run_blocks m ρ)
    obtain ⟨h0, h1, hr⟩ := h c
    exact ⟨h0.trans (Cert.MlpDown.final_row (at0 c).1 (at0 c).2.1 (at0 c).2.2.1), h1.trans (Cert.MlpDown.final_norm (at0 c).1 (at0 c).2.1 (at0 c).2.2.1 (at0 c).2.2.2), hr⟩
  · exact Cert.MlpDown.reference_run u w x g m' ρ'  (fun c => by rw [one c]; exact (hargs 0).1.trans hu)
      (fun c => by rw [one c]; exact (hargs 0).2.1.trans hw)
      (fun c => by rw [one c]; exact (hargs 0).2.2.1.trans hx)
      (fun c => by rw [one c]; exact (hargs 0).2.2.2.trans hg)

/-- The cotangents of the block's input and of its norm's weight. -/
theorem mlpUpInput : Cert.algebraic_Kernel6Ideal_Reference6Ideal (hKernel6Ideal := Cert.Kernel6Ideal.Gen.facts)
    (hReference6Ideal := Cert.Reference6Ideal.Gen.facts) := by
  intro m ρ m' ρ' _ hargs
  have one : ∀ c : Dev Cert.Kernel6Ideal.nD, c = 0 := fun c => Subsingleton.elim c 0
  obtain ⟨x, hx⟩ := Cert.Grids.exists_ext3 (m ((0 : Dev Cert.Kernel6Ideal.nD).tc.loc Cert.Kernel6Ideal.main_arg0))
  obtain ⟨g, hg⟩ := Cert.Grids.exists_ext1 (m ((0 : Dev Cert.Kernel6Ideal.nD).tc.loc Cert.Kernel6Ideal.main_arg1))
  obtain ⟨w, hw⟩ := Cert.Grids.exists_ext2 (m ((0 : Dev Cert.Kernel6Ideal.nD).tc.loc Cert.Kernel6Ideal.main_arg2))
  obtain ⟨s, hs⟩ := Cert.Grids.exists_ext3 (m ((0 : Dev Cert.Kernel6Ideal.nD).tc.loc Cert.Kernel6Ideal.main_arg3))
  obtain ⟨r, hr⟩ := Cert.Grids.exists_ext3 (m ((0 : Dev Cert.Kernel6Ideal.nD).tc.loc Cert.Kernel6Ideal.main_arg4))
  have at0 : ∀ c : Dev Cert.Kernel6Ideal.nD, m (c.tc.loc Cert.Kernel6Ideal.main_arg0) = Cert.Grids.ext3 (φ := .f32) x ∧ m (c.tc.loc Cert.Kernel6Ideal.main_arg1) = Cert.Grids.ext1 (φ := .f32) g ∧ m (c.tc.loc Cert.Kernel6Ideal.main_arg2) = Cert.Grids.ext2 (φ := .f32) w ∧ m (c.tc.loc Cert.Kernel6Ideal.main_arg3) = Cert.Grids.ext3 (φ := .f32) s ∧ m (c.tc.loc Cert.Kernel6Ideal.main_arg4) = Cert.Grids.ext3 (φ := .f32) r := fun c => by
    rw [one c]
    exact ⟨hx, hg, hw, hs, hr⟩
  refine ⟨fun _ => Cert.Grids.ext2 (φ := .f32) (Cert.MlpUpInput.input x g w s r), fun _ => Cert.Grids.ext2 (φ := .f32) (fun _ => Cert.MlpUpInput.gain x w s), ?_, ?_⟩
  · refine (θ_run _ _ _).mono (fun r h c => ?_) (Cert.Kernel6Ideal.Value.run_blocks m ρ)
    obtain ⟨h0, h1, hr⟩ := h c
    exact ⟨h0.trans (Cert.MlpUpInput.final_input (at0 c).1 (at0 c).2.1 (at0 c).2.2.1 (at0 c).2.2.2.1 (at0 c).2.2.2.2), h1.trans (Cert.MlpUpInput.final_gain (at0 c).1 (at0 c).2.2.1 (at0 c).2.2.2.1), hr⟩
  · exact Cert.MlpUpInput.reference_run x g w s r m' ρ'  (fun c => by rw [one c]; exact (hargs 0).1.trans hx)
      (fun c => by rw [one c]; exact (hargs 0).2.1.trans hg)
      (fun c => by rw [one c]; exact (hargs 0).2.2.1.trans hw)
      (fun c => by rw [one c]; exact (hargs 0).2.2.2.1.trans hs)
      (fun c => by rw [one c]; exact (hargs 0).2.2.2.2.trans hr)

/-- The cotangent of the weight behind the mixers' merged output. -/
theorem mergeWeight : Cert.algebraic_Kernel9Ideal_Reference9Ideal (hKernel9Ideal := Cert.Kernel9Ideal.Gen.facts)
    (hReference9Ideal := Cert.Reference9Ideal.Gen.facts) := by
  intro m ρ m' ρ' _ hargs
  have one : ∀ c : Dev Cert.Kernel9Ideal.nD, c = 0 := fun c => Subsingleton.elim c 0
  obtain ⟨x, hx⟩ := Cert.Grids.exists_ext3 (m ((0 : Dev Cert.Kernel9Ideal.nD).tc.loc Cert.Kernel9Ideal.main_arg0))
  obtain ⟨g, hg⟩ := Cert.Grids.exists_ext3 (m ((0 : Dev Cert.Kernel9Ideal.nD).tc.loc Cert.Kernel9Ideal.main_arg1))
  have at0 : ∀ c : Dev Cert.Kernel9Ideal.nD, m (c.tc.loc Cert.Kernel9Ideal.main_arg0) = Cert.Grids.ext3 (φ := .f32) x ∧ m (c.tc.loc Cert.Kernel9Ideal.main_arg1) = Cert.Grids.ext3 (φ := .f32) g := fun c => by
    rw [one c]
    exact ⟨hx, hg⟩
  refine ⟨fun _ => Cert.Grids.ext2 (φ := .bf16) (Cert.MergeWeight.grad x g), ?_, ?_⟩
  · refine (θ_run _ _ _).mono (fun r h c => ?_) (Cert.Kernel9Ideal.Value.run_blocks m ρ)
    obtain ⟨h0, hr⟩ := h c
    exact ⟨h0.trans (Cert.MergeWeight.final (at0 c).1 (at0 c).2), hr⟩
  · exact Cert.MergeWeight.reference_run x g m' ρ'  (fun c => by rw [one c]; exact (hargs 0).1.trans hx)
      (fun c => by rw [one c]; exact (hargs 0).2.trans hg)

/-- The cotangent of the weight the per-token embeddings meet. -/
theorem embedWeight : Cert.algebraic_Kernel18Ideal_Reference18Ideal (hKernel18Ideal := Cert.Kernel18Ideal.Gen.facts)
    (hReference18Ideal := Cert.Reference18Ideal.Gen.facts) := by
  intro m ρ m' ρ' _ hargs
  have one : ∀ c : Dev Cert.Kernel18Ideal.nD, c = 0 := fun c => Subsingleton.elim c 0
  obtain ⟨x, hx⟩ := Cert.Grids.exists_ext3 (m ((0 : Dev Cert.Kernel18Ideal.nD).tc.loc Cert.Kernel18Ideal.main_arg0))
  obtain ⟨g, hg⟩ := Cert.Grids.exists_ext3 (m ((0 : Dev Cert.Kernel18Ideal.nD).tc.loc Cert.Kernel18Ideal.main_arg1))
  have at0 : ∀ c : Dev Cert.Kernel18Ideal.nD, m (c.tc.loc Cert.Kernel18Ideal.main_arg0) = Cert.Grids.ext3 (φ := .f32) x ∧ m (c.tc.loc Cert.Kernel18Ideal.main_arg1) = Cert.Grids.ext3 (φ := .f32) g := fun c => by
    rw [one c]
    exact ⟨hx, hg⟩
  refine ⟨fun _ => Cert.Grids.ext2 (φ := .bf16) (Cert.EmbedWeight.grad x g), ?_, ?_⟩
  · refine (θ_run _ _ _).mono (fun r h c => ?_) (Cert.Kernel18Ideal.Value.run_blocks m ρ)
    obtain ⟨h0, hr⟩ := h c
    exact ⟨h0.trans (Cert.EmbedWeight.final (at0 c).1 (at0 c).2), hr⟩
  · exact Cert.EmbedWeight.reference_run x g m' ρ'  (fun c => by rw [one c]; exact (hargs 0).1.trans hx)
      (fun c => by rw [one c]; exact (hargs 0).2.trans hg)

/-- The cotangent of the weight that makes mixer A's queries, its columns in blocks of 128. -/
theorem queryWeight : Cert.algebraic_Kernel19Ideal_Reference19Ideal (hKernel19Ideal := Cert.Kernel19Ideal.Gen.facts)
    (hReference19Ideal := Cert.Reference19Ideal.Gen.facts) := by
  intro m ρ m' ρ' _ hargs
  have one : ∀ c : Dev Cert.Kernel19Ideal.nD, c = 0 := fun c => Subsingleton.elim c 0
  obtain ⟨x, hx⟩ := Cert.Grids.exists_ext3 (m ((0 : Dev Cert.Kernel19Ideal.nD).tc.loc Cert.Kernel19Ideal.main_arg0))
  obtain ⟨g, hg⟩ := Cert.Layout.exists_ext4 (m ((0 : Dev Cert.Kernel19Ideal.nD).tc.loc Cert.Kernel19Ideal.main_arg1))
  have at0 : ∀ c : Dev Cert.Kernel19Ideal.nD, m (c.tc.loc Cert.Kernel19Ideal.main_arg0) = Cert.Grids.ext3 (φ := .f32) x ∧ m (c.tc.loc Cert.Kernel19Ideal.main_arg1) = Cert.Layout.ext4 (φ := .f32) g := fun c => by
    rw [one c]
    exact ⟨hx, hg⟩
  refine ⟨fun _ => Cert.Grids.ext2 (φ := .bf16) (Cert.QueryWeight.grad x g), ?_, ?_⟩
  · refine (θ_run _ _ _).mono (fun r h c => ?_) (Cert.Kernel19Ideal.Value.run_blocks m ρ)
    obtain ⟨h0, hr⟩ := h c
    exact ⟨h0.trans (Cert.QueryWeight.final (at0 c).1 (at0 c).2), hr⟩
  · exact Cert.QueryWeight.reference_run x g m' ρ'  (fun c => by rw [one c]; exact (hargs 0).1.trans hx)
      (fun c => by rw [one c]; exact (hargs 0).2.trans hg)

/-- The cotangents of the mixers' input and of their norm's weight. -/
theorem inProjInput : Cert.algebraic_Kernel11Ideal_Reference11Ideal (hKernel11Ideal := Cert.Kernel11Ideal.Gen.facts)
    (hReference11Ideal := Cert.Reference11Ideal.Gen.facts) := by
  intro m ρ m' ρ' _ hargs
  have one : ∀ c : Dev Cert.Kernel11Ideal.nD, c = 0 := fun c => Subsingleton.elim c 0
  obtain ⟨x, hx⟩ := Cert.Grids.exists_ext3 (m ((0 : Dev Cert.Kernel11Ideal.nD).tc.loc Cert.Kernel11Ideal.main_arg0))
  obtain ⟨g, hg⟩ := Cert.Grids.exists_ext1 (m ((0 : Dev Cert.Kernel11Ideal.nD).tc.loc Cert.Kernel11Ideal.main_arg1))
  obtain ⟨w, hw⟩ := Cert.Grids.exists_ext2 (m ((0 : Dev Cert.Kernel11Ideal.nD).tc.loc Cert.Kernel11Ideal.main_arg2))
  obtain ⟨s, hs⟩ := Cert.Grids.exists_ext3 (m ((0 : Dev Cert.Kernel11Ideal.nD).tc.loc Cert.Kernel11Ideal.main_arg3))
  obtain ⟨r, hr⟩ := Cert.Grids.exists_ext3 (m ((0 : Dev Cert.Kernel11Ideal.nD).tc.loc Cert.Kernel11Ideal.main_arg4))
  have at0 : ∀ c : Dev Cert.Kernel11Ideal.nD, m (c.tc.loc Cert.Kernel11Ideal.main_arg0) = Cert.Grids.ext3 (φ := .f32) x ∧ m (c.tc.loc Cert.Kernel11Ideal.main_arg1) = Cert.Grids.ext1 (φ := .f32) g ∧ m (c.tc.loc Cert.Kernel11Ideal.main_arg2) = Cert.Grids.ext2 (φ := .f32) w ∧ m (c.tc.loc Cert.Kernel11Ideal.main_arg3) = Cert.Grids.ext3 (φ := .f32) s ∧ m (c.tc.loc Cert.Kernel11Ideal.main_arg4) = Cert.Grids.ext3 (φ := .f32) r := fun c => by
    rw [one c]
    exact ⟨hx, hg, hw, hs, hr⟩
  refine ⟨fun _ => Cert.Grids.ext2 (φ := .f32) (Cert.InProjInput.input x g w s r), fun _ => Cert.Grids.ext2 (φ := .f32) (fun _ => Cert.InProjInput.gain x w s), ?_, ?_⟩
  · refine (θ_run _ _ _).mono (fun r h c => ?_) (Cert.Kernel11Ideal.Value.run_blocks m ρ)
    obtain ⟨h0, h1, hr⟩ := h c
    exact ⟨h0.trans (Cert.InProjInput.final_input (at0 c).1 (at0 c).2.1 (at0 c).2.2.1 (at0 c).2.2.2.1 (at0 c).2.2.2.2), h1.trans (Cert.InProjInput.final_gain (at0 c).1 (at0 c).2.2.1 (at0 c).2.2.2.1), hr⟩
  · exact Cert.InProjInput.reference_run x g w s r m' ρ'  (fun c => by rw [one c]; exact (hargs 0).1.trans hx)
      (fun c => by rw [one c]; exact (hargs 0).2.1.trans hg)
      (fun c => by rw [one c]; exact (hargs 0).2.2.1.trans hw)
      (fun c => by rw [one c]; exact (hargs 0).2.2.2.1.trans hs)
      (fun c => by rw [one c]; exact (hargs 0).2.2.2.2.trans hr)

/-- The input projection, its columns laid in blocks of 128. -/
theorem inProj : Cert.algebraic_Kernel12Ideal_Reference12Ideal (hKernel12Ideal := Cert.Kernel12Ideal.Gen.facts)
    (hReference12Ideal := Cert.Reference12Ideal.Gen.facts) := by
  intro m ρ m' ρ' _ hargs
  have one : ∀ c : Dev Cert.Kernel12Ideal.nD, c = 0 := fun c => Subsingleton.elim c 0
  obtain ⟨h, hh⟩ := Cert.Grids.exists_ext3 (m ((0 : Dev Cert.Kernel12Ideal.nD).tc.loc Cert.Kernel12Ideal.main_arg0))
  obtain ⟨w, hw⟩ := Cert.Grids.exists_ext2 (m ((0 : Dev Cert.Kernel12Ideal.nD).tc.loc Cert.Kernel12Ideal.main_arg1))
  have at0 : ∀ c : Dev Cert.Kernel12Ideal.nD, m (c.tc.loc Cert.Kernel12Ideal.main_arg0) = Cert.Grids.ext3 (φ := .f32) h ∧ m (c.tc.loc Cert.Kernel12Ideal.main_arg1) = Cert.Grids.ext2 (φ := .f32) w := fun c => by
    rw [one c]
    exact ⟨hh, hw⟩
  refine ⟨fun _ => Cert.Grids.ext2 (φ := .bf16) (Cert.InProj.proj h w), ?_, ?_⟩
  · refine (θ_run _ _ _).mono (fun r h c => ?_) (Cert.Kernel12Ideal.Value.run_blocks m ρ)
    obtain ⟨h0, hr⟩ := h c
    exact ⟨h0.trans (Cert.InProj.final (at0 c).1 (at0 c).2), hr⟩
  · exact Cert.InProj.reference_run h w m' ρ'  (fun c => by rw [one c]; exact (hargs 0).1.trans hh)
      (fun c => by rw [one c]; exact (hargs 0).2.trans hw)

/-- The cotangents of the merge's branches, of its gates and of the mixers' results. -/
theorem mergeGrad : Cert.algebraic_Kernel16Ideal_Reference16Ideal (hKernel16Ideal := Cert.Kernel16Ideal.Gen.facts)
    (hReference16Ideal := Cert.Reference16Ideal.Gen.facts) := by
  intro m ρ m' ρ' _ hargs
  have one : ∀ c : Dev Cert.Kernel16Ideal.nD, c = 0 := fun c => Subsingleton.elim c 0
  obtain ⟨ct, hct⟩ := Cert.Grids.exists_ext3 (m ((0 : Dev Cert.Kernel16Ideal.nD).tc.loc Cert.Kernel16Ideal.main_arg0))
  obtain ⟨z, hz⟩ := Cert.Grids.exists_ext3 (m ((0 : Dev Cert.Kernel16Ideal.nD).tc.loc Cert.Kernel16Ideal.main_arg1))
  obtain ⟨ya, hya⟩ := Cert.Grids.exists_ext3 (m ((0 : Dev Cert.Kernel16Ideal.nD).tc.loc Cert.Kernel16Ideal.main_arg2))
  obtain ⟨yb, hyb⟩ := Cert.Grids.exists_ext3 (m ((0 : Dev Cert.Kernel16Ideal.nD).tc.loc Cert.Kernel16Ideal.main_arg3))
  obtain ⟨wa, hwa⟩ := Cert.Grids.exists_ext2 (m ((0 : Dev Cert.Kernel16Ideal.nD).tc.loc Cert.Kernel16Ideal.main_arg4))
  obtain ⟨wb, hwb⟩ := Cert.Grids.exists_ext2 (m ((0 : Dev Cert.Kernel16Ideal.nD).tc.loc Cert.Kernel16Ideal.main_arg5))
  obtain ⟨wo, hwo⟩ := Cert.Grids.exists_ext2 (m ((0 : Dev Cert.Kernel16Ideal.nD).tc.loc Cert.Kernel16Ideal.main_arg6))
  have at0 : ∀ c : Dev Cert.Kernel16Ideal.nD, m (c.tc.loc Cert.Kernel16Ideal.main_arg0) = Cert.Grids.ext3 (φ := .f32) ct ∧ m (c.tc.loc Cert.Kernel16Ideal.main_arg1) = Cert.Grids.ext3 (φ := .f32) z ∧ m (c.tc.loc Cert.Kernel16Ideal.main_arg2) = Cert.Grids.ext3 (φ := .f32) ya ∧ m (c.tc.loc Cert.Kernel16Ideal.main_arg3) = Cert.Grids.ext3 (φ := .f32) yb ∧ m (c.tc.loc Cert.Kernel16Ideal.main_arg4) = Cert.Grids.ext2 (φ := .f32) wa ∧ m (c.tc.loc Cert.Kernel16Ideal.main_arg5) = Cert.Grids.ext2 (φ := .f32) wb ∧ m (c.tc.loc Cert.Kernel16Ideal.main_arg6) = Cert.Grids.ext2 (φ := .f32) wo := fun c => by
    rw [one c]
    exact ⟨hct, hz, hya, hyb, hwa, hwb, hwo⟩
  refine ⟨fun _ => Cert.Grids.ext2 (φ := .bf16) (Cert.MergeGrad.branch ct wo (Cert.Merge.gateA z)), fun _ => Cert.Grids.ext2 (φ := .bf16) (Cert.MergeGrad.branch ct wo (Cert.Merge.gateB z)), fun _ => Cert.Grids.ext2 (φ := .bf16) (Cert.MergeGrad.gate ct ya wo (Cert.Merge.gateA z)), fun _ => Cert.Grids.ext2 (φ := .bf16) (Cert.MergeGrad.gate ct yb wo (Cert.Merge.gateB z)), fun _ => Cert.Grids.ext2 (φ := .bf16) (Cert.MergeGrad.mixed ct wa wo (Cert.Merge.gateA z)), fun _ => Cert.Grids.ext2 (φ := .bf16) (Cert.MergeGrad.mixed ct wb wo (Cert.Merge.gateB z)), ?_, ?_⟩
  · refine (θ_run _ _ _).mono (fun r h c => ?_) (Cert.Kernel16Ideal.Value.run_blocks m ρ)
    obtain ⟨h0, h1, h2, h3, h4, h5, hr⟩ := h c
    exact ⟨h0.trans (Cert.MergeGrad.final_branchA (at0 c).1 (at0 c).2.1 (at0 c).2.2.2.2.2.2), h1.trans (Cert.MergeGrad.final_branchB (at0 c).1 (at0 c).2.1 (at0 c).2.2.2.2.2.2), h2.trans (Cert.MergeGrad.final_gateA (at0 c).1 (at0 c).2.1 (at0 c).2.2.1 (at0 c).2.2.2.2.2.2), h3.trans (Cert.MergeGrad.final_gateB (at0 c).1 (at0 c).2.1 (at0 c).2.2.2.1 (at0 c).2.2.2.2.2.2), h4.trans (Cert.MergeGrad.final_mixedA (at0 c).1 (at0 c).2.1 (at0 c).2.2.2.2.1 (at0 c).2.2.2.2.2.2), h5.trans (Cert.MergeGrad.final_mixedB (at0 c).1 (at0 c).2.1 (at0 c).2.2.2.2.2.1 (at0 c).2.2.2.2.2.2), hr⟩
  · exact Cert.MergeGrad.reference_run ct z ya yb wa wb wo m' ρ'  (fun c => by rw [one c]; exact (hargs 0).1.trans hct)
      (fun c => by rw [one c]; exact (hargs 0).2.1.trans hz)
      (fun c => by rw [one c]; exact (hargs 0).2.2.1.trans hya)
      (fun c => by rw [one c]; exact (hargs 0).2.2.2.1.trans hyb)
      (fun c => by rw [one c]; exact (hargs 0).2.2.2.2.1.trans hwa)
      (fun c => by rw [one c]; exact (hargs 0).2.2.2.2.2.1.trans hwb)
      (fun c => by rw [one c]; exact (hargs 0).2.2.2.2.2.2.trans hwo)

/-- The mixers' results projected, their gated sum, the residual sum and its norm. -/
theorem mergeOut : Cert.algebraic_Kernel15Ideal_Reference15Ideal (hKernel15Ideal := Cert.Kernel15Ideal.Gen.facts)
    (hReference15Ideal := Cert.Reference15Ideal.Gen.facts) := by
  intro m ρ m' ρ' _ hargs
  have one : ∀ c : Dev Cert.Kernel15Ideal.nD, c = 0 := fun c => Subsingleton.elim c 0
  obtain ⟨oa, hoa⟩ := Cert.Layout.exists_ext4 (m ((0 : Dev Cert.Kernel15Ideal.nD).tc.loc Cert.Kernel15Ideal.main_arg0))
  obtain ⟨ob, hob⟩ := Cert.Layout.exists_ext4 (m ((0 : Dev Cert.Kernel15Ideal.nD).tc.loc Cert.Kernel15Ideal.main_arg1))
  obtain ⟨z, hz⟩ := Cert.Grids.exists_ext3 (m ((0 : Dev Cert.Kernel15Ideal.nD).tc.loc Cert.Kernel15Ideal.main_arg2))
  obtain ⟨x, hx⟩ := Cert.Grids.exists_ext3 (m ((0 : Dev Cert.Kernel15Ideal.nD).tc.loc Cert.Kernel15Ideal.main_arg3))
  obtain ⟨g, hg⟩ := Cert.Grids.exists_ext1 (m ((0 : Dev Cert.Kernel15Ideal.nD).tc.loc Cert.Kernel15Ideal.main_arg4))
  obtain ⟨wa, hwa⟩ := Cert.Grids.exists_ext2 (m ((0 : Dev Cert.Kernel15Ideal.nD).tc.loc Cert.Kernel15Ideal.main_arg5))
  obtain ⟨wb, hwb⟩ := Cert.Grids.exists_ext2 (m ((0 : Dev Cert.Kernel15Ideal.nD).tc.loc Cert.Kernel15Ideal.main_arg6))
  obtain ⟨wo, hwo⟩ := Cert.Grids.exists_ext2 (m ((0 : Dev Cert.Kernel15Ideal.nD).tc.loc Cert.Kernel15Ideal.main_arg7))
  have at0 : ∀ c : Dev Cert.Kernel15Ideal.nD, m (c.tc.loc Cert.Kernel15Ideal.main_arg0) = Cert.Layout.ext4 (φ := .f32) oa ∧ m (c.tc.loc Cert.Kernel15Ideal.main_arg1) = Cert.Layout.ext4 (φ := .f32) ob ∧ m (c.tc.loc Cert.Kernel15Ideal.main_arg2) = Cert.Grids.ext3 (φ := .f32) z ∧ m (c.tc.loc Cert.Kernel15Ideal.main_arg3) = Cert.Grids.ext3 (φ := .f32) x ∧ m (c.tc.loc Cert.Kernel15Ideal.main_arg4) = Cert.Grids.ext1 (φ := .f32) g ∧ m (c.tc.loc Cert.Kernel15Ideal.main_arg5) = Cert.Grids.ext2 (φ := .f32) wa ∧ m (c.tc.loc Cert.Kernel15Ideal.main_arg6) = Cert.Grids.ext2 (φ := .f32) wb ∧ m (c.tc.loc Cert.Kernel15Ideal.main_arg7) = Cert.Grids.ext2 (φ := .f32) wo := fun c => by
    rw [one c]
    exact ⟨hoa, hob, hz, hx, hg, hwa, hwb, hwo⟩
  refine ⟨fun _ => Cert.Grids.ext2 (φ := .bf16) (Cert.MergeOut.branch oa wa), fun _ => Cert.Grids.ext2 (φ := .bf16) (Cert.MergeOut.branch ob wb), fun _ => Cert.Grids.ext2 (φ := .bf16) (Cert.MergeOut.merged oa ob z wa wb), fun _ => Cert.Grids.ext2 (φ := .f32) (Cert.MergeOut.row oa ob z x wa wb wo), fun _ => Cert.Grids.ext2 (φ := .bf16) (Cert.MergeOut.norm oa ob z x g wa wb wo), ?_, ?_⟩
  · refine (θ_run _ _ _).mono (fun r h c => ?_) (Cert.Kernel15Ideal.Value.run_blocks m ρ)
    obtain ⟨h0, h1, h2, h3, h4, hr⟩ := h c
    exact ⟨h0.trans (Cert.MergeOut.final_branchA (at0 c).1 (at0 c).2.2.2.2.2.1), h1.trans (Cert.MergeOut.final_branchB (at0 c).2.1 (at0 c).2.2.2.2.2.2.1), h2.trans (Cert.MergeOut.final_merged (at0 c).1 (at0 c).2.1 (at0 c).2.2.1 (at0 c).2.2.2.2.2.1 (at0 c).2.2.2.2.2.2.1), h3.trans (Cert.MergeOut.final_row (at0 c).1 (at0 c).2.1 (at0 c).2.2.1 (at0 c).2.2.2.1 (at0 c).2.2.2.2.2.1 (at0 c).2.2.2.2.2.2.1 (at0 c).2.2.2.2.2.2.2), h4.trans (Cert.MergeOut.final_norm (at0 c).1 (at0 c).2.1 (at0 c).2.2.1 (at0 c).2.2.2.1 (at0 c).2.2.2.2.1 (at0 c).2.2.2.2.2.1 (at0 c).2.2.2.2.2.2.1 (at0 c).2.2.2.2.2.2.2), hr⟩
  · exact Cert.MergeOut.reference_run oa ob z x g wa wb wo m' ρ'  (fun c => by rw [one c]; exact (hargs 0).1.trans hoa)
      (fun c => by rw [one c]; exact (hargs 0).2.1.trans hob)
      (fun c => by rw [one c]; exact (hargs 0).2.2.1.trans hz)
      (fun c => by rw [one c]; exact (hargs 0).2.2.2.1.trans hx)
      (fun c => by rw [one c]; exact (hargs 0).2.2.2.2.1.trans hg)
      (fun c => by rw [one c]; exact (hargs 0).2.2.2.2.2.1.trans hwa)
      (fun c => by rw [one c]; exact (hargs 0).2.2.2.2.2.2.1.trans hwb)
      (fun c => by rw [one c]; exact (hargs 0).2.2.2.2.2.2.2.trans hwo)

theorem claim : Cert.Claim := ⟨Cert.Kernel.Gen.facts, Cert.KernelIdeal.Gen.facts, Cert.ReferenceIdeal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel6.Gen.facts, Cert.Kernel6Ideal.Gen.facts, Cert.Reference6Ideal.Gen.facts,
  Cert.Kernel9.Gen.facts, Cert.Kernel9Ideal.Gen.facts, Cert.Reference9Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel16.Gen.facts, Cert.Kernel16Ideal.Gen.facts, Cert.Reference16Ideal.Gen.facts,
  Cert.Kernel15.Gen.facts, Cert.Kernel15Ideal.Gen.facts, Cert.Reference15Ideal.Gen.facts,
  Cert.Finite.facts,
  fun m ρ _ => Cert.Kernel.Gen.frame m ρ, fun m ρ _ => Cert.KernelIdeal.Gen.frame m ρ, fun m ρ _ => Cert.KernelIdeal.Gen.frame m ρ, fun m ρ _ => frameReference m ρ trivial, fun m ρ _ => frameReference m ρ trivial,
  fun m ρ _ => Cert.Kernel3.Gen.frame m ρ, fun m ρ _ => Cert.Kernel3Ideal.Gen.frame m ρ, fun m ρ _ => Cert.MlpDownWeight.reference_frame m ρ,
  fun m ρ _ => Cert.Kernel4.Gen.frame m ρ, fun m ρ _ => Cert.Kernel4Ideal.Gen.frame m ρ, fun m ρ _ => Cert.MlpHidden.reference_frame m ρ,
  fun m ρ _ => Cert.Kernel5.Gen.frame m ρ, fun m ρ _ => Cert.Kernel5Ideal.Gen.frame m ρ, fun m ρ _ => Cert.MlpUpWeight.reference_frame m ρ,
  fun m ρ _ => Cert.Kernel7.Gen.frame m ρ, fun m ρ _ => Cert.Kernel7Ideal.Gen.frame m ρ, fun m ρ _ => Cert.MlpUp.reference_frame m ρ,
  fun m ρ _ => Cert.Kernel8.Gen.frame m ρ, fun m ρ _ => Cert.Kernel8Ideal.Gen.frame m ρ, fun m ρ _ => Cert.MlpDown.reference_frame m ρ,
  fun m ρ _ => Cert.Kernel6.Gen.frame m ρ, fun m ρ _ => Cert.Kernel6Ideal.Gen.frame m ρ, fun m ρ _ => Cert.MlpUpInput.reference_frame m ρ,
  fun m ρ _ => Cert.Kernel9.Gen.frame m ρ, fun m ρ _ => Cert.Kernel9Ideal.Gen.frame m ρ, fun m ρ _ => Cert.MergeWeight.reference_frame m ρ,
  fun m ρ _ => Cert.Kernel18.Gen.frame m ρ, fun m ρ _ => Cert.Kernel18Ideal.Gen.frame m ρ, fun m ρ _ => Cert.EmbedWeight.reference_frame m ρ,
  fun m ρ _ => Cert.Kernel19.Gen.frame m ρ, fun m ρ _ => Cert.Kernel19Ideal.Gen.frame m ρ, fun m ρ _ => Cert.QueryWeight.reference_frame m ρ,
  fun m ρ _ => Cert.Kernel11.Gen.frame m ρ, fun m ρ _ => Cert.Kernel11Ideal.Gen.frame m ρ, fun m ρ _ => Cert.InProjInput.reference_frame m ρ,
  fun m ρ _ => Cert.Kernel12.Gen.frame m ρ, fun m ρ _ => Cert.Kernel12Ideal.Gen.frame m ρ, fun m ρ _ => Cert.InProj.reference_frame m ρ,
  fun m ρ _ => Cert.Kernel16.Gen.frame m ρ, fun m ρ _ => Cert.Kernel16Ideal.Gen.frame m ρ, fun m ρ _ => Cert.MergeGrad.reference_frame m ρ,
  fun m ρ _ => Cert.Kernel15.Gen.frame m ρ, fun m ρ _ => Cert.Kernel15Ideal.Gen.frame m ρ, fun m ρ _ => Cert.MergeOut.reference_frame m ρ,
  trivial, mixerA,
  trivial, mlpDownWeight,
  trivial, mlpHidden,
  trivial, mlpUpWeight,
  trivial, mlpUp,
  trivial, mlpDown,
  trivial, mlpUpInput,
  trivial, mergeWeight,
  trivial, embedWeight,
  trivial, queryWeight,
  trivial, inProjInput,
  trivial, inProj,
  trivial, mergeGrad,
  trivial, mergeOut⟩

end Cert.Proof

end
